-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_EmbedSample (m : (ℓ : Loc Cert.EmbedSample.nD Cert.EmbedSample.τ Cert.EmbedSample.sig) → Buf (Elt Bits) ℓ) : Prop :=
  True

def Pre_EmbedSampleIdeal (m : (ℓ : Loc Cert.EmbedSampleIdeal.nD Cert.EmbedSampleIdeal.τ Cert.EmbedSampleIdeal.sig) → Buf (Elt Ideal) ℓ) : Prop :=
  True

def Pre_EmbedSampleRefIdeal (m : (ℓ : Loc Cert.EmbedSampleRefIdeal.nD Cert.EmbedSampleRefIdeal.τ Cert.EmbedSampleRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_gated [hPre_gated : Cert.Pre_gated.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_gated.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).1 = (fun _ => 1#1)
    ∧ (Cert.Pre_gated.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).2.1 = (fun _ => 1#1)
    ∧ (Cert.Pre_gated.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).2.2.1 = (fun _ => 1#1)
    ∧ (Cert.Pre_gated.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).2.2.2.1 = (fun _ => 1#1)
    ∧ (Cert.Pre_gated.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))).2.2.2.2 = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_gated [hPre_gated : Cert.Pre_gated.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_gated.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).1 = (fun _ => 1#1)
    ∧ (Cert.Pre_gated.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).2.1 = (fun _ => 1#1)
    ∧ (Cert.Pre_gated.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).2.2.1 = (fun _ => 1#1)
    ∧ (Cert.Pre_gated.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).2.2.2.1 = (fun _ => 1#1)
    ∧ (Cert.Pre_gated.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))).2.2.2.2 = (fun _ => 1#1)

def Pre_HgrnSample (m : (ℓ : Loc Cert.HgrnSample.nD Cert.HgrnSample.τ Cert.HgrnSample.sig) → Buf (Elt Bits) ℓ) : Prop :=
  True

def Pre_HgrnSampleIdeal (m : (ℓ : Loc Cert.HgrnSampleIdeal.nD Cert.HgrnSampleIdeal.τ Cert.HgrnSampleIdeal.sig) → Buf (Elt Ideal) ℓ) : Prop :=
  True

def Pre_HgrnSampleIdeal_unit_bound [hPre_unit_bound : Cert.Pre_unit_bound.Facts] (m : (ℓ : Loc Cert.HgrnSampleIdeal.nD Cert.HgrnSampleIdeal.τ Cert.HgrnSampleIdeal.sig) → Buf (Elt Ideal) ℓ) : Prop :=
  ∀ c : Dev Cert.HgrnSampleIdeal.nD,
    (Cert.Pre_unit_bound.fn (F := Ideal) (m ((c.tc : Thread Cert.HgrnSampleIdeal.nD Cert.HgrnSampleIdeal.τ).loc Cert.HgrnSampleIdeal.main_arg0)) (m ((c.tc : Thread Cert.HgrnSampleIdeal.nD Cert.HgrnSampleIdeal.τ).loc Cert.HgrnSampleIdeal.main_arg1)) (m ((c.tc : Thread Cert.HgrnSampleIdeal.nD Cert.HgrnSampleIdeal.τ).loc Cert.HgrnSampleIdeal.main_arg2)) (m ((c.tc : Thread Cert.HgrnSampleIdeal.nD Cert.HgrnSampleIdeal.τ).loc Cert.HgrnSampleIdeal.main_arg3))).1 = (fun _ => 1#1)
    ∧ (Cert.Pre_unit_bound.fn (F := Ideal) (m ((c.tc : Thread Cert.HgrnSampleIdeal.nD Cert.HgrnSampleIdeal.τ).loc Cert.HgrnSampleIdeal.main_arg0)) (m ((c.tc : Thread Cert.HgrnSampleIdeal.nD Cert.HgrnSampleIdeal.τ).loc Cert.HgrnSampleIdeal.main_arg1)) (m ((c.tc : Thread Cert.HgrnSampleIdeal.nD Cert.HgrnSampleIdeal.τ).loc Cert.HgrnSampleIdeal.main_arg2)) (m ((c.tc : Thread Cert.HgrnSampleIdeal.nD Cert.HgrnSampleIdeal.τ).loc Cert.HgrnSampleIdeal.main_arg3))).2 = (fun _ => 1#1)

def Pre_HgrnSampleRefIdeal (m : (ℓ : Loc Cert.HgrnSampleRefIdeal.nD Cert.HgrnSampleRefIdeal.τ Cert.HgrnSampleRefIdeal.sig) → Buf (Elt Ideal) ℓ) : Prop :=
  True

def Pre_HgrnSampleRefIdeal_unit_bound [hPre_unit_bound : Cert.Pre_unit_bound.Facts] (m : (ℓ : Loc Cert.HgrnSampleRefIdeal.nD Cert.HgrnSampleRefIdeal.τ Cert.HgrnSampleRefIdeal.sig) → Buf (Elt Ideal) ℓ) : Prop :=
  ∀ c : Dev Cert.HgrnSampleRefIdeal.nD,
    (Cert.Pre_unit_bound.fn (F := Ideal) (m ((c.tc : Thread Cert.HgrnSampleRefIdeal.nD Cert.HgrnSampleRefIdeal.τ).loc Cert.HgrnSampleRefIdeal.main_arg0)) (m ((c.tc : Thread Cert.HgrnSampleRefIdeal.nD Cert.HgrnSampleRefIdeal.τ).loc Cert.HgrnSampleRefIdeal.main_arg1)) (m ((c.tc : Thread Cert.HgrnSampleRefIdeal.nD Cert.HgrnSampleRefIdeal.τ).loc Cert.HgrnSampleRefIdeal.main_arg2)) (m ((c.tc : Thread Cert.HgrnSampleRefIdeal.nD Cert.HgrnSampleRefIdeal.τ).loc Cert.HgrnSampleRefIdeal.main_arg3))).1 = (fun _ => 1#1)
    ∧ (Cert.Pre_unit_bound.fn (F := Ideal) (m ((c.tc : Thread Cert.HgrnSampleRefIdeal.nD Cert.HgrnSampleRefIdeal.τ).loc Cert.HgrnSampleRefIdeal.main_arg0)) (m ((c.tc : Thread Cert.HgrnSampleRefIdeal.nD Cert.HgrnSampleRefIdeal.τ).loc Cert.HgrnSampleRefIdeal.main_arg1)) (m ((c.tc : Thread Cert.HgrnSampleRefIdeal.nD Cert.HgrnSampleRefIdeal.τ).loc Cert.HgrnSampleRefIdeal.main_arg2)) (m ((c.tc : Thread Cert.HgrnSampleRefIdeal.nD Cert.HgrnSampleRefIdeal.τ).loc Cert.HgrnSampleRefIdeal.main_arg3))).2 = (fun _ => 1#1)

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleRefIdeal (m : (ℓ : Loc Cert.MergeSampleRefIdeal.nD Cert.MergeSampleRefIdeal.τ Cert.MergeSampleRefIdeal.sig) → Buf (Elt Ideal) ℓ) : Prop :=
  True

def Pre_FfnSecond (m : (ℓ : Loc Cert.FfnSecond.nD Cert.FfnSecond.τ Cert.FfnSecond.sig) → Buf (Elt Bits) ℓ) : Prop :=
  True

def Pre_FfnSecondIdeal (m : (ℓ : Loc Cert.FfnSecondIdeal.nD Cert.FfnSecondIdeal.τ Cert.FfnSecondIdeal.sig) → Buf (Elt Ideal) ℓ) : Prop :=
  True

def Pre_FfnSecondRefIdeal (m : (ℓ : Loc Cert.FfnSecondRefIdeal.nD Cert.FfnSecondRefIdeal.τ Cert.FfnSecondRefIdeal.sig) → Buf (Elt Ideal) ℓ) : Prop :=
  True

def Pre_FfnSecondSample (m : (ℓ : Loc Cert.FfnSecondSample.nD Cert.FfnSecondSample.τ Cert.FfnSecondSample.sig) → Buf (Elt Bits) ℓ) : Prop :=
  True

def Pre_FfnSecondSampleIdeal (m : (ℓ : Loc Cert.FfnSecondSampleIdeal.nD Cert.FfnSecondSampleIdeal.τ Cert.FfnSecondSampleIdeal.sig) → Buf (Elt Ideal) ℓ) : Prop :=
  True

def Pre_FfnSecondSampleRefIdeal (m : (ℓ : Loc Cert.FfnSecondSampleRefIdeal.nD Cert.FfnSecondSampleRefIdeal.τ Cert.FfnSecondSampleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2)
      ∧ r.2.mem ((c.tc : Thread Cert.Embed.nD Cert.Embed.τ).loc Cert.Embed.main_arg3) = m ((c.tc : Thread Cert.Embed.nD Cert.Embed.τ).loc Cert.Embed.main_arg3)
      ∧ r.2.mem ((c.tc : Thread Cert.Embed.nD Cert.Embed.τ).loc Cert.Embed.main_arg4) = m ((c.tc : Thread Cert.Embed.nD Cert.Embed.τ).loc Cert.Embed.main_arg4)
      ∧ r.2.mem ((c.tc : Thread Cert.Embed.nD Cert.Embed.τ).loc Cert.Embed.main_arg5) = m ((c.tc : Thread Cert.Embed.nD Cert.Embed.τ).loc Cert.Embed.main_arg5)
      ∧ r.2.mem ((c.tc : Thread Cert.Embed.nD Cert.Embed.τ).loc Cert.Embed.main_arg6) = m ((c.tc : Thread Cert.Embed.nD Cert.Embed.τ).loc Cert.Embed.main_arg6))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
      ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
      ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
      ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5)
      ∧ r.2.mem ((c.tc : Thread Cert.EmbedIdeal.nD Cert.EmbedIdeal.τ).loc Cert.EmbedIdeal.main_arg6) = m ((c.tc : Thread Cert.EmbedIdeal.nD Cert.EmbedIdeal.τ).loc Cert.EmbedIdeal.main_arg6))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1)
      ∧ r.2.mem ((c.tc : Thread Cert.EmbedRefIdeal.nD Cert.EmbedRefIdeal.τ).loc Cert.EmbedRefIdeal.main_arg2) = m ((c.tc : Thread Cert.EmbedRefIdeal.nD Cert.EmbedRefIdeal.τ).loc Cert.EmbedRefIdeal.main_arg2)
      ∧ r.2.mem ((c.tc : Thread Cert.EmbedRefIdeal.nD Cert.EmbedRefIdeal.τ).loc Cert.EmbedRefIdeal.main_arg3) = m ((c.tc : Thread Cert.EmbedRefIdeal.nD Cert.EmbedRefIdeal.τ).loc Cert.EmbedRefIdeal.main_arg3)
      ∧ r.2.mem ((c.tc : Thread Cert.EmbedRefIdeal.nD Cert.EmbedRefIdeal.τ).loc Cert.EmbedRefIdeal.main_arg4) = m ((c.tc : Thread Cert.EmbedRefIdeal.nD Cert.EmbedRefIdeal.τ).loc Cert.EmbedRefIdeal.main_arg4)
      ∧ r.2.mem ((c.tc : Thread Cert.EmbedRefIdeal.nD Cert.EmbedRefIdeal.τ).loc Cert.EmbedRefIdeal.main_arg5) = m ((c.tc : Thread Cert.EmbedRefIdeal.nD Cert.EmbedRefIdeal.τ).loc Cert.EmbedRefIdeal.main_arg5)
      ∧ r.2.mem ((c.tc : Thread Cert.EmbedRefIdeal.nD Cert.EmbedRefIdeal.τ).loc Cert.EmbedRefIdeal.main_arg6) = m ((c.tc : Thread Cert.EmbedRefIdeal.nD Cert.EmbedRefIdeal.τ).loc Cert.EmbedRefIdeal.main_arg6))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1))
      ∧ r.2.sem = fun _ => 0)

def quiescent_EmbedSample [hEmbedSample : Cert.EmbedSample.Facts] : Prop :=
  ∀ (m : (ℓ : Loc Cert.EmbedSample.nD Cert.EmbedSample.τ Cert.EmbedSample.sig) → Buf (Elt Bits) ℓ) (g : Dev Cert.EmbedSample.nD → PrngReg), Pre_EmbedSample m →
    θ_run (Cert.EmbedSample.defs (F := Bits)) (onTc (τ := Cert.EmbedSample.τ) (Cert.EmbedSample.main (F := Bits))) ⟨m, fun _ => 0, g⟩ (fun r => (∀ c : Dev Cert.EmbedSample.nD,
      r.2.mem ((c.tc : Thread Cert.EmbedSample.nD Cert.EmbedSample.τ).loc Cert.EmbedSample.main_arg0) = m ((c.tc : Thread Cert.EmbedSample.nD Cert.EmbedSample.τ).loc Cert.EmbedSample.main_arg0)
      ∧ r.2.mem ((c.tc : Thread Cert.EmbedSample.nD Cert.EmbedSample.τ).loc Cert.EmbedSample.main_arg1) = m ((c.tc : Thread Cert.EmbedSample.nD Cert.EmbedSample.τ).loc Cert.EmbedSample.main_arg1)
      ∧ r.2.mem ((c.tc : Thread Cert.EmbedSample.nD Cert.EmbedSample.τ).loc Cert.EmbedSample.main_arg2) = m ((c.tc : Thread Cert.EmbedSample.nD Cert.EmbedSample.τ).loc Cert.EmbedSample.main_arg2)
      ∧ r.2.mem ((c.tc : Thread Cert.EmbedSample.nD Cert.EmbedSample.τ).loc Cert.EmbedSample.main_arg3) = m ((c.tc : Thread Cert.EmbedSample.nD Cert.EmbedSample.τ).loc Cert.EmbedSample.main_arg3)
      ∧ r.2.mem ((c.tc : Thread Cert.EmbedSample.nD Cert.EmbedSample.τ).loc Cert.EmbedSample.main_arg4) = m ((c.tc : Thread Cert.EmbedSample.nD Cert.EmbedSample.τ).loc Cert.EmbedSample.main_arg4)
      ∧ r.2.mem ((c.tc : Thread Cert.EmbedSample.nD Cert.EmbedSample.τ).loc Cert.EmbedSample.main_arg5) = m ((c.tc : Thread Cert.EmbedSample.nD Cert.EmbedSample.τ).loc Cert.EmbedSample.main_arg5)
      ∧ r.2.mem ((c.tc : Thread Cert.EmbedSample.nD Cert.EmbedSample.τ).loc Cert.EmbedSample.main_arg6) = m ((c.tc : Thread Cert.EmbedSample.nD Cert.EmbedSample.τ).loc Cert.EmbedSample.main_arg6))
      ∧ r.2.sem = fun _ => 0)

def quiescent_EmbedSampleIdeal [hEmbedSampleIdeal : Cert.EmbedSampleIdeal.Facts] : Prop :=
  ∀ (m : (ℓ : Loc Cert.EmbedSampleIdeal.nD Cert.EmbedSampleIdeal.τ Cert.EmbedSampleIdeal.sig) → Buf (Elt Ideal) ℓ) (g : Dev Cert.EmbedSampleIdeal.nD → PrngReg), Pre_EmbedSampleIdeal m →
    θ_run (Cert.EmbedSampleIdeal.defs (F := Ideal)) (onTc (τ := Cert.EmbedSampleIdeal.τ) (Cert.EmbedSampleIdeal.main (F := Ideal))) ⟨m, fun _ => 0, g⟩ (fun r => (∀ c : Dev Cert.EmbedSampleIdeal.nD,
      r.2.mem ((c.tc : Thread Cert.EmbedSampleIdeal.nD Cert.EmbedSampleIdeal.τ).loc Cert.EmbedSampleIdeal.main_arg0) = m ((c.tc : Thread Cert.EmbedSampleIdeal.nD Cert.EmbedSampleIdeal.τ).loc Cert.EmbedSampleIdeal.main_arg0)
      ∧ r.2.mem ((c.tc : Thread Cert.EmbedSampleIdeal.nD Cert.EmbedSampleIdeal.τ).loc Cert.EmbedSampleIdeal.main_arg1) = m ((c.tc : Thread Cert.EmbedSampleIdeal.nD Cert.EmbedSampleIdeal.τ).loc Cert.EmbedSampleIdeal.main_arg1)
      ∧ r.2.mem ((c.tc : Thread Cert.EmbedSampleIdeal.nD Cert.EmbedSampleIdeal.τ).loc Cert.EmbedSampleIdeal.main_arg2) = m ((c.tc : Thread Cert.EmbedSampleIdeal.nD Cert.EmbedSampleIdeal.τ).loc Cert.EmbedSampleIdeal.main_arg2)
      ∧ r.2.mem ((c.tc : Thread Cert.EmbedSampleIdeal.nD Cert.EmbedSampleIdeal.τ).loc Cert.EmbedSampleIdeal.main_arg3) = m ((c.tc : Thread Cert.EmbedSampleIdeal.nD Cert.EmbedSampleIdeal.τ).loc Cert.EmbedSampleIdeal.main_arg3)
      ∧ r.2.mem ((c.tc : Thread Cert.EmbedSampleIdeal.nD Cert.EmbedSampleIdeal.τ).loc Cert.EmbedSampleIdeal.main_arg4) = m ((c.tc : Thread Cert.EmbedSampleIdeal.nD Cert.EmbedSampleIdeal.τ).loc Cert.EmbedSampleIdeal.main_arg4)
      ∧ r.2.mem ((c.tc : Thread Cert.EmbedSampleIdeal.nD Cert.EmbedSampleIdeal.τ).loc Cert.EmbedSampleIdeal.main_arg5) = m ((c.tc : Thread Cert.EmbedSampleIdeal.nD Cert.EmbedSampleIdeal.τ).loc Cert.EmbedSampleIdeal.main_arg5)
      ∧ r.2.mem ((c.tc : Thread Cert.EmbedSampleIdeal.nD Cert.EmbedSampleIdeal.τ).loc Cert.EmbedSampleIdeal.main_arg6) = m ((c.tc : Thread Cert.EmbedSampleIdeal.nD Cert.EmbedSampleIdeal.τ).loc Cert.EmbedSampleIdeal.main_arg6))
      ∧ r.2.sem = fun _ => 0)

def quiescent_EmbedSampleRefIdeal [hEmbedSampleRefIdeal : Cert.EmbedSampleRefIdeal.Facts] : Prop :=
  ∀ (m : (ℓ : Loc Cert.EmbedSampleRefIdeal.nD Cert.EmbedSampleRefIdeal.τ Cert.EmbedSampleRefIdeal.sig) → Buf (Elt Ideal) ℓ) (g : Dev Cert.EmbedSampleRefIdeal.nD → PrngReg), Pre_EmbedSampleRefIdeal m →
    θ_run (Cert.EmbedSampleRefIdeal.defs (F := Ideal)) (onTc (τ := Cert.EmbedSampleRefIdeal.τ) (Cert.EmbedSampleRefIdeal.main (F := Ideal))) ⟨m, fun _ => 0, g⟩ (fun r => (∀ c : Dev Cert.EmbedSampleRefIdeal.nD,
      r.2.mem ((c.tc : Thread Cert.EmbedSampleRefIdeal.nD Cert.EmbedSampleRefIdeal.τ).loc Cert.EmbedSampleRefIdeal.main_arg0) = m ((c.tc : Thread Cert.EmbedSampleRefIdeal.nD Cert.EmbedSampleRefIdeal.τ).loc Cert.EmbedSampleRefIdeal.main_arg0)
      ∧ r.2.mem ((c.tc : Thread Cert.EmbedSampleRefIdeal.nD Cert.EmbedSampleRefIdeal.τ).loc Cert.EmbedSampleRefIdeal.main_arg1) = m ((c.tc : Thread Cert.EmbedSampleRefIdeal.nD Cert.EmbedSampleRefIdeal.τ).loc Cert.EmbedSampleRefIdeal.main_arg1)
      ∧ r.2.mem ((c.tc : Thread Cert.EmbedSampleRefIdeal.nD Cert.EmbedSampleRefIdeal.τ).loc Cert.EmbedSampleRefIdeal.main_arg2) = m ((c.tc : Thread Cert.EmbedSampleRefIdeal.nD Cert.EmbedSampleRefIdeal.τ).loc Cert.EmbedSampleRefIdeal.main_arg2)
      ∧ r.2.mem ((c.tc : Thread Cert.EmbedSampleRefIdeal.nD Cert.EmbedSampleRefIdeal.τ).loc Cert.EmbedSampleRefIdeal.main_arg3) = m ((c.tc : Thread Cert.EmbedSampleRefIdeal.nD Cert.EmbedSampleRefIdeal.τ).loc Cert.EmbedSampleRefIdeal.main_arg3)
      ∧ r.2.mem ((c.tc : Thread Cert.EmbedSampleRefIdeal.nD Cert.EmbedSampleRefIdeal.τ).loc Cert.EmbedSampleRefIdeal.main_arg4) = m ((c.tc : Thread Cert.EmbedSampleRefIdeal.nD Cert.EmbedSampleRefIdeal.τ).loc Cert.EmbedSampleRefIdeal.main_arg4)
      ∧ r.2.mem ((c.tc : Thread Cert.EmbedSampleRefIdeal.nD Cert.EmbedSampleRefIdeal.τ).loc Cert.EmbedSampleRefIdeal.main_arg5) = m ((c.tc : Thread Cert.EmbedSampleRefIdeal.nD Cert.EmbedSampleRefIdeal.τ).loc Cert.EmbedSampleRefIdeal.main_arg5)
      ∧ r.2.mem ((c.tc : Thread Cert.EmbedSampleRefIdeal.nD Cert.EmbedSampleRefIdeal.τ).loc Cert.EmbedSampleRefIdeal.main_arg6) = m ((c.tc : Thread Cert.EmbedSampleRefIdeal.nD Cert.EmbedSampleRefIdeal.τ).loc Cert.EmbedSampleRefIdeal.main_arg6))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnIdeal_pre_gated [hHgrnIdeal : Cert.HgrnIdeal.Facts] [hPre_gated : Cert.Pre_gated.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_gated m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_HgrnRefIdeal_pre_gated [hHgrnRefIdeal : Cert.HgrnRefIdeal.Facts] [hPre_gated : Cert.Pre_gated.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_gated m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_HgrnSample [hHgrnSample : Cert.HgrnSample.Facts] : Prop :=
  ∀ (m : (ℓ : Loc Cert.HgrnSample.nD Cert.HgrnSample.τ Cert.HgrnSample.sig) → Buf (Elt Bits) ℓ) (g : Dev Cert.HgrnSample.nD → PrngReg), Pre_HgrnSample m →
    θ_run (Cert.HgrnSample.defs (F := Bits)) (onTc (τ := Cert.HgrnSample.τ) (Cert.HgrnSample.main (F := Bits))) ⟨m, fun _ => 0, g⟩ (fun r => (∀ c : Dev Cert.HgrnSample.nD,
      r.2.mem ((c.tc : Thread Cert.HgrnSample.nD Cert.HgrnSample.τ).loc Cert.HgrnSample.main_arg0) = m ((c.tc : Thread Cert.HgrnSample.nD Cert.HgrnSample.τ).loc Cert.HgrnSample.main_arg0)
      ∧ r.2.mem ((c.tc : Thread Cert.HgrnSample.nD Cert.HgrnSample.τ).loc Cert.HgrnSample.main_arg1) = m ((c.tc : Thread Cert.HgrnSample.nD Cert.HgrnSample.τ).loc Cert.HgrnSample.main_arg1)
      ∧ r.2.mem ((c.tc : Thread Cert.HgrnSample.nD Cert.HgrnSample.τ).loc Cert.HgrnSample.main_arg2) = m ((c.tc : Thread Cert.HgrnSample.nD Cert.HgrnSample.τ).loc Cert.HgrnSample.main_arg2)
      ∧ r.2.mem ((c.tc : Thread Cert.HgrnSample.nD Cert.HgrnSample.τ).loc Cert.HgrnSample.main_arg3) = m ((c.tc : Thread Cert.HgrnSample.nD Cert.HgrnSample.τ).loc Cert.HgrnSample.main_arg3))
      ∧ r.2.sem = fun _ => 0)

def quiescent_HgrnSampleIdeal [hHgrnSampleIdeal : Cert.HgrnSampleIdeal.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg), Pre_HgrnSampleIdeal m →
    θ_run (Cert.HgrnSampleIdeal.defs (F := Ideal)) (onTc (τ := Cert.HgrnSampleIdeal.τ) (Cert.HgrnSampleIdeal.main (F := Ideal))) ⟨m, fun _ => 0, g⟩ (fun r => (∀ c : Dev Cert.HgrnSampleIdeal.nD,
      r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
      ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
      ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
      ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3))
      ∧ r.2.sem = fun _ => 0)

def quiescent_HgrnSampleIdeal_pre_unit_bound [hHgrnSampleIdeal : Cert.HgrnSampleIdeal.Facts] [hPre_unit_bound : Cert.Pre_unit_bound.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg), Pre_HgrnSampleIdeal_unit_bound m →
    θ_run (Cert.HgrnSampleIdeal.defs (F := Ideal)) (onTc (τ := Cert.HgrnSampleIdeal.τ) (Cert.HgrnSampleIdeal.main (F := Ideal))) ⟨m, fun _ => 0, g⟩ (fun r => (∀ c : Dev Cert.HgrnSampleIdeal.nD,
      r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
      ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
      ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
      ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3))
      ∧ r.2.sem = fun _ => 0)

def quiescent_HgrnSampleRefIdeal [hHgrnSampleRefIdeal : Cert.HgrnSampleRefIdeal.Facts] : Prop :=
  ∀ (m : (ℓ : Loc Cert.HgrnSampleRefIdeal.nD Cert.HgrnSampleRefIdeal.τ Cert.HgrnSampleRefIdeal.sig) → Buf (Elt Ideal) ℓ) (g : Dev Cert.HgrnSampleRefIdeal.nD → PrngReg), Pre_HgrnSampleRefIdeal m →
    θ_run (Cert.HgrnSampleRefIdeal.defs (F := Ideal)) (onTc (τ := Cert.HgrnSampleRefIdeal.τ) (Cert.HgrnSampleRefIdeal.main (F := Ideal))) ⟨m, fun _ => 0, g⟩ (fun r => (∀ c : Dev Cert.HgrnSampleRefIdeal.nD,
      r.2.mem ((c.tc : Thread Cert.HgrnSampleRefIdeal.nD Cert.HgrnSampleRefIdeal.τ).loc Cert.HgrnSampleRefIdeal.main_arg0) = m ((c.tc : Thread Cert.HgrnSampleRefIdeal.nD Cert.HgrnSampleRefIdeal.τ).loc Cert.HgrnSampleRefIdeal.main_arg0)
      ∧ r.2.mem ((c.tc : Thread Cert.HgrnSampleRefIdeal.nD Cert.HgrnSampleRefIdeal.τ).loc Cert.HgrnSampleRefIdeal.main_arg1) = m ((c.tc : Thread Cert.HgrnSampleRefIdeal.nD Cert.HgrnSampleRefIdeal.τ).loc Cert.HgrnSampleRefIdeal.main_arg1)
      ∧ r.2.mem ((c.tc : Thread Cert.HgrnSampleRefIdeal.nD Cert.HgrnSampleRefIdeal.τ).loc Cert.HgrnSampleRefIdeal.main_arg2) = m ((c.tc : Thread Cert.HgrnSampleRefIdeal.nD Cert.HgrnSampleRefIdeal.τ).loc Cert.HgrnSampleRefIdeal.main_arg2)
      ∧ r.2.mem ((c.tc : Thread Cert.HgrnSampleRefIdeal.nD Cert.HgrnSampleRefIdeal.τ).loc Cert.HgrnSampleRefIdeal.main_arg3) = m ((c.tc : Thread Cert.HgrnSampleRefIdeal.nD Cert.HgrnSampleRefIdeal.τ).loc Cert.HgrnSampleRefIdeal.main_arg3))
      ∧ r.2.sem = fun _ => 0)

def quiescent_HgrnSampleRefIdeal_pre_unit_bound [hHgrnSampleRefIdeal : Cert.HgrnSampleRefIdeal.Facts] [hPre_unit_bound : Cert.Pre_unit_bound.Facts] : Prop :=
  ∀ (m : (ℓ : Loc Cert.HgrnSampleRefIdeal.nD Cert.HgrnSampleRefIdeal.τ Cert.HgrnSampleRefIdeal.sig) → Buf (Elt Ideal) ℓ) (g : Dev Cert.HgrnSampleRefIdeal.nD → PrngReg), Pre_HgrnSampleRefIdeal_unit_bound m →
    θ_run (Cert.HgrnSampleRefIdeal.defs (F := Ideal)) (onTc (τ := Cert.HgrnSampleRefIdeal.τ) (Cert.HgrnSampleRefIdeal.main (F := Ideal))) ⟨m, fun _ => 0, g⟩ (fun r => (∀ c : Dev Cert.HgrnSampleRefIdeal.nD,
      r.2.mem ((c.tc : Thread Cert.HgrnSampleRefIdeal.nD Cert.HgrnSampleRefIdeal.τ).loc Cert.HgrnSampleRefIdeal.main_arg0) = m ((c.tc : Thread Cert.HgrnSampleRefIdeal.nD Cert.HgrnSampleRefIdeal.τ).loc Cert.HgrnSampleRefIdeal.main_arg0)
      ∧ r.2.mem ((c.tc : Thread Cert.HgrnSampleRefIdeal.nD Cert.HgrnSampleRefIdeal.τ).loc Cert.HgrnSampleRefIdeal.main_arg1) = m ((c.tc : Thread Cert.HgrnSampleRefIdeal.nD Cert.HgrnSampleRefIdeal.τ).loc Cert.HgrnSampleRefIdeal.main_arg1)
      ∧ r.2.mem ((c.tc : Thread Cert.HgrnSampleRefIdeal.nD Cert.HgrnSampleRefIdeal.τ).loc Cert.HgrnSampleRefIdeal.main_arg2) = m ((c.tc : Thread Cert.HgrnSampleRefIdeal.nD Cert.HgrnSampleRefIdeal.τ).loc Cert.HgrnSampleRefIdeal.main_arg2)
      ∧ r.2.mem ((c.tc : Thread Cert.HgrnSampleRefIdeal.nD Cert.HgrnSampleRefIdeal.τ).loc Cert.HgrnSampleRefIdeal.main_arg3) = m ((c.tc : Thread Cert.HgrnSampleRefIdeal.nD Cert.HgrnSampleRefIdeal.τ).loc Cert.HgrnSampleRefIdeal.main_arg3))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8)
      ∧ r.2.mem ((c.tc : Thread Cert.MergeSampleRefIdeal.nD Cert.MergeSampleRefIdeal.τ).loc Cert.MergeSampleRefIdeal.main_arg9) = m ((c.tc : Thread Cert.MergeSampleRefIdeal.nD Cert.MergeSampleRefIdeal.τ).loc Cert.MergeSampleRefIdeal.main_arg9))
      ∧ r.2.sem = fun _ => 0)

def quiescent_FfnSecond [hFfnSecond : Cert.FfnSecond.Facts] : Prop :=
  ∀ (m : (ℓ : Loc Cert.FfnSecond.nD Cert.FfnSecond.τ Cert.FfnSecond.sig) → Buf (Elt Bits) ℓ) (g : Dev Cert.FfnSecond.nD → PrngReg), Pre_FfnSecond m →
    θ_run (Cert.FfnSecond.defs (F := Bits)) (onTc (τ := Cert.FfnSecond.τ) (Cert.FfnSecond.main (F := Bits))) ⟨m, fun _ => 0, g⟩ (fun r => (∀ c : Dev Cert.FfnSecond.nD,
      r.2.mem ((c.tc : Thread Cert.FfnSecond.nD Cert.FfnSecond.τ).loc Cert.FfnSecond.main_arg0) = m ((c.tc : Thread Cert.FfnSecond.nD Cert.FfnSecond.τ).loc Cert.FfnSecond.main_arg0)
      ∧ r.2.mem ((c.tc : Thread Cert.FfnSecond.nD Cert.FfnSecond.τ).loc Cert.FfnSecond.main_arg1) = m ((c.tc : Thread Cert.FfnSecond.nD Cert.FfnSecond.τ).loc Cert.FfnSecond.main_arg1)
      ∧ r.2.mem ((c.tc : Thread Cert.FfnSecond.nD Cert.FfnSecond.τ).loc Cert.FfnSecond.main_arg2) = m ((c.tc : Thread Cert.FfnSecond.nD Cert.FfnSecond.τ).loc Cert.FfnSecond.main_arg2)
      ∧ r.2.mem ((c.tc : Thread Cert.FfnSecond.nD Cert.FfnSecond.τ).loc Cert.FfnSecond.main_arg3) = m ((c.tc : Thread Cert.FfnSecond.nD Cert.FfnSecond.τ).loc Cert.FfnSecond.main_arg3)
      ∧ r.2.mem ((c.tc : Thread Cert.FfnSecond.nD Cert.FfnSecond.τ).loc Cert.FfnSecond.main_arg4) = m ((c.tc : Thread Cert.FfnSecond.nD Cert.FfnSecond.τ).loc Cert.FfnSecond.main_arg4)
      ∧ r.2.mem ((c.tc : Thread Cert.FfnSecond.nD Cert.FfnSecond.τ).loc Cert.FfnSecond.main_arg5) = m ((c.tc : Thread Cert.FfnSecond.nD Cert.FfnSecond.τ).loc Cert.FfnSecond.main_arg5))
      ∧ r.2.sem = fun _ => 0)

def quiescent_FfnSecondIdeal [hFfnSecondIdeal : Cert.FfnSecondIdeal.Facts] : Prop :=
  ∀ (m : (ℓ : Loc Cert.FfnSecondIdeal.nD Cert.FfnSecondIdeal.τ Cert.FfnSecondIdeal.sig) → Buf (Elt Ideal) ℓ) (g : Dev Cert.FfnSecondIdeal.nD → PrngReg), Pre_FfnSecondIdeal m →
    θ_run (Cert.FfnSecondIdeal.defs (F := Ideal)) (onTc (τ := Cert.FfnSecondIdeal.τ) (Cert.FfnSecondIdeal.main (F := Ideal))) ⟨m, fun _ => 0, g⟩ (fun r => (∀ c : Dev Cert.FfnSecondIdeal.nD,
      r.2.mem ((c.tc : Thread Cert.FfnSecondIdeal.nD Cert.FfnSecondIdeal.τ).loc Cert.FfnSecondIdeal.main_arg0) = m ((c.tc : Thread Cert.FfnSecondIdeal.nD Cert.FfnSecondIdeal.τ).loc Cert.FfnSecondIdeal.main_arg0)
      ∧ r.2.mem ((c.tc : Thread Cert.FfnSecondIdeal.nD Cert.FfnSecondIdeal.τ).loc Cert.FfnSecondIdeal.main_arg1) = m ((c.tc : Thread Cert.FfnSecondIdeal.nD Cert.FfnSecondIdeal.τ).loc Cert.FfnSecondIdeal.main_arg1)
      ∧ r.2.mem ((c.tc : Thread Cert.FfnSecondIdeal.nD Cert.FfnSecondIdeal.τ).loc Cert.FfnSecondIdeal.main_arg2) = m ((c.tc : Thread Cert.FfnSecondIdeal.nD Cert.FfnSecondIdeal.τ).loc Cert.FfnSecondIdeal.main_arg2)
      ∧ r.2.mem ((c.tc : Thread Cert.FfnSecondIdeal.nD Cert.FfnSecondIdeal.τ).loc Cert.FfnSecondIdeal.main_arg3) = m ((c.tc : Thread Cert.FfnSecondIdeal.nD Cert.FfnSecondIdeal.τ).loc Cert.FfnSecondIdeal.main_arg3)
      ∧ r.2.mem ((c.tc : Thread Cert.FfnSecondIdeal.nD Cert.FfnSecondIdeal.τ).loc Cert.FfnSecondIdeal.main_arg4) = m ((c.tc : Thread Cert.FfnSecondIdeal.nD Cert.FfnSecondIdeal.τ).loc Cert.FfnSecondIdeal.main_arg4)
      ∧ r.2.mem ((c.tc : Thread Cert.FfnSecondIdeal.nD Cert.FfnSecondIdeal.τ).loc Cert.FfnSecondIdeal.main_arg5) = m ((c.tc : Thread Cert.FfnSecondIdeal.nD Cert.FfnSecondIdeal.τ).loc Cert.FfnSecondIdeal.main_arg5))
      ∧ r.2.sem = fun _ => 0)

def quiescent_FfnSecondRefIdeal [hFfnSecondRefIdeal : Cert.FfnSecondRefIdeal.Facts] : Prop :=
  ∀ (m : (ℓ : Loc Cert.FfnSecondRefIdeal.nD Cert.FfnSecondRefIdeal.τ Cert.FfnSecondRefIdeal.sig) → Buf (Elt Ideal) ℓ) (g : Dev Cert.FfnSecondRefIdeal.nD → PrngReg), Pre_FfnSecondRefIdeal m →
    θ_run (Cert.FfnSecondRefIdeal.defs (F := Ideal)) (onTc (τ := Cert.FfnSecondRefIdeal.τ) (Cert.FfnSecondRefIdeal.main (F := Ideal))) ⟨m, fun _ => 0, g⟩ (fun r => (∀ c : Dev Cert.FfnSecondRefIdeal.nD,
      r.2.mem ((c.tc : Thread Cert.FfnSecondRefIdeal.nD Cert.FfnSecondRefIdeal.τ).loc Cert.FfnSecondRefIdeal.main_arg0) = m ((c.tc : Thread Cert.FfnSecondRefIdeal.nD Cert.FfnSecondRefIdeal.τ).loc Cert.FfnSecondRefIdeal.main_arg0)
      ∧ r.2.mem ((c.tc : Thread Cert.FfnSecondRefIdeal.nD Cert.FfnSecondRefIdeal.τ).loc Cert.FfnSecondRefIdeal.main_arg1) = m ((c.tc : Thread Cert.FfnSecondRefIdeal.nD Cert.FfnSecondRefIdeal.τ).loc Cert.FfnSecondRefIdeal.main_arg1)
      ∧ r.2.mem ((c.tc : Thread Cert.FfnSecondRefIdeal.nD Cert.FfnSecondRefIdeal.τ).loc Cert.FfnSecondRefIdeal.main_arg2) = m ((c.tc : Thread Cert.FfnSecondRefIdeal.nD Cert.FfnSecondRefIdeal.τ).loc Cert.FfnSecondRefIdeal.main_arg2)
      ∧ r.2.mem ((c.tc : Thread Cert.FfnSecondRefIdeal.nD Cert.FfnSecondRefIdeal.τ).loc Cert.FfnSecondRefIdeal.main_arg3) = m ((c.tc : Thread Cert.FfnSecondRefIdeal.nD Cert.FfnSecondRefIdeal.τ).loc Cert.FfnSecondRefIdeal.main_arg3)
      ∧ r.2.mem ((c.tc : Thread Cert.FfnSecondRefIdeal.nD Cert.FfnSecondRefIdeal.τ).loc Cert.FfnSecondRefIdeal.main_arg4) = m ((c.tc : Thread Cert.FfnSecondRefIdeal.nD Cert.FfnSecondRefIdeal.τ).loc Cert.FfnSecondRefIdeal.main_arg4)
      ∧ r.2.mem ((c.tc : Thread Cert.FfnSecondRefIdeal.nD Cert.FfnSecondRefIdeal.τ).loc Cert.FfnSecondRefIdeal.main_arg5) = m ((c.tc : Thread Cert.FfnSecondRefIdeal.nD Cert.FfnSecondRefIdeal.τ).loc Cert.FfnSecondRefIdeal.main_arg5))
      ∧ r.2.sem = fun _ => 0)

def quiescent_FfnSecondSample [hFfnSecondSample : Cert.FfnSecondSample.Facts] : Prop :=
  ∀ (m : (ℓ : Loc Cert.FfnSecondSample.nD Cert.FfnSecondSample.τ Cert.FfnSecondSample.sig) → Buf (Elt Bits) ℓ) (g : Dev Cert.FfnSecondSample.nD → PrngReg), Pre_FfnSecondSample m →
    θ_run (Cert.FfnSecondSample.defs (F := Bits)) (onTc (τ := Cert.FfnSecondSample.τ) (Cert.FfnSecondSample.main (F := Bits))) ⟨m, fun _ => 0, g⟩ (fun r => (∀ c : Dev Cert.FfnSecondSample.nD,
      r.2.mem ((c.tc : Thread Cert.FfnSecondSample.nD Cert.FfnSecondSample.τ).loc Cert.FfnSecondSample.main_arg0) = m ((c.tc : Thread Cert.FfnSecondSample.nD Cert.FfnSecondSample.τ).loc Cert.FfnSecondSample.main_arg0)
      ∧ r.2.mem ((c.tc : Thread Cert.FfnSecondSample.nD Cert.FfnSecondSample.τ).loc Cert.FfnSecondSample.main_arg1) = m ((c.tc : Thread Cert.FfnSecondSample.nD Cert.FfnSecondSample.τ).loc Cert.FfnSecondSample.main_arg1)
      ∧ r.2.mem ((c.tc : Thread Cert.FfnSecondSample.nD Cert.FfnSecondSample.τ).loc Cert.FfnSecondSample.main_arg2) = m ((c.tc : Thread Cert.FfnSecondSample.nD Cert.FfnSecondSample.τ).loc Cert.FfnSecondSample.main_arg2)
      ∧ r.2.mem ((c.tc : Thread Cert.FfnSecondSample.nD Cert.FfnSecondSample.τ).loc Cert.FfnSecondSample.main_arg3) = m ((c.tc : Thread Cert.FfnSecondSample.nD Cert.FfnSecondSample.τ).loc Cert.FfnSecondSample.main_arg3)
      ∧ r.2.mem ((c.tc : Thread Cert.FfnSecondSample.nD Cert.FfnSecondSample.τ).loc Cert.FfnSecondSample.main_arg4) = m ((c.tc : Thread Cert.FfnSecondSample.nD Cert.FfnSecondSample.τ).loc Cert.FfnSecondSample.main_arg4)
      ∧ r.2.mem ((c.tc : Thread Cert.FfnSecondSample.nD Cert.FfnSecondSample.τ).loc Cert.FfnSecondSample.main_arg5) = m ((c.tc : Thread Cert.FfnSecondSample.nD Cert.FfnSecondSample.τ).loc Cert.FfnSecondSample.main_arg5))
      ∧ r.2.sem = fun _ => 0)

def quiescent_FfnSecondSampleIdeal [hFfnSecondSampleIdeal : Cert.FfnSecondSampleIdeal.Facts] : Prop :=
  ∀ (m : (ℓ : Loc Cert.FfnSecondSampleIdeal.nD Cert.FfnSecondSampleIdeal.τ Cert.FfnSecondSampleIdeal.sig) → Buf (Elt Ideal) ℓ) (g : Dev Cert.FfnSecondSampleIdeal.nD → PrngReg), Pre_FfnSecondSampleIdeal m →
    θ_run (Cert.FfnSecondSampleIdeal.defs (F := Ideal)) (onTc (τ := Cert.FfnSecondSampleIdeal.τ) (Cert.FfnSecondSampleIdeal.main (F := Ideal))) ⟨m, fun _ => 0, g⟩ (fun r => (∀ c : Dev Cert.FfnSecondSampleIdeal.nD,
      r.2.mem ((c.tc : Thread Cert.FfnSecondSampleIdeal.nD Cert.FfnSecondSampleIdeal.τ).loc Cert.FfnSecondSampleIdeal.main_arg0) = m ((c.tc : Thread Cert.FfnSecondSampleIdeal.nD Cert.FfnSecondSampleIdeal.τ).loc Cert.FfnSecondSampleIdeal.main_arg0)
      ∧ r.2.mem ((c.tc : Thread Cert.FfnSecondSampleIdeal.nD Cert.FfnSecondSampleIdeal.τ).loc Cert.FfnSecondSampleIdeal.main_arg1) = m ((c.tc : Thread Cert.FfnSecondSampleIdeal.nD Cert.FfnSecondSampleIdeal.τ).loc Cert.FfnSecondSampleIdeal.main_arg1)
      ∧ r.2.mem ((c.tc : Thread Cert.FfnSecondSampleIdeal.nD Cert.FfnSecondSampleIdeal.τ).loc Cert.FfnSecondSampleIdeal.main_arg2) = m ((c.tc : Thread Cert.FfnSecondSampleIdeal.nD Cert.FfnSecondSampleIdeal.τ).loc Cert.FfnSecondSampleIdeal.main_arg2)
      ∧ r.2.mem ((c.tc : Thread Cert.FfnSecondSampleIdeal.nD Cert.FfnSecondSampleIdeal.τ).loc Cert.FfnSecondSampleIdeal.main_arg3) = m ((c.tc : Thread Cert.FfnSecondSampleIdeal.nD Cert.FfnSecondSampleIdeal.τ).loc Cert.FfnSecondSampleIdeal.main_arg3)
      ∧ r.2.mem ((c.tc : Thread Cert.FfnSecondSampleIdeal.nD Cert.FfnSecondSampleIdeal.τ).loc Cert.FfnSecondSampleIdeal.main_arg4) = m ((c.tc : Thread Cert.FfnSecondSampleIdeal.nD Cert.FfnSecondSampleIdeal.τ).loc Cert.FfnSecondSampleIdeal.main_arg4)
      ∧ r.2.mem ((c.tc : Thread Cert.FfnSecondSampleIdeal.nD Cert.FfnSecondSampleIdeal.τ).loc Cert.FfnSecondSampleIdeal.main_arg5) = m ((c.tc : Thread Cert.FfnSecondSampleIdeal.nD Cert.FfnSecondSampleIdeal.τ).loc Cert.FfnSecondSampleIdeal.main_arg5))
      ∧ r.2.sem = fun _ => 0)

def quiescent_FfnSecondSampleRefIdeal [hFfnSecondSampleRefIdeal : Cert.FfnSecondSampleRefIdeal.Facts] : Prop :=
  ∀ (m : (ℓ : Loc Cert.FfnSecondSampleRefIdeal.nD Cert.FfnSecondSampleRefIdeal.τ Cert.FfnSecondSampleRefIdeal.sig) → Buf (Elt Ideal) ℓ) (g : Dev Cert.FfnSecondSampleRefIdeal.nD → PrngReg), Pre_FfnSecondSampleRefIdeal m →
    θ_run (Cert.FfnSecondSampleRefIdeal.defs (F := Ideal)) (onTc (τ := Cert.FfnSecondSampleRefIdeal.τ) (Cert.FfnSecondSampleRefIdeal.main (F := Ideal))) ⟨m, fun _ => 0, g⟩ (fun r => (∀ c : Dev Cert.FfnSecondSampleRefIdeal.nD,
      r.2.mem ((c.tc : Thread Cert.FfnSecondSampleRefIdeal.nD Cert.FfnSecondSampleRefIdeal.τ).loc Cert.FfnSecondSampleRefIdeal.main_arg0) = m ((c.tc : Thread Cert.FfnSecondSampleRefIdeal.nD Cert.FfnSecondSampleRefIdeal.τ).loc Cert.FfnSecondSampleRefIdeal.main_arg0)
      ∧ r.2.mem ((c.tc : Thread Cert.FfnSecondSampleRefIdeal.nD Cert.FfnSecondSampleRefIdeal.τ).loc Cert.FfnSecondSampleRefIdeal.main_arg1) = m ((c.tc : Thread Cert.FfnSecondSampleRefIdeal.nD Cert.FfnSecondSampleRefIdeal.τ).loc Cert.FfnSecondSampleRefIdeal.main_arg1)
      ∧ r.2.mem ((c.tc : Thread Cert.FfnSecondSampleRefIdeal.nD Cert.FfnSecondSampleRefIdeal.τ).loc Cert.FfnSecondSampleRefIdeal.main_arg2) = m ((c.tc : Thread Cert.FfnSecondSampleRefIdeal.nD Cert.FfnSecondSampleRefIdeal.τ).loc Cert.FfnSecondSampleRefIdeal.main_arg2)
      ∧ r.2.mem ((c.tc : Thread Cert.FfnSecondSampleRefIdeal.nD Cert.FfnSecondSampleRefIdeal.τ).loc Cert.FfnSecondSampleRefIdeal.main_arg3) = m ((c.tc : Thread Cert.FfnSecondSampleRefIdeal.nD Cert.FfnSecondSampleRefIdeal.τ).loc Cert.FfnSecondSampleRefIdeal.main_arg3)
      ∧ r.2.mem ((c.tc : Thread Cert.FfnSecondSampleRefIdeal.nD Cert.FfnSecondSampleRefIdeal.τ).loc Cert.FfnSecondSampleRefIdeal.main_arg4) = m ((c.tc : Thread Cert.FfnSecondSampleRefIdeal.nD Cert.FfnSecondSampleRefIdeal.τ).loc Cert.FfnSecondSampleRefIdeal.main_arg4)
      ∧ r.2.mem ((c.tc : Thread Cert.FfnSecondSampleRefIdeal.nD Cert.FfnSecondSampleRefIdeal.τ).loc Cert.FfnSecondSampleRefIdeal.main_arg5) = m ((c.tc : Thread Cert.FfnSecondSampleRefIdeal.nD Cert.FfnSecondSampleRefIdeal.τ).loc Cert.FfnSecondSampleRefIdeal.main_arg5))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v33) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v74) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)
      ∧ m' ((c.tc : Thread Cert.EmbedRefIdeal.nD Cert.EmbedRefIdeal.τ).loc Cert.EmbedRefIdeal.main_arg2) = m ((c.tc : Thread Cert.EmbedIdeal.nD Cert.EmbedIdeal.τ).loc Cert.EmbedIdeal.main_arg2)
      ∧ m' ((c.tc : Thread Cert.EmbedRefIdeal.nD Cert.EmbedRefIdeal.τ).loc Cert.EmbedRefIdeal.main_arg3) = m ((c.tc : Thread Cert.EmbedIdeal.nD Cert.EmbedIdeal.τ).loc Cert.EmbedIdeal.main_arg3)
      ∧ m' ((c.tc : Thread Cert.EmbedRefIdeal.nD Cert.EmbedRefIdeal.τ).loc Cert.EmbedRefIdeal.main_arg4) = m ((c.tc : Thread Cert.EmbedIdeal.nD Cert.EmbedIdeal.τ).loc Cert.EmbedIdeal.main_arg4)
      ∧ m' ((c.tc : Thread Cert.EmbedRefIdeal.nD Cert.EmbedRefIdeal.τ).loc Cert.EmbedRefIdeal.main_arg5) = m ((c.tc : Thread Cert.EmbedIdeal.nD Cert.EmbedIdeal.τ).loc Cert.EmbedIdeal.main_arg5)
      ∧ m' ((c.tc : Thread Cert.EmbedRefIdeal.nD Cert.EmbedRefIdeal.τ).loc Cert.EmbedRefIdeal.main_arg6) = m ((c.tc : Thread Cert.EmbedIdeal.nD Cert.EmbedIdeal.τ).loc Cert.EmbedIdeal.main_arg6)) →
    ∃ (v0 : (c : Dev Cert.EmbedIdeal.nD) → Buf (Elt Ideal) ((c.tc : Thread Cert.EmbedIdeal.nD Cert.EmbedIdeal.τ).loc Cert.EmbedIdeal.main_v6)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v6) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2)
          ∧ r.2.mem ((c.tc : Thread Cert.EmbedIdeal.nD Cert.EmbedIdeal.τ).loc Cert.EmbedIdeal.main_arg3) = m ((c.tc : Thread Cert.EmbedIdeal.nD Cert.EmbedIdeal.τ).loc Cert.EmbedIdeal.main_arg3)
          ∧ r.2.mem ((c.tc : Thread Cert.EmbedIdeal.nD Cert.EmbedIdeal.τ).loc Cert.EmbedIdeal.main_arg4) = m ((c.tc : Thread Cert.EmbedIdeal.nD Cert.EmbedIdeal.τ).loc Cert.EmbedIdeal.main_arg4)
          ∧ r.2.mem ((c.tc : Thread Cert.EmbedIdeal.nD Cert.EmbedIdeal.τ).loc Cert.EmbedIdeal.main_arg5) = m ((c.tc : Thread Cert.EmbedIdeal.nD Cert.EmbedIdeal.τ).loc Cert.EmbedIdeal.main_arg5)
          ∧ r.2.mem ((c.tc : Thread Cert.EmbedIdeal.nD Cert.EmbedIdeal.τ).loc Cert.EmbedIdeal.main_arg6) = m ((c.tc : Thread Cert.EmbedIdeal.nD Cert.EmbedIdeal.τ).loc Cert.EmbedIdeal.main_arg6))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v51) = v0 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1)
          ∧ r.2.mem ((c.tc : Thread Cert.EmbedRefIdeal.nD Cert.EmbedRefIdeal.τ).loc Cert.EmbedRefIdeal.main_arg2) = m' ((c.tc : Thread Cert.EmbedRefIdeal.nD Cert.EmbedRefIdeal.τ).loc Cert.EmbedRefIdeal.main_arg2)
          ∧ r.2.mem ((c.tc : Thread Cert.EmbedRefIdeal.nD Cert.EmbedRefIdeal.τ).loc Cert.EmbedRefIdeal.main_arg3) = m' ((c.tc : Thread Cert.EmbedRefIdeal.nD Cert.EmbedRefIdeal.τ).loc Cert.EmbedRefIdeal.main_arg3)
          ∧ r.2.mem ((c.tc : Thread Cert.EmbedRefIdeal.nD Cert.EmbedRefIdeal.τ).loc Cert.EmbedRefIdeal.main_arg4) = m' ((c.tc : Thread Cert.EmbedRefIdeal.nD Cert.EmbedRefIdeal.τ).loc Cert.EmbedRefIdeal.main_arg4)
          ∧ r.2.mem ((c.tc : Thread Cert.EmbedRefIdeal.nD Cert.EmbedRefIdeal.τ).loc Cert.EmbedRefIdeal.main_arg5) = m' ((c.tc : Thread Cert.EmbedRefIdeal.nD Cert.EmbedRefIdeal.τ).loc Cert.EmbedRefIdeal.main_arg5)
          ∧ r.2.mem ((c.tc : Thread Cert.EmbedRefIdeal.nD Cert.EmbedRefIdeal.τ).loc Cert.EmbedRefIdeal.main_arg6) = m' ((c.tc : Thread Cert.EmbedRefIdeal.nD Cert.EmbedRefIdeal.τ).loc Cert.EmbedRefIdeal.main_arg6))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)) →
    ∃ (v0 : (c : Dev Cert.ProjSampleIdeal.nD) → Buf (Elt Ideal) ((c.tc : Thread Cert.ProjSampleIdeal.nD Cert.ProjSampleIdeal.τ).loc Cert.ProjSampleIdeal.main_v1)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v1) = v0 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v4) = v0 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1))

def preserves_EmbedSample_EmbedSampleIdeal : Prop :=
  True

def algebraic_EmbedSampleIdeal_EmbedSampleRefIdeal [hEmbedSampleIdeal : Cert.EmbedSampleIdeal.Facts] [hEmbedSampleRefIdeal : Cert.EmbedSampleRefIdeal.Facts] : Prop :=
  ∀ (m : (ℓ : Loc Cert.EmbedSampleIdeal.nD Cert.EmbedSampleIdeal.τ Cert.EmbedSampleIdeal.sig) → Buf (Elt Ideal) ℓ) (g : Dev Cert.EmbedSampleIdeal.nD → PrngReg)
    (m' : (ℓ : Loc Cert.EmbedSampleRefIdeal.nD Cert.EmbedSampleRefIdeal.τ Cert.EmbedSampleRefIdeal.sig) → Buf (Elt Ideal) ℓ) (g' : Dev Cert.EmbedSampleRefIdeal.nD → PrngReg), Pre_EmbedSampleIdeal m →
    (∀ c : Dev Cert.EmbedSampleIdeal.nD,
      m' ((c.tc : Thread Cert.EmbedSampleRefIdeal.nD Cert.EmbedSampleRefIdeal.τ).loc Cert.EmbedSampleRefIdeal.main_arg0) = m ((c.tc : Thread Cert.EmbedSampleIdeal.nD Cert.EmbedSampleIdeal.τ).loc Cert.EmbedSampleIdeal.main_arg0)
      ∧ m' ((c.tc : Thread Cert.EmbedSampleRefIdeal.nD Cert.EmbedSampleRefIdeal.τ).loc Cert.EmbedSampleRefIdeal.main_arg1) = m ((c.tc : Thread Cert.EmbedSampleIdeal.nD Cert.EmbedSampleIdeal.τ).loc Cert.EmbedSampleIdeal.main_arg1)
      ∧ m' ((c.tc : Thread Cert.EmbedSampleRefIdeal.nD Cert.EmbedSampleRefIdeal.τ).loc Cert.EmbedSampleRefIdeal.main_arg2) = m ((c.tc : Thread Cert.EmbedSampleIdeal.nD Cert.EmbedSampleIdeal.τ).loc Cert.EmbedSampleIdeal.main_arg2)
      ∧ m' ((c.tc : Thread Cert.EmbedSampleRefIdeal.nD Cert.EmbedSampleRefIdeal.τ).loc Cert.EmbedSampleRefIdeal.main_arg3) = m ((c.tc : Thread Cert.EmbedSampleIdeal.nD Cert.EmbedSampleIdeal.τ).loc Cert.EmbedSampleIdeal.main_arg3)
      ∧ m' ((c.tc : Thread Cert.EmbedSampleRefIdeal.nD Cert.EmbedSampleRefIdeal.τ).loc Cert.EmbedSampleRefIdeal.main_arg4) = m ((c.tc : Thread Cert.EmbedSampleIdeal.nD Cert.EmbedSampleIdeal.τ).loc Cert.EmbedSampleIdeal.main_arg4)
      ∧ m' ((c.tc : Thread Cert.EmbedSampleRefIdeal.nD Cert.EmbedSampleRefIdeal.τ).loc Cert.EmbedSampleRefIdeal.main_arg5) = m ((c.tc : Thread Cert.EmbedSampleIdeal.nD Cert.EmbedSampleIdeal.τ).loc Cert.EmbedSampleIdeal.main_arg5)
      ∧ m' ((c.tc : Thread Cert.EmbedSampleRefIdeal.nD Cert.EmbedSampleRefIdeal.τ).loc Cert.EmbedSampleRefIdeal.main_arg6) = m ((c.tc : Thread Cert.EmbedSampleIdeal.nD Cert.EmbedSampleIdeal.τ).loc Cert.EmbedSampleIdeal.main_arg6)) →
    ∃ (v0 : (c : Dev Cert.EmbedSampleIdeal.nD) → Buf (Elt Ideal) ((c.tc : Thread Cert.EmbedSampleIdeal.nD Cert.EmbedSampleIdeal.τ).loc Cert.EmbedSampleIdeal.main_v6)),
      θ_run (Cert.EmbedSampleIdeal.defs (F := Ideal)) (onTc (τ := Cert.EmbedSampleIdeal.τ) (Cert.EmbedSampleIdeal.main (F := Ideal))) ⟨m, fun _ => 0, g⟩ (fun r => ∀ c : Dev Cert.EmbedSampleIdeal.nD,
          r.2.mem ((c.tc : Thread Cert.EmbedSampleIdeal.nD Cert.EmbedSampleIdeal.τ).loc Cert.EmbedSampleIdeal.main_v6) = v0 c
          ∧ r.2.mem ((c.tc : Thread Cert.EmbedSampleIdeal.nD Cert.EmbedSampleIdeal.τ).loc Cert.EmbedSampleIdeal.main_arg0) = m ((c.tc : Thread Cert.EmbedSampleIdeal.nD Cert.EmbedSampleIdeal.τ).loc Cert.EmbedSampleIdeal.main_arg0)
          ∧ r.2.mem ((c.tc : Thread Cert.EmbedSampleIdeal.nD Cert.EmbedSampleIdeal.τ).loc Cert.EmbedSampleIdeal.main_arg1) = m ((c.tc : Thread Cert.EmbedSampleIdeal.nD Cert.EmbedSampleIdeal.τ).loc Cert.EmbedSampleIdeal.main_arg1)
          ∧ r.2.mem ((c.tc : Thread Cert.EmbedSampleIdeal.nD Cert.EmbedSampleIdeal.τ).loc Cert.EmbedSampleIdeal.main_arg2) = m ((c.tc : Thread Cert.EmbedSampleIdeal.nD Cert.EmbedSampleIdeal.τ).loc Cert.EmbedSampleIdeal.main_arg2)
          ∧ r.2.mem ((c.tc : Thread Cert.EmbedSampleIdeal.nD Cert.EmbedSampleIdeal.τ).loc Cert.EmbedSampleIdeal.main_arg3) = m ((c.tc : Thread Cert.EmbedSampleIdeal.nD Cert.EmbedSampleIdeal.τ).loc Cert.EmbedSampleIdeal.main_arg3)
          ∧ r.2.mem ((c.tc : Thread Cert.EmbedSampleIdeal.nD Cert.EmbedSampleIdeal.τ).loc Cert.EmbedSampleIdeal.main_arg4) = m ((c.tc : Thread Cert.EmbedSampleIdeal.nD Cert.EmbedSampleIdeal.τ).loc Cert.EmbedSampleIdeal.main_arg4)
          ∧ r.2.mem ((c.tc : Thread Cert.EmbedSampleIdeal.nD Cert.EmbedSampleIdeal.τ).loc Cert.EmbedSampleIdeal.main_arg5) = m ((c.tc : Thread Cert.EmbedSampleIdeal.nD Cert.EmbedSampleIdeal.τ).loc Cert.EmbedSampleIdeal.main_arg5)
          ∧ r.2.mem ((c.tc : Thread Cert.EmbedSampleIdeal.nD Cert.EmbedSampleIdeal.τ).loc Cert.EmbedSampleIdeal.main_arg6) = m ((c.tc : Thread Cert.EmbedSampleIdeal.nD Cert.EmbedSampleIdeal.τ).loc Cert.EmbedSampleIdeal.main_arg6))
      ∧ θ_run (Cert.EmbedSampleRefIdeal.defs (F := Ideal)) (onTc (τ := Cert.EmbedSampleRefIdeal.τ) (Cert.EmbedSampleRefIdeal.main (F := Ideal))) ⟨m', fun _ => 0, g'⟩ (fun r => ∀ c : Dev Cert.EmbedSampleRefIdeal.nD,
          r.2.mem ((c.tc : Thread Cert.EmbedSampleRefIdeal.nD Cert.EmbedSampleRefIdeal.τ).loc Cert.EmbedSampleRefIdeal.main_v51) = v0 c
          ∧ r.2.mem ((c.tc : Thread Cert.EmbedSampleRefIdeal.nD Cert.EmbedSampleRefIdeal.τ).loc Cert.EmbedSampleRefIdeal.main_arg0) = m' ((c.tc : Thread Cert.EmbedSampleRefIdeal.nD Cert.EmbedSampleRefIdeal.τ).loc Cert.EmbedSampleRefIdeal.main_arg0)
          ∧ r.2.mem ((c.tc : Thread Cert.EmbedSampleRefIdeal.nD Cert.EmbedSampleRefIdeal.τ).loc Cert.EmbedSampleRefIdeal.main_arg1) = m' ((c.tc : Thread Cert.EmbedSampleRefIdeal.nD Cert.EmbedSampleRefIdeal.τ).loc Cert.EmbedSampleRefIdeal.main_arg1)
          ∧ r.2.mem ((c.tc : Thread Cert.EmbedSampleRefIdeal.nD Cert.EmbedSampleRefIdeal.τ).loc Cert.EmbedSampleRefIdeal.main_arg2) = m' ((c.tc : Thread Cert.EmbedSampleRefIdeal.nD Cert.EmbedSampleRefIdeal.τ).loc Cert.EmbedSampleRefIdeal.main_arg2)
          ∧ r.2.mem ((c.tc : Thread Cert.EmbedSampleRefIdeal.nD Cert.EmbedSampleRefIdeal.τ).loc Cert.EmbedSampleRefIdeal.main_arg3) = m' ((c.tc : Thread Cert.EmbedSampleRefIdeal.nD Cert.EmbedSampleRefIdeal.τ).loc Cert.EmbedSampleRefIdeal.main_arg3)
          ∧ r.2.mem ((c.tc : Thread Cert.EmbedSampleRefIdeal.nD Cert.EmbedSampleRefIdeal.τ).loc Cert.EmbedSampleRefIdeal.main_arg4) = m' ((c.tc : Thread Cert.EmbedSampleRefIdeal.nD Cert.EmbedSampleRefIdeal.τ).loc Cert.EmbedSampleRefIdeal.main_arg4)
          ∧ r.2.mem ((c.tc : Thread Cert.EmbedSampleRefIdeal.nD Cert.EmbedSampleRefIdeal.τ).loc Cert.EmbedSampleRefIdeal.main_arg5) = m' ((c.tc : Thread Cert.EmbedSampleRefIdeal.nD Cert.EmbedSampleRefIdeal.τ).loc Cert.EmbedSampleRefIdeal.main_arg5)
          ∧ r.2.mem ((c.tc : Thread Cert.EmbedSampleRefIdeal.nD Cert.EmbedSampleRefIdeal.τ).loc Cert.EmbedSampleRefIdeal.main_arg6) = m' ((c.tc : Thread Cert.EmbedSampleRefIdeal.nD Cert.EmbedSampleRefIdeal.τ).loc Cert.EmbedSampleRefIdeal.main_arg6))

def preserves_Hgrn_HgrnIdeal : Prop :=
  True

def algebraic_HgrnIdeal_HgrnRefIdeal_pre_gated [hHgrnIdeal : Cert.HgrnIdeal.Facts] [hHgrnRefIdeal : Cert.HgrnRefIdeal.Facts] [hPre_gated : Cert.Pre_gated.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_gated m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v3_0)) (v1 : (c : Dev Cert.HgrnIdeal.nD) → Buf (Elt Ideal) ((c.tc : Thread Cert.HgrnIdeal.nD Cert.HgrnIdeal.τ).loc Cert.HgrnIdeal.main_v4)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v3_0) = v0 c
          ∧ r.2.mem ((c.tc : Thread Cert.HgrnIdeal.nD Cert.HgrnIdeal.τ).loc Cert.HgrnIdeal.main_v4) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v107) = v0 c
          ∧ r.2.mem ((c.tc : Thread Cert.HgrnRefIdeal.nD Cert.HgrnRefIdeal.τ).loc Cert.HgrnRefIdeal.main_v88) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_HgrnSample_HgrnSampleIdeal : Prop :=
  True

def algebraic_HgrnSampleIdeal_HgrnSampleRefIdeal_pre_unit_bound [hHgrnSampleIdeal : Cert.HgrnSampleIdeal.Facts] [hHgrnSampleRefIdeal : Cert.HgrnSampleRefIdeal.Facts] [hPre_unit_bound : Cert.Pre_unit_bound.Facts] : Prop :=
  ∀ (m : (ℓ : Loc Cert.HgrnSampleIdeal.nD Cert.HgrnSampleIdeal.τ Cert.HgrnSampleIdeal.sig) → Buf (Elt Ideal) ℓ) (g : Dev Cert.HgrnSampleIdeal.nD → PrngReg)
    (m' : (ℓ : Loc Cert.HgrnSampleRefIdeal.nD Cert.HgrnSampleRefIdeal.τ Cert.HgrnSampleRefIdeal.sig) → Buf (Elt Ideal) ℓ) (g' : Dev Cert.HgrnSampleRefIdeal.nD → PrngReg), Pre_HgrnSampleIdeal_unit_bound m →
    (∀ c : Dev Cert.HgrnSampleIdeal.nD,
      m' ((c.tc : Thread Cert.HgrnSampleRefIdeal.nD Cert.HgrnSampleRefIdeal.τ).loc Cert.HgrnSampleRefIdeal.main_arg0) = m ((c.tc : Thread Cert.HgrnSampleIdeal.nD Cert.HgrnSampleIdeal.τ).loc Cert.HgrnSampleIdeal.main_arg0)
      ∧ m' ((c.tc : Thread Cert.HgrnSampleRefIdeal.nD Cert.HgrnSampleRefIdeal.τ).loc Cert.HgrnSampleRefIdeal.main_arg1) = m ((c.tc : Thread Cert.HgrnSampleIdeal.nD Cert.HgrnSampleIdeal.τ).loc Cert.HgrnSampleIdeal.main_arg1)
      ∧ m' ((c.tc : Thread Cert.HgrnSampleRefIdeal.nD Cert.HgrnSampleRefIdeal.τ).loc Cert.HgrnSampleRefIdeal.main_arg2) = m ((c.tc : Thread Cert.HgrnSampleIdeal.nD Cert.HgrnSampleIdeal.τ).loc Cert.HgrnSampleIdeal.main_arg2)
      ∧ m' ((c.tc : Thread Cert.HgrnSampleRefIdeal.nD Cert.HgrnSampleRefIdeal.τ).loc Cert.HgrnSampleRefIdeal.main_arg3) = m ((c.tc : Thread Cert.HgrnSampleIdeal.nD Cert.HgrnSampleIdeal.τ).loc Cert.HgrnSampleIdeal.main_arg3)) →
    ∃ (v0 : (c : Dev Cert.HgrnSampleIdeal.nD) → Buf (Elt Ideal) ((c.tc : Thread Cert.HgrnSampleIdeal.nD Cert.HgrnSampleIdeal.τ).loc Cert.HgrnSampleIdeal.main_v3_0)) (v1 : (c : Dev Cert.HgrnSampleIdeal.nD) → Buf (Elt Ideal) ((c.tc : Thread Cert.HgrnSampleIdeal.nD Cert.HgrnSampleIdeal.τ).loc Cert.HgrnSampleIdeal.main_v4)),
      θ_run (Cert.HgrnSampleIdeal.defs (F := Ideal)) (onTc (τ := Cert.HgrnSampleIdeal.τ) (Cert.HgrnSampleIdeal.main (F := Ideal))) ⟨m, fun _ => 0, g⟩ (fun r => ∀ c : Dev Cert.HgrnSampleIdeal.nD,
          r.2.mem ((c.tc : Thread Cert.HgrnSampleIdeal.nD Cert.HgrnSampleIdeal.τ).loc Cert.HgrnSampleIdeal.main_v3_0) = v0 c
          ∧ r.2.mem ((c.tc : Thread Cert.HgrnSampleIdeal.nD Cert.HgrnSampleIdeal.τ).loc Cert.HgrnSampleIdeal.main_v4) = v1 c
          ∧ r.2.mem ((c.tc : Thread Cert.HgrnSampleIdeal.nD Cert.HgrnSampleIdeal.τ).loc Cert.HgrnSampleIdeal.main_arg0) = m ((c.tc : Thread Cert.HgrnSampleIdeal.nD Cert.HgrnSampleIdeal.τ).loc Cert.HgrnSampleIdeal.main_arg0)
          ∧ r.2.mem ((c.tc : Thread Cert.HgrnSampleIdeal.nD Cert.HgrnSampleIdeal.τ).loc Cert.HgrnSampleIdeal.main_arg1) = m ((c.tc : Thread Cert.HgrnSampleIdeal.nD Cert.HgrnSampleIdeal.τ).loc Cert.HgrnSampleIdeal.main_arg1)
          ∧ r.2.mem ((c.tc : Thread Cert.HgrnSampleIdeal.nD Cert.HgrnSampleIdeal.τ).loc Cert.HgrnSampleIdeal.main_arg2) = m ((c.tc : Thread Cert.HgrnSampleIdeal.nD Cert.HgrnSampleIdeal.τ).loc Cert.HgrnSampleIdeal.main_arg2)
          ∧ r.2.mem ((c.tc : Thread Cert.HgrnSampleIdeal.nD Cert.HgrnSampleIdeal.τ).loc Cert.HgrnSampleIdeal.main_arg3) = m ((c.tc : Thread Cert.HgrnSampleIdeal.nD Cert.HgrnSampleIdeal.τ).loc Cert.HgrnSampleIdeal.main_arg3))
      ∧ θ_run (Cert.HgrnSampleRefIdeal.defs (F := Ideal)) (onTc (τ := Cert.HgrnSampleRefIdeal.τ) (Cert.HgrnSampleRefIdeal.main (F := Ideal))) ⟨m', fun _ => 0, g'⟩ (fun r => ∀ c : Dev Cert.HgrnSampleRefIdeal.nD,
          r.2.mem ((c.tc : Thread Cert.HgrnSampleRefIdeal.nD Cert.HgrnSampleRefIdeal.τ).loc Cert.HgrnSampleRefIdeal.main_v106) = v0 c
          ∧ r.2.mem ((c.tc : Thread Cert.HgrnSampleRefIdeal.nD Cert.HgrnSampleRefIdeal.τ).loc Cert.HgrnSampleRefIdeal.main_v87) = v1 c
          ∧ r.2.mem ((c.tc : Thread Cert.HgrnSampleRefIdeal.nD Cert.HgrnSampleRefIdeal.τ).loc Cert.HgrnSampleRefIdeal.main_arg0) = m' ((c.tc : Thread Cert.HgrnSampleRefIdeal.nD Cert.HgrnSampleRefIdeal.τ).loc Cert.HgrnSampleRefIdeal.main_arg0)
          ∧ r.2.mem ((c.tc : Thread Cert.HgrnSampleRefIdeal.nD Cert.HgrnSampleRefIdeal.τ).loc Cert.HgrnSampleRefIdeal.main_arg1) = m' ((c.tc : Thread Cert.HgrnSampleRefIdeal.nD Cert.HgrnSampleRefIdeal.τ).loc Cert.HgrnSampleRefIdeal.main_arg1)
          ∧ r.2.mem ((c.tc : Thread Cert.HgrnSampleRefIdeal.nD Cert.HgrnSampleRefIdeal.τ).loc Cert.HgrnSampleRefIdeal.main_arg2) = m' ((c.tc : Thread Cert.HgrnSampleRefIdeal.nD Cert.HgrnSampleRefIdeal.τ).loc Cert.HgrnSampleRefIdeal.main_arg2)
          ∧ r.2.mem ((c.tc : Thread Cert.HgrnSampleRefIdeal.nD Cert.HgrnSampleRefIdeal.τ).loc Cert.HgrnSampleRefIdeal.main_arg3) = m' ((c.tc : Thread Cert.HgrnSampleRefIdeal.nD Cert.HgrnSampleRefIdeal.τ).loc Cert.HgrnSampleRefIdeal.main_arg3))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v5)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v5) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v43) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def preserves_MergeSample_MergeSampleIdeal : Prop :=
  True

def algebraic_MergeSampleIdeal_MergeSampleRefIdeal [hMergeSampleIdeal : Cert.MergeSampleIdeal.Facts] [hMergeSampleRefIdeal : Cert.MergeSampleRefIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)
      ∧ m' ((c.tc : Thread Cert.MergeSampleRefIdeal.nD Cert.MergeSampleRefIdeal.τ).loc Cert.MergeSampleRefIdeal.main_arg8) = m ((c.tc : Thread Cert.MergeSampleIdeal.nD Cert.MergeSampleIdeal.τ).loc Cert.MergeSampleIdeal.main_arg8)
      ∧ m' ((c.tc : Thread Cert.MergeSampleRefIdeal.nD Cert.MergeSampleRefIdeal.τ).loc Cert.MergeSampleRefIdeal.main_arg9) = m ((c.tc : Thread Cert.MergeSampleIdeal.nD Cert.MergeSampleIdeal.τ).loc Cert.MergeSampleIdeal.main_arg9)) →
    ∃ (v0 : (c : Dev Cert.MergeSampleIdeal.nD) → Buf (Elt Ideal) ((c.tc : Thread Cert.MergeSampleIdeal.nD Cert.MergeSampleIdeal.τ).loc Cert.MergeSampleIdeal.main_v5)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v5) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v74) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7)
          ∧ r.2.mem ((c.tc : Thread Cert.MergeSampleRefIdeal.nD Cert.MergeSampleRefIdeal.τ).loc Cert.MergeSampleRefIdeal.main_arg8) = m' ((c.tc : Thread Cert.MergeSampleRefIdeal.nD Cert.MergeSampleRefIdeal.τ).loc Cert.MergeSampleRefIdeal.main_arg8)
          ∧ r.2.mem ((c.tc : Thread Cert.MergeSampleRefIdeal.nD Cert.MergeSampleRefIdeal.τ).loc Cert.MergeSampleRefIdeal.main_arg9) = m' ((c.tc : Thread Cert.MergeSampleRefIdeal.nD Cert.MergeSampleRefIdeal.τ).loc Cert.MergeSampleRefIdeal.main_arg9))

def preserves_FfnSecond_FfnSecondIdeal : Prop :=
  True

def algebraic_FfnSecondIdeal_FfnSecondRefIdeal [hFfnSecondIdeal : Cert.FfnSecondIdeal.Facts] [hFfnSecondRefIdeal : Cert.FfnSecondRefIdeal.Facts] : Prop :=
  ∀ (m : (ℓ : Loc Cert.FfnSecondIdeal.nD Cert.FfnSecondIdeal.τ Cert.FfnSecondIdeal.sig) → Buf (Elt Ideal) ℓ) (g : Dev Cert.FfnSecondIdeal.nD → PrngReg)
    (m' : (ℓ : Loc Cert.FfnSecondRefIdeal.nD Cert.FfnSecondRefIdeal.τ Cert.FfnSecondRefIdeal.sig) → Buf (Elt Ideal) ℓ) (g' : Dev Cert.FfnSecondRefIdeal.nD → PrngReg), Pre_FfnSecondIdeal m →
    (∀ c : Dev Cert.FfnSecondIdeal.nD,
      m' ((c.tc : Thread Cert.FfnSecondRefIdeal.nD Cert.FfnSecondRefIdeal.τ).loc Cert.FfnSecondRefIdeal.main_arg0) = m ((c.tc : Thread Cert.FfnSecondIdeal.nD Cert.FfnSecondIdeal.τ).loc Cert.FfnSecondIdeal.main_arg0)
      ∧ m' ((c.tc : Thread Cert.FfnSecondRefIdeal.nD Cert.FfnSecondRefIdeal.τ).loc Cert.FfnSecondRefIdeal.main_arg1) = m ((c.tc : Thread Cert.FfnSecondIdeal.nD Cert.FfnSecondIdeal.τ).loc Cert.FfnSecondIdeal.main_arg1)
      ∧ m' ((c.tc : Thread Cert.FfnSecondRefIdeal.nD Cert.FfnSecondRefIdeal.τ).loc Cert.FfnSecondRefIdeal.main_arg2) = m ((c.tc : Thread Cert.FfnSecondIdeal.nD Cert.FfnSecondIdeal.τ).loc Cert.FfnSecondIdeal.main_arg2)
      ∧ m' ((c.tc : Thread Cert.FfnSecondRefIdeal.nD Cert.FfnSecondRefIdeal.τ).loc Cert.FfnSecondRefIdeal.main_arg3) = m ((c.tc : Thread Cert.FfnSecondIdeal.nD Cert.FfnSecondIdeal.τ).loc Cert.FfnSecondIdeal.main_arg3)
      ∧ m' ((c.tc : Thread Cert.FfnSecondRefIdeal.nD Cert.FfnSecondRefIdeal.τ).loc Cert.FfnSecondRefIdeal.main_arg4) = m ((c.tc : Thread Cert.FfnSecondIdeal.nD Cert.FfnSecondIdeal.τ).loc Cert.FfnSecondIdeal.main_arg4)
      ∧ m' ((c.tc : Thread Cert.FfnSecondRefIdeal.nD Cert.FfnSecondRefIdeal.τ).loc Cert.FfnSecondRefIdeal.main_arg5) = m ((c.tc : Thread Cert.FfnSecondIdeal.nD Cert.FfnSecondIdeal.τ).loc Cert.FfnSecondIdeal.main_arg5)) →
    ∃ (v0 : (c : Dev Cert.FfnSecondIdeal.nD) → Buf (Elt Ideal) ((c.tc : Thread Cert.FfnSecondIdeal.nD Cert.FfnSecondIdeal.τ).loc Cert.FfnSecondIdeal.main_v5)),
      θ_run (Cert.FfnSecondIdeal.defs (F := Ideal)) (onTc (τ := Cert.FfnSecondIdeal.τ) (Cert.FfnSecondIdeal.main (F := Ideal))) ⟨m, fun _ => 0, g⟩ (fun r => ∀ c : Dev Cert.FfnSecondIdeal.nD,
          r.2.mem ((c.tc : Thread Cert.FfnSecondIdeal.nD Cert.FfnSecondIdeal.τ).loc Cert.FfnSecondIdeal.main_v5) = v0 c
          ∧ r.2.mem ((c.tc : Thread Cert.FfnSecondIdeal.nD Cert.FfnSecondIdeal.τ).loc Cert.FfnSecondIdeal.main_arg0) = m ((c.tc : Thread Cert.FfnSecondIdeal.nD Cert.FfnSecondIdeal.τ).loc Cert.FfnSecondIdeal.main_arg0)
          ∧ r.2.mem ((c.tc : Thread Cert.FfnSecondIdeal.nD Cert.FfnSecondIdeal.τ).loc Cert.FfnSecondIdeal.main_arg1) = m ((c.tc : Thread Cert.FfnSecondIdeal.nD Cert.FfnSecondIdeal.τ).loc Cert.FfnSecondIdeal.main_arg1)
          ∧ r.2.mem ((c.tc : Thread Cert.FfnSecondIdeal.nD Cert.FfnSecondIdeal.τ).loc Cert.FfnSecondIdeal.main_arg2) = m ((c.tc : Thread Cert.FfnSecondIdeal.nD Cert.FfnSecondIdeal.τ).loc Cert.FfnSecondIdeal.main_arg2)
          ∧ r.2.mem ((c.tc : Thread Cert.FfnSecondIdeal.nD Cert.FfnSecondIdeal.τ).loc Cert.FfnSecondIdeal.main_arg3) = m ((c.tc : Thread Cert.FfnSecondIdeal.nD Cert.FfnSecondIdeal.τ).loc Cert.FfnSecondIdeal.main_arg3)
          ∧ r.2.mem ((c.tc : Thread Cert.FfnSecondIdeal.nD Cert.FfnSecondIdeal.τ).loc Cert.FfnSecondIdeal.main_arg4) = m ((c.tc : Thread Cert.FfnSecondIdeal.nD Cert.FfnSecondIdeal.τ).loc Cert.FfnSecondIdeal.main_arg4)
          ∧ r.2.mem ((c.tc : Thread Cert.FfnSecondIdeal.nD Cert.FfnSecondIdeal.τ).loc Cert.FfnSecondIdeal.main_arg5) = m ((c.tc : Thread Cert.FfnSecondIdeal.nD Cert.FfnSecondIdeal.τ).loc Cert.FfnSecondIdeal.main_arg5))
      ∧ θ_run (Cert.FfnSecondRefIdeal.defs (F := Ideal)) (onTc (τ := Cert.FfnSecondRefIdeal.τ) (Cert.FfnSecondRefIdeal.main (F := Ideal))) ⟨m', fun _ => 0, g'⟩ (fun r => ∀ c : Dev Cert.FfnSecondRefIdeal.nD,
          r.2.mem ((c.tc : Thread Cert.FfnSecondRefIdeal.nD Cert.FfnSecondRefIdeal.τ).loc Cert.FfnSecondRefIdeal.main_v43) = v0 c
          ∧ r.2.mem ((c.tc : Thread Cert.FfnSecondRefIdeal.nD Cert.FfnSecondRefIdeal.τ).loc Cert.FfnSecondRefIdeal.main_arg0) = m' ((c.tc : Thread Cert.FfnSecondRefIdeal.nD Cert.FfnSecondRefIdeal.τ).loc Cert.FfnSecondRefIdeal.main_arg0)
          ∧ r.2.mem ((c.tc : Thread Cert.FfnSecondRefIdeal.nD Cert.FfnSecondRefIdeal.τ).loc Cert.FfnSecondRefIdeal.main_arg1) = m' ((c.tc : Thread Cert.FfnSecondRefIdeal.nD Cert.FfnSecondRefIdeal.τ).loc Cert.FfnSecondRefIdeal.main_arg1)
          ∧ r.2.mem ((c.tc : Thread Cert.FfnSecondRefIdeal.nD Cert.FfnSecondRefIdeal.τ).loc Cert.FfnSecondRefIdeal.main_arg2) = m' ((c.tc : Thread Cert.FfnSecondRefIdeal.nD Cert.FfnSecondRefIdeal.τ).loc Cert.FfnSecondRefIdeal.main_arg2)
          ∧ r.2.mem ((c.tc : Thread Cert.FfnSecondRefIdeal.nD Cert.FfnSecondRefIdeal.τ).loc Cert.FfnSecondRefIdeal.main_arg3) = m' ((c.tc : Thread Cert.FfnSecondRefIdeal.nD Cert.FfnSecondRefIdeal.τ).loc Cert.FfnSecondRefIdeal.main_arg3)
          ∧ r.2.mem ((c.tc : Thread Cert.FfnSecondRefIdeal.nD Cert.FfnSecondRefIdeal.τ).loc Cert.FfnSecondRefIdeal.main_arg4) = m' ((c.tc : Thread Cert.FfnSecondRefIdeal.nD Cert.FfnSecondRefIdeal.τ).loc Cert.FfnSecondRefIdeal.main_arg4)
          ∧ r.2.mem ((c.tc : Thread Cert.FfnSecondRefIdeal.nD Cert.FfnSecondRefIdeal.τ).loc Cert.FfnSecondRefIdeal.main_arg5) = m' ((c.tc : Thread Cert.FfnSecondRefIdeal.nD Cert.FfnSecondRefIdeal.τ).loc Cert.FfnSecondRefIdeal.main_arg5))

def preserves_FfnSecondSample_FfnSecondSampleIdeal : Prop :=
  True

def algebraic_FfnSecondSampleIdeal_FfnSecondSampleRefIdeal [hFfnSecondSampleIdeal : Cert.FfnSecondSampleIdeal.Facts] [hFfnSecondSampleRefIdeal : Cert.FfnSecondSampleRefIdeal.Facts] : Prop :=
  ∀ (m : (ℓ : Loc Cert.FfnSecondSampleIdeal.nD Cert.FfnSecondSampleIdeal.τ Cert.FfnSecondSampleIdeal.sig) → Buf (Elt Ideal) ℓ) (g : Dev Cert.FfnSecondSampleIdeal.nD → PrngReg)
    (m' : (ℓ : Loc Cert.FfnSecondSampleRefIdeal.nD Cert.FfnSecondSampleRefIdeal.τ Cert.FfnSecondSampleRefIdeal.sig) → Buf (Elt Ideal) ℓ) (g' : Dev Cert.FfnSecondSampleRefIdeal.nD → PrngReg), Pre_FfnSecondSampleIdeal m →
    (∀ c : Dev Cert.FfnSecondSampleIdeal.nD,
      m' ((c.tc : Thread Cert.FfnSecondSampleRefIdeal.nD Cert.FfnSecondSampleRefIdeal.τ).loc Cert.FfnSecondSampleRefIdeal.main_arg0) = m ((c.tc : Thread Cert.FfnSecondSampleIdeal.nD Cert.FfnSecondSampleIdeal.τ).loc Cert.FfnSecondSampleIdeal.main_arg0)
      ∧ m' ((c.tc : Thread Cert.FfnSecondSampleRefIdeal.nD Cert.FfnSecondSampleRefIdeal.τ).loc Cert.FfnSecondSampleRefIdeal.main_arg1) = m ((c.tc : Thread Cert.FfnSecondSampleIdeal.nD Cert.FfnSecondSampleIdeal.τ).loc Cert.FfnSecondSampleIdeal.main_arg1)
      ∧ m' ((c.tc : Thread Cert.FfnSecondSampleRefIdeal.nD Cert.FfnSecondSampleRefIdeal.τ).loc Cert.FfnSecondSampleRefIdeal.main_arg2) = m ((c.tc : Thread Cert.FfnSecondSampleIdeal.nD Cert.FfnSecondSampleIdeal.τ).loc Cert.FfnSecondSampleIdeal.main_arg2)
      ∧ m' ((c.tc : Thread Cert.FfnSecondSampleRefIdeal.nD Cert.FfnSecondSampleRefIdeal.τ).loc Cert.FfnSecondSampleRefIdeal.main_arg3) = m ((c.tc : Thread Cert.FfnSecondSampleIdeal.nD Cert.FfnSecondSampleIdeal.τ).loc Cert.FfnSecondSampleIdeal.main_arg3)
      ∧ m' ((c.tc : Thread Cert.FfnSecondSampleRefIdeal.nD Cert.FfnSecondSampleRefIdeal.τ).loc Cert.FfnSecondSampleRefIdeal.main_arg4) = m ((c.tc : Thread Cert.FfnSecondSampleIdeal.nD Cert.FfnSecondSampleIdeal.τ).loc Cert.FfnSecondSampleIdeal.main_arg4)
      ∧ m' ((c.tc : Thread Cert.FfnSecondSampleRefIdeal.nD Cert.FfnSecondSampleRefIdeal.τ).loc Cert.FfnSecondSampleRefIdeal.main_arg5) = m ((c.tc : Thread Cert.FfnSecondSampleIdeal.nD Cert.FfnSecondSampleIdeal.τ).loc Cert.FfnSecondSampleIdeal.main_arg5)) →
    ∃ (v0 : (c : Dev Cert.FfnSecondSampleIdeal.nD) → Buf (Elt Ideal) ((c.tc : Thread Cert.FfnSecondSampleIdeal.nD Cert.FfnSecondSampleIdeal.τ).loc Cert.FfnSecondSampleIdeal.main_v5)),
      θ_run (Cert.FfnSecondSampleIdeal.defs (F := Ideal)) (onTc (τ := Cert.FfnSecondSampleIdeal.τ) (Cert.FfnSecondSampleIdeal.main (F := Ideal))) ⟨m, fun _ => 0, g⟩ (fun r => ∀ c : Dev Cert.FfnSecondSampleIdeal.nD,
          r.2.mem ((c.tc : Thread Cert.FfnSecondSampleIdeal.nD Cert.FfnSecondSampleIdeal.τ).loc Cert.FfnSecondSampleIdeal.main_v5) = v0 c
          ∧ r.2.mem ((c.tc : Thread Cert.FfnSecondSampleIdeal.nD Cert.FfnSecondSampleIdeal.τ).loc Cert.FfnSecondSampleIdeal.main_arg0) = m ((c.tc : Thread Cert.FfnSecondSampleIdeal.nD Cert.FfnSecondSampleIdeal.τ).loc Cert.FfnSecondSampleIdeal.main_arg0)
          ∧ r.2.mem ((c.tc : Thread Cert.FfnSecondSampleIdeal.nD Cert.FfnSecondSampleIdeal.τ).loc Cert.FfnSecondSampleIdeal.main_arg1) = m ((c.tc : Thread Cert.FfnSecondSampleIdeal.nD Cert.FfnSecondSampleIdeal.τ).loc Cert.FfnSecondSampleIdeal.main_arg1)
          ∧ r.2.mem ((c.tc : Thread Cert.FfnSecondSampleIdeal.nD Cert.FfnSecondSampleIdeal.τ).loc Cert.FfnSecondSampleIdeal.main_arg2) = m ((c.tc : Thread Cert.FfnSecondSampleIdeal.nD Cert.FfnSecondSampleIdeal.τ).loc Cert.FfnSecondSampleIdeal.main_arg2)
          ∧ r.2.mem ((c.tc : Thread Cert.FfnSecondSampleIdeal.nD Cert.FfnSecondSampleIdeal.τ).loc Cert.FfnSecondSampleIdeal.main_arg3) = m ((c.tc : Thread Cert.FfnSecondSampleIdeal.nD Cert.FfnSecondSampleIdeal.τ).loc Cert.FfnSecondSampleIdeal.main_arg3)
          ∧ r.2.mem ((c.tc : Thread Cert.FfnSecondSampleIdeal.nD Cert.FfnSecondSampleIdeal.τ).loc Cert.FfnSecondSampleIdeal.main_arg4) = m ((c.tc : Thread Cert.FfnSecondSampleIdeal.nD Cert.FfnSecondSampleIdeal.τ).loc Cert.FfnSecondSampleIdeal.main_arg4)
          ∧ r.2.mem ((c.tc : Thread Cert.FfnSecondSampleIdeal.nD Cert.FfnSecondSampleIdeal.τ).loc Cert.FfnSecondSampleIdeal.main_arg5) = m ((c.tc : Thread Cert.FfnSecondSampleIdeal.nD Cert.FfnSecondSampleIdeal.τ).loc Cert.FfnSecondSampleIdeal.main_arg5))
      ∧ θ_run (Cert.FfnSecondSampleRefIdeal.defs (F := Ideal)) (onTc (τ := Cert.FfnSecondSampleRefIdeal.τ) (Cert.FfnSecondSampleRefIdeal.main (F := Ideal))) ⟨m', fun _ => 0, g'⟩ (fun r => ∀ c : Dev Cert.FfnSecondSampleRefIdeal.nD,
          r.2.mem ((c.tc : Thread Cert.FfnSecondSampleRefIdeal.nD Cert.FfnSecondSampleRefIdeal.τ).loc Cert.FfnSecondSampleRefIdeal.main_v43) = v0 c
          ∧ r.2.mem ((c.tc : Thread Cert.FfnSecondSampleRefIdeal.nD Cert.FfnSecondSampleRefIdeal.τ).loc Cert.FfnSecondSampleRefIdeal.main_arg0) = m' ((c.tc : Thread Cert.FfnSecondSampleRefIdeal.nD Cert.FfnSecondSampleRefIdeal.τ).loc Cert.FfnSecondSampleRefIdeal.main_arg0)
          ∧ r.2.mem ((c.tc : Thread Cert.FfnSecondSampleRefIdeal.nD Cert.FfnSecondSampleRefIdeal.τ).loc Cert.FfnSecondSampleRefIdeal.main_arg1) = m' ((c.tc : Thread Cert.FfnSecondSampleRefIdeal.nD Cert.FfnSecondSampleRefIdeal.τ).loc Cert.FfnSecondSampleRefIdeal.main_arg1)
          ∧ r.2.mem ((c.tc : Thread Cert.FfnSecondSampleRefIdeal.nD Cert.FfnSecondSampleRefIdeal.τ).loc Cert.FfnSecondSampleRefIdeal.main_arg2) = m' ((c.tc : Thread Cert.FfnSecondSampleRefIdeal.nD Cert.FfnSecondSampleRefIdeal.τ).loc Cert.FfnSecondSampleRefIdeal.main_arg2)
          ∧ r.2.mem ((c.tc : Thread Cert.FfnSecondSampleRefIdeal.nD Cert.FfnSecondSampleRefIdeal.τ).loc Cert.FfnSecondSampleRefIdeal.main_arg3) = m' ((c.tc : Thread Cert.FfnSecondSampleRefIdeal.nD Cert.FfnSecondSampleRefIdeal.τ).loc Cert.FfnSecondSampleRefIdeal.main_arg3)
          ∧ r.2.mem ((c.tc : Thread Cert.FfnSecondSampleRefIdeal.nD Cert.FfnSecondSampleRefIdeal.τ).loc Cert.FfnSecondSampleRefIdeal.main_arg4) = m' ((c.tc : Thread Cert.FfnSecondSampleRefIdeal.nD Cert.FfnSecondSampleRefIdeal.τ).loc Cert.FfnSecondSampleRefIdeal.main_arg4)
          ∧ r.2.mem ((c.tc : Thread Cert.FfnSecondSampleRefIdeal.nD Cert.FfnSecondSampleRefIdeal.τ).loc Cert.FfnSecondSampleRefIdeal.main_arg5) = m' ((c.tc : Thread Cert.FfnSecondSampleRefIdeal.nD Cert.FfnSecondSampleRefIdeal.τ).loc Cert.FfnSecondSampleRefIdeal.main_arg5))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hEmbed : Cert.Embed.Facts) (hEmbedIdeal : Cert.EmbedIdeal.Facts) (hEmbedRefIdeal : Cert.EmbedRefIdeal.Facts) (hProjSample : Cert.ProjSample.Facts) (hProjSampleIdeal : Cert.ProjSampleIdeal.Facts) (hProjSampleRefIdeal : Cert.ProjSampleRefIdeal.Facts) (hEmbedSample : Cert.EmbedSample.Facts) (hEmbedSampleIdeal : Cert.EmbedSampleIdeal.Facts) (hEmbedSampleRefIdeal : Cert.EmbedSampleRefIdeal.Facts) (hHgrn : Cert.Hgrn.Facts) (hHgrnIdeal : Cert.HgrnIdeal.Facts) (hHgrnRefIdeal : Cert.HgrnRefIdeal.Facts) (hHgrnSample : Cert.HgrnSample.Facts) (hHgrnSampleIdeal : Cert.HgrnSampleIdeal.Facts) (hHgrnSampleRefIdeal : Cert.HgrnSampleRefIdeal.Facts) (hFfnSample : Cert.FfnSample.Facts) (hFfnSampleIdeal : Cert.FfnSampleIdeal.Facts) (hFfnSampleRefIdeal : Cert.FfnSampleRefIdeal.Facts) (hMergeSample : Cert.MergeSample.Facts) (hMergeSampleIdeal : Cert.MergeSampleIdeal.Facts) (hMergeSampleRefIdeal : Cert.MergeSampleRefIdeal.Facts) (hFfnSecond : Cert.FfnSecond.Facts) (hFfnSecondIdeal : Cert.FfnSecondIdeal.Facts) (hFfnSecondRefIdeal : Cert.FfnSecondRefIdeal.Facts) (hFfnSecondSample : Cert.FfnSecondSample.Facts) (hFfnSecondSampleIdeal : Cert.FfnSecondSampleIdeal.Facts) (hFfnSecondSampleRefIdeal : Cert.FfnSecondSampleRefIdeal.Facts) (hPre_finite : Cert.Pre_finite.Facts) (hPre_gated : Cert.Pre_gated.Facts) (hPre_unit_bound : Cert.Pre_unit_bound.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_EmbedSample (hEmbedSample := hEmbedSample)
    ∧ quiescent_EmbedSampleIdeal (hEmbedSampleIdeal := hEmbedSampleIdeal)
    ∧ quiescent_EmbedSampleRefIdeal (hEmbedSampleRefIdeal := hEmbedSampleRefIdeal)
    ∧ quiescent_Hgrn (hHgrn := hHgrn)
    ∧ quiescent_HgrnIdeal (hHgrnIdeal := hHgrnIdeal)
    ∧ quiescent_HgrnIdeal_pre_gated (hHgrnIdeal := hHgrnIdeal) (hPre_gated := hPre_gated)
    ∧ quiescent_HgrnRefIdeal (hHgrnRefIdeal := hHgrnRefIdeal)
    ∧ quiescent_HgrnRefIdeal_pre_gated (hHgrnRefIdeal := hHgrnRefIdeal) (hPre_gated := hPre_gated)
    ∧ quiescent_HgrnSample (hHgrnSample := hHgrnSample)
    ∧ quiescent_HgrnSampleIdeal (hHgrnSampleIdeal := hHgrnSampleIdeal)
    ∧ quiescent_HgrnSampleIdeal_pre_unit_bound (hHgrnSampleIdeal := hHgrnSampleIdeal) (hPre_unit_bound := hPre_unit_bound)
    ∧ quiescent_HgrnSampleRefIdeal (hHgrnSampleRefIdeal := hHgrnSampleRefIdeal)
    ∧ quiescent_HgrnSampleRefIdeal_pre_unit_bound (hHgrnSampleRefIdeal := hHgrnSampleRefIdeal) (hPre_unit_bound := hPre_unit_bound)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_MergeSample (hMergeSample := hMergeSample)
    ∧ quiescent_MergeSampleIdeal (hMergeSampleIdeal := hMergeSampleIdeal)
    ∧ quiescent_MergeSampleRefIdeal (hMergeSampleRefIdeal := hMergeSampleRefIdeal)
    ∧ quiescent_FfnSecond (hFfnSecond := hFfnSecond)
    ∧ quiescent_FfnSecondIdeal (hFfnSecondIdeal := hFfnSecondIdeal)
    ∧ quiescent_FfnSecondRefIdeal (hFfnSecondRefIdeal := hFfnSecondRefIdeal)
    ∧ quiescent_FfnSecondSample (hFfnSecondSample := hFfnSecondSample)
    ∧ quiescent_FfnSecondSampleIdeal (hFfnSecondSampleIdeal := hFfnSecondSampleIdeal)
    ∧ quiescent_FfnSecondSampleRefIdeal (hFfnSecondSampleRefIdeal := hFfnSecondSampleRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Embed_EmbedIdeal
    ∧ algebraic_EmbedIdeal_EmbedRefIdeal (hEmbedIdeal := hEmbedIdeal) (hEmbedRefIdeal := hEmbedRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_EmbedSample_EmbedSampleIdeal
    ∧ algebraic_EmbedSampleIdeal_EmbedSampleRefIdeal (hEmbedSampleIdeal := hEmbedSampleIdeal) (hEmbedSampleRefIdeal := hEmbedSampleRefIdeal)
    ∧ preserves_Hgrn_HgrnIdeal
    ∧ algebraic_HgrnIdeal_HgrnRefIdeal_pre_gated (hHgrnIdeal := hHgrnIdeal) (hHgrnRefIdeal := hHgrnRefIdeal) (hPre_gated := hPre_gated)
    ∧ preserves_HgrnSample_HgrnSampleIdeal
    ∧ algebraic_HgrnSampleIdeal_HgrnSampleRefIdeal_pre_unit_bound (hHgrnSampleIdeal := hHgrnSampleIdeal) (hHgrnSampleRefIdeal := hHgrnSampleRefIdeal) (hPre_unit_bound := hPre_unit_bound)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_MergeSample_MergeSampleIdeal
    ∧ algebraic_MergeSampleIdeal_MergeSampleRefIdeal (hMergeSampleIdeal := hMergeSampleIdeal) (hMergeSampleRefIdeal := hMergeSampleRefIdeal)
    ∧ preserves_FfnSecond_FfnSecondIdeal
    ∧ algebraic_FfnSecondIdeal_FfnSecondRefIdeal (hFfnSecondIdeal := hFfnSecondIdeal) (hFfnSecondRefIdeal := hFfnSecondRefIdeal)
    ∧ preserves_FfnSecondSample_FfnSecondSampleIdeal
    ∧ algebraic_FfnSecondSampleIdeal_FfnSecondSampleRefIdeal (hFfnSecondSampleIdeal := hFfnSecondSampleIdeal) (hFfnSecondSampleRefIdeal := hFfnSecondSampleRefIdeal)
-- ==== Pre_finite.lean ====
abbrev S11x16384x512 : Shape := ⟨3, ![11, 16384, 512]⟩
abbrev S8 : Shape := ⟨1, ![8]⟩
abbrev S1x16384x512 : Shape := ⟨3, ![1, 16384, 512]⟩
abbrev S16384x512 : Shape := ⟨2, ![16384, 512]⟩
abbrev S_ : Shape := ⟨0, ![]⟩

class Facts : Prop where
  slices_S11x16384x512_S1x16384x512_0_0_0 : S11x16384x512.Slices ![0, 0, 0] S1x16384x512
  shapeCasts_S1x16384x512_S16384x512 : S1x16384x512.ShapeCasts S16384x512
  bcast_S_S16384x512 : S_.BroadcastsInDim S16384x512 (![] : Fin 0 → Fin S16384x512.rank)
  slices_S11x16384x512_S1x16384x512_1_0_0 : S11x16384x512.Slices ![1, 0, 0] S1x16384x512
  bcast_S_S8 : S_.BroadcastsInDim S8 (![] : Fin 0 → Fin S8.rank)

variable [Facts]

def fn {F : FTy → Type} [FloatOps F] (main_arg0 : FVec F S11x16384x512 .f32) (main_arg1 : FVec F S8 .f32) : IVec S16384x512 1 × IVec S16384x512 1 × IVec S8 1 :=
  let main_v0 : FVec F S1x16384x512 .f32 := (extractStridedSlice S1x16384x512 ![0, 0, 0] · slices_S11x16384x512_S1x16384x512_0_0_0) main_arg0
  let main_v1 : FVec F S16384x512 .f32 := shapeCast S16384x512 main_v0 shapeCasts_S1x16384x512_S16384x512
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_v5 : FVec F S1x16384x512 .f32 := (extractStridedSlice S1x16384x512 ![1, 0, 0] · slices_S11x16384x512_S1x16384x512_1_0_0) main_arg0
  let main_v6 : FVec F S16384x512 .f32 := shapeCast S16384x512 main_v5 shapeCasts_S1x16384x512_S16384x512
  let main_v7 : FVec F S16384x512 .f32 := Host.absf main_v6
  let main_cst_0 : FVec F S_ .f32 := constant S_ .f32 0x7F800000#32
  let main_v8 : FVec F S16384x512 .f32 := broadcastInDim S16384x512 ![] bcast_S_S16384x512 main_cst_0
  let main_v9 : IVec S16384x512 1 := cmpf .olt main_v7 main_v8
  let main_v10 : FVec F S8 .f32 := Host.absf main_arg1
  let main_cst_1 : FVec F S_ .f32 := constant S_ .f32 0x7F800000#32
  let main_v11 : FVec F S8 .f32 := broadcastInDim S8 ![] bcast_S_S8 main_cst_1
  let main_v12 : IVec S8 1 := cmpf .olt main_v10 main_v11
  (main_v4, main_v9, main_v12)
-- ==== Pre_gated.lean ====
abbrev S11x16384x512 : Shape := ⟨3, ![11, 16384, 512]⟩
abbrev S512 : Shape := ⟨1, ![512]⟩
abbrev S128 : Shape := ⟨1, ![128]⟩
abbrev S1x16384x512 : Shape := ⟨3, ![1, 16384, 512]⟩
abbrev S16384x512 : Shape := ⟨2, ![16384, 512]⟩
abbrev S_ : Shape := ⟨0, ![]⟩

class Facts : Prop where
  slices_S11x16384x512_S1x16384x512_3_0_0 : S11x16384x512.Slices ![3, 0, 0] S1x16384x512
  shapeCasts_S1x16384x512_S16384x512 : S1x16384x512.ShapeCasts S16384x512
  bcast_S_S16384x512 : S_.BroadcastsInDim S16384x512 (![] : Fin 0 → Fin S16384x512.rank)
  slices_S11x16384x512_S1x16384x512_4_0_0 : S11x16384x512.Slices ![4, 0, 0] S1x16384x512
  slices_S11x16384x512_S1x16384x512_5_0_0 : S11x16384x512.Slices ![5, 0, 0] S1x16384x512
  bcast_S_S512 : S_.BroadcastsInDim S512 (![] : Fin 0 → Fin S512.rank)

variable [Facts]

def fn {F : FTy → Type} [FloatOps F] (main_arg0 : FVec F S11x16384x512 .f32) (main_arg1 : FVec F S512 .f32) (main_arg2 : FVec F S128 .f32) : IVec S16384x512 1 × IVec S16384x512 1 × IVec S16384x512 1 × IVec S512 1 × IVec S512 1 :=
  let main_v0 : FVec F S1x16384x512 .f32 := (extractStridedSlice S1x16384x512 ![3, 0, 0] · slices_S11x16384x512_S1x16384x512_3_0_0) main_arg0
  let main_v1 : FVec F S16384x512 .f32 := shapeCast S16384x512 main_v0 shapeCasts_S1x16384x512_S16384x512
  let main_v2 : FVec F S16384x512 .f32 := Host.absf main_v1
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_v5 : FVec F S1x16384x512 .f32 := (extractStridedSlice S1x16384x512 ![4, 0, 0] · slices_S11x16384x512_S1x16384x512_4_0_0) main_arg0
  let main_v6 : FVec F S16384x512 .f32 := shapeCast S16384x512 main_v5 shapeCasts_S1x16384x512_S16384x512
  let main_v7 : FVec F S16384x512 .f32 := Host.absf main_v6
  let main_cst_0 : FVec F S_ .f32 := constant S_ .f32 0x7F800000#32
  let main_v8 : FVec F S16384x512 .f32 := broadcastInDim S16384x512 ![] bcast_S_S16384x512 main_cst_0
  let main_v9 : IVec S16384x512 1 := cmpf .olt main_v7 main_v8
  let main_v10 : FVec F S1x16384x512 .f32 := (extractStridedSlice S1x16384x512 ![5, 0, 0] · slices_S11x16384x512_S1x16384x512_5_0_0) main_arg0
  let main_v11 : FVec F S16384x512 .f32 := shapeCast S16384x512 main_v10 shapeCasts_S1x16384x512_S16384x512
  let main_v12 : FVec F S16384x512 .f32 := Host.absf main_v11
  let main_cst_1 : FVec F S_ .f32 := constant S_ .f32 0x7F800000#32
  let main_v13 : FVec F S16384x512 .f32 := broadcastInDim S16384x512 ![] bcast_S_S16384x512 main_cst_1
  let main_v14 : IVec S16384x512 1 := cmpf .olt main_v12 main_v13
  let main_cst_2 : FVec F S_ .f32 := constant S_ .f32 0x00000000#32
  let main_v15 : FVec F S512 .f32 := broadcastInDim S512 ![] bcast_S_S512 main_cst_2
  let main_v16 : IVec S512 1 := cmpf .oge main_arg1 main_v15
  let main_cst_3 : FVec F S_ .f32 := constant S_ .f32 0x3F800000#32
  let main_v17 : FVec F S512 .f32 := broadcastInDim S512 ![] bcast_S_S512 main_cst_3
  let main_v18 : IVec S512 1 := cmpf .ole main_arg1 main_v17
  (main_v4, main_v9, main_v14, main_v16, main_v18)
-- ==== Pre_unit_bound.lean ====
abbrev S11x256x512 : Shape := ⟨3, ![11, 256, 512]⟩
abbrev S512 : Shape := ⟨1, ![512]⟩
abbrev S128 : Shape := ⟨1, ![128]⟩
abbrev S32x4x128x128 : Shape := ⟨4, ![32, 4, 128, 128]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S11x256x512 .f32) (main_arg1 : FVec F S512 .f32) (main_arg2 : FVec F S128 .f32) (main_arg3 : FVec F S32x4x128x128 .f32) : IVec S512 1 × IVec S512 1 :=
  let main_cst : FVec F S_ .f32 := constant S_ .f32 0x00000000#32
  let main_v0 : FVec F S512 .f32 := broadcastInDim S512 ![] bcast_S_S512 main_cst
  let main_v1 : IVec S512 1 := cmpf .oge main_arg1 main_v0
  let main_cst_0 : FVec F S_ .f32 := constant S_ .f32 0x3F800000#32
  let main_v2 : FVec F S512 .f32 := broadcastInDim S512 ![] bcast_S_S512 main_cst_0
  let main_v3 : IVec S512 1 := cmpf .ole main_arg1 main_v2
  (main_v1, main_v3)
-- ==== Attn.lean ====
abbrev S11x16384x512 : Shape := ⟨3, ![11, 16384, 512]⟩
abbrev S8 : Shape := ⟨1, ![8]⟩
abbrev S16384x512 : Shape := ⟨2, ![16384, 512]⟩
abbrev S1x256x128 : Shape := ⟨3, ![1, 256, 128]⟩
abbrev S1x4096x128 : Shape := ⟨3, ![1, 4096, 128]⟩
abbrev S256x128 : Shape := ⟨2, ![256, 128]⟩
abbrev S256x256 : Shape := ⟨2, ![256, 256]⟩
abbrev S1 : Shape := ⟨1, ![1]⟩
abbrev S256x1 : Shape := ⟨2, ![256, 1]⟩
abbrev S256 : Shape := ⟨1, ![256]⟩

abbrev nBuf : Space → Nat
  | .hbm => 3
  | .vmem => 8
  | .smem => 1
  | _ => 0

abbrev bufTy : (tb : Table) → Fin (tcTables nBuf tb) → BufTy
  | .hbm, ⟨0, _⟩ => ⟨S11x16384x512, .f32⟩
  | .hbm, ⟨1, _⟩ => ⟨S8, .f32⟩
  | .hbm, ⟨2, _⟩ => ⟨S16384x512, .f32⟩
  | .local _ .vmem, ⟨0, _⟩ => ⟨S1x256x128, .f32⟩
  | .local _ .vmem, ⟨1, _⟩ => ⟨S1x256x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S256x128, .f32⟩
  | .local _ .vmem, ⟨7, _⟩ => ⟨S256x128, .f32⟩
  | .local _ .smem, ⟨0, _⟩ => ⟨S8, .f32⟩
  | _, _ => ⟨S11x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 16], ![false, false, false]⟩

def k0_off1 (i : grid0.Coords) (c0_i32_11 : BitVec 32) : Fin 1 → Nat :=
  let c2_i32 : BitVec 32 := 2#32
  let arg1 : BitVec 32 := BitVec.ofNat 32 (i 1).val
  let v43 : BitVec 32 := Scalar.muli c2_i32 arg1
  let v44 : BitVec 32 := Scalar.addi v43 c0_i32_11
  let v45 : Index := Scalar.indexCast v44
  ![v45.toNat]
def k0_mult1 (i : grid0.Coords) : BitVec 32 :=
  let arg2 : BitVec 32 := BitVec.ofNat 32 (i 2).val
  let c256_i32 : BitVec 32 := 256#32
  let v47 : BitVec 32 := Scalar.muli arg2 c256_i32
  v47
def k0_off2 (i : grid0.Coords) : Fin 3 → Nat :=
  let c0_12 : Index := 0#32
  let arg2 : BitVec 32 := BitVec.ofNat 32 (i 2).val
  let c256_i32 : BitVec 32 := 256#32
  let v47 : BitVec 32 := Scalar.muli arg2 c256_i32
  let v48 : BitVec 32 := v47
  let v49 : Index := Scalar.indexCast v48
  let c0_13 : Index := 0#32
  ![0, v49.toNat, 0]
@[reducible] def k0_t1_loop (i : grid0.Coords) : Scf.Loop 32 :=
  let c0_i32_29 : BitVec 32 := 0#32
  let arg2 : BitVec 32 := BitVec.ofNat 32 (i 2).val
  let v96 : BitVec 32 := Scalar.subi arg2 c0_i32_29
  let c1_i32_30 : BitVec 32 := 1#32
  let v98 : BitVec 32 := Scalar.divsi v96 c1_i32_30
  let v99 : BitVec 32 := Scalar.muli v98 c1_i32_30
  let v100 : BitVec 32 := Scalar.addi c0_i32_29 v99
  let c1_i32_31 : BitVec 32 := 1#32
  ⟨c0_i32_29, v100, c1_i32_31⟩
def k0_mult2 (i : grid0.Coords) (k0_t1 : Fin (k0_t1_loop i).trips) : BitVec 32 :=
  let arg2 : BitVec 32 := BitVec.ofNat 32 (i 2).val
  let c1_i32_68 : BitVec 32 := 1#32
  let v195 : BitVec 32 := Scalar.subi arg2 c1_i32_68
  let c0_i32_29 : BitVec 32 := 0#32
  let c1_i32_31 : BitVec 32 := 1#32
  let arg8 : BitVec 32 := Scf.iv c0_i32_29 c1_i32_31 k0_t1
  let v196 : BitVec 32 := Scalar.subi v195 arg8
  let c256_i32_69 : BitVec 32 := 256#32
  let v197 : BitVec 32 := Scalar.muli v196 c256_i32_69
  v197
def k0_off3 (i : grid0.Coords) (k0_t1 : Fin (k0_t1_loop i).trips) : Fin 3 → Nat :=
  let c0_70 : Index := 0#32
  let arg2 : BitVec 32 := BitVec.ofNat 32 (i 2).val
  let c1_i32_68 : BitVec 32 := 1#32
  let v195 : BitVec 32 := Scalar.subi arg2 c1_i32_68
  let c0_i32_29 : BitVec 32 := 0#32
  let c1_i32_31 : BitVec 32 := 1#32
  let arg8 : BitVec 32 := Scf.iv c0_i32_29 c1_i32_31 k0_t1
  let v196 : BitVec 32 := Scalar.subi v195 arg8
  let c256_i32_69 : BitVec 32 := 256#32
  let v197 : BitVec 32 := Scalar.muli v196 c256_i32_69
  let v198 : BitVec 32 := v197
  let v199 : Index := Scalar.indexCast v198
  let c0_71 : Index := 0#32
  ![0, v199.toNat, 0]
@[reducible] def k0_t2_loop (i : grid0.Coords) : Scf.Loop 32 :=
  let c0_i32_29 : BitVec 32 := 0#32
  let arg2 : BitVec 32 := BitVec.ofNat 32 (i 2).val
  let v96 : BitVec 32 := Scalar.subi arg2 c0_i32_29
  let c1_i32_30 : BitVec 32 := 1#32
  let v98 : BitVec 32 := Scalar.divsi v96 c1_i32_30
  let v99 : BitVec 32 := Scalar.muli v98 c1_i32_30
  let v100 : BitVec 32 := Scalar.addi c0_i32_29 v99
  let v97 : BitVec 32 := Scalar.addi c0_i32_29 v96
  let c1_i32_32 : BitVec 32 := 1#32
  ⟨v100, v97, c1_i32_32⟩
def k0_mult3 (i : grid0.Coords) (k0_t2 : Fin (k0_t2_loop i).trips) : BitVec 32 :=
  let arg2 : BitVec 32 := BitVec.ofNat 32 (i 2).val
  let c1_i32_68 : BitVec 32 := 1#32
  let v195 : BitVec 32 := Scalar.subi arg2 c1_i32_68
  let c0_i32_29 : BitVec 32 := 0#32
  let v96 : BitVec 32 := Scalar.subi arg2 c0_i32_29
  let c1_i32_30 : BitVec 32 := 1#32
  let v98 : BitVec 32 := Scalar.divsi v96 c1_i32_30
  let v99 : BitVec 32 := Scalar.muli v98 c1_i32_30
  let v100 : BitVec 32 := Scalar.addi c0_i32_29 v99
  let c1_i32_32 : BitVec 32 := 1#32
  let arg8 : BitVec 32 := Scf.iv v100 c1_i32_32 k0_t2
  let v196 : BitVec 32 := Scalar.subi v195 arg8
  let c256_i32_69 : BitVec 32 := 256#32
  let v197 : BitVec 32 := Scalar.muli v196 c256_i32_69
  v197
def k0_off4 (i : grid0.Coords) (k0_t2 : Fin (k0_t2_loop i).trips) : Fin 3 → Nat :=
  let c0_70 : Index := 0#32
  let arg2 : BitVec 32 := BitVec.ofNat 32 (i 2).val
  let c1_i32_68 : BitVec 32 := 1#32
  let v195 : BitVec 32 := Scalar.subi arg2 c1_i32_68
  let c0_i32_29 : BitVec 32 := 0#32
  let v96 : BitVec 32 := Scalar.subi arg2 c0_i32_29
  let c1_i32_30 : BitVec 32 := 1#32
  let v98 : BitVec 32 := Scalar.divsi v96 c1_i32_30
  let v99 : BitVec 32 := Scalar.muli v98 c1_i32_30
  let v100 : BitVec 32 := Scalar.addi c0_i32_29 v99
  let c1_i32_32 : BitVec 32 := 1#32
  let arg8 : BitVec 32 := Scf.iv v100 c1_i32_32 k0_t2
  let v196 : BitVec 32 := Scalar.subi v195 arg8
  let c256_i32_69 : BitVec 32 := 256#32
  let v197 : BitVec 32 := Scalar.muli v196 c256_i32_69
  let v198 : BitVec 32 := v197
  let v199 : Index := Scalar.indexCast v198
  let c0_71 : Index := 0#32
  ![0, v199.toNat, 0]
def k0_mult4 (i : grid0.Coords) : BitVec 32 :=
  let arg2 : BitVec 32 := BitVec.ofNat 32 (i 2).val
  let c256_i32_44 : BitVec 32 := 256#32
  let v137 : BitVec 32 := Scalar.muli arg2 c256_i32_44
  v137
@[reducible] def k0_t3_loop (i : grid0.Coords) : Scf.Loop 32 :=
  let c0_i32_62 : BitVec 32 := 0#32
  let arg2 : BitVec 32 := BitVec.ofNat 32 (i 2).val
  let v186 : BitVec 32 := Scalar.subi arg2 c0_i32_62
  let c1_i32_63 : BitVec 32 := 1#32
  let v188 : BitVec 32 := Scalar.divsi v186 c1_i32_63
  let v189 : BitVec 32 := Scalar.muli v188 c1_i32_63
  let v190 : BitVec 32 := Scalar.addi c0_i32_62 v189
  let c1_i32_64 : BitVec 32 := 1#32
  ⟨c0_i32_62, v190, c1_i32_64⟩
def k0_mult5 (i : grid0.Coords) (k0_t3 : Fin (k0_t3_loop i).trips) : BitVec 32 :=
  let arg2 : BitVec 32 := BitVec.ofNat 32 (i 2).val
  let c1_i32_68 : BitVec 32 := 1#32
  let v195 : BitVec 32 := Scalar.subi arg2 c1_i32_68
  let c0_i32_62 : BitVec 32 := 0#32
  let c1_i32_64 : BitVec 32 := 1#32
  let arg8 : BitVec 32 := Scf.iv c0_i32_62 c1_i32_64 k0_t3
  let v196 : BitVec 32 := Scalar.subi v195 arg8
  let c256_i32_69 : BitVec 32 := 256#32
  let v197 : BitVec 32 := Scalar.muli v196 c256_i32_69
  v197
def k0_off5 (i : grid0.Coords) (k0_t3 : Fin (k0_t3_loop i).trips) : Fin 3 → Nat :=
  let c0_70 : Index := 0#32
  let arg2 : BitVec 32 := BitVec.ofNat 32 (i 2).val
  let c1_i32_68 : BitVec 32 := 1#32
  let v195 : BitVec 32 := Scalar.subi arg2 c1_i32_68
  let c0_i32_62 : BitVec 32 := 0#32
  let c1_i32_64 : BitVec 32 := 1#32
  let arg8 : BitVec 32 := Scf.iv c0_i32_62 c1_i32_64 k0_t3
  let v196 : BitVec 32 := Scalar.subi v195 arg8
  let c256_i32_69 : BitVec 32 := 256#32
  let v197 : BitVec 32 := Scalar.muli v196 c256_i32_69
  let v198 : BitVec 32 := v197
  let v199 : Index := Scalar.indexCast v198
  let c0_71 : Index := 0#32
  ![0, v199.toNat, 0]
@[reducible] def k0_t4_loop (i : grid0.Coords) : Scf.Loop 32 :=
  let c0_i32_62 : BitVec 32 := 0#32
  let arg2 : BitVec 32 := BitVec.ofNat 32 (i 2).val
  let v186 : BitVec 32 := Scalar.subi arg2 c0_i32_62
  let c1_i32_63 : BitVec 32 := 1#32
  let v188 : BitVec 32 := Scalar.divsi v186 c1_i32_63
  let v189 : BitVec 32 := Scalar.muli v188 c1_i32_63
  let v190 : BitVec 32 := Scalar.addi c0_i32_62 v189
  let v187 : BitVec 32 := Scalar.addi c0_i32_62 v186
  let c1_i32_65 : BitVec 32 := 1#32
  ⟨v190, v187, c1_i32_65⟩
def k0_mult6 (i : grid0.Coords) (k0_t4 : Fin (k0_t4_loop i).trips) : BitVec 32 :=
  let arg2 : BitVec 32 := BitVec.ofNat 32 (i 2).val
  let c1_i32_68 : BitVec 32 := 1#32
  let v195 : BitVec 32 := Scalar.subi arg2 c1_i32_68
  let c0_i32_62 : BitVec 32 := 0#32
  let v186 : BitVec 32 := Scalar.subi arg2 c0_i32_62
  let c1_i32_63 : BitVec 32 := 1#32
  let v188 : BitVec 32 := Scalar.divsi v186 c1_i32_63
  let v189 : BitVec 32 := Scalar.muli v188 c1_i32_63
  let v190 : BitVec 32 := Scalar.addi c0_i32_62 v189
  let c1_i32_65 : BitVec 32 := 1#32
  let arg8 : BitVec 32 := Scf.iv v190 c1_i32_65 k0_t4
  let v196 : BitVec 32 := Scalar.subi v195 arg8
  let c256_i32_69 : BitVec 32 := 256#32
  let v197 : BitVec 32 := Scalar.muli v196 c256_i32_69
  v197
def k0_off6 (i : grid0.Coords) (k0_t4 : Fin (k0_t4_loop i).trips) : Fin 3 → Nat :=
  let c0_70 : Index := 0#32
  let arg2 : BitVec 32 := BitVec.ofNat 32 (i 2).val
  let c1_i32_68 : BitVec 32 := 1#32
  let v195 : BitVec 32 := Scalar.subi arg2 c1_i32_68
  let c0_i32_62 : BitVec 32 := 0#32
  let v186 : BitVec 32 := Scalar.subi arg2 c0_i32_62
  let c1_i32_63 : BitVec 32 := 1#32
  let v188 : BitVec 32 := Scalar.divsi v186 c1_i32_63
  let v189 : BitVec 32 := Scalar.muli v188 c1_i32_63
  let v190 : BitVec 32 := Scalar.addi c0_i32_62 v189
  let c1_i32_65 : BitVec 32 := 1#32
  let arg8 : BitVec 32 := Scf.iv v190 c1_i32_65 k0_t4
  let v196 : BitVec 32 := Scalar.subi v195 arg8
  let c256_i32_69 : BitVec 32 := 256#32
  let v197 : BitVec 32 := Scalar.muli v196 c256_i32_69
  let v198 : BitVec 32 := v197
  let v199 : Index := Scalar.indexCast v198
  let c0_71 : Index := 0#32
  ![0, v199.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![c0_i32.toNat, v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnRefIdeal.lean ====
abbrev S11x16384x512 : Shape := ⟨3, ![11, 16384, 512]⟩
abbrev S8 : Shape := ⟨1, ![8]⟩
abbrev S1x16384x512 : Shape := ⟨3, ![1, 16384, 512]⟩
abbrev S16384x512 : Shape := ⟨2, ![16384, 512]⟩
abbrev S4x4096x8x64 : Shape := ⟨4, ![4, 4096, 8, 64]⟩
abbrev S4x8x4096x4096 : Shape := ⟨4, ![4, 8, 4096, 4096]⟩
abbrev S_ : Shape := ⟨0, ![]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩

abbrev nBuf : Space → Nat
  | .hbm => 77
  | .vmem => 0
  | .smem => 0
  | _ => 0

abbrev bufTy : (tb : Table) → Fin (tcTables nBuf tb) → BufTy
  | .hbm, ⟨0, _⟩ => ⟨S11x16384x512, .f32⟩
  | .hbm, ⟨1, _⟩ => ⟨S8, .f32⟩
  | .hbm, ⟨2, _⟩ => ⟨S1x16384x512, .f32⟩
  | .hbm, ⟨3, _⟩ => ⟨S16384x512, .f32⟩
  | .hbm, ⟨4, _⟩ => ⟨S4x4096x8x64, .f32⟩
  | .hbm, ⟨5, _⟩ => ⟨S1x16384x512, .f32⟩
  | .hbm, ⟨6, _⟩ => ⟨S16384x512, .f32⟩
  | .hbm, ⟨7, _⟩ => ⟨S4x4096x8x64, .f32⟩
  | .hbm, ⟨8, _⟩ => ⟨S1x16384x512, .f32⟩
  | .hbm, ⟨9, _⟩ => ⟨S16384x512, .f32⟩
  | .hbm, ⟨10, _⟩ => ⟨S4x4096x8x64, .f32⟩
  | .hbm, ⟨11, _⟩ => ⟨S4x8x4096x4096, .f32⟩
  | .hbm, ⟨12, _⟩ => ⟨S_, .f32⟩
  | .hbm, ⟨13, _⟩ => ⟨S4x8x4096x4096, .f32⟩
  | .hbm, ⟨14, _⟩ => ⟨S4x8x4096x4096, .f32⟩
  | .hbm, ⟨15, _⟩ => ⟨S1x8x1x1, .f32⟩
  | .hbm, ⟨16, _⟩ => ⟨S4x8x4096x4096, .f32⟩
  | .hbm, ⟨17, _⟩ => ⟨S4x8x4096x4096, .f32⟩
  | .hbm, ⟨18, _⟩ => ⟨S4096, .i32⟩
  | .hbm, ⟨19, _⟩ => ⟨S1x4096, .i32⟩
  | .hbm, ⟨20, _⟩ => ⟨S4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S4x8x4096x4096, .f32⟩
  | .hbm, ⟨26, _⟩ => ⟨S4x8x4096x4096, .f32⟩
  | .hbm, ⟨27, _⟩ => ⟨S_, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .i1⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S_, .f32⟩
  | .hbm, ⟨43, _⟩ => ⟨S_, .f32⟩
  | .hbm, ⟨44, _⟩ => ⟨S4x8x4096x4096, .i1⟩
  | .hbm, ⟨45, _⟩ => ⟨S4x8x4096x4096, .f32⟩
  | .hbm, ⟨46, _⟩ => ⟨S4x8x4096x4096, .f32⟩
  | .hbm, ⟨47, _⟩ => ⟨S_, .f32⟩
  | .hbm, ⟨48, _⟩ => ⟨S_, .f32⟩
  | .hbm, ⟨49, _⟩ => ⟨S4x8x4096x4096, .f32⟩
  | .hbm, ⟨50, _⟩ => ⟨S4x8x4096x4096, .f32⟩
  | .hbm, ⟨51, _⟩ => ⟨S4x8x4096x4096, .f32⟩
  | .hbm, ⟨52, _⟩ => ⟨S_, .f32⟩
  | .hbm, ⟨53, _⟩ => ⟨S4x8x4096x4096, .f32⟩
  | .hbm, ⟨54, _⟩ => ⟨S4x8x4096x4096, .f32⟩
  | .hbm, ⟨55, _⟩ => ⟨S4x8x4096x4096, .f32⟩
  | .hbm, ⟨56, _⟩ => ⟨S4x8x4096x4096, .f32⟩
  | .hbm, ⟨57, _⟩ => ⟨S4x8x4096x4096, .i1⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S4x8x4096x4096, .f32⟩
  | .hbm, ⟨67, _⟩ => ⟨S4x8x4096x4096, .f32⟩
  | .hbm, ⟨68, _⟩ => ⟨S4x8x4096x4096, .f32⟩
  | .hbm, ⟨69, _⟩ => ⟨S_, .f32⟩
  | .hbm, ⟨70, _⟩ => ⟨S_, .f32⟩
  | .hbm, ⟨71, _⟩ => ⟨S4x8x4096x4096, .i1⟩
  | .hbm, ⟨72, _⟩ => ⟨S4x8x4096x4096, .f32⟩
  | .hbm, ⟨73, _⟩ => ⟨S4x8x4096x4096, .f32⟩
  | .hbm, ⟨74, _⟩ => ⟨S4x8x64x4096, .f32⟩
  | .hbm, ⟨75, _⟩ => ⟨S4x4096x8x64, .f32⟩
  | .hbm, ⟨76, _⟩ => ⟨S16384x512, .f32⟩
  | _, _ => ⟨S11x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v23 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_call2_cst : Ref sig .tc := ⟨.hbm, 47, rfl⟩
abbrev main_call2_v0 : Ref sig .tc := ⟨.hbm, 48, rfl⟩
abbrev main_v25 : Ref sig .tc := ⟨.hbm, 49, rfl⟩
abbrev main_v26 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩

abbrev nD : Nat := 1
abbrev τ : Topo := Topo.v7x

variable {F : FTy → Type} [FloatOps F]
-- ==== Ffn.lean ====
abbrev S16384x1024 : Shape := ⟨2, ![16384, 1024]⟩
abbrev S2x2x1024x2816 : Shape := ⟨4, ![2, 2, 1024, 2816]⟩
abbrev S2x2x2816x1024 : Shape := ⟨4, ![2, 2, 2816, 1024]⟩
abbrev S2x4x1024 : Shape := ⟨3, ![2, 4, 1024]⟩
abbrev S2x4x1x1024 : Shape := ⟨4, ![2, 4, 1, 1024]⟩
abbrev S512x1024 : Shape := ⟨2, ![512, 1024]⟩
abbrev S1x1x1024x1408 : Shape := ⟨4, ![1, 1, 1024, 1408]⟩
abbrev S1x1x1408x1024 : Shape := ⟨4, ![1, 1, 1408, 1024]⟩
abbrev S1x1x1x1024 : Shape := ⟨4, ![1, 1, 1, 1024]⟩
abbrev S1024x1408 : Shape := ⟨2, ![1024, 1408]⟩
abbrev S512x1408 : Shape := ⟨2, ![512, 1408]⟩
abbrev S1408x1024 : Shape := ⟨2, ![1408, 1024]⟩
abbrev S1x1024 : Shape := ⟨2, ![1, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x2x1024x2816, .f32⟩
  | .hbm, ⟨2, _⟩ => ⟨S2x2x1024x2816, .f32⟩
  | .hbm, ⟨3, _⟩ => ⟨S2x2x2816x1024, .f32⟩
  | .hbm, ⟨4, _⟩ => ⟨S2x4x1024, .f32⟩
  | .hbm, ⟨5, _⟩ => ⟨S2x4x1024, .f32⟩
  | .hbm, ⟨6, _⟩ => ⟨S2x2x1024x2816, .bf16⟩
  | .hbm, ⟨7, _⟩ => ⟨S2x2x1024x2816, .bf16⟩
  | .hbm, ⟨8, _⟩ => ⟨S2x2x2816x1024, .bf16⟩
  | .hbm, ⟨9, _⟩ => ⟨S2x4x1x1024, .f32⟩
  | .hbm, ⟨10, _⟩ => ⟨S2x4x1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1408x1024, .bf16⟩
  | .local _ .vmem, ⟨7, _⟩ => ⟨S1x1x1408x1024, .bf16⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_18 : BitVec 32 := 0#32
  let v23 : BitVec 1 := Scalar.cmpi .ne v22 c0_i32_18
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x1024 : Shape := ⟨2, ![16384, 1024]⟩
abbrev S2x2x1024x2816 : Shape := ⟨4, ![2, 2, 1024, 2816]⟩
abbrev S2x2x2816x1024 : Shape := ⟨4, ![2, 2, 2816, 1024]⟩
abbrev S2x4x1024 : Shape := ⟨3, ![2, 4, 1024]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16384x2816 : Shape := ⟨2, ![16384, 2816]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x2x1024x2816, .f32⟩
  | .hbm, ⟨2, _⟩ => ⟨S2x2x1024x2816, .f32⟩
  | .hbm, ⟨3, _⟩ => ⟨S2x2x2816x1024, .f32⟩
  | .hbm, ⟨4, _⟩ => ⟨S2x4x1024, .f32⟩
  | .hbm, ⟨5, _⟩ => ⟨S2x4x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S1x1x1024x2816, .f32⟩
  | .hbm, ⟨10, _⟩ => ⟨S1024x2816, .f32⟩
  | .hbm, ⟨11, _⟩ => ⟨S1x1x1024x2816, .f32⟩
  | .hbm, ⟨12, _⟩ => ⟨S1024x2816, .f32⟩
  | .hbm, ⟨13, _⟩ => ⟨S1x1x2816x1024, .f32⟩
  | .hbm, ⟨14, _⟩ => ⟨S2816x1024, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S_, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Proj.lean ====
abbrev S16384x1024 : Shape := ⟨2, ![16384, 1024]⟩
abbrev S2x1024x5632 : Shape := ⟨3, ![2, 1024, 5632]⟩
abbrev S11x16384x512 : Shape := ⟨3, ![11, 16384, 512]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S2x1024x5632, .bf16⟩
  | .hbm, ⟨3, _⟩ => ⟨S11x16384x512, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .f32⟩
  | .local _ .vmem, ⟨5, _⟩ => ⟨S1x1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x1024 : Shape := ⟨2, ![16384, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S16384x5632 : Shape := ⟨2, ![16384, 5632]⟩
abbrev S16384x11x512 : Shape := ⟨3, ![16384, 11, 512]⟩
abbrev S11x16384x512 : Shape := ⟨3, ![11, 16384, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S16384x5632, .f32⟩
  | .hbm, ⟨5, _⟩ => ⟨S16384x11x512, .f32⟩
  | .hbm, ⟨6, _⟩ => ⟨S11x16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S11x16384x512 : Shape := ⟨3, ![11, 16384, 512]⟩
abbrev S2x2x1024 : Shape := ⟨3, ![2, 2, 1024]⟩
abbrev S2x512x1024 : Shape := ⟨3, ![2, 512, 1024]⟩
abbrev S2x1024x1024 : Shape := ⟨3, ![2, 1024, 1024]⟩
abbrev S2x4x1024 : Shape := ⟨3, ![2, 4, 1024]⟩
abbrev S2x4x1x1024 : Shape := ⟨4, ![2, 4, 1, 1024]⟩
abbrev S512x1024 : Shape := ⟨2, ![512, 1024]⟩
abbrev S512x512 : Shape := ⟨2, ![512, 512]⟩
abbrev S1x512x512 : Shape := ⟨3, ![1, 512, 512]⟩
abbrev S1x2x1024 : Shape := ⟨3, ![1, 2, 1024]⟩
abbrev S1x512x1024 : Shape := ⟨3, ![1, 512, 1024]⟩
abbrev S1x1024x1024 : Shape := ⟨3, ![1, 1024, 1024]⟩
abbrev S1x1x1x1024 : Shape := ⟨4, ![1, 1, 1, 1024]⟩
abbrev S2x1024 : Shape := ⟨2, ![2, 1024]⟩
abbrev S1x1024 : Shape := ⟨2, ![1, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 16
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S11x16384x512, .f32⟩
  | .hbm, ⟨4, _⟩ => ⟨S2x2x1024, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x4x1024, .f32⟩
  | .hbm, ⟨9, _⟩ => ⟨S2x4x1024, .f32⟩
  | .hbm, ⟨10, _⟩ => ⟨S2x4x1x1024, .f32⟩
  | .hbm, ⟨11, _⟩ => ⟨S2x4x1x1024, .f32⟩
  | .hbm, ⟨12, _⟩ => ⟨S2x512x1024, .bf16⟩
  | .hbm, ⟨13, _⟩ => ⟨S2x512x1024, .bf16⟩
  | .hbm, ⟨14, _⟩ => ⟨S2x1024x1024, .bf16⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x2x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S1x1024x1024, .bf16⟩
  | .local _ .vmem, ⟨18, _⟩ => ⟨S1x1x1x1024, .f32⟩
  | .local _ .vmem, ⟨19, _⟩ => ⟨S1x1x1x1024, .f32⟩
  | .local _ .vmem, ⟨20, _⟩ => ⟨S512x1024, .f32⟩
  | .local _ .vmem, ⟨21, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_4 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_5 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_6 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  ![c10_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S16384x1024 : Shape := ⟨2, ![16384, 1024]⟩
abbrev S16384x512 : Shape := ⟨2, ![16384, 512]⟩
abbrev S11x16384x512 : Shape := ⟨3, ![11, 16384, 512]⟩
abbrev S2x2x1024 : Shape := ⟨3, ![2, 2, 1024]⟩
abbrev S2x512x1024 : Shape := ⟨3, ![2, 512, 1024]⟩
abbrev S2x1024x1024 : Shape := ⟨3, ![2, 1024, 1024]⟩
abbrev S2x4x1024 : Shape := ⟨3, ![2, 4, 1024]⟩
abbrev S1x16384x512 : Shape := ⟨3, ![1, 16384, 512]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S16384 : Shape := ⟨1, ![16384]⟩
abbrev S16384x1 : Shape := ⟨2, ![16384, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S11x16384x512, .f32⟩
  | .hbm, ⟨4, _⟩ => ⟨S2x2x1024, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x4x1024, .f32⟩
  | .hbm, ⟨9, _⟩ => ⟨S2x4x1024, .f32⟩
  | .hbm, ⟨10, _⟩ => ⟨S1x16384x512, .f32⟩
  | .hbm, ⟨11, _⟩ => ⟨S16384x512, .f32⟩
  | .hbm, ⟨12, _⟩ => ⟨S1x16384x512, .f32⟩
  | .hbm, ⟨13, _⟩ => ⟨S16384x512, .f32⟩
  | .hbm, ⟨14, _⟩ => ⟨S16384x1024, .f32⟩
  | .hbm, ⟨15, _⟩ => ⟨S1x16384x512, .f32⟩
  | .hbm, ⟨16, _⟩ => ⟨S16384x512, .f32⟩
  | .hbm, ⟨17, _⟩ => ⟨S1x16384x512, .f32⟩
  | .hbm, ⟨18, _⟩ => ⟨S16384x512, .f32⟩
  | .hbm, ⟨19, _⟩ => ⟨S16384x1024, .f32⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S1x512x1024, .f32⟩
  | .hbm, ⟨34, _⟩ => ⟨S512x1024, .f32⟩
  | .hbm, ⟨35, _⟩ => ⟨S16384x1024, .f32⟩
  | .hbm, ⟨36, _⟩ => ⟨S16384x1024, .f32⟩
  | .hbm, ⟨37, _⟩ => ⟨S1x1x1024, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S1x512x1024, .f32⟩
  | .hbm, ⟨51, _⟩ => ⟨S512x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S1x1024x1024, .f32⟩
  | .hbm, ⟨59, _⟩ => ⟨S1024x1024, .f32⟩
  | .hbm, ⟨60, _⟩ => ⟨S16384x1024, .f32⟩
  | .hbm, ⟨61, _⟩ => ⟨S16384x1024, .f32⟩
  | .hbm, ⟨62, _⟩ => ⟨S1x1x1024, .f32⟩
  | .hbm, ⟨63, _⟩ => ⟨S1024, .f32⟩
  | .hbm, ⟨64, _⟩ => ⟨S1x1x1024, .f32⟩
  | .hbm, ⟨65, _⟩ => ⟨S1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384, .f32⟩
  | .hbm, ⟨77, _⟩ => ⟨S16384x1, .f32⟩
  | .hbm, ⟨78, _⟩ => ⟨S_, .f32⟩
  | .hbm, ⟨79, _⟩ => ⟨S16384x1, .f32⟩
  | .hbm, ⟨80, _⟩ => ⟨S16384x1, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S1x1024, .f32⟩
  | .hbm, ⟨90, _⟩ => ⟨S16384x1024, .f32⟩
  | .hbm, ⟨91, _⟩ => ⟨S16384x1024, .f32⟩
  | .hbm, ⟨92, _⟩ => ⟨S1x1024, .f32⟩
  | .hbm, ⟨93, _⟩ => ⟨S16384x1024, .f32⟩
  | .hbm, ⟨94, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Embed.lean ====
abbrev S16384x1024 : Shape := ⟨2, ![16384, 1024]⟩
abbrev S2x4x4096x256 : Shape := ⟨4, ![2, 4, 4096, 256]⟩
abbrev S2x1024x1024 : Shape := ⟨3, ![2, 1024, 1024]⟩
abbrev S2x256x1024 : Shape := ⟨3, ![2, 256, 1024]⟩
abbrev S2x1024 : Shape := ⟨2, ![2, 1024]⟩
abbrev S2x4x1024 : Shape := ⟨3, ![2, 4, 1024]⟩
abbrev S2x4x1x1024 : Shape := ⟨4, ![2, 4, 1, 1024]⟩
abbrev S2x1x1024 : Shape := ⟨3, ![2, 1, 1024]⟩
abbrev S2x16384x256 : Shape := ⟨3, ![2, 16384, 256]⟩
abbrev S512x1024 : Shape := ⟨2, ![512, 1024]⟩
abbrev S1x512x256 : Shape := ⟨3, ![1, 512, 256]⟩
abbrev S1x1024x1024 : Shape := ⟨3, ![1, 1024, 1024]⟩
abbrev S1x256x1024 : Shape := ⟨3, ![1, 256, 1024]⟩
abbrev S1x1x1024 : Shape := ⟨3, ![1, 1, 1024]⟩
abbrev S1x1x1x1024 : Shape := ⟨4, ![1, 1, 1, 1024]⟩
abbrev S1024x1024 : Shape := ⟨2, ![1024, 1024]⟩
abbrev S1x1024 : Shape := ⟨2, ![1, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S2x4x4096x256, .f32⟩
  | .hbm, ⟨2, _⟩ => ⟨S2x1024x1024, .f32⟩
  | .hbm, ⟨3, _⟩ => ⟨S2x256x1024, .f32⟩
  | .hbm, ⟨4, _⟩ => ⟨S2x1024, .f32⟩
  | .hbm, ⟨5, _⟩ => ⟨S2x4x1024, .f32⟩
  | .hbm, ⟨6, _⟩ => ⟨S2x4x1024, .f32⟩
  | .hbm, ⟨7, _⟩ => ⟨S2x4x1x1024, .f32⟩
  | .hbm, ⟨8, _⟩ => ⟨S2x4x1x1024, .f32⟩
  | .hbm, ⟨9, _⟩ => ⟨S2x1x1024, .f32⟩
  | .hbm, ⟨10, _⟩ => ⟨S2x16384x256, .f32⟩
  | .hbm, ⟨11, _⟩ => ⟨S2x1024x1024, .bf16⟩
  | .hbm, ⟨12, _⟩ => ⟨S2x256x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024x1024, .bf16⟩
  | .local _ .vmem, ⟨5, _⟩ => ⟨S1x256x1024, .bf16⟩
  | .local _ .vmem, ⟨6, _⟩ => ⟨S1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_6 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EmbedRefIdeal.lean ====
abbrev S16384x1024 : Shape := ⟨2, ![16384, 1024]⟩
abbrev S2x4x4096x256 : Shape := ⟨4, ![2, 4, 4096, 256]⟩
abbrev S2x1024x1024 : Shape := ⟨3, ![2, 1024, 1024]⟩
abbrev S2x256x1024 : Shape := ⟨3, ![2, 256, 1024]⟩
abbrev S2x1024 : Shape := ⟨2, ![2, 1024]⟩
abbrev S2x4x1024 : Shape := ⟨3, ![2, 4, 1024]⟩
abbrev S1x4x4096x256 : Shape := ⟨4, ![1, 4, 4096, 256]⟩
abbrev S4x4096x256 : Shape := ⟨3, ![4, 4096, 256]⟩
abbrev S16384x256 : Shape := ⟨2, ![16384, 256]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1x256x1024 : Shape := ⟨3, ![1, 256, 1024]⟩
abbrev S256x1024 : Shape := ⟨2, ![256, 1024]⟩
abbrev S1x1x1024 : Shape := ⟨3, ![1, 1, 1024]⟩
abbrev S16384 : Shape := ⟨1, ![16384]⟩
abbrev S16384x1 : Shape := ⟨2, ![16384, 1]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x4x4096x256, .f32⟩
  | .hbm, ⟨2, _⟩ => ⟨S2x1024x1024, .f32⟩
  | .hbm, ⟨3, _⟩ => ⟨S2x256x1024, .f32⟩
  | .hbm, ⟨4, _⟩ => ⟨S2x1024, .f32⟩
  | .hbm, ⟨5, _⟩ => ⟨S2x4x1024, .f32⟩
  | .hbm, ⟨6, _⟩ => ⟨S2x4x1024, .f32⟩
  | .hbm, ⟨7, _⟩ => ⟨S1x4x4096x256, .f32⟩
  | .hbm, ⟨8, _⟩ => ⟨S4x4096x256, .f32⟩
  | .hbm, ⟨9, _⟩ => ⟨S16384x256, .f32⟩
  | .hbm, ⟨10, _⟩ => ⟨S1x1024x1024, .f32⟩
  | .hbm, ⟨11, _⟩ => ⟨S1024x1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S1x256x1024, .f32⟩
  | .hbm, ⟨27, _⟩ => ⟨S256x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1x1x1024, .f32⟩
  | .hbm, ⟨35, _⟩ => ⟨S1024, .f32⟩
  | .hbm, ⟨36, _⟩ => ⟨S1x1x1024, .f32⟩
  | .hbm, ⟨37, _⟩ => ⟨S1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== ProjSample.lean ====
abbrev S256x1024 : Shape := ⟨2, ![256, 1024]⟩
abbrev S2x1024x5632 : Shape := ⟨3, ![2, 1024, 5632]⟩
abbrev S11x256x512 : Shape := ⟨3, ![11, 256, 512]⟩
abbrev S1x1024x512 : Shape := ⟨3, ![1, 1024, 512]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S2x1024x5632, .f32⟩
  | .hbm, ⟨2, _⟩ => ⟨S2x1024x5632, .bf16⟩
  | .hbm, ⟨3, _⟩ => ⟨S11x256x512, .f32⟩
  | .local _ .vmem, ⟨0, _⟩ => ⟨S256x1024, .f32⟩
  | .local _ .vmem, ⟨1, _⟩ => ⟨S1x1024x512, .bf16⟩
  | .local _ .vmem, ⟨2, _⟩ => ⟨S1x1024x512, .bf16⟩
  | .local _ .vmem, ⟨3, _⟩ => ⟨S1x256x512, .f32⟩
  | .local _ .vmem, ⟨4, _⟩ => ⟨S1x256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjSampleRefIdeal.lean ====
abbrev S256x1024 : Shape := ⟨2, ![256, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S256x5632 : Shape := ⟨2, ![256, 5632]⟩
abbrev S256x11x512 : Shape := ⟨3, ![256, 11, 512]⟩
abbrev S11x256x512 : Shape := ⟨3, ![11, 256, 512]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S256x5632, .f32⟩
  | .hbm, ⟨5, _⟩ => ⟨S256x11x512, .f32⟩
  | .hbm, ⟨6, _⟩ => ⟨S11x256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== EmbedSample.lean ====
abbrev S256x1024 : Shape := ⟨2, ![256, 1024]⟩
abbrev S2x32x8x256 : Shape := ⟨4, ![2, 32, 8, 256]⟩
abbrev S2x1024x1024 : Shape := ⟨3, ![2, 1024, 1024]⟩
abbrev S2x256x1024 : Shape := ⟨3, ![2, 256, 1024]⟩
abbrev S2x1024 : Shape := ⟨2, ![2, 1024]⟩
abbrev S2x4x1024 : Shape := ⟨3, ![2, 4, 1024]⟩
abbrev S2x4x1x1024 : Shape := ⟨4, ![2, 4, 1, 1024]⟩
abbrev S2x1x1024 : Shape := ⟨3, ![2, 1, 1024]⟩
abbrev S2x256x256 : Shape := ⟨3, ![2, 256, 256]⟩
abbrev S1x256x256 : Shape := ⟨3, ![1, 256, 256]⟩
abbrev S1x1024x1024 : Shape := ⟨3, ![1, 1024, 1024]⟩
abbrev S1x256x1024 : Shape := ⟨3, ![1, 256, 1024]⟩
abbrev S1x1x1024 : Shape := ⟨3, ![1, 1, 1024]⟩
abbrev S1x1x1x1024 : Shape := ⟨4, ![1, 1, 1, 1024]⟩
abbrev S1024x1024 : Shape := ⟨2, ![1024, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 14
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S2x32x8x256, .f32⟩
  | .hbm, ⟨2, _⟩ => ⟨S2x1024x1024, .f32⟩
  | .hbm, ⟨3, _⟩ => ⟨S2x256x1024, .f32⟩
  | .hbm, ⟨4, _⟩ => ⟨S2x1024, .f32⟩
  | .hbm, ⟨5, _⟩ => ⟨S2x4x1024, .f32⟩
  | .hbm, ⟨6, _⟩ => ⟨S2x4x1024, .f32⟩
  | .hbm, ⟨7, _⟩ => ⟨S2x4x1x1024, .f32⟩
  | .hbm, ⟨8, _⟩ => ⟨S2x4x1x1024, .f32⟩
  | .hbm, ⟨9, _⟩ => ⟨S2x1x1024, .f32⟩
  | .hbm, ⟨10, _⟩ => ⟨S2x256x256, .f32⟩
  | .hbm, ⟨11, _⟩ => ⟨S2x1024x1024, .bf16⟩
  | .hbm, ⟨12, _⟩ => ⟨S2x256x1024, .bf16⟩
  | .hbm, ⟨13, _⟩ => ⟨S256x1024, .f32⟩
  | .local _ .vmem, ⟨0, _⟩ => ⟨S256x1024, .f32⟩
  | .local _ .vmem, ⟨1, _⟩ => ⟨S1x256x256, .f32⟩
  | .local _ .vmem, ⟨2, _⟩ => ⟨S1x1024x1024, .bf16⟩
  | .local _ .vmem, ⟨3, _⟩ => ⟨S1x256x1024, .bf16⟩
  | .local _ .vmem, ⟨4, _⟩ => ⟨S1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_6 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== EmbedSampleRefIdeal.lean ====
abbrev S256x1024 : Shape := ⟨2, ![256, 1024]⟩
abbrev S2x32x8x256 : Shape := ⟨4, ![2, 32, 8, 256]⟩
abbrev S2x1024x1024 : Shape := ⟨3, ![2, 1024, 1024]⟩
abbrev S2x256x1024 : Shape := ⟨3, ![2, 256, 1024]⟩
abbrev S2x1024 : Shape := ⟨2, ![2, 1024]⟩
abbrev S2x4x1024 : Shape := ⟨3, ![2, 4, 1024]⟩
abbrev S1x32x8x256 : Shape := ⟨4, ![1, 32, 8, 256]⟩
abbrev S32x8x256 : Shape := ⟨3, ![32, 8, 256]⟩
abbrev S256x256 : Shape := ⟨2, ![256, 256]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1x256x1024 : Shape := ⟨3, ![1, 256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 67
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2x32x8x256, .f32⟩
  | .hbm, ⟨2, _⟩ => ⟨S2x1024x1024, .f32⟩
  | .hbm, ⟨3, _⟩ => ⟨S2x256x1024, .f32⟩
  | .hbm, ⟨4, _⟩ => ⟨S2x1024, .f32⟩
  | .hbm, ⟨5, _⟩ => ⟨S2x4x1024, .f32⟩
  | .hbm, ⟨6, _⟩ => ⟨S2x4x1024, .f32⟩
  | .hbm, ⟨7, _⟩ => ⟨S1x32x8x256, .f32⟩
  | .hbm, ⟨8, _⟩ => ⟨S32x8x256, .f32⟩
  | .hbm, ⟨9, _⟩ => ⟨S256x256, .f32⟩
  | .hbm, ⟨10, _⟩ => ⟨S1x1024x1024, .f32⟩
  | .hbm, ⟨11, _⟩ => ⟨S1024x1024, .f32⟩
  | .hbm, ⟨12, _⟩ => ⟨S256x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S1x256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S1x1x1024, .f32⟩
  | .hbm, ⟨35, _⟩ => ⟨S1024, .f32⟩
  | .hbm, ⟨36, _⟩ => ⟨S1x1x1024, .f32⟩
  | .hbm, ⟨37, _⟩ => ⟨S1024, .f32⟩
  | .hbm, ⟨38, _⟩ => ⟨S_, .f32⟩
  | .hbm, ⟨39, _⟩ => ⟨S256, .f32⟩
  | .hbm, ⟨40, _⟩ => ⟨S256x1, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256, .f32⟩
  | .hbm, ⟨49, _⟩ => ⟨S256x1, .f32⟩
  | .hbm, ⟨50, _⟩ => ⟨S_, .f32⟩
  | .hbm, ⟨51, _⟩ => ⟨S256x1, .f32⟩
  | .hbm, ⟨52, _⟩ => ⟨S256x1, .f32⟩
  | .hbm, ⟨53, _⟩ => ⟨S256x1024, .f32⟩
  | .hbm, ⟨54, _⟩ => ⟨S256x1024, .f32⟩
  | .hbm, ⟨55, _⟩ => ⟨S_, .f32⟩
  | .hbm, ⟨56, _⟩ => ⟨S256x1, .f32⟩
  | .hbm, ⟨57, _⟩ => ⟨S256x1, .f32⟩
  | .hbm, ⟨58, _⟩ => ⟨S256x1, .f32⟩
  | .hbm, ⟨59, _⟩ => ⟨S256x1024, .f32⟩
  | .hbm, ⟨60, _⟩ => ⟨S256x1024, .f32⟩
  | .hbm, ⟨61, _⟩ => ⟨S1x1024, .f32⟩
  | .hbm, ⟨62, _⟩ => ⟨S256x1024, .f32⟩
  | .hbm, ⟨63, _⟩ => ⟨S256x1024, .f32⟩
  | .hbm, ⟨64, _⟩ => ⟨S1x1024, .f32⟩
  | .hbm, ⟨65, _⟩ => ⟨S256x1024, .f32⟩
  | .hbm, ⟨66, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Hgrn.lean ====
abbrev S11x16384x512 : Shape := ⟨3, ![11, 16384, 512]⟩
abbrev S512 : Shape := ⟨1, ![512]⟩
abbrev S128 : Shape := ⟨1, ![128]⟩
abbrev S_ : Shape := ⟨0, ![]⟩
abbrev S4x4x128x128 : Shape := ⟨4, ![4, 4, 128, 128]⟩
abbrev S1x512 : Shape := ⟨2, ![1, 512]⟩
abbrev S1x128 : Shape := ⟨2, ![1, 128]⟩
abbrev S16384x512 : Shape := ⟨2, ![16384, 512]⟩
abbrev S1x128x512 : Shape := ⟨3, ![1, 128, 512]⟩
abbrev S1x4x128x128 : Shape := ⟨4, ![1, 4, 128, 128]⟩
abbrev S128x512 : Shape := ⟨2, ![128, 512]⟩
abbrev S4x128x128 : Shape := ⟨3, ![4, 128, 128]⟩
abbrev S128x128 : Shape := ⟨2, ![128, 128]⟩
abbrev S16x1 : Shape := ⟨2, ![16, 1]⟩
abbrev S16x128 : Shape := ⟨2, ![16, 128]⟩
abbrev S1x16x128 : Shape := ⟨3, ![1, 16, 128]⟩
abbrev S1x128x128 : Shape := ⟨3, ![1, 128, 128]⟩
abbrev S16 : Shape := ⟨1, ![16]⟩
abbrev S128x1 : Shape := ⟨2, ![128, 1]⟩

abbrev nBuf : Space → Nat
  | .hbm => 10
  | .vmem => 21
  | .smem => 0
  | _ => 0

abbrev bufTy : (tb : Table) → Fin (tcTables nBuf tb) → BufTy
  | .hbm, ⟨0, _⟩ => ⟨S11x16384x512, .f32⟩
  | .hbm, ⟨1, _⟩ => ⟨S512, .f32⟩
  | .hbm, ⟨2, _⟩ => ⟨S128, .f32⟩
  | .hbm, ⟨3, _⟩ => ⟨S_, .f32⟩
  | .hbm, ⟨4, _⟩ => ⟨S4x4x128x128, .f32⟩
  | .hbm, ⟨5, _⟩ => ⟨S1x512, .f32⟩
  | .hbm, ⟨6, _⟩ => ⟨S1x128, .f32⟩
  | .hbm, ⟨7, _⟩ => ⟨S16384x512, .f32⟩
  | .hbm, ⟨8, _⟩ => ⟨S4x4x128x128, .f32⟩
  | .hbm, ⟨9, _⟩ => ⟨S4x4x128x128, .f32⟩
  | .local _ .vmem, ⟨0, _⟩ => ⟨S1x512, .f32⟩
  | .local _ .vmem, ⟨1, _⟩ => ⟨S1x128, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x4x128x128, .f32⟩
  | .local _ .vmem, ⟨11, _⟩ => ⟨S1x4x128x128, .f32⟩
  | .local _ .vmem, ⟨12, _⟩ => ⟨S128x512, .f32⟩
  | .local _ .vmem, ⟨13, _⟩ => ⟨S128x512, .f32⟩
  | .local _ .vmem, ⟨14, _⟩ => ⟨S1x4x128x128, .f32⟩
  | .local _ .vmem, ⟨15, _⟩ => ⟨S1x4x128x128, .f32⟩
  | .local _ .vmem, ⟨16, _⟩ => ⟨S4x128x128, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x512, .f32⟩
  | _, _ => ⟨S11x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32_38 : BitVec 32 := 0#32
  let c8_i32 : BitVec 32 := 8#32
  let v125 : BitVec 32 := Scalar.addi c0_i32_38 c8_i32
  let c1_i32_39 : BitVec 32 := 1#32
  ⟨c0_i32_38, v125, c1_i32_39⟩
def k0_mult1 (k0_t1 : Fin k0_t1_loop.trips) : BitVec 32 :=
  let c0_i32_38 : BitVec 32 := 0#32
  let c1_i32_39 : BitVec 32 := 1#32
  let arg16 : BitVec 32 := Scf.iv c0_i32_38 c1_i32_39 k0_t1
  let c16_i32_72 : BitVec 32 := 16#32
  let v199 : BitVec 32 := Scalar.muli arg16 c16_i32_72
  v199
def k0_off1 (k0_t1 : Fin k0_t1_loop.trips) : Fin 2 → Nat :=
  let c0_i32_38 : BitVec 32 := 0#32
  let c1_i32_39 : BitVec 32 := 1#32
  let arg16 : BitVec 32 := Scf.iv c0_i32_38 c1_i32_39 k0_t1
  let c16_i32_72 : BitVec 32 := 16#32
  let v199 : BitVec 32 := Scalar.muli arg16 c16_i32_72
  let v200 : BitVec 32 := v199
  let v201 : Index := Scalar.indexCast v200
  let c0_73 : Index := 0#32
  ![v201.toNat, 0]
def k0_off2 (k0_t1 : Fin k0_t1_loop.trips) : Fin 3 → Nat :=
  let c0_76 : Index := 0#32
  let c0_i32_38 : BitVec 32 := 0#32
  let c1_i32_39 : BitVec 32 := 1#32
  let arg16 : BitVec 32 := Scf.iv c0_i32_38 c1_i32_39 k0_t1
  let c16_i32_72 : BitVec 32 := 16#32
  let v199 : BitVec 32 := Scalar.muli arg16 c16_i32_72
  let v200 : BitVec 32 := v199
  let v207 : Index := Scalar.indexCast v200
  let c0_77 : Index := 0#32
  ![0, v207.toNat, 0]
def k0_off3 (k0_t1 : Fin k0_t1_loop.trips) : Fin 2 → Nat :=
  let c0_i32_38 : BitVec 32 := 0#32
  let c1_i32_39 : BitVec 32 := 1#32
  let arg16 : BitVec 32 := Scf.iv c0_i32_38 c1_i32_39 k0_t1
  let c16_i32_72 : BitVec 32 := 16#32
  let v199 : BitVec 32 := Scalar.muli arg16 c16_i32_72
  let v200 : BitVec 32 := v199
  let v572 : Index := Scalar.indexCast v200
  let c128_138 : Index := 128#32
  ![v572.toNat, 128]
def k0_off4 (k0_t1 : Fin k0_t1_loop.trips) : Fin 3 → Nat :=
  let c0_141 : Index := 0#32
  let c0_i32_38 : BitVec 32 := 0#32
  let c1_i32_39 : BitVec 32 := 1#32
  let arg16 : BitVec 32 := Scf.iv c0_i32_38 c1_i32_39 k0_t1
  let c16_i32_72 : BitVec 32 := 16#32
  let v199 : BitVec 32 := Scalar.muli arg16 c16_i32_72
  let v200 : BitVec 32 := v199
  let v578 : Index := Scalar.indexCast v200
  let c128_142 : Index := 128#32
  ![0, v578.toNat, 128]
def k0_off5 (k0_t1 : Fin k0_t1_loop.trips) : Fin 2 → Nat :=
  let c0_i32_38 : BitVec 32 := 0#32
  let c1_i32_39 : BitVec 32 := 1#32
  let arg16 : BitVec 32 := Scf.iv c0_i32_38 c1_i32_39 k0_t1
  let c16_i32_72 : BitVec 32 := 16#32
  let v199 : BitVec 32 := Scalar.muli arg16 c16_i32_72
  let v200 : BitVec 32 := v199
  let v943 : Index := Scalar.indexCast v200
  let c256_215 : Index := 256#32
  ![v943.toNat, 256]
def k0_off6 (k0_t1 : Fin k0_t1_loop.trips) : Fin 3 → Nat :=
  let c0_218 : Index := 0#32
  let c0_i32_38 : BitVec 32 := 0#32
  let c1_i32_39 : BitVec 32 := 1#32
  let arg16 : BitVec 32 := Scf.iv c0_i32_38 c1_i32_39 k0_t1
  let c16_i32_72 : BitVec 32 := 16#32
  let v199 : BitVec 32 := Scalar.muli arg16 c16_i32_72
  let v200 : BitVec 32 := v199
  let v949 : Index := Scalar.indexCast v200
  let c256_219 : Index := 256#32
  ![0, v949.toNat, 256]
def k0_off7 (k0_t1 : Fin k0_t1_loop.trips) : Fin 2 → Nat :=
  let c0_i32_38 : BitVec 32 := 0#32
  let c1_i32_39 : BitVec 32 := 1#32
  let arg16 : BitVec 32 := Scf.iv c0_i32_38 c1_i32_39 k0_t1
  let c16_i32_72 : BitVec 32 := 16#32
  let v199 : BitVec 32 := Scalar.muli arg16 c16_i32_72
  let v200 : BitVec 32 := v199
  let v1314 : Index := Scalar.indexCast v200
  let c384_292 : Index := 384#32
  ![v1314.toNat, 384]
def k0_off8 (k0_t1 : Fin k0_t1_loop.trips) : Fin 3 → Nat :=
  let c0_295 : Index := 0#32
  let c0_i32_38 : BitVec 32 := 0#32
  let c1_i32_39 : BitVec 32 := 1#32
  let arg16 : BitVec 32 := Scf.iv c0_i32_38 c1_i32_39 k0_t1
  let c16_i32_72 : BitVec 32 := 16#32
  let v199 : BitVec 32 := Scalar.muli arg16 c16_i32_72
  let v200 : BitVec 32 := v199
  let v1320 : Index := Scalar.indexCast v200
  let c384_296 : Index := 384#32
  ![0, v1320.toNat, 384]
def k0_cond2 (i : grid0.Coords) : BitVec 1 :=
  let arg1 : BitVec 32 := BitVec.ofNat 32 (i 1).val
  let c31_i32 : BitVec 32 := 31#32
  let v196 : BitVec 1 := Scalar.cmpi .eq arg1 c31_i32
  let v197 : BitVec 32 := Scalar.extui v196
  let c0_i32_71 : BitVec 32 := 0#32
  let v198 : BitVec 1 := Scalar.cmpi .ne v197 c0_i32_71
  v198

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  let c0_i32_0 : BitVec 32 := 0#32
  ![c4_i32.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  let c0_i32_0 : BitVec 32 := 0#32
  ![c5_i32.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c6_i32 : BitVec 32 := 6#32
  let c0_i32 : BitVec 32 := 0#32
  let c0_i32_0 : BitVec 32 := 0#32
  ![c6_i32.toNat, v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== HgrnRefIdeal.lean ====
abbrev S11x16384x512 : Shape := ⟨3, ![11, 16384, 512]⟩
abbrev S512 : Shape := ⟨1, ![512]⟩
abbrev S128 : Shape := ⟨1, ![128]⟩
abbrev S_ : Shape := ⟨0, ![]⟩
abbrev S4x4x128x128 : Shape := ⟨4, ![4, 4, 128, 128]⟩
abbrev S1x16384x512 : Shape := ⟨3, ![1, 16384, 512]⟩
abbrev S16384x512 : Shape := ⟨2, ![16384, 512]⟩
abbrev S4x4096x4x128 : Shape := ⟨4, ![4, 4096, 4, 128]⟩
abbrev S4x128 : Shape := ⟨2, ![4, 128]⟩
abbrev S1x1x4x128 : Shape := ⟨4, ![1, 1, 4, 128]⟩
abbrev S4x4x4096x128 : Shape := ⟨4, ![4, 4, 4096, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x4096x1x128 : Shape := ⟨5, ![4, 4, 4096, 1, 128]⟩
abbrev S4x4x1x4096x128 : Shape := ⟨5, ![4, 4, 1, 4096, 128]⟩
abbrev S4x4x4096x4096x128 : Shape := ⟨5, ![4, 4, 4096, 4096, 128]⟩
abbrev S4096x4096x1 : Shape := ⟨3, ![4096, 4096, 1]⟩
abbrev S4x4x4096x4096 : Shape := ⟨4, ![4, 4, 4096, 4096]⟩
abbrev S4x4x1x128 : Shape := ⟨4, ![4, 4, 1, 128]⟩
abbrev S4x4x128 : Shape := ⟨3, ![4, 4, 128]⟩
abbrev S4x4x128x1 : Shape := ⟨4, ![4, 4, 128, 1]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 156
  | .vmem => 0
  | .smem => 0
  | _ => 0

abbrev hbmTy0_0 (i : Nat) : BufTy := match i % 128 with
  | 0 => ⟨S11x16384x512, .f32⟩
  | 1 => ⟨S512, .f32⟩
  | 2 => ⟨S128, .f32⟩
  | 3 => ⟨S_, .f32⟩
  | 4 => ⟨S4x4x128x128, .f32⟩
  | 5 => ⟨S1x16384x512, .f32⟩
  | 6 => ⟨S16384x512, .f32⟩
  | 7 => ⟨S4x4096x4x128, .f32⟩
  | 8 => ⟨S1x16384x512, .f32⟩
  | 9 => ⟨S16384x512, .f32⟩
  | 10 => ⟨S4x4096x4x128, .f32⟩
  | 11 => ⟨S1x16384x512, .f32⟩
  | 12 => ⟨S16384x512, .f32⟩
  | 13 => ⟨S4x4096x4x128, .f32⟩
  | 14 => ⟨S4x128, .f32⟩
  | 15 => ⟨S4x128, .f32⟩
  | 16 => ⟨S4x128, .f32⟩
  | 17 => ⟨S4x128, .f32⟩
  | 18 => ⟨S4x4096x4x128, .f32⟩
  | 19 => ⟨S_, .f32⟩
  | 20 => ⟨S4x4096x4x128, .f32⟩
  | 21 => ⟨S4x4096x4x128, .f32⟩
  | 22 => ⟨S4x4096x4x128, .f32⟩
  | 23 => ⟨S4x4096x4x128, .f32⟩
  | 24 => ⟨S4x4096x4x128, .i1⟩
  | 25 => ⟨S4x4096x4x128, .f32⟩
  | 26 => ⟨S4x4096x4x128, .f32⟩
  | 27 => ⟨S4x4096x4x128, .f32⟩
  | 28 => ⟨S4x4096x4x128, .f32⟩
  | 29 => ⟨S4x4096x4x128, .f32⟩
  | 30 => ⟨S4x4096x4x128, .f32⟩
  | 31 => ⟨S4x4096x4x128, .f32⟩
  | 32 => ⟨S4x4096x4x128, .f32⟩
  | 33 => ⟨S4x4096x4x128, .f32⟩
  | 34 => ⟨S1x1x4x128, .f32⟩
  | 35 => ⟨S4x4096x4x128, .f32⟩
  | 36 => ⟨S4x4096x4x128, .f32⟩
  | 37 => ⟨S1x1x4x128, .f32⟩
  | 38 => ⟨S4x4096x4x128, .f32⟩
  | 39 => ⟨S4x4096x4x128, .f32⟩
  | 40 => ⟨S4x4096x4x128, .f32⟩
  | 41 => ⟨S4x4096x4x128, .f32⟩
  | 42 => ⟨S4x4096x4x128, .i1⟩
  | 43 => ⟨S4x4096x4x128, .f32⟩
  | 44 => ⟨S4x4096x4x128, .f32⟩
  | 45 => ⟨S4x4096x4x128, .f32⟩
  | 46 => ⟨S4x4096x4x128, .f32⟩
  | 47 => ⟨S4x4096x4x128, .f32⟩
  | 48 => ⟨S4x4096x4x128, .f32⟩
  | 49 => ⟨S4x4096x4x128, .f32⟩
  | 50 => ⟨S4x4096x4x128, .f32⟩
  | 51 => ⟨S4x4096x4x128, .f32⟩
  | 52 => ⟨S4x4096x4x128, .f32⟩
  | 53 => ⟨S_, .f32⟩
  | 54 => ⟨S4x4096x4x128, .f32⟩
  | 55 => ⟨S4x4096x4x128, .f32⟩
  | 56 => ⟨S_, .f32⟩
  | 57 => ⟨S4x4096x4x128, .f32⟩
  | 58 => ⟨S4x4096x4x128, .f32⟩
  | 59 => ⟨S4x4096x4x128, .f32⟩
  | 60 => ⟨S4x4x4096x128, .f32⟩
  | 61 => ⟨S_, .f32⟩
  | 62 => ⟨S4x128, .f32⟩
  | 63 => ⟨S4x128, .f32⟩
  | 64 => ⟨S4x4096x4x128, .f32⟩
  | 65 => ⟨S4x4096x4x128, .f32⟩
  | 66 => ⟨S4x4096x4x128, .f32⟩
  | 67 => ⟨S_, .f32⟩
  | 68 => ⟨S4x4096x4x128, .f32⟩
  | 69 => ⟨S4x4096x4x128, .f32⟩
  | 70 => ⟨S_, .f32⟩
  | 71 => ⟨S4x4096x4x128, .f32⟩
  | 72 => ⟨S4x4096x4x128, .f32⟩
  | 73 => ⟨S1x1x4x128, .f32⟩
  | 74 => ⟨S4x4096x4x128, .f32⟩
  | 75 => ⟨S4x4096x4x128, .f32⟩
  | 76 => ⟨S4x4x4096x128, .f32⟩
  | 77 => ⟨S4x4x4096x128, .f32⟩
  | 78 => ⟨S4x4x4096x128, .f32⟩
  | 79 => ⟨S_, .f32⟩
  | 80 => ⟨S_, .f32⟩
  | 81 => ⟨S4x4x4096x128, .f32⟩
  | 82 => ⟨S4x4x4096x128, .f32⟩
  | 83 => ⟨S4x4x4096x128, .f32⟩
  | 84 => ⟨S4x4x4096x128, .f32⟩
  | 85 => ⟨S4096, .i32⟩
  | 86 => ⟨S1x4096, .i32⟩
  | 87 => ⟨S4096, .i32⟩
  | 88 => ⟨S4096x1, .i32⟩
  | 89 => ⟨S4096x4096, .i32⟩
  | 90 => ⟨S4096x4096, .i32⟩
  | 91 => ⟨S4096x4096, .i1⟩
  | 92 => ⟨S4x4x4096x1x128, .f32⟩
  | 93 => ⟨S4x4x1x4096x128, .f32⟩
  | 94 => ⟨S4x4x4096x4096x128, .f32⟩
  | 95 => ⟨S4x4x4096x4096x128, .f32⟩
  | 96 => ⟨S4x4x4096x4096x128, .f32⟩
  | 97 => ⟨S4096x4096x1, .i1⟩
  | 98 => ⟨S_, .f32⟩
  | 99 => ⟨S_, .f32⟩
  | 100 => ⟨S4x4x4096x4096x128, .i1⟩
  | 101 => ⟨S4x4x4096x4096x128, .f32⟩
  | 102 => ⟨S4x4x4096x4096x128, .f32⟩
  | 103 => ⟨S4x4x4096x4096x128, .f32⟩
  | 104 => ⟨S4x4x4096x1x128, .f32⟩
  | 105 => ⟨S4x4x4096x4096x128, .f32⟩
  | 106 => ⟨S4x4x4096x4096x128, .f32⟩
  | 107 => ⟨S4x4x1x4096x128, .f32⟩
  | 108 => ⟨S4x4x4096x4096x128, .f32⟩
  | 109 => ⟨S4x4x4096x4096x128, .f32⟩
  | 110 => ⟨S_, .f32⟩
  | 111 => ⟨S4x4x4096x4096, .f32⟩
  | 112 => ⟨S4x4x4096x128, .f32⟩
  | 113 => ⟨S4x4x4096x128, .f32⟩
  | 114 => ⟨S4x4x1x128, .f32⟩
  | 115 => ⟨S4x4x128, .f32⟩
  | 116 => ⟨S4x4x128, .f32⟩
  | 117 => ⟨S4x4x128x1, .f32⟩
  | 118 => ⟨S4x4x128x128, .f32⟩
  | 119 => ⟨S4x4x128x128, .f32⟩
  | 120 => ⟨S4x4x4096x128, .f32⟩
  | 121 => ⟨S4x4x4096x128, .f32⟩
  | 122 => ⟨S4x4x4096x128, .f32⟩
  | 123 => ⟨S4x4x4096x128, .f32⟩
  | 124 => ⟨S4x4x128x128, .f32⟩
  | 125 => ⟨S4x4x128x128, .f32⟩
  | 126 => ⟨S4x4096x4x128, .f32⟩
  | 127 => ⟨S4x4096x4x128, .f32⟩
  | _ => ⟨S11x16384x512, .f32⟩

abbrev hbmTy0_1 (i : Nat) : BufTy := match i % 128 with
  | 0 => ⟨S_, .f32⟩
  | 1 => ⟨S4x4096x4, .f32⟩
  | 2 => ⟨S4x4096x4x1, .f32⟩
  | 3 => ⟨S_, .f32⟩
  | 4 => ⟨S4x4096x4x1, .f32⟩
  | 5 => ⟨S4x4096x4x1, .f32⟩
  | 6 => ⟨S_, .f32⟩
  | 7 => ⟨S4x4096x4x1, .f32⟩
  | 8 => ⟨S4x4096x4x1, .f32⟩
  | 9 => ⟨S4x4096x4x1, .f32⟩
  | 10 => ⟨S4x4096x4x128, .f32⟩
  | 11 => ⟨S4x4096x4x128, .f32⟩
  | 12 => ⟨S1x1x1x128, .f32⟩
  | 13 => ⟨S4x4096x4x128, .f32⟩
  | 14 => ⟨S4x4096x4x128, .f32⟩
  | 15 => ⟨S16384x512, .f32⟩
  | 16 => ⟨S1x16384x512, .f32⟩
  | 17 => ⟨S16384x512, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S_, .f32⟩
  | 24 => ⟨S16384x512, .f32⟩
  | 25 => ⟨S16384x512, .f32⟩
  | 26 => ⟨S16384x512, .f32⟩
  | 27 => ⟨S16384x512, .f32⟩
  | _ => ⟨S11x16384x512, .f32⟩

abbrev hbmTy (i : Nat) : BufTy := match i / 128 with
  | 0 => hbmTy0_0 i
  | 1 => hbmTy0_1 i
  | _ => ⟨S11x16384x512, .f32⟩

abbrev bufTy : (tb : Table) → Fin (tcTables nBuf tb) → BufTy
  | .hbm, ⟨i, _⟩ => hbmTy i
  | _, _ => ⟨S11x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v32 : Ref sig .tc := ⟨.hbm, 59, rfl⟩
abbrev main_v33 : Ref sig .tc := ⟨.hbm, 60, rfl⟩
abbrev main_cst_0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_1 : Ref sig .tc := ⟨.hbm, 67, rfl⟩
abbrev main_v39 : Ref sig .tc := ⟨.hbm, 68, rfl⟩
abbrev main_v40 : Ref sig .tc := ⟨.hbm, 69, rfl⟩
abbrev main_cst_2 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call2_call0_cst : Ref sig .tc := ⟨.hbm, 79, rfl⟩
abbrev main_call2_call0_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_3 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_4 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_5 : Ref sig .tc := ⟨.hbm, 128, rfl⟩
abbrev main_v91 : Ref sig .tc := ⟨.hbm, 129, rfl⟩
abbrev main_v92 : Ref sig .tc := ⟨.hbm, 130, rfl⟩
abbrev main_cst_6 : Ref sig .tc := ⟨.hbm, 131, rfl⟩
abbrev main_v93 : Ref sig .tc := ⟨.hbm, 132, rfl⟩
abbrev main_v94 : Ref sig .tc := ⟨.hbm, 133, rfl⟩
abbrev main_cst_7 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call4_v0 : Ref sig .tc := ⟨.hbm, 146, rfl⟩
abbrev main_call4_v1 : Ref sig .tc := ⟨.hbm, 147, rfl⟩
abbrev main_call4_cst : Ref sig .tc := ⟨.hbm, 148, rfl⟩
abbrev main_call4_v2 : Ref sig .tc := ⟨.hbm, 149, rfl⟩
abbrev main_call4_v3 : Ref sig .tc := ⟨.hbm, 150, rfl⟩
abbrev main_call4_cst_0 : Ref sig .tc := ⟨.hbm, 151, rfl⟩
abbrev main_call4_v4 : Ref sig .tc := ⟨.hbm, 152, rfl⟩
abbrev main_call4_v5 : Ref sig .tc := ⟨.hbm, 153, rfl⟩
abbrev main_v106 : Ref sig .tc := ⟨.hbm, 154, rfl⟩
abbrev main_v107 : Ref sig .tc := ⟨.hbm, 155, rfl⟩

abbrev nD : Nat := 1
abbrev τ : Topo := Topo.v7x

variable {F : FTy → Type} [FloatOps F]
-- ==== HgrnSample.lean ====
abbrev S11x256x512 : Shape := ⟨3, ![11, 256, 512]⟩
abbrev S512 : Shape := ⟨1, ![512]⟩
abbrev S128 : Shape := ⟨1, ![128]⟩
abbrev S32x4x128x128 : Shape := ⟨4, ![32, 4, 128, 128]⟩
abbrev S1x512 : Shape := ⟨2, ![1, 512]⟩
abbrev S1x128 : Shape := ⟨2, ![1, 128]⟩
abbrev S256x512 : Shape := ⟨2, ![256, 512]⟩
abbrev S1x8x512 : Shape := ⟨3, ![1, 8, 512]⟩
abbrev S1x4x128x128 : Shape := ⟨4, ![1, 4, 128, 128]⟩
abbrev S8x512 : Shape := ⟨2, ![8, 512]⟩
abbrev S4x128x128 : Shape := ⟨3, ![4, 128, 128]⟩
abbrev S8x8 : Shape := ⟨2, ![8, 8]⟩
abbrev S8x1 : Shape := ⟨2, ![8, 1]⟩
abbrev S8x128 : Shape := ⟨2, ![8, 128]⟩
abbrev S1x8x128 : Shape := ⟨3, ![1, 8, 128]⟩
abbrev S1x128x128 : Shape := ⟨3, ![1, 128, 128]⟩
abbrev S128x128 : Shape := ⟨2, ![128, 128]⟩
abbrev S8 : Shape := ⟨1, ![8]⟩

abbrev nBuf : Space → Nat
  | .hbm => 10
  | .vmem => 21
  | .smem => 0
  | _ => 0

abbrev bufTy : (tb : Table) → Fin (tcTables nBuf tb) → BufTy
  | .hbm, ⟨0, _⟩ => ⟨S11x256x512, .f32⟩
  | .hbm, ⟨1, _⟩ => ⟨S512, .f32⟩
  | .hbm, ⟨2, _⟩ => ⟨S128, .f32⟩
  | .hbm, ⟨3, _⟩ => ⟨S32x4x128x128, .f32⟩
  | .hbm, ⟨4, _⟩ => ⟨S1x512, .f32⟩
  | .hbm, ⟨5, _⟩ => ⟨S1x128, .f32⟩
  | .hbm, ⟨6, _⟩ => ⟨S32x4x128x128, .f32⟩
  | .hbm, ⟨7, _⟩ => ⟨S256x512, .f32⟩
  | .hbm, ⟨8, _⟩ => ⟨S32x4x128x128, .f32⟩
  | .hbm, ⟨9, _⟩ => ⟨S32x4x128x128, .f32⟩
  | .local _ .vmem, ⟨0, _⟩ => ⟨S1x512, .f32⟩
  | .local _ .vmem, ⟨1, _⟩ => ⟨S1x128, .f32⟩
  | .local _ .vmem, ⟨2, _⟩ => ⟨S1x8x512, .f32⟩
  | .local _ .vmem, ⟨3, _⟩ => ⟨S1x8x512, .f32⟩
  | .local _ .vmem, ⟨4, _⟩ => ⟨S1x8x512, .f32⟩
  | .local _ .vmem, ⟨5, _⟩ => ⟨S1x8x512, .f32⟩
  | .local _ .vmem, ⟨6, _⟩ => ⟨S1x8x512, .f32⟩
  | .local _ .vmem, ⟨7, _⟩ => ⟨S1x8x512, .f32⟩
  | .local _ .vmem, ⟨8, _⟩ => ⟨S1x8x512, .f32⟩
  | .local _ .vmem, ⟨9, _⟩ => ⟨S1x8x512, .f32⟩
  | .local _ .vmem, ⟨10, _⟩ => ⟨S1x4x128x128, .f32⟩
  | .local _ .vmem, ⟨11, _⟩ => ⟨S1x4x128x128, .f32⟩
  | .local _ .vmem, ⟨12, _⟩ => ⟨S8x512, .f32⟩
  | .local _ .vmem, ⟨13, _⟩ => ⟨S8x512, .f32⟩
  | .local _ .vmem, ⟨14, _⟩ => ⟨S1x4x128x128, .f32⟩
  | .local _ .vmem, ⟨15, _⟩ => ⟨S1x4x128x128, .f32⟩
  | .local _ .vmem, ⟨16, _⟩ => ⟨S4x128x128, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S8x512, .f32⟩
  | _, _ => ⟨S11x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

def k0_mult1 : BitVec 32 :=
  let c0_i32_38 : BitVec 32 := 0#32
  let c8_i32_39 : BitVec 32 := 8#32
  let v125 : BitVec 32 := Scalar.muli c0_i32_38 c8_i32_39
  v125
def k0_off1 : Fin 2 → Nat :=
  let c0_i32_38 : BitVec 32 := 0#32
  let c8_i32_39 : BitVec 32 := 8#32
  let v125 : BitVec 32 := Scalar.muli c0_i32_38 c8_i32_39
  let v126 : BitVec 32 := v125
  let v127 : Index := Scalar.indexCast v126
  let c0_40 : Index := 0#32
  ![v127.toNat, 0]
def k0_off2 : Fin 3 → Nat :=
  let c0_43 : Index := 0#32
  let c0_i32_38 : BitVec 32 := 0#32
  let c8_i32_39 : BitVec 32 := 8#32
  let v125 : BitVec 32 := Scalar.muli c0_i32_38 c8_i32_39
  let v126 : BitVec 32 := v125
  let v133 : Index := Scalar.indexCast v126
  let c0_44 : Index := 0#32
  ![0, v133.toNat, 0]
def k0_off3 : Fin 2 → Nat :=
  let c0_i32_38 : BitVec 32 := 0#32
  let c8_i32_39 : BitVec 32 := 8#32
  let v125 : BitVec 32 := Scalar.muli c0_i32_38 c8_i32_39
  let v126 : BitVec 32 := v125
  let v330 : Index := Scalar.indexCast v126
  let c128 : Index := 128#32
  ![v330.toNat, 128]
def k0_off4 : Fin 3 → Nat :=
  let c0_82 : Index := 0#32
  let c0_i32_38 : BitVec 32 := 0#32
  let c8_i32_39 : BitVec 32 := 8#32
  let v125 : BitVec 32 := Scalar.muli c0_i32_38 c8_i32_39
  let v126 : BitVec 32 := v125
  let v336 : Index := Scalar.indexCast v126
  let c128_83 : Index := 128#32
  ![0, v336.toNat, 128]
def k0_off5 : Fin 2 → Nat :=
  let c0_i32_38 : BitVec 32 := 0#32
  let c8_i32_39 : BitVec 32 := 8#32
  let v125 : BitVec 32 := Scalar.muli c0_i32_38 c8_i32_39
  let v126 : BitVec 32 := v125
  let v533 : Index := Scalar.indexCast v126
  let c256 : Index := 256#32
  ![v533.toNat, 256]
def k0_off6 : Fin 3 → Nat :=
  let c0_126 : Index := 0#32
  let c0_i32_38 : BitVec 32 := 0#32
  let c8_i32_39 : BitVec 32 := 8#32
  let v125 : BitVec 32 := Scalar.muli c0_i32_38 c8_i32_39
  let v126 : BitVec 32 := v125
  let v539 : Index := Scalar.indexCast v126
  let c256_127 : Index := 256#32
  ![0, v539.toNat, 256]
def k0_off7 : Fin 2 → Nat :=
  let c0_i32_38 : BitVec 32 := 0#32
  let c8_i32_39 : BitVec 32 := 8#32
  let v125 : BitVec 32 := Scalar.muli c0_i32_38 c8_i32_39
  let v126 : BitVec 32 := v125
  let v736 : Index := Scalar.indexCast v126
  let c384 : Index := 384#32
  ![v736.toNat, 384]
def k0_off8 : Fin 3 → Nat :=
  let c0_170 : Index := 0#32
  let c0_i32_38 : BitVec 32 := 0#32
  let c8_i32_39 : BitVec 32 := 8#32
  let v125 : BitVec 32 := Scalar.muli c0_i32_38 c8_i32_39
  let v126 : BitVec 32 := v125
  let v742 : Index := Scalar.indexCast v126
  let c384_171 : Index := 384#32
  ![0, v742.toNat, 384]
def k0_cond2 (i : grid0.Coords) : BitVec 1 :=
  let arg1 : BitVec 32 := BitVec.ofNat 32 (i 1).val
  let c0_i32_246 : BitVec 32 := 0#32
  let v1009 : BitVec 1 := Scalar.cmpi .eq arg1 c0_i32_246
  let v1010 : BitVec 32 := Scalar.extui v1009
  let c0_i32_247 : BitVec 32 := 0#32
  let v1011 : BitVec 1 := Scalar.cmpi .ne v1010 c0_i32_247
  v1011

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  let c0_i32_0 : BitVec 32 := 0#32
  ![c3_i32.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c4_i32 : BitVec 32 := 4#32
  let c0_i32 : BitVec 32 := 0#32
  let c0_i32_0 : BitVec 32 := 0#32
  ![c4_i32.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c5_i32 : BitVec 32 := 5#32
  let c0_i32 : BitVec 32 := 0#32
  let c0_i32_0 : BitVec 32 := 0#32
  ![c5_i32.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c6_i32 : BitVec 32 := 6#32
  let c0_i32 : BitVec 32 := 0#32
  let c0_i32_0 : BitVec 32 := 0#32
  ![c6_i32.toNat, v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== HgrnSampleRefIdeal.lean ====
abbrev S11x256x512 : Shape := ⟨3, ![11, 256, 512]⟩
abbrev S512 : Shape := ⟨1, ![512]⟩
abbrev S128 : Shape := ⟨1, ![128]⟩
abbrev S32x4x128x128 : Shape := ⟨4, ![32, 4, 128, 128]⟩
abbrev S1x256x512 : Shape := ⟨3, ![1, 256, 512]⟩
abbrev S256x512 : Shape := ⟨2, ![256, 512]⟩
abbrev S32x8x4x128 : Shape := ⟨4, ![32, 8, 4, 128]⟩
abbrev S4x128 : Shape := ⟨2, ![4, 128]⟩
abbrev S_ : Shape := ⟨0, ![]⟩
abbrev S1x1x4x128 : Shape := ⟨4, ![1, 1, 4, 128]⟩
abbrev S32x4x8x128 : Shape := ⟨4, ![32, 4, 8, 128]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S32x4x8x1x128 : Shape := ⟨5, ![32, 4, 8, 1, 128]⟩
abbrev S32x4x1x8x128 : Shape := ⟨5, ![32, 4, 1, 8, 128]⟩
abbrev S32x4x8x8x128 : Shape := ⟨5, ![32, 4, 8, 8, 128]⟩
abbrev S8x8x1 : Shape := ⟨3, ![8, 8, 1]⟩
abbrev S32x4x8x8 : Shape := ⟨4, ![32, 4, 8, 8]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x8x4 : Shape := ⟨3, ![32, 8, 4]⟩
abbrev S32x8x4x1 : Shape := ⟨4, ![32, 8, 4, 1]⟩
abbrev S1x1x1x128 : Shape := ⟨4, ![1, 1, 1, 128]⟩

abbrev nBuf : Space → Nat
  | .hbm => 155
  | .vmem => 0
  | .smem => 0
  | _ => 0

abbrev hbmTy0_0 (i : Nat) : BufTy := match i % 128 with
  | 0 => ⟨S11x256x512, .f32⟩
  | 1 => ⟨S512, .f32⟩
  | 2 => ⟨S128, .f32⟩
  | 3 => ⟨S32x4x128x128, .f32⟩
  | 4 => ⟨S1x256x512, .f32⟩
  | 5 => ⟨S256x512, .f32⟩
  | 6 => ⟨S32x8x4x128, .f32⟩
  | 7 => ⟨S1x256x512, .f32⟩
  | 8 => ⟨S256x512, .f32⟩
  | 9 => ⟨S32x8x4x128, .f32⟩
  | 10 => ⟨S1x256x512, .f32⟩
  | 11 => ⟨S256x512, .f32⟩
  | 12 => ⟨S32x8x4x128, .f32⟩
  | 13 => ⟨S4x128, .f32⟩
  | 14 => ⟨S4x128, .f32⟩
  | 15 => ⟨S4x128, .f32⟩
  | 16 => ⟨S4x128, .f32⟩
  | 17 => ⟨S32x8x4x128, .f32⟩
  | 18 => ⟨S_, .f32⟩
  | 19 => ⟨S32x8x4x128, .f32⟩
  | 20 => ⟨S32x8x4x128, .f32⟩
  | 21 => ⟨S32x8x4x128, .f32⟩
  | 22 => ⟨S32x8x4x128, .f32⟩
  | 23 => ⟨S32x8x4x128, .i1⟩
  | 24 => ⟨S32x8x4x128, .f32⟩
  | 25 => ⟨S32x8x4x128, .f32⟩
  | 26 => ⟨S32x8x4x128, .f32⟩
  | 27 => ⟨S32x8x4x128, .f32⟩
  | 28 => ⟨S32x8x4x128, .f32⟩
  | 29 => ⟨S32x8x4x128, .f32⟩
  | 30 => ⟨S32x8x4x128, .f32⟩
  | 31 => ⟨S32x8x4x128, .f32⟩
  | 32 => ⟨S32x8x4x128, .f32⟩
  | 33 => ⟨S1x1x4x128, .f32⟩
  | 34 => ⟨S32x8x4x128, .f32⟩
  | 35 => ⟨S32x8x4x128, .f32⟩
  | 36 => ⟨S1x1x4x128, .f32⟩
  | 37 => ⟨S32x8x4x128, .f32⟩
  | 38 => ⟨S32x8x4x128, .f32⟩
  | 39 => ⟨S32x8x4x128, .f32⟩
  | 40 => ⟨S32x8x4x128, .f32⟩
  | 41 => ⟨S32x8x4x128, .i1⟩
  | 42 => ⟨S32x8x4x128, .f32⟩
  | 43 => ⟨S32x8x4x128, .f32⟩
  | 44 => ⟨S32x8x4x128, .f32⟩
  | 45 => ⟨S32x8x4x128, .f32⟩
  | 46 => ⟨S32x8x4x128, .f32⟩
  | 47 => ⟨S32x8x4x128, .f32⟩
  | 48 => ⟨S32x8x4x128, .f32⟩
  | 49 => ⟨S32x8x4x128, .f32⟩
  | 50 => ⟨S32x8x4x128, .f32⟩
  | 51 => ⟨S32x8x4x128, .f32⟩
  | 52 => ⟨S_, .f32⟩
  | 53 => ⟨S32x8x4x128, .f32⟩
  | 54 => ⟨S32x8x4x128, .f32⟩
  | 55 => ⟨S_, .f32⟩
  | 56 => ⟨S32x8x4x128, .f32⟩
  | 57 => ⟨S32x8x4x128, .f32⟩
  | 58 => ⟨S32x8x4x128, .f32⟩
  | 59 => ⟨S32x4x8x128, .f32⟩
  | 60 => ⟨S_, .f32⟩
  | 61 => ⟨S4x128, .f32⟩
  | 62 => ⟨S4x128, .f32⟩
  | 63 => ⟨S32x8x4x128, .f32⟩
  | 64 => ⟨S32x8x4x128, .f32⟩
  | 65 => ⟨S32x8x4x128, .f32⟩
  | 66 => ⟨S_, .f32⟩
  | 67 => ⟨S32x8x4x128, .f32⟩
  | 68 => ⟨S32x8x4x128, .f32⟩
  | 69 => ⟨S_, .f32⟩
  | 70 => ⟨S32x8x4x128, .f32⟩
  | 71 => ⟨S32x8x4x128, .f32⟩
  | 72 => ⟨S1x1x4x128, .f32⟩
  | 73 => ⟨S32x8x4x128, .f32⟩
  | 74 => ⟨S32x8x4x128, .f32⟩
  | 75 => ⟨S32x4x8x128, .f32⟩
  | 76 => ⟨S32x4x8x128, .f32⟩
  | 77 => ⟨S32x4x8x128, .f32⟩
  | 78 => ⟨S_, .f32⟩
  | 79 => ⟨S_, .f32⟩
  | 80 => ⟨S32x4x8x128, .f32⟩
  | 81 => ⟨S32x4x8x128, .f32⟩
  | 82 => ⟨S32x4x8x128, .f32⟩
  | 83 => ⟨S32x4x8x128, .f32⟩
  | 84 => ⟨S8, .i32⟩
  | 85 => ⟨S1x8, .i32⟩
  | 86 => ⟨S8, .i32⟩
  | 87 => ⟨S8x1, .i32⟩
  | 88 => ⟨S8x8, .i32⟩
  | 89 => ⟨S8x8, .i32⟩
  | 90 => ⟨S8x8, .i1⟩
  | 91 => ⟨S32x4x8x1x128, .f32⟩
  | 92 => ⟨S32x4x1x8x128, .f32⟩
  | 93 => ⟨S32x4x8x8x128, .f32⟩
  | 94 => ⟨S32x4x8x8x128, .f32⟩
  | 95 => ⟨S32x4x8x8x128, .f32⟩
  | 96 => ⟨S8x8x1, .i1⟩
  | 97 => ⟨S_, .f32⟩
  | 98 => ⟨S_, .f32⟩
  | 99 => ⟨S32x4x8x8x128, .i1⟩
  | 100 => ⟨S32x4x8x8x128, .f32⟩
  | 101 => ⟨S32x4x8x8x128, .f32⟩
  | 102 => ⟨S32x4x8x8x128, .f32⟩
  | 103 => ⟨S32x4x8x1x128, .f32⟩
  | 104 => ⟨S32x4x8x8x128, .f32⟩
  | 105 => ⟨S32x4x8x8x128, .f32⟩
  | 106 => ⟨S32x4x1x8x128, .f32⟩
  | 107 => ⟨S32x4x8x8x128, .f32⟩
  | 108 => ⟨S32x4x8x8x128, .f32⟩
  | 109 => ⟨S_, .f32⟩
  | 110 => ⟨S32x4x8x8, .f32⟩
  | 111 => ⟨S32x4x8x128, .f32⟩
  | 112 => ⟨S32x4x8x128, .f32⟩
  | 113 => ⟨S32x4x1x128, .f32⟩
  | 114 => ⟨S32x4x128, .f32⟩
  | 115 => ⟨S32x4x128, .f32⟩
  | 116 => ⟨S32x4x128x1, .f32⟩
  | 117 => ⟨S32x4x128x128, .f32⟩
  | 118 => ⟨S32x4x128x128, .f32⟩
  | 119 => ⟨S32x4x8x128, .f32⟩
  | 120 => ⟨S32x4x8x128, .f32⟩
  | 121 => ⟨S32x4x8x128, .f32⟩
  | 122 => ⟨S32x4x8x128, .f32⟩
  | 123 => ⟨S32x4x128x128, .f32⟩
  | 124 => ⟨S32x4x128x128, .f32⟩
  | 125 => ⟨S32x8x4x128, .f32⟩
  | 126 => ⟨S32x8x4x128, .f32⟩
  | 127 => ⟨S_, .f32⟩
  | _ => ⟨S11x256x512, .f32⟩

abbrev hbmTy0_1 (i : Nat) : BufTy := match i % 128 with
  | 0 => ⟨S32x8x4, .f32⟩
  | 1 => ⟨S32x8x4x1, .f32⟩
  | 2 => ⟨S_, .f32⟩
  | 3 => ⟨S32x8x4x1, .f32⟩
  | 4 => ⟨S32x8x4x1, .f32⟩
  | 5 => ⟨S_, .f32⟩
  | 6 => ⟨S32x8x4x1, .f32⟩
  | 7 => ⟨S32x8x4x1, .f32⟩
  | 8 => ⟨S32x8x4x1, .f32⟩
  | 9 => ⟨S32x8x4x128, .f32⟩
  | 10 => ⟨S32x8x4x128, .f32⟩
  | 11 => ⟨S1x1x1x128, .f32⟩
  | 12 => ⟨S32x8x4x128, .f32⟩
  | 13 => ⟨S32x8x4x128, .f32⟩
  | 14 => ⟨S256x512, .f32⟩
  | 15 => ⟨S1x256x512, .f32⟩
  | 16 => ⟨S256x512, .f32⟩
  | 17 => ⟨S256x512, .f32⟩
  | 18 => ⟨S256x512, .f32⟩
  | 19 => ⟨S_, .f32⟩
  | 20 => ⟨S256x512, .f32⟩
  | 21 => ⟨S256x512, .f32⟩
  | 22 => ⟨S_, .f32⟩
  | 23 => ⟨S256x512, .f32⟩
  | 24 => ⟨S256x512, .f32⟩
  | 25 => ⟨S256x512, .f32⟩
  | 26 => ⟨S256x512, .f32⟩
  | _ => ⟨S11x256x512, .f32⟩

abbrev hbmTy (i : Nat) : BufTy := match i / 128 with
  | 0 => hbmTy0_0 i
  | 1 => hbmTy0_1 i
  | _ => ⟨S11x256x512, .f32⟩

abbrev bufTy : (tb : Table) → Fin (tcTables nBuf tb) → BufTy
  | .hbm, ⟨i, _⟩ => hbmTy i
  | _, _ => ⟨S11x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v31 : Ref sig .tc := ⟨.hbm, 58, rfl⟩
abbrev main_v32 : Ref sig .tc := ⟨.hbm, 59, rfl⟩
abbrev main_cst : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_0 : Ref sig .tc := ⟨.hbm, 66, rfl⟩
abbrev main_v38 : Ref sig .tc := ⟨.hbm, 67, rfl⟩
abbrev main_v39 : Ref sig .tc := ⟨.hbm, 68, rfl⟩
abbrev main_cst_1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call2_call0_cst : Ref sig .tc := ⟨.hbm, 78, rfl⟩
abbrev main_call2_call0_v0 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_2 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_3 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_4 : Ref sig .tc := ⟨.hbm, 127, rfl⟩
abbrev main_v90 : Ref sig .tc := ⟨.hbm, 128, rfl⟩
abbrev main_v91 : Ref sig .tc := ⟨.hbm, 129, rfl⟩
abbrev main_cst_5 : Ref sig .tc := ⟨.hbm, 130, rfl⟩
abbrev main_v92 : Ref sig .tc := ⟨.hbm, 131, rfl⟩
abbrev main_v93 : Ref sig .tc := ⟨.hbm, 132, rfl⟩
abbrev main_cst_6 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call4_v0 : Ref sig .tc := ⟨.hbm, 145, rfl⟩
abbrev main_call4_v1 : Ref sig .tc := ⟨.hbm, 146, rfl⟩
abbrev main_call4_cst : Ref sig .tc := ⟨.hbm, 147, rfl⟩
abbrev main_call4_v2 : Ref sig .tc := ⟨.hbm, 148, rfl⟩
abbrev main_call4_v3 : Ref sig .tc := ⟨.hbm, 149, rfl⟩
abbrev main_call4_cst_0 : Ref sig .tc := ⟨.hbm, 150, rfl⟩
abbrev main_call4_v4 : Ref sig .tc := ⟨.hbm, 151, rfl⟩
abbrev main_call4_v5 : Ref sig .tc := ⟨.hbm, 152, rfl⟩
abbrev main_v105 : Ref sig .tc := ⟨.hbm, 153, rfl⟩
abbrev main_v106 : Ref sig .tc := ⟨.hbm, 154, rfl⟩

abbrev nD : Nat := 1
abbrev τ : Topo := Topo.v7x

variable {F : FTy → Type} [FloatOps F]
-- ==== FfnSample.lean ====
abbrev S256x1024 : Shape := ⟨2, ![256, 1024]⟩
abbrev S2x2x1024x2816 : Shape := ⟨4, ![2, 2, 1024, 2816]⟩
abbrev S2x2x2816x1024 : Shape := ⟨4, ![2, 2, 2816, 1024]⟩
abbrev S2x4x1024 : Shape := ⟨3, ![2, 4, 1024]⟩
abbrev S2x4x1x1024 : Shape := ⟨4, ![2, 4, 1, 1024]⟩
abbrev S1x1x1024x1408 : Shape := ⟨4, ![1, 1, 1024, 1408]⟩
abbrev S1x1x1408x1024 : Shape := ⟨4, ![1, 1, 1408, 1024]⟩
abbrev S1x1x1x1024 : Shape := ⟨4, ![1, 1, 1, 1024]⟩
abbrev S1024x1408 : Shape := ⟨2, ![1024, 1408]⟩
abbrev S256x1408 : Shape := ⟨2, ![256, 1408]⟩
abbrev S1408x1024 : Shape := ⟨2, ![1408, 1024]⟩
abbrev S1x1024 : Shape := ⟨2, ![1, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S2x2x1024x2816, .f32⟩
  | .hbm, ⟨2, _⟩ => ⟨S2x2x1024x2816, .f32⟩
  | .hbm, ⟨3, _⟩ => ⟨S2x2x2816x1024, .f32⟩
  | .hbm, ⟨4, _⟩ => ⟨S2x4x1024, .f32⟩
  | .hbm, ⟨5, _⟩ => ⟨S2x4x1024, .f32⟩
  | .hbm, ⟨6, _⟩ => ⟨S2x2x1024x2816, .bf16⟩
  | .hbm, ⟨7, _⟩ => ⟨S2x2x1024x2816, .bf16⟩
  | .hbm, ⟨8, _⟩ => ⟨S2x2x2816x1024, .bf16⟩
  | .hbm, ⟨9, _⟩ => ⟨S2x4x1x1024, .f32⟩
  | .hbm, ⟨10, _⟩ => ⟨S2x4x1x1024, .f32⟩
  | .hbm, ⟨11, _⟩ => ⟨S256x1024, .f32⟩
  | .local _ .vmem, ⟨0, _⟩ => ⟨S256x1024, .f32⟩
  | .local _ .vmem, ⟨1, _⟩ => ⟨S1x1x1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1408x1024, .bf16⟩
  | .local _ .vmem, ⟨6, _⟩ => ⟨S1x1x1408x1024, .bf16⟩
  | .local _ .vmem, ⟨7, _⟩ => ⟨S1x1x1x1024, .f32⟩
  | .local _ .vmem, ⟨8, _⟩ => ⟨S1x1x1x1024, .f32⟩
  | .local _ .vmem, ⟨9, _⟩ => ⟨S256x1024, .f32⟩
  | .local _ .vmem, ⟨10, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_18 : BitVec 32 := 0#32
  let v23 : BitVec 1 := Scalar.cmpi .ne v22 c0_i32_18
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSampleRefIdeal.lean ====
abbrev S256x1024 : Shape := ⟨2, ![256, 1024]⟩
abbrev S2x2x1024x2816 : Shape := ⟨4, ![2, 2, 1024, 2816]⟩
abbrev S2x2x2816x1024 : Shape := ⟨4, ![2, 2, 2816, 1024]⟩
abbrev S2x4x1024 : Shape := ⟨3, ![2, 4, 1024]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S256x2816 : Shape := ⟨2, ![256, 2816]⟩
abbrev S1x1x1024 : Shape := ⟨3, ![1, 1, 1024]⟩
abbrev S1024 : Shape := ⟨1, ![1024]⟩
abbrev S256 : Shape := ⟨1, ![256]⟩
abbrev S256x1 : Shape := ⟨2, ![256, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2x2x1024x2816, .f32⟩
  | .hbm, ⟨2, _⟩ => ⟨S2x2x1024x2816, .f32⟩
  | .hbm, ⟨3, _⟩ => ⟨S2x2x2816x1024, .f32⟩
  | .hbm, ⟨4, _⟩ => ⟨S2x4x1024, .f32⟩
  | .hbm, ⟨5, _⟩ => ⟨S2x4x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S1x1x1024x2816, .f32⟩
  | .hbm, ⟨10, _⟩ => ⟨S1024x2816, .f32⟩
  | .hbm, ⟨11, _⟩ => ⟨S1x1x1024x2816, .f32⟩
  | .hbm, ⟨12, _⟩ => ⟨S1024x2816, .f32⟩
  | .hbm, ⟨13, _⟩ => ⟨S1x1x2816x1024, .f32⟩
  | .hbm, ⟨14, _⟩ => ⟨S2816x1024, .f32⟩
  | .hbm, ⟨15, _⟩ => ⟨S256x2816, .f32⟩
  | .hbm, ⟨16, _⟩ => ⟨S256x2816, .f32⟩
  | .hbm, ⟨17, _⟩ => ⟨S256x2816, .f32⟩
  | .hbm, ⟨18, _⟩ => ⟨S_, .f32⟩
  | .hbm, ⟨19, _⟩ => ⟨S256x2816, .f32⟩
  | .hbm, ⟨20, _⟩ => ⟨S256x2816, .f32⟩
  | .hbm, ⟨21, _⟩ => ⟨S_, .f32⟩
  | .hbm, ⟨22, _⟩ => ⟨S256x2816, .f32⟩
  | .hbm, ⟨23, _⟩ => ⟨S256x2816, .f32⟩
  | .hbm, ⟨24, _⟩ => ⟨S256x2816, .f32⟩
  | .hbm, ⟨25, _⟩ => ⟨S256x2816, .f32⟩
  | .hbm, ⟨26, _⟩ => ⟨S256x2816, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1024, .f32⟩
  | .hbm, ⟨52, _⟩ => ⟨S256x1024, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S256x1, .f32⟩
  | .hbm, ⟨57, _⟩ => ⟨S256x1024, .f32⟩
  | .hbm, ⟨58, _⟩ => ⟨S256x1024, .f32⟩
  | .hbm, ⟨59, _⟩ => ⟨S1x1024, .f32⟩
  | .hbm, ⟨60, _⟩ => ⟨S256x1024, .f32⟩
  | .hbm, ⟨61, _⟩ => ⟨S256x1024, .f32⟩
  | .hbm, ⟨62, _⟩ => ⟨S1x1024, .f32⟩
  | .hbm, ⟨63, _⟩ => ⟨S256x1024, .f32⟩
  | .hbm, ⟨64, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== MergeSample.lean ====
abbrev S256x1024 : Shape := ⟨2, ![256, 1024]⟩
abbrev S256x512 : Shape := ⟨2, ![256, 512]⟩
abbrev S11x256x512 : Shape := ⟨3, ![11, 256, 512]⟩
abbrev S2x2x1024 : Shape := ⟨3, ![2, 2, 1024]⟩
abbrev S2x512x1024 : Shape := ⟨3, ![2, 512, 1024]⟩
abbrev S2x1024x1024 : Shape := ⟨3, ![2, 1024, 1024]⟩
abbrev S2x4x1024 : Shape := ⟨3, ![2, 4, 1024]⟩
abbrev S2x4x1x1024 : Shape := ⟨4, ![2, 4, 1, 1024]⟩
abbrev S1x256x512 : Shape := ⟨3, ![1, 256, 512]⟩
abbrev S1x2x1024 : Shape := ⟨3, ![1, 2, 1024]⟩
abbrev S1x512x1024 : Shape := ⟨3, ![1, 512, 1024]⟩
abbrev S1x1024x1024 : Shape := ⟨3, ![1, 1024, 1024]⟩
abbrev S1x1x1x1024 : Shape := ⟨4, ![1, 1, 1, 1024]⟩
abbrev S512x1024 : Shape := ⟨2, ![512, 1024]⟩
abbrev S2x1024 : Shape := ⟨2, ![2, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S11x256x512, .f32⟩
  | .hbm, ⟨4, _⟩ => ⟨S2x2x1024, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x4x1024, .f32⟩
  | .hbm, ⟨9, _⟩ => ⟨S2x4x1024, .f32⟩
  | .hbm, ⟨10, _⟩ => ⟨S2x4x1x1024, .f32⟩
  | .hbm, ⟨11, _⟩ => ⟨S2x4x1x1024, .f32⟩
  | .hbm, ⟨12, _⟩ => ⟨S2x512x1024, .bf16⟩
  | .hbm, ⟨13, _⟩ => ⟨S2x512x1024, .bf16⟩
  | .hbm, ⟨14, _⟩ => ⟨S2x1024x1024, .bf16⟩
  | .hbm, ⟨15, _⟩ => ⟨S256x1024, .f32⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x2x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1x1x1x1024, .f32⟩
  | .local _ .vmem, ⟨12, _⟩ => ⟨S1x1x1x1024, .f32⟩
  | .local _ .vmem, ⟨13, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_4 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_5 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  ![c9_i32.toNat, arg0.toNat, c0_i32.toNat]

def cc0_transform_6 (i : grid0.Coords) : Fin 3 → Nat :=
  let arg0 : BitVec 32 := BitVec.ofNat 32 (i 0).val
  let c10_i32 : BitVec 32 := 10#32
  let c0_i32 : BitVec 32 := 0#32
  let c0_i32_0 : BitVec 32 := 0#32
  ![c10_i32.toNat, arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== MergeSampleRefIdeal.lean ====
abbrev S256x1024 : Shape := ⟨2, ![256, 1024]⟩
abbrev S256x512 : Shape := ⟨2, ![256, 512]⟩
abbrev S11x256x512 : Shape := ⟨3, ![11, 256, 512]⟩
abbrev S2x2x1024 : Shape := ⟨3, ![2, 2, 1024]⟩
abbrev S2x512x1024 : Shape := ⟨3, ![2, 512, 1024]⟩
abbrev S2x1024x1024 : Shape := ⟨3, ![2, 1024, 1024]⟩
abbrev S2x4x1024 : Shape := ⟨3, ![2, 4, 1024]⟩
abbrev S1x256x512 : Shape := ⟨3, ![1, 256, 512]⟩
abbrev S1x1x1024 : Shape := ⟨3, ![1, 1, 1024]⟩
abbrev S1024 : Shape := ⟨1, ![1024]⟩
abbrev S1x1024 : Shape := ⟨2, ![1, 1024]⟩
abbrev S_ : Shape := ⟨0, ![]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 95
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S11x256x512, .f32⟩
  | .hbm, ⟨4, _⟩ => ⟨S2x2x1024, .f32⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x4x1024, .f32⟩
  | .hbm, ⟨9, _⟩ => ⟨S2x4x1024, .f32⟩
  | .hbm, ⟨10, _⟩ => ⟨S1x256x512, .f32⟩
  | .hbm, ⟨11, _⟩ => ⟨S256x512, .f32⟩
  | .hbm, ⟨12, _⟩ => ⟨S1x256x512, .f32⟩
  | .hbm, ⟨13, _⟩ => ⟨S256x512, .f32⟩
  | .hbm, ⟨14, _⟩ => ⟨S256x1024, .f32⟩
  | .hbm, ⟨15, _⟩ => ⟨S1x256x512, .f32⟩
  | .hbm, ⟨16, _⟩ => ⟨S256x512, .f32⟩
  | .hbm, ⟨17, _⟩ => ⟨S1x256x512, .f32⟩
  | .hbm, ⟨18, _⟩ => ⟨S256x512, .f32⟩
  | .hbm, ⟨19, _⟩ => ⟨S256x1024, .f32⟩
  | .hbm, ⟨20, _⟩ => ⟨S1x1x1024, .f32⟩
  | .hbm, ⟨21, _⟩ => ⟨S1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S1x512x1024, .f32⟩
  | .hbm, ⟨34, _⟩ => ⟨S512x1024, .f32⟩
  | .hbm, ⟨35, _⟩ => ⟨S256x1024, .f32⟩
  | .hbm, ⟨36, _⟩ => ⟨S256x1024, .f32⟩
  | .hbm, ⟨37, _⟩ => ⟨S1x1x1024, .f32⟩
  | .hbm, ⟨38, _⟩ => ⟨S1024, .f32⟩
  | .hbm, ⟨39, _⟩ => ⟨S1x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S1x512x1024, .f32⟩
  | .hbm, ⟨51, _⟩ => ⟨S512x1024, .f32⟩
  | .hbm, ⟨52, _⟩ => ⟨S256x1024, .f32⟩
  | .hbm, ⟨53, _⟩ => ⟨S256x1024, .f32⟩
  | .hbm, ⟨54, _⟩ => ⟨S256x1024, .f32⟩
  | .hbm, ⟨55, _⟩ => ⟨S_, .f32⟩
  | .hbm, ⟨56, _⟩ => ⟨S256x1024, .f32⟩
  | .hbm, ⟨57, _⟩ => ⟨S256x1024, .f32⟩
  | .hbm, ⟨58, _⟩ => ⟨S1x1024x1024, .f32⟩
  | .hbm, ⟨59, _⟩ => ⟨S1024x1024, .f32⟩
  | .hbm, ⟨60, _⟩ => ⟨S256x1024, .f32⟩
  | .hbm, ⟨61, _⟩ => ⟨S256x1024, .f32⟩
  | .hbm, ⟨62, _⟩ => ⟨S1x1x1024, .f32⟩
  | .hbm, ⟨63, _⟩ => ⟨S1024, .f32⟩
  | .hbm, ⟨64, _⟩ => ⟨S1x1x1024, .f32⟩
  | .hbm, ⟨65, _⟩ => ⟨S1024, .f32⟩
  | .hbm, ⟨66, _⟩ => ⟨S_, .f32⟩
  | .hbm, ⟨67, _⟩ => ⟨S256, .f32⟩
  | .hbm, ⟨68, _⟩ => ⟨S256x1, .f32⟩
  | .hbm, ⟨69, _⟩ => ⟨S_, .f32⟩
  | .hbm, ⟨70, _⟩ => ⟨S256x1, .f32⟩
  | .hbm, ⟨71, _⟩ => ⟨S256x1, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S_, .f32⟩
  | .hbm, ⟨76, _⟩ => ⟨S256, .f32⟩
  | .hbm, ⟨77, _⟩ => ⟨S256x1, .f32⟩
  | .hbm, ⟨78, _⟩ => ⟨S_, .f32⟩
  | .hbm, ⟨79, _⟩ => ⟨S256x1, .f32⟩
  | .hbm, ⟨80, _⟩ => ⟨S256x1, .f32⟩
  | .hbm, ⟨81, _⟩ => ⟨S256x1024, .f32⟩
  | .hbm, ⟨82, _⟩ => ⟨S256x1024, .f32⟩
  | .hbm, ⟨83, _⟩ => ⟨S_, .f32⟩
  | .hbm, ⟨84, _⟩ => ⟨S256x1, .f32⟩
  | .hbm, ⟨85, _⟩ => ⟨S256x1, .f32⟩
  | .hbm, ⟨86, _⟩ => ⟨S256x1, .f32⟩
  | .hbm, ⟨87, _⟩ => ⟨S256x1024, .f32⟩
  | .hbm, ⟨88, _⟩ => ⟨S256x1024, .f32⟩
  | .hbm, ⟨89, _⟩ => ⟨S1x1024, .f32⟩
  | .hbm, ⟨90, _⟩ => ⟨S256x1024, .f32⟩
  | .hbm, ⟨91, _⟩ => ⟨S256x1024, .f32⟩
  | .hbm, ⟨92, _⟩ => ⟨S1x1024, .f32⟩
  | .hbm, ⟨93, _⟩ => ⟨S256x1024, .f32⟩
  | .hbm, ⟨94, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_cst_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== FfnSecond.lean ====
abbrev S16384x1024 : Shape := ⟨2, ![16384, 1024]⟩
abbrev S2x2x1024x2816 : Shape := ⟨4, ![2, 2, 1024, 2816]⟩
abbrev S2x2x2816x1024 : Shape := ⟨4, ![2, 2, 2816, 1024]⟩
abbrev S2x4x1024 : Shape := ⟨3, ![2, 4, 1024]⟩
abbrev S2x4x1x1024 : Shape := ⟨4, ![2, 4, 1, 1024]⟩
abbrev S512x1024 : Shape := ⟨2, ![512, 1024]⟩
abbrev S1x1x1024x1408 : Shape := ⟨4, ![1, 1, 1024, 1408]⟩
abbrev S1x1x1408x1024 : Shape := ⟨4, ![1, 1, 1408, 1024]⟩
abbrev S1x1x1x1024 : Shape := ⟨4, ![1, 1, 1, 1024]⟩
abbrev S1024x1408 : Shape := ⟨2, ![1024, 1408]⟩
abbrev S512x1408 : Shape := ⟨2, ![512, 1408]⟩
abbrev S1408x1024 : Shape := ⟨2, ![1408, 1024]⟩
abbrev S1x1024 : Shape := ⟨2, ![1, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x2x1024x2816, .f32⟩
  | .hbm, ⟨2, _⟩ => ⟨S2x2x1024x2816, .f32⟩
  | .hbm, ⟨3, _⟩ => ⟨S2x2x2816x1024, .f32⟩
  | .hbm, ⟨4, _⟩ => ⟨S2x4x1024, .f32⟩
  | .hbm, ⟨5, _⟩ => ⟨S2x4x1024, .f32⟩
  | .hbm, ⟨6, _⟩ => ⟨S2x2x1024x2816, .bf16⟩
  | .hbm, ⟨7, _⟩ => ⟨S2x2x1024x2816, .bf16⟩
  | .hbm, ⟨8, _⟩ => ⟨S2x2x2816x1024, .bf16⟩
  | .hbm, ⟨9, _⟩ => ⟨S2x4x1x1024, .f32⟩
  | .hbm, ⟨10, _⟩ => ⟨S2x4x1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1408x1024, .bf16⟩
  | .local _ .vmem, ⟨7, _⟩ => ⟨S1x1x1408x1024, .bf16⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_18 : BitVec 32 := 0#32
  let v23 : BitVec 1 := Scalar.cmpi .ne v22 c0_i32_18
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnSecondRefIdeal.lean ====
abbrev S16384x1024 : Shape := ⟨2, ![16384, 1024]⟩
abbrev S2x2x1024x2816 : Shape := ⟨4, ![2, 2, 1024, 2816]⟩
abbrev S2x2x2816x1024 : Shape := ⟨4, ![2, 2, 2816, 1024]⟩
abbrev S2x4x1024 : Shape := ⟨3, ![2, 4, 1024]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S16384x2816 : Shape := ⟨2, ![16384, 2816]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x2x1024x2816, .f32⟩
  | .hbm, ⟨2, _⟩ => ⟨S2x2x1024x2816, .f32⟩
  | .hbm, ⟨3, _⟩ => ⟨S2x2x2816x1024, .f32⟩
  | .hbm, ⟨4, _⟩ => ⟨S2x4x1024, .f32⟩
  | .hbm, ⟨5, _⟩ => ⟨S2x4x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S1x1x1024x2816, .f32⟩
  | .hbm, ⟨10, _⟩ => ⟨S1024x2816, .f32⟩
  | .hbm, ⟨11, _⟩ => ⟨S1x1x1024x2816, .f32⟩
  | .hbm, ⟨12, _⟩ => ⟨S1024x2816, .f32⟩
  | .hbm, ⟨13, _⟩ => ⟨S1x1x2816x1024, .f32⟩
  | .hbm, ⟨14, _⟩ => ⟨S2816x1024, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S_, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== FfnSecondSample.lean ====
abbrev S256x1024 : Shape := ⟨2, ![256, 1024]⟩
abbrev S2x2x1024x2816 : Shape := ⟨4, ![2, 2, 1024, 2816]⟩
abbrev S2x2x2816x1024 : Shape := ⟨4, ![2, 2, 2816, 1024]⟩
abbrev S2x4x1024 : Shape := ⟨3, ![2, 4, 1024]⟩
abbrev S2x4x1x1024 : Shape := ⟨4, ![2, 4, 1, 1024]⟩
abbrev S1x1x1024x1408 : Shape := ⟨4, ![1, 1, 1024, 1408]⟩
abbrev S1x1x1408x1024 : Shape := ⟨4, ![1, 1, 1408, 1024]⟩
abbrev S1x1x1x1024 : Shape := ⟨4, ![1, 1, 1, 1024]⟩
abbrev S1024x1408 : Shape := ⟨2, ![1024, 1408]⟩
abbrev S256x1408 : Shape := ⟨2, ![256, 1408]⟩
abbrev S1408x1024 : Shape := ⟨2, ![1408, 1024]⟩
abbrev S1x1024 : Shape := ⟨2, ![1, 1024]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S2x2x1024x2816, .f32⟩
  | .hbm, ⟨2, _⟩ => ⟨S2x2x1024x2816, .f32⟩
  | .hbm, ⟨3, _⟩ => ⟨S2x2x2816x1024, .f32⟩
  | .hbm, ⟨4, _⟩ => ⟨S2x4x1024, .f32⟩
  | .hbm, ⟨5, _⟩ => ⟨S2x4x1024, .f32⟩
  | .hbm, ⟨6, _⟩ => ⟨S2x2x1024x2816, .bf16⟩
  | .hbm, ⟨7, _⟩ => ⟨S2x2x1024x2816, .bf16⟩
  | .hbm, ⟨8, _⟩ => ⟨S2x2x2816x1024, .bf16⟩
  | .hbm, ⟨9, _⟩ => ⟨S2x4x1x1024, .f32⟩
  | .hbm, ⟨10, _⟩ => ⟨S2x4x1x1024, .f32⟩
  | .hbm, ⟨11, _⟩ => ⟨S256x1024, .f32⟩
  | .local _ .vmem, ⟨0, _⟩ => ⟨S256x1024, .f32⟩
  | .local _ .vmem, ⟨1, _⟩ => ⟨S1x1x1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1408x1024, .bf16⟩
  | .local _ .vmem, ⟨6, _⟩ => ⟨S1x1x1408x1024, .bf16⟩
  | .local _ .vmem, ⟨7, _⟩ => ⟨S1x1x1x1024, .f32⟩
  | .local _ .vmem, ⟨8, _⟩ => ⟨S1x1x1x1024, .f32⟩
  | .local _ .vmem, ⟨9, _⟩ => ⟨S256x1024, .f32⟩
  | .local _ .vmem, ⟨10, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_18 : BitVec 32 := 0#32
  let v23 : BitVec 1 := Scalar.cmpi .ne v22 c0_i32_18
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSecondSampleRefIdeal.lean ====
abbrev S256x1024 : Shape := ⟨2, ![256, 1024]⟩
abbrev S2x2x1024x2816 : Shape := ⟨4, ![2, 2, 1024, 2816]⟩
abbrev S2x2x2816x1024 : Shape := ⟨4, ![2, 2, 2816, 1024]⟩
abbrev S2x4x1024 : Shape := ⟨3, ![2, 4, 1024]⟩
abbrev S_ : Shape := ⟨0, ![]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S256x2816 : Shape := ⟨2, ![256, 2816]⟩
abbrev S1x1x1024 : Shape := ⟨3, ![1, 1, 1024]⟩
abbrev S1024 : Shape := ⟨1, ![1024]⟩
abbrev S256 : Shape := ⟨1, ![256]⟩
abbrev S256x1 : Shape := ⟨2, ![256, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2x2x1024x2816, .f32⟩
  | .hbm, ⟨2, _⟩ => ⟨S2x2x1024x2816, .f32⟩
  | .hbm, ⟨3, _⟩ => ⟨S2x2x2816x1024, .f32⟩
  | .hbm, ⟨4, _⟩ => ⟨S2x4x1024, .f32⟩
  | .hbm, ⟨5, _⟩ => ⟨S2x4x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S1x1x1024x2816, .f32⟩
  | .hbm, ⟨10, _⟩ => ⟨S1024x2816, .f32⟩
  | .hbm, ⟨11, _⟩ => ⟨S1x1x1024x2816, .f32⟩
  | .hbm, ⟨12, _⟩ => ⟨S1024x2816, .f32⟩
  | .hbm, ⟨13, _⟩ => ⟨S1x1x2816x1024, .f32⟩
  | .hbm, ⟨14, _⟩ => ⟨S2816x1024, .f32⟩
  | .hbm, ⟨15, _⟩ => ⟨S256x2816, .f32⟩
  | .hbm, ⟨16, _⟩ => ⟨S256x2816, .f32⟩
  | .hbm, ⟨17, _⟩ => ⟨S256x2816, .f32⟩
  | .hbm, ⟨18, _⟩ => ⟨S_, .f32⟩
  | .hbm, ⟨19, _⟩ => ⟨S256x2816, .f32⟩
  | .hbm, ⟨20, _⟩ => ⟨S256x2816, .f32⟩
  | .hbm, ⟨21, _⟩ => ⟨S_, .f32⟩
  | .hbm, ⟨22, _⟩ => ⟨S256x2816, .f32⟩
  | .hbm, ⟨23, _⟩ => ⟨S256x2816, .f32⟩
  | .hbm, ⟨24, _⟩ => ⟨S256x2816, .f32⟩
  | .hbm, ⟨25, _⟩ => ⟨S256x2816, .f32⟩
  | .hbm, ⟨26, _⟩ => ⟨S256x2816, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S1x1x1024, .f32⟩
  | .hbm, ⟨33, _⟩ => ⟨S1024, .f32⟩
  | .hbm, ⟨34, _⟩ => ⟨S1x1x1024, .f32⟩
  | .hbm, ⟨35, _⟩ => ⟨S1024, .f32⟩
  | .hbm, ⟨36, _⟩ => ⟨S_, .f32⟩
  | .hbm, ⟨37, _⟩ => ⟨S256, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1024, .f32⟩
  | .hbm, ⟨52, _⟩ => ⟨S256x1024, .f32⟩
  | .hbm, ⟨53, _⟩ => ⟨S_, .f32⟩
  | .hbm, ⟨54, _⟩ => ⟨S256x1, .f32⟩
  | .hbm, ⟨55, _⟩ => ⟨S256x1, .f32⟩
  | .hbm, ⟨56, _⟩ => ⟨S256x1, .f32⟩
  | .hbm, ⟨57, _⟩ => ⟨S256x1024, .f32⟩
  | .hbm, ⟨58, _⟩ => ⟨S256x1024, .f32⟩
  | .hbm, ⟨59, _⟩ => ⟨S1x1024, .f32⟩
  | .hbm, ⟨60, _⟩ => ⟨S256x1024, .f32⟩
  | .hbm, ⟨61, _⟩ => ⟨S256x1024, .f32⟩
  | .hbm, ⟨62, _⟩ => ⟨S1x1024, .f32⟩
  | .hbm, ⟨63, _⟩ => ⟨S256x1024, .f32⟩
  | .hbm, ⟨64, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Proof.AttnMath.lean ====
/- Stick-breaking attention over the reals: the logarithm of `1 - sigmoid z`, the weight a query gives a key, and
   the value of an output row as a sum over keys. Both the reference and the kernel are compared with `out`. -/
module

public import proofs.«01_k».proof.Proof.Gen.AttnRefIdeal.Read
public import Idealize.ShloMosaic.Lib.Pipeline.ValueKit
public import Idealize.ShloMosaic.Lib.WordCmp

@[expose] public section

set_option maxRecDepth 16384

noncomputable section

namespace Cert.AttnMath

open Cert.AttnRefIdeal Cert.AttnRefIdeal.Gen Idealize.ShloMosaic

/-- `log (1 - sigmoid z)`, written so that no exponential overflows. -/
def lg (z : ℝ) : ℝ := -(max z 0 + Real.log (1 + Real.exp (-|z|)))

/-- `log (1 + exp x)` of a real number is a real number. -/
theorem log1p_exp (x : ℝ) : Ideal.log1p (Ideal.exp (x : EReal)) = ((Real.log (1 + Real.exp x) : ℝ) : EReal) := by
  have h : (1 : EReal) + ((Real.exp x : ℝ) : EReal) = ((1 + Real.exp x : ℝ) : EReal) := by
    rw [EReal.coe_add, EReal.coe_one]
  have hp : ¬ (1 + Real.exp x ≤ 0) := by have := Real.exp_pos x; linarith
  rw [Ideal.exp_coe, Ideal.log1p, h, Ideal.log_coe, if_neg hp]

theorem max_coe (x y : ℝ) : max (x : EReal) (y : EReal) = ((max x y : ℝ) : EReal) :=
  (EReal.coe_strictMono.monotone.map_max).symm

theorem max_coe_zero (x : ℝ) : max (x : EReal) 0 = ((max x 0 : ℝ) : EReal) := by
  rw [← EReal.coe_zero, max_coe]

theorem abs_coe (x : ℝ) : max (x : EReal) (-(x : EReal)) = ((|x| : ℝ) : EReal) := by
  rw [← EReal.coe_neg, max_coe]; rfl

/-- The soft plus of a real number, as both programs compute it. -/
theorem softplus_coe (z : ℝ) :
    max (z : EReal) 0 + Ideal.log1p (Ideal.exp (-(max (z : EReal) (-(z : EReal))))) = ((-(lg z) : ℝ) : EReal) := by
  rw [abs_coe, ← EReal.coe_neg, log1p_exp, max_coe_zero, ← EReal.coe_add, lg, neg_neg]

/-- The soft plus of `-z` is `-(z + lg z)`: the two logarithms of a sigmoid differ by `z`. -/
theorem lg_neg (z : ℝ) : lg (-z) = z + lg z := by
  have h : max (-z) 0 = max z 0 - z := by
    rcases le_total z 0 with h | h
    · rw [max_eq_left (by linarith), max_eq_right h]; ring
    · rw [max_eq_right (by linarith), max_eq_left h]; ring
  simp only [lg, abs_neg, h]; ring

/-- The weight that query `t` gives key `j`, the scores of the row being `z`. -/
def wt (z : ℕ → ℝ) (t j : ℕ) : ℝ :=
  if j < t then Real.exp (z j + lg (z j) + ∑ k ∈ Finset.Ico (j + 1) t, lg (z k)) else 0

/-- A rank-three array read at natural numbers, zero outside. -/
def at3 (x : S11x16384x512.Idx → EReal) (a r c : ℕ) : EReal :=
  if h : a < 11 ∧ r < 16384 ∧ c < 512 then
    x (fun i => match i with | ⟨0, _⟩ => ⟨a, h.1⟩ | ⟨1, _⟩ => ⟨r, h.2.1⟩ | ⟨2, _⟩ => ⟨c, h.2.2⟩) else 0

/-- The bias read at a natural number, zero outside. -/
def at1 (x : S8.Idx → EReal) (h : ℕ) : EReal :=
  if hh : h < 8 then x (fun i => match i with | ⟨0, _⟩ => ⟨h, hh⟩) else 0

theorem at3_eq (x : S11x16384x512.Idx → EReal) (i : S11x16384x512.Idx) (a r c : ℕ)
    (h0 : (i 0).val = a) (h1 : (i 1).val = r) (h2 : (i 2).val = c) : x i = at3 x a r c := by
  have ha : a < 11 := h0 ▸ (i 0).isLt
  have hr : r < 16384 := h1 ▸ (i 1).isLt
  have hc : c < 512 := h2 ▸ (i 2).isLt
  rw [at3, dif_pos ⟨ha, hr, hc⟩]
  congr 1; funext k
  match k with
  | ⟨0, _⟩ => exact Fin.ext h0
  | ⟨1, _⟩ => exact Fin.ext h1
  | ⟨2, _⟩ => exact Fin.ext h2

theorem at1_eq (x : S8.Idx → EReal) (i : S8.Idx) (h : ℕ) (h0 : (i 0).val = h) : x i = at1 x h := by
  have hh : h < 8 := h0 ▸ (i 0).isLt
  rw [at1, dif_pos hh]
  congr 1; funext k
  match k with
  | ⟨0, _⟩ => exact Fin.ext h0

/-- The inputs for which the scores are real numbers: queries, keys and biases are finite. -/
structure Fin3 (x : S11x16384x512.Idx → EReal) (y : S8.Idx → EReal) : Prop where
  q : ∀ r c, at3 x 0 r c = (((at3 x 0 r c).toReal : ℝ) : EReal)
  k : ∀ r c, at3 x 1 r c = (((at3 x 1 r c).toReal : ℝ) : EReal)
  b : ∀ h, at1 y h = (((at1 y h).toReal : ℝ) : EReal)

/-- The score of query `t` and key `j` of batch `b`, head `h`. -/
def score (x : S11x16384x512.Idx → EReal) (y : S8.Idx → EReal) (b h t j : ℕ) : ℝ :=
  (∑ d ∈ Finset.range 64, (at3 x 0 (b * 4096 + t) (h * 64 + d)).toReal * (at3 x 1 (b * 4096 + j) (h * 64 + d)).toReal) * (1 / 8)
    + (at1 y h).toReal

/-- The output of batch `b`, query `t`, at column `c` of the eight heads' columns side by side. -/
def out (x : S11x16384x512.Idx → EReal) (y : S8.Idx → EReal) (b t c : ℕ) : EReal :=
  ∑ j ∈ Finset.range t, at3 x 2 (b * 4096 + j) c * ((wt (score x y b (c / 64) t) t j : ℝ) : EReal)

/-- A sum of real numbers is the same sum among the extended ones. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ofBits_eighth : Ideal.ofBits .f32 0x3E000000#32 = ((1 / 8 : ℝ) : EReal) := by
  simp [Ideal.ofBits, Ideal.ieee, -EReal.coe_mul]; norm_num

theorem ofBits_zero : Ideal.ofBits .f32 0x00000000#32 = 0 := by
  simp [Ideal.ofBits, Ideal.ieee, -EReal.coe_mul]

theorem ofBits_one : Ideal.ofBits .f32 0x3F800000#32 = 1 := by
  simp [Ideal.ofBits, Ideal.ieee, -EReal.coe_mul]; norm_num

end Cert.AttnMath
-- ==== Proof.AttnFinite.lean ====
/- The precondition of the attention claim read element by element: queries, keys and biases are real numbers. -/
module

public import proofs.«01_k».proof.Pre_finite
public import proofs.«01_k».proof.Proof.AttnMath

@[expose] public section

noncomputable section

namespace Cert.AttnMath

open Idealize.ShloMosaic
open Cert.AttnRefIdeal (S11x16384x512 S8 S16384x512)
open Cert.AttnRefIdeal.Read

/-- The shape relations the precondition's operations take. -/
theorem finite_facts : Cert.Pre_finite.Facts where
  slices_S11x16384x512_S1x16384x512_0_0_0 := by decide
  shapeCasts_S1x16384x512_S16384x512 := by decide
  bcast_S_S16384x512 := by decide
  slices_S11x16384x512_S1x16384x512_1_0_0 := by decide
  bcast_S_S8 := by decide

/-- The word of the infinite bound. -/
theorem ofBits_inf : Ideal.ofBits .f32 0x7F800000#32 = ⊤ := by
  simp [Ideal.ofBits, Ideal.ieee]

/-- An element whose magnitude is below infinity is a real number. -/
theorem real_of_lt (v : EReal) (h : FloatOps.cmpf (F := Ideal) (φ := .f32) .olt (FloatOps.absf (F := Ideal) (φ := .f32) v) (Ideal.ofBits .f32 0x7F800000#32) = 1#1) :
    v = ((v.toReal : ℝ) : EReal) := by
  rw [ofBits_inf] at h
  have h' : max v (-v) < ⊤ := by
    by_contra hn
    have : FloatOps.cmpf (F := Ideal) (φ := .f32) .olt (FloatOps.absf (F := Ideal) (φ := .f32) v) (⊤ : EReal) = 0#1 := by
      show BitVec.ofBool (decide (max v (-v) < ⊤)) = 0#1
      rw [decide_eq_false hn]; rfl
    rw [this] at h
    exact absurd h (by decide)
  refine (EReal.coe_toReal ?_ ?_).symm
  · rintro rfl; simp at h'
  · rintro rfl; simp at h'

variable (x : S11x16384x512.Idx → EReal) (y : S8.Idx → EReal)

/-- The precondition gives that queries, keys and biases are real. -/
theorem fin3_of_finite [Cert.Pre_finite.Facts]
    (hq : (Cert.Pre_finite.fn (F := Ideal) x y).1 = fun _ => 1#1) (hk : (Cert.Pre_finite.fn (F := Ideal) x y).2.1 = fun _ => 1#1)
    (hb : (Cert.Pre_finite.fn (F := Ideal) x y).2.2 = fun _ => 1#1) : Fin3 x y where
  q r c := by
    by_cases hi : (0 < 11 ∧ r < 16384 ∧ c < 512)
    · have h := congrFun hq (fun i => match i with | ⟨0, _⟩ => ⟨r, hi.2.1⟩ | ⟨1, _⟩ => ⟨c, hi.2.2⟩)
      have e : val_main_v1 (F := Ideal) x (fun i => match i with | ⟨0, _⟩ => ⟨r, hi.2.1⟩ | ⟨1, _⟩ => ⟨c, hi.2.2⟩) = at3 x 0 r c := by
        rw [val_main_v1_apply, val_main_v0_apply]
        refine at3_eq x _ _ _ _ ?_ ?_ ?_ <;> dsimp only <;> omega
      rw [← e]
      exact real_of_lt _ h
    · rw [at3, dif_neg hi, EReal.toReal_zero, EReal.coe_zero]
  k r c := by
    by_cases hi : (1 < 11 ∧ r < 16384 ∧ c < 512)
    · have h := congrFun hk (fun i => match i with | ⟨0, _⟩ => ⟨r, hi.2.1⟩ | ⟨1, _⟩ => ⟨c, hi.2.2⟩)
      have e : val_main_v4 (F := Ideal) x (fun i => match i with | ⟨0, _⟩ => ⟨r, hi.2.1⟩ | ⟨1, _⟩ => ⟨c, hi.2.2⟩) = at3 x 1 r c := by
        rw [val_main_v4_apply, val_main_v3_apply]
        refine at3_eq x _ _ _ _ ?_ ?_ ?_ <;> dsimp only <;> omega
      rw [← e]
      exact real_of_lt _ h
    · rw [at3, dif_neg hi, EReal.toReal_zero, EReal.coe_zero]
  b h := by
    by_cases hi : h < 8
    · have hc := congrFun hb (fun i => match i with | ⟨0, _⟩ => ⟨h, hi⟩)
      rw [at1, dif_pos hi]
      exact real_of_lt _ hc
    · rw [at1, dif_neg hi, EReal.toReal_zero, EReal.coe_zero]

end Cert.AttnMath

end
-- ==== Proof.AttnStep.lean ====
/- One block of keys in the attention kernel, read element by element over the reals: the scores of a block, the sums
   inside it as a product with a triangle of ones, and what a block adds to the carried sum and to the output. -/
module

public import proofs.«01_k».proof.Proof.AttnMath
public import proofs.«01_k».proof.Proof.Gen.AttnIdeal.Frame
public import Idealize.ShloMosaic.Lib.Pipeline.ValueKit

@[expose] public section

set_option maxRecDepth 16384

noncomputable section

namespace Cert.AttnIdeal.Hand

open Cert.AttnIdeal Cert.AttnIdeal.Gen Idealize.ShloMosaic Idealize.ShloMosaic.TcCoe Idealize.SL.Sem
open Cert.AttnMath

/-! ### Sums -/

/-- A sum over a block of keys is a sum over an interval of keys. -/
theorem sum_block (f : ℕ → EReal) (B : ℕ) : ∑ s : Fin 256, f (B + s.val) = ∑ j ∈ Finset.Ico B (B + 256), f j := by
  rw [Finset.sum_Ico_eq_sum_range, Nat.add_sub_cancel_left, ← Fin.sum_univ_eq_sum_range (fun s => f (B + s))]

/-- The product with a triangle of ones sums the keys of the block after `s`. -/
theorem sum_tri (g : ℕ → ℝ) (B s : ℕ) (hs : s < 256) :
    ∑ k : Fin 256, ((g (B + k.val) : ℝ) : EReal) * (if s < k.val then 1 else 0)
      = ((∑ k ∈ Finset.Ico (B + s + 1) (B + 256), g k : ℝ) : EReal) := by
  have h : ∀ k : Fin 256, ((g (B + k.val) : ℝ) : EReal) * (if s < k.val then 1 else 0)
      = (fun j => if B + s < j then ((g j : ℝ) : EReal) else 0) (B + k.val) := fun k => by
    by_cases hk : s < k.val
    · simp only [if_pos hk, if_pos (show B + s < B + k.val by omega), mul_one]
    · simp only [if_neg hk, if_neg (show ¬ B + s < B + k.val by omega), mul_zero]
  rw [Fintype.sum_congr _ _ h, sum_block (fun j => if B + s < j then ((g j : ℝ) : EReal) else 0), ← coe_sum]
  have hsub : Finset.Ico (B + s + 1) (B + 256) ⊆ Finset.Ico B (B + 256) := fun k hk => by
    rw [Finset.mem_Ico] at hk ⊢; omega
  rw [← Finset.sum_subset hsub fun k hk hn => if_neg (by rw [Finset.mem_Ico] at hk hn; omega)]
  exact Finset.sum_congr rfl fun k hk => if_pos (by rw [Finset.mem_Ico] at hk; omega)

/-- Leaving out the keys from `t` on shortens the interval. -/
theorem sum_before (g : ℕ → ℝ) (a t e : ℕ) (h : t ≤ e) :
    ∑ k ∈ Finset.Ico a e, (if k < t then g k else 0) = ∑ k ∈ Finset.Ico a t, g k := by
  have hsub : Finset.Ico a t ⊆ Finset.Ico a e := fun k hk => by rw [Finset.mem_Ico] at hk ⊢; omega
  rw [← Finset.sum_subset hsub fun k hk hn => if_neg (by rw [Finset.mem_Ico] at hk hn; omega)]
  exact Finset.sum_congr rfl fun k hk => if_pos (by rw [Finset.mem_Ico] at hk; omega)

/-! ### The masks -/

/-- Numbers below `2 ^ 31` compare as words as they do as numbers. -/
theorem slt_nat (a b : ℕ) (ha : a < 2147483648) (hb : b < 2147483648) :
    IntOp.cmpi .slt (BitVec.ofNat 32 a) (BitVec.ofNat 32 b) = BitVec.ofBool (decide (a < b)) := by
  have ea : (BitVec.ofNat 32 a).toNat = a := by rw [BitVec.toNat_ofNat]; omega
  have eb : (BitVec.ofNat 32 b).toNat = b := by rw [BitVec.toNat_ofNat]; omega
  rw [WordCmp.cmpi_slt_of_lt (by rw [ea]; exact ha) (by rw [eb]; exact hb), ea, eb]

/-- The same for the converse comparison. -/
theorem sgt_nat (a b : ℕ) (ha : a < 2147483648) (hb : b < 2147483648) :
    IntOp.cmpi .sgt (BitVec.ofNat 32 a) (BitVec.ofNat 32 b) = BitVec.ofBool (decide (b < a)) := by
  have ea : (BitVec.ofNat 32 a).toNat = a := by rw [BitVec.toNat_ofNat]; omega
  have eb : (BitVec.ofNat 32 b).toNat = b := by rw [BitVec.toNat_ofNat]; omega
  rw [WordCmp.cmpi_sgt_of_lt (by rw [ea]; exact ha) (by rw [eb]; exact hb), ea, eb]

/-- Inside the tile's own block a key counts when its row is before the query's. -/
theorem causal_at (r s : Fin 256) : k0_pay23 (ix2 r s) = BitVec.ofBool (decide (s.val < r.val)) := by
  pointwise [k0_pay23]
  exact slt_nat _ _ (by have := s.isLt; omega) (by have := r.isLt; omega)

/-- The triangle of ones: the row after the column. -/
theorem tri_at (k s : Fin 256) : k0_pay24 (F := Ideal) (ix2 k s) = if s.val < k.val then 1 else 0 := by
  pointwise [k0_pay24]
  rw [sgt_nat _ _ (by have := k.isLt; omega) (by have := s.isLt; omega), WordCmp.select_ofBool]
  simp only [decide_eq_true_eq]

/-- The lanes of the first head. -/
theorem lanes0_at (s : Fin 256) (l : Fin 128) : k0_pay26 (ix2 s l) = BitVec.ofBool (decide (l.val / 64 = 0)) := by
  pointwise [k0_pay26]
  revert l
  decide +kernel

/-- The lanes of the second head. -/
theorem lanes1_at (s : Fin 256) (l : Fin 128) :
    k0_pay44 (k0_pay42 (iota Kind.tc S256x128 32 [1] iota_S256x128_d1_w32)) k0_pay43 (ix2 s l)
      = BitVec.ofBool (decide (l.val / 64 = 1)) := by
  pointwise [k0_pay44, k0_pay43, k0_pay42]
  revert l
  decide +kernel

/-! ### Scores -/

/-- The logarithm of one minus the sigmoid, as the kernel computes it. -/
theorem lg_at (z : ℝ) :
    (0 : EReal) - (max (z : EReal) 0 + Ideal.log1p (Ideal.exp (0 - FloatOps.absf (F := Ideal) (φ := .f32) (z : EReal)))) = ((lg z : ℝ) : EReal) := by
  have ha : FloatOps.absf (F := Ideal) (φ := .f32) (z : EReal) = max (z : EReal) (-(z : EReal)) := rfl
  rw [ha, zero_sub, zero_sub, softplus_coe, ← EReal.coe_neg, neg_neg]

variable {x : Cert.AttnRefIdeal.S11x16384x512.Idx → EReal} {y : Cert.AttnRefIdeal.S8.Idx → EReal}

/-- The product of a query row, scaled and with the other head's lanes set to zero, with a key row is the score
    without its bias: the lanes of head `2 p + e` are the columns `64 (2 p + e) … 64 (2 p + e) + 63`. -/
theorem score_sum (H : Fin3 x y) (b p e t j : ℕ) (he : e < 2) :
    ∑ l : Fin 128, (if l.val / 64 = e then at3 x 0 (b * 4096 + t) (p * 128 + l.val) * ((1 / 8 : ℝ) : EReal) else 0)
        * at3 x 1 (b * 4096 + j) (p * 128 + l.val) + at1 y (2 * p + e)
      = ((score x y b (2 * p + e) t j : ℝ) : EReal) := by
  set f : ℕ → EReal := fun l => (if l / 64 = e then at3 x 0 (b * 4096 + t) (p * 128 + l) * ((1 / 8 : ℝ) : EReal) else 0)
        * at3 x 1 (b * 4096 + j) (p * 128 + l) with hf
  have h1 : ∑ l : Fin 128, f l.val = ∑ d ∈ Finset.range 64, f (e * 64 + d) := by
    rw [Fin.sum_univ_eq_sum_range f]
    have h2 : ∑ d ∈ Finset.range 64, f (e * 64 + d) = ∑ l ∈ Finset.Ico (e * 64) (e * 64 + 64), f l := by
      rw [Finset.sum_Ico_eq_sum_range, Nat.add_sub_cancel_left]
    rw [h2]
    refine (Finset.sum_subset (fun l hl => ?_) fun l hl hn => ?_).symm
    · rw [Finset.mem_Ico] at hl; rw [Finset.mem_range]; omega
    · rw [Finset.mem_range] at hl; rw [Finset.mem_Ico] at hn
      rw [hf]; dsimp only
      rw [if_neg (by omega), zero_mul]
  rw [h1, score, EReal.coe_add, ← H.b, Finset.sum_mul, ← coe_sum]
  congr 1
  refine Finset.sum_congr rfl fun d hd => ?_
  rw [Finset.mem_range] at hd
  rw [hf]; dsimp only
  rw [if_pos (by omega), show p * 128 + (e * 64 + d) = (2 * p + e) * 64 + d by ring, H.q, H.k]
  simp only [EReal.toReal_coe]
  rw [← EReal.coe_mul, ← EReal.coe_mul]
  congr 1; ring

/-! ### What is carried -/

/-- The sums carried after all keys from `B` on: per query the sum of the logarithms, and per lane of head `2 p + e`
    the weighted sum of the values, zero in the other head's lanes. -/
structure Carried (x : Cert.AttnRefIdeal.S11x16384x512.Idx → EReal) (y : Cert.AttnRefIdeal.S8.Idx → EReal)
    (b p q e B : ℕ) (co : FVec Ideal S256x1 .f32 × FVec Ideal S256x128 .f32) : Prop where
  sum : ∀ r : Fin 256, co.1 (ix2 r 0)
    = ((∑ k ∈ Finset.Ico B (q * 256 + r.val), lg (score x y b (2 * p + e) (q * 256 + r.val) k) : ℝ) : EReal)
  out : ∀ (r : Fin 256) (l : Fin 128), co.2 (ix2 r l) = if l.val / 64 = e then
      ∑ j ∈ Finset.Ico B (q * 256 + r.val), ((wt (score x y b (2 * p + e) (q * 256 + r.val)) (q * 256 + r.val) j : ℝ) : EReal)
        * at3 x 2 (b * 4096 + j) (p * 128 + l.val)
    else 0

set_option maxHeartbeats 1000000 in
/-- A block of keys, all before the tile's queries, extends what is carried by its keys. -/
theorem block_step (H : Fin3 x y) (b p q e B : ℕ) (he : e < 2) (hB : B + 256 ≤ q * 256)
    (mask : IVec S256x128 1) (hmask : ∀ s l, mask (ix2 s l) = BitVec.ofBool (decide (l.val / 64 = e)))
    (qm : FVec Ideal S256x128 .bf16) (hq : ∀ r l, qm (ix2 r l) = if l.val / 64 = e then at3 x 0 (b * 4096 + (q * 256 + r.val)) (p * 128 + l.val) * ((1 / 8 : ℝ) : EReal) else 0)
    (bias : EReal) (hb : bias = at1 y (2 * p + e))
    (kb vb : Vec Ideal S1x256x128 .f32)
    (hk : ∀ s l, kb (ix3 0 s l) = at3 x 1 (b * 4096 + (B + s.val)) (p * 128 + l.val))
    (hv : ∀ s l, vb (ix3 0 s l) = at3 x 2 (b * 4096 + (B + s.val)) (p * 128 + l.val))
    (co : FVec Ideal S256x1 .f32 × FVec Ideal S256x128 .f32) (hc : Carried x y b p q e (B + 256) co) :
    Carried x y b p q e B (k0_pay39 co.1 (k0_pay9 qm bias kb), k0_pay8 k0_pay24 mask qm bias co.1 co.2 kb vb) := by
  have hz : ∀ r s : Fin 256, k0_pay6 qm bias kb (ix2 r s) = ((score x y b (2 * p + e) (q * 256 + r.val) (B + s.val) : ℝ) : EReal) := fun r s => by
    rw [← score_sum H b p e (q * 256 + r.val) (B + s.val) he, ← hb]
    pointwise [k0_pay6]
    refine congrArg (· + bias) (Finset.sum_congr rfl fun l _ => ?_)
    rw [← hq r l, ← hk s l]
  have hl : ∀ r s : Fin 256, k0_pay7 qm bias kb (ix2 r s) = ((lg (score x y b (2 * p + e) (q * 256 + r.val) (B + s.val)) : ℝ) : EReal) := fun r s => by
    pointwise [k0_pay7]
    rw [hz r s, lg_at]
  constructor
  · intro r
    dsimp only
    pointwise [k0_pay39, k0_pay9]
    have hs : ∑ k ∈ Finset.Ico B (q * 256 + r.val), lg (score x y b (2 * p + e) (q * 256 + r.val) k)
        = ∑ k ∈ Finset.Ico (B + 256) (q * 256 + r.val), lg (score x y b (2 * p + e) (q * 256 + r.val) k)
          + ∑ k ∈ Finset.Ico B (B + 256), lg (score x y b (2 * p + e) (q * 256 + r.val) k) :=
      ((add_comm _ _).trans (Finset.sum_Ico_consecutive _ (by omega) (by omega))).symm
    rw [hs, EReal.coe_add, ← hc.sum r, ← coe_sum, ← sum_block (fun k => ((lg (score x y b (2 * p + e) (q * 256 + r.val) k) : ℝ) : EReal))]
    exact congrArg (co.1 (ix2 r 0) + ·) (Finset.sum_congr rfl fun s _ => hl r s)
  · intro r l
    have hw : ∀ s : Fin 256, Ideal.exp (k0_pay6 qm bias kb (ix2 r s) + k0_pay7 qm bias kb (ix2 r s) +
          (∑ k, k0_pay7 qm bias kb (ix2 r k) * k0_pay24 (F := Ideal) (ix2 k s) +
            ∑ k, (k0_pay7 qm bias kb (ix2 r k) - k0_pay7 qm bias kb (ix2 r k)) * k0_pay24 (F := Ideal) (ix2 k s)) + co.1 (ix2 r 0))
        = ((wt (score x y b (2 * p + e) (q * 256 + r.val)) (q * 256 + r.val) (B + s.val) : ℝ) : EReal) := fun s => by
      have hs := s.isLt
      have h0 : ∑ k, (k0_pay7 qm bias kb (ix2 r k) - k0_pay7 qm bias kb (ix2 r k)) * k0_pay24 (F := Ideal) (ix2 k s) = 0 :=
        Finset.sum_eq_zero fun k _ => by
          rw [hl, ← EReal.coe_sub, sub_self, EReal.coe_zero, zero_mul]
      have h1 : ∑ k, k0_pay7 qm bias kb (ix2 r k) * k0_pay24 (F := Ideal) (ix2 k s)
          = ((∑ k ∈ Finset.Ico (B + s.val + 1) (B + 256), lg (score x y b (2 * p + e) (q * 256 + r.val) k) : ℝ) : EReal) := by
        rw [← sum_tri (fun k => lg (score x y b (2 * p + e) (q * 256 + r.val) k)) B s.val hs]
        exact Finset.sum_congr rfl fun k _ => by rw [hl, tri_at]
      rw [h0, h1, hz, hl, hc.sum, add_zero, ← EReal.coe_add, ← EReal.coe_add, ← EReal.coe_add, Ideal.exp_coe, wt, if_pos (by omega),
        ← Finset.sum_Ico_consecutive (fun k => lg (score x y b (2 * p + e) (q * 256 + r.val) k))
          (show B + s.val + 1 ≤ B + 256 by omega) (show B + 256 ≤ q * 256 + r.val by omega)]
      congr 2; ring
    have hsel : k0_pay8 k0_pay24 mask qm bias co.1 co.2 kb vb (ix2 r l) = co.2 (ix2 r l)
        + ∑ s : Fin 256, Scalar.select (mask (ix2 s l))
            (((wt (score x y b (2 * p + e) (q * 256 + r.val)) (q * 256 + r.val) (B + s.val) : ℝ) : EReal) * vb (ix3 0 s l)) 0 := by
      pointwise [k0_pay8]
      refine congrArg (co.2 (ix2 r l) + ·) (Finset.sum_congr rfl fun s _ => ?_)
      rw [← hw s]
    dsimp only
    rw [hsel, hc.out r l]
    simp only [hmask, hv, WordCmp.select_ofBool, decide_eq_true_eq]
    by_cases h : l.val / 64 = e
    · simp only [if_pos h]
      rw [sum_block (fun j => ((wt (score x y b (2 * p + e) (q * 256 + r.val)) (q * 256 + r.val) j : ℝ) : EReal)
        * at3 x 2 (b * 4096 + j) (p * 128 + l.val)) B, add_comm, Finset.sum_Ico_consecutive _ (by omega) (by omega)]
    · simp only [if_neg h, Finset.sum_const_zero, add_zero]

/-- The tile's own block: a query takes only the keys before it, and nothing is carried yet. -/
theorem block_own (b p q e : ℕ) (co : FVec Ideal S256x1 .f32 × FVec Ideal S256x128 .f32)
    (hs : ∀ r : Fin 256, co.1 (ix2 r 0) = ∑ s : Fin 256, (((if q * 256 + s.val < q * 256 + r.val then
      lg (score x y b (2 * p + e) (q * 256 + r.val) (q * 256 + s.val)) else 0 : ℝ)) : EReal))
    (ho : ∀ (r : Fin 256) (l : Fin 128), co.2 (ix2 r l) = ∑ s : Fin 256, if s.val < r.val then
      Ideal.exp ((((score x y b (2 * p + e) (q * 256 + r.val) (q * 256 + s.val)
        + lg (score x y b (2 * p + e) (q * 256 + r.val) (q * 256 + s.val))
        + ∑ k ∈ Finset.Ico (q * 256 + s.val + 1) (q * 256 + 256), (if k < q * 256 + r.val then
            lg (score x y b (2 * p + e) (q * 256 + r.val) k) else 0) : ℝ)) : EReal))
        * (if l.val / 64 = e then at3 x 2 (b * 4096 + (q * 256 + s.val)) (p * 128 + l.val) else 0) else 0) :
    Carried x y b p q e (q * 256) co := by
  constructor
  · intro r
    have hr := r.isLt
    rw [hs, sum_block (fun k => (((if k < q * 256 + r.val then lg (score x y b (2 * p + e) (q * 256 + r.val) k) else 0 : ℝ)) : EReal)) (q * 256),
      coe_sum, sum_before _ _ _ _ (by omega)]
  · intro r l
    have hr := r.isLt
    rw [ho]
    by_cases h : l.val / 64 = e
    · simp only [if_pos h]
      set f : ℕ → EReal := fun j => if j < q * 256 + r.val then
        ((wt (score x y b (2 * p + e) (q * 256 + r.val)) (q * 256 + r.val) j : ℝ) : EReal) * at3 x 2 (b * 4096 + j) (p * 128 + l.val) else 0 with hf
      have h1 : ∑ j ∈ Finset.Ico (q * 256) (q * 256 + r.val), ((wt (score x y b (2 * p + e) (q * 256 + r.val)) (q * 256 + r.val) j : ℝ) : EReal)
          * at3 x 2 (b * 4096 + j) (p * 128 + l.val) = ∑ s : Fin 256, f (q * 256 + s.val) := by
        rw [sum_block f]
        have hsub : Finset.Ico (q * 256) (q * 256 + r.val) ⊆ Finset.Ico (q * 256) (q * 256 + 256) := fun k hk => by
          rw [Finset.mem_Ico] at hk ⊢; omega
        rw [← Finset.sum_subset hsub fun k hk hn => if_neg (by rw [Finset.mem_Ico] at hk hn; omega)]
        exact Finset.sum_congr rfl fun k hk => (if_pos (by rw [Finset.mem_Ico] at hk; omega)).symm
      rw [h1]
      refine Finset.sum_congr rfl fun s _ => ?_
      have hsl := s.isLt
      rw [hf]; dsimp only
      by_cases hsr : s.val < r.val
      · rw [if_pos hsr, if_pos (by omega), sum_before _ _ _ _ (by omega), Ideal.exp_coe, wt, if_pos (by omega)]
      · rw [if_neg hsr, if_neg (by omega)]
    · simp only [if_neg h, mul_zero, ite_self, Finset.sum_const_zero]

set_option maxHeartbeats 1000000 in
/-- The first head's own block. -/
theorem own0 (H : Fin3 x y) (b p q e : ℕ) (he : e < 2) (mask : IVec S256x128 1)
    (hmask : ∀ s l, mask (ix2 s l) = BitVec.ofBool (decide (l.val / 64 = e)))
    (qs : FVec Ideal S256x128 .f32) (hq : ∀ r l, qs (ix2 r l) = at3 x 0 (b * 4096 + (q * 256 + r.val)) (p * 128 + l.val) * ((1 / 8 : ℝ) : EReal))
    (bias : EReal) (hb : bias = at1 y (2 * p + e))
    (kb vb : Vec Ideal S1x256x128 .f32)
    (hk : ∀ s l, kb (ix3 0 s l) = at3 x 1 (b * 4096 + (q * 256 + s.val)) (p * 128 + l.val))
    (hv : ∀ s l, vb (ix3 0 s l) = at3 x 2 (b * 4096 + (q * 256 + s.val)) (p * 128 + l.val)) :
    Carried x y b p q e (q * 256)
      (k0_pay38 k0_pay30 (k0_pay35 qs k0_pay23 mask k0_pay27 bias kb),
        k0_pay37 k0_pay23 (k0_pay29 mask vb) k0_pay30 k0_pay31 (k0_pay34 qs mask k0_pay27 bias kb)
          (k0_pay36 qs k0_pay23 k0_pay24 mask k0_pay27 bias kb)) := by
  have hz : ∀ r s : Fin 256, k0_pay32 qs mask k0_pay27 bias kb (ix2 r s)
      = ((score x y b (2 * p + e) (q * 256 + r.val) (q * 256 + s.val) : ℝ) : EReal) := fun r s => by
    rw [← score_sum H b p e (q * 256 + r.val) (q * 256 + s.val) he, ← hb]
    pointwise [k0_pay32, k0_pay28, k0_pay27]
    refine congrArg (· + bias) (Finset.sum_congr rfl fun l _ => ?_)
    rw [← hq r l, ← hk s l, hmask, WordCmp.select_ofBool]
    simp only [decide_eq_true_eq, ite_mul, zero_mul]
  have hl : ∀ r s : Fin 256, k0_pay33 qs mask k0_pay27 bias kb (ix2 r s)
      = ((lg (score x y b (2 * p + e) (q * 256 + r.val) (q * 256 + s.val)) : ℝ) : EReal) := fun r s => by
    pointwise [k0_pay33]
    rw [hz r s, lg_at]
  have hm : ∀ r s : Fin 256, k0_pay35 qs k0_pay23 mask k0_pay27 bias kb (ix2 r s)
      = (((if q * 256 + s.val < q * 256 + r.val then
          lg (score x y b (2 * p + e) (q * 256 + r.val) (q * 256 + s.val)) else 0 : ℝ)) : EReal) := fun r s => by
    pointwise [k0_pay35]
    rw [hl, causal_at, WordCmp.select_ofBool]
    by_cases h : s.val < r.val
    · rw [if_pos (decide_eq_true h), if_pos (by omega)]
    · rw [if_neg (by simpa using h), if_neg (by omega), EReal.coe_zero]
  have ht : ∀ r s : Fin 256, k0_pay36 qs k0_pay23 k0_pay24 mask k0_pay27 bias kb (ix2 r s)
      = ((∑ k ∈ Finset.Ico (q * 256 + s.val + 1) (q * 256 + 256), (if k < q * 256 + r.val then
            lg (score x y b (2 * p + e) (q * 256 + r.val) k) else 0) : ℝ) : EReal) := fun r s => by
    pointwise [k0_pay36]
    have h0 : ∑ k, (k0_pay35 qs k0_pay23 mask k0_pay27 bias kb (ix2 r k) - k0_pay35 qs k0_pay23 mask k0_pay27 bias kb (ix2 r k)) * k0_pay24 (F := Ideal) (ix2 k s) = 0 :=
      Finset.sum_eq_zero fun k _ => by rw [hm, ← EReal.coe_sub, sub_self, EReal.coe_zero, zero_mul]
    have h1 : ∑ k, k0_pay35 qs k0_pay23 mask k0_pay27 bias kb (ix2 r k) * k0_pay24 (F := Ideal) (ix2 k s)
        = ((∑ k ∈ Finset.Ico (q * 256 + s.val + 1) (q * 256 + 256), (if k < q * 256 + r.val then
            lg (score x y b (2 * p + e) (q * 256 + r.val) k) else 0) : ℝ) : EReal) := by
      rw [← sum_tri (fun k => if k < q * 256 + r.val then lg (score x y b (2 * p + e) (q * 256 + r.val) k) else 0) (q * 256) s.val s.isLt]
      exact Finset.sum_congr rfl fun k _ => by rw [hm, tri_at]
    rw [h0, h1, add_zero]
  refine block_own b p q e _ (fun r => ?_) fun r l => ?_
  · dsimp only
    pointwise [k0_pay38, k0_pay30]
    exact Finset.sum_congr rfl fun s _ => hm r s
  · dsimp only
    pointwise [k0_pay37, k0_pay29, k0_pay34, k0_pay30, k0_pay31]
    refine Finset.sum_congr rfl fun s _ => ?_
    rw [hz, hl, ht, ← EReal.coe_add, ← EReal.coe_add, hmask, hv, causal_at, WordCmp.select_ofBool, WordCmp.select_ofBool]
    simp only [decide_eq_true_eq]
    by_cases h1 : l.val / 64 = e <;> by_cases h2 : s.val < r.val <;> simp only [h1, h2, if_true, if_false, mul_zero]

set_option maxHeartbeats 1000000 in
/-- The second head's own block. -/
theorem own1 (H : Fin3 x y) (b p q e : ℕ) (he : e < 2) (w0 w1 : IVec S256x128 32)
    (hmask : ∀ s l, k0_pay44 w0 w1 (ix2 s l) = BitVec.ofBool (decide (l.val / 64 = e)))
    (qs : FVec Ideal S256x128 .f32) (hq : ∀ r l, qs (ix2 r l) = at3 x 0 (b * 4096 + (q * 256 + r.val)) (p * 128 + l.val) * ((1 / 8 : ℝ) : EReal))
    (bias : EReal) (hb : bias = at1 y (2 * p + e))
    (kb vb : Vec Ideal S1x256x128 .f32)
    (hk : ∀ s l, kb (ix3 0 s l) = at3 x 1 (b * 4096 + (q * 256 + s.val)) (p * 128 + l.val))
    (hv : ∀ s l, vb (ix3 0 s l) = at3 x 2 (b * 4096 + (q * 256 + s.val)) (p * 128 + l.val)) :
    Carried x y b p q e (q * 256)
      (k0_pay2 k0_pay47 (k0_pay52 qs k0_pay23 w0 w1 bias kb),
        k0_pay1 k0_pay23 k0_pay24 (k0_pay46 w0 w1 vb) k0_pay47 k0_pay48 (k0_pay51 qs w0 w1 bias kb) (k0_pay54 qs k0_pay23 w0 w1 bias kb)
          (k0_pay55 qs k0_pay23 k0_pay24 w0 w1 bias kb)) := by
  have hz : ∀ r s : Fin 256, k0_pay49 qs w0 w1 bias kb (ix2 r s)
      = ((score x y b (2 * p + e) (q * 256 + r.val) (q * 256 + s.val) : ℝ) : EReal) := fun r s => by
    rw [← score_sum H b p e (q * 256 + r.val) (q * 256 + s.val) he, ← hb]
    pointwise [k0_pay49, k0_pay45]
    refine congrArg (· + bias) (Finset.sum_congr rfl fun l _ => ?_)
    rw [← hq r l, ← hk s l, hmask, WordCmp.select_ofBool]
    simp only [decide_eq_true_eq, ite_mul, zero_mul]
  have hl : ∀ r s : Fin 256, k0_pay50 qs w0 w1 bias kb (ix2 r s)
      = ((lg (score x y b (2 * p + e) (q * 256 + r.val) (q * 256 + s.val)) : ℝ) : EReal) := fun r s => by
    pointwise [k0_pay50]
    rw [hz r s, lg_at]
  have hm : ∀ r s : Fin 256, k0_pay52 qs k0_pay23 w0 w1 bias kb (ix2 r s)
      = (((if q * 256 + s.val < q * 256 + r.val then
          lg (score x y b (2 * p + e) (q * 256 + r.val) (q * 256 + s.val)) else 0 : ℝ)) : EReal) := fun r s => by
    pointwise [k0_pay52]
    rw [hl, causal_at, WordCmp.select_ofBool]
    by_cases h : s.val < r.val
    · rw [if_pos (decide_eq_true h), if_pos (by omega)]
    · rw [if_neg (by simpa using h), if_neg (by omega), EReal.coe_zero]
  have ht : ∀ r s : Fin 256, k0_pay55 qs k0_pay23 k0_pay24 w0 w1 bias kb (ix2 r s)
      = ((∑ k ∈ Finset.Ico (q * 256 + s.val + 1) (q * 256 + 256), (if k < q * 256 + r.val then
            lg (score x y b (2 * p + e) (q * 256 + r.val) k) else 0) : ℝ) : EReal) := fun r s => by
    pointwise [k0_pay55]
    have h1 : ∑ k, k0_pay52 qs k0_pay23 w0 w1 bias kb (ix2 r k) * k0_pay24 (F := Ideal) (ix2 k s)
        = ((∑ k ∈ Finset.Ico (q * 256 + s.val + 1) (q * 256 + 256), (if k < q * 256 + r.val then
            lg (score x y b (2 * p + e) (q * 256 + r.val) k) else 0) : ℝ) : EReal) := by
      rw [← sum_tri (fun k => if k < q * 256 + r.val then lg (score x y b (2 * p + e) (q * 256 + r.val) k) else 0) (q * 256) s.val s.isLt]
      exact Finset.sum_congr rfl fun k _ => by rw [hm, tri_at]
    rw [← h1]
    refine Finset.sum_congr rfl fun k _ => congrArg (· * _) ?_
    pointwise [k0_pay53]
  refine block_own b p q e _ (fun r => ?_) fun r l => ?_
  · dsimp only
    pointwise [k0_pay2, k0_pay47]
    exact Finset.sum_congr rfl fun s _ => hm r s
  · dsimp only
    pointwise [k0_pay1, k0_pay46, k0_pay51, k0_pay47, k0_pay48]
    refine Finset.sum_congr rfl fun s _ => ?_
    have h0 : ∑ k, k0_pay54 qs k0_pay23 w0 w1 bias kb (ix2 r k) * k0_pay24 (F := Ideal) (ix2 k s) = 0 :=
      Finset.sum_eq_zero fun k _ => by
        have h : k0_pay54 qs k0_pay23 w0 w1 bias kb (ix2 r k)
            = k0_pay52 qs k0_pay23 w0 w1 bias kb (ix2 r k) - k0_pay52 qs k0_pay23 w0 w1 bias kb (ix2 r k) := by
          pointwise [k0_pay54, k0_pay53]
        rw [h, hm, ← EReal.coe_sub, sub_self, EReal.coe_zero, zero_mul]
    rw [h0, add_zero, hz, hl, ht, ← EReal.coe_add, ← EReal.coe_add, hmask, hv, causal_at, WordCmp.select_ofBool, WordCmp.select_ofBool]
    simp only [decide_eq_true_eq]
    by_cases h1 : l.val / 64 = e <;> by_cases h2 : s.val < r.val <;> simp only [h1, h2, if_true, if_false, mul_zero]

end Cert.AttnIdeal.Hand
-- ==== Proof.AttnRef.lean ====
/- The reference of the attention, read at one output element: the host program's stages are followed from the
   scores to the weighted sum of the values, and each is a formula over the reals. -/
module

public import proofs.«01_k».proof.Proof.AttnMath

@[expose] public section

set_option maxRecDepth 16384

noncomputable section

namespace Cert.AttnRefIdeal.Hand

open Cert.AttnRefIdeal Cert.AttnRefIdeal.Gen Cert.AttnRefIdeal.Read Cert.AttnMath Idealize.ShloMosaic

/-- A left fold that adds `g` is the start plus the sum of `g`. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A windowed sum at one element: the initial value plus the sum over the window's positions, a position outside
    the operand holding the initial value. -/
theorem window_apply {s t u : Shape} (window strides lo hi : Fin s.rank → Nat) (x : s.Idx → EReal) (z : u.Idx → EReal)
    (h : s.ReduceWindows window strides lo hi t) (hu : 0 < u.numel) (hz : z (Shape.Idx.first hu) = 0) (j : t.Idx) :
    Host.reduceWindowAdd (F := Ideal) (φ := .f32) window strides lo hi x z h hu j
      = ∑ w : (⟨s.rank, window⟩ : Shape).Idx,
          if hin : ∀ a, lo a ≤ (j (a.cast h.1.symm)).val * strides a + (w a).val
              ∧ (j (a.cast h.1.symm)).val * strides a + (w a).val - lo a < s.size a
          then x (fun a => ⟨(j (a.cast h.1.symm)).val * strides a + (w a).val - lo a, (hin a).2⟩) else 0 := by
  have e : Host.reduceWindowAdd (F := Ideal) (φ := .f32) window strides lo hi x z h hu j
      = Host.reduceWindow (· + ·) window strides lo hi x (fun _ : (⟨0, ![]⟩ : Shape).Idx => z (Shape.Idx.first hu)) h (by decide) j := rfl
  rw [e]
  simp only [Host.reduceWindow, hz]
  rw [foldl_add, zero_add, ← List.ofFn_eq_map, List.sum_ofFn,
    ← Equiv.sum_comp (⟨s.rank, window⟩ : Shape).rowMajor.symm]

/-- The position `n` of a window along the last axis. -/
def pos (n : Fin 4096) : (⟨4, ![1, 1, 1, 4096]⟩ : Shape).Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨n.val, n.isLt⟩

/-- The positions of that window are the numbers below its length. -/
theorem pos_bijective : Function.Bijective pos := by
  constructor
  · intro a b h
    have : (pos a 3).val = (pos b 3).val := by rw [h]
    exact Fin.ext this
  · intro w
    refine ⟨⟨(w 3).val, (w 3).isLt⟩, funext fun a => ?_⟩
    match a with
    | ⟨0, _⟩ => exact Fin.ext (by have h : (w 0).val < 1 := (w 0).isLt; show 0 = (w 0).val; omega)
    | ⟨1, _⟩ => exact Fin.ext (by have h : (w 1).val < 1 := (w 1).isLt; show 0 = (w 1).val; omega)
    | ⟨2, _⟩ => exact Fin.ext (by have h : (w 2).val < 1 := (w 2).isLt; show 0 = (w 2).val; omega)
    | ⟨3, _⟩ => rfl

/-- The index with the last coordinate replaced. -/
abbrev at4 (i : S4x8x4096x4096.Idx) (k : Fin 4096) : S4x8x4096x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩

/-- The windowed sum along the keys: element `j` is the sum of the elements from `j` on. -/
theorem window_sum (x : S4x8x4096x4096.Idx → EReal) (z : S_.Idx → EReal) (hz : ∀ i, z i = 0) (i : S4x8x4096x4096.Idx)
    (f : ℕ → EReal) (hf : ∀ k : Fin 4096, x (at4 i k) = f k.val) (hf0 : ∀ k, 4096 ≤ k → f k = 0) :
    Host.reduceWindowAdd (F := Ideal) (φ := .f32) ![1, 1, 1, 4096] ![1, 1, 1, 1] ![0, 0, 0, 0] ![0, 0, 0, 4095] x z
        reduceWindows_S4x8x4096x4096_S4x8x4096x4096_w1s1p0_0_w1s1p0_0_w1s1p0_0_w4096s1p0_4095 h_S_ i
      = ∑ n ∈ Finset.range 4096, f ((i 3).val + n) := by
  rw [window_apply _ _ _ _ x z _ _ (hz _), ← Fin.sum_univ_eq_sum_range]
  refine (Fintype.sum_bijective pos pos_bijective _ _ fun n => ?_).symm
  by_cases hin : (i 3).val + n.val < 4096
  · rw [dif_pos]
    · rw [← hf ⟨(i 3).val + n.val, hin⟩]
      refine congrArg x (funext fun a => ?_)
      match a with
      | ⟨0, _⟩ => exact Fin.ext (by show (i 0).val = (i 0).val * 1 + 0 - 0; omega)
      | ⟨1, _⟩ => exact Fin.ext (by show (i 1).val = (i 1).val * 1 + 0 - 0; omega)
      | ⟨2, _⟩ => exact Fin.ext (by show (i 2).val = (i 2).val * 1 + 0 - 0; omega)
      | ⟨3, _⟩ => exact Fin.ext (by show (i 3).val + n.val = (i 3).val * 1 + n.val - 0; omega)
    · intro a
      match a with
      | ⟨0, _⟩ => exact ⟨Nat.zero_le _, by have h : (i 0).val < 4 := (i 0).isLt; show (i 0).val * 1 + 0 - 0 < 4; omega⟩
      | ⟨1, _⟩ => exact ⟨Nat.zero_le _, by have h : (i 1).val < 8 := (i 1).isLt; show (i 1).val * 1 + 0 - 0 < 8; omega⟩
      | ⟨2, _⟩ => exact ⟨Nat.zero_le _, by have h : (i 2).val < 4096 := (i 2).isLt; show (i 2).val * 1 + 0 - 0 < 4096; omega⟩
      | ⟨3, _⟩ => exact ⟨Nat.zero_le _, by show (i 3).val * 1 + n.val - 0 < 4096; omega⟩
  · rw [dif_neg, hf0 _ (by omega)]
    intro hall
    have h : (i 3).val * 1 + n.val - 0 < 4096 := (hall 3).2
    omega

variable (x0 : S11x16384x512.Idx → EReal) (x1 : S8.Idx → EReal)

/-- The queries, split into batches and heads. -/
theorem q_at (i : S4x4096x8x64.Idx) :
    val_main_v2 (F := Ideal) x0 i = at3 x0 0 ((i 0).val * 4096 + (i 1).val) ((i 2).val * 64 + (i 3).val) := by
  have h0 : (i 0).val < 4 := (i 0).isLt
  have h1 : (i 1).val < 4096 := (i 1).isLt
  have h2 : (i 2).val < 8 := (i 2).isLt
  have h3 : (i 3).val < 64 := (i 3).isLt
  rw [val_main_v2_apply, val_main_v1_apply, val_main_v0_apply]
  refine at3_eq x0 _ _ _ _ ?_ ?_ ?_ <;> dsimp only <;> omega

/-- The keys, split into batches and heads. -/
theorem k_at (i : S4x4096x8x64.Idx) :
    val_main_v5 (F := Ideal) x0 i = at3 x0 1 ((i 0).val * 4096 + (i 1).val) ((i 2).val * 64 + (i 3).val) := by
  have h0 : (i 0).val < 4 := (i 0).isLt
  have h1 : (i 1).val < 4096 := (i 1).isLt
  have h2 : (i 2).val < 8 := (i 2).isLt
  have h3 : (i 3).val < 64 := (i 3).isLt
  rw [val_main_v5_apply, val_main_v4_apply, val_main_v3_apply]
  refine at3_eq x0 _ _ _ _ ?_ ?_ ?_ <;> dsimp only <;> omega

/-- The values, split into batches and heads. -/
theorem v_at (i : S4x4096x8x64.Idx) :
    val_main_v8 (F := Ideal) x0 i = at3 x0 2 ((i 0).val * 4096 + (i 1).val) ((i 2).val * 64 + (i 3).val) := by
  have h0 : (i 0).val < 4 := (i 0).isLt
  have h1 : (i 1).val < 4096 := (i 1).isLt
  have h2 : (i 2).val < 8 := (i 2).isLt
  have h3 : (i 3).val < 64 := (i 3).isLt
  rw [val_main_v8_apply, val_main_v7_apply, val_main_v6_apply]
  refine at3_eq x0 _ _ _ _ ?_ ?_ ?_ <;> dsimp only <;> omega

variable {x0 x1} (H : Fin3 x0 x1)
include H

/-- The scores are real numbers. -/
theorem z_at (i : S4x8x4096x4096.Idx) :
    val_main_v14 (F := Ideal) x0 x1 i = ((score x0 x1 (i 0).val (i 1).val (i 2).val (i 3).val : ℝ) : EReal) := by
  rw [val_main_v14_apply, val_main_v11_apply, val_main_v9_apply, val_main_v10_apply, val_main_cst_apply,
    val_main_v13_apply, val_main_v12_apply, at1_eq x1 _ (i 1).val rfl, H.b]
  simp only [Ideal.addf_def, Ideal.mulf_def, Ideal.ofBits_def, ofBits_eighth, q_at, k_at]
  rw [score, ← Fin.sum_univ_eq_sum_range (fun d => (at3 x0 0 ((i 0).val * 4096 + (i 2).val) ((i 1).val * 64 + d)).toReal
    * (at3 x0 1 ((i 0).val * 4096 + (i 3).val) ((i 1).val * 64 + d)).toReal), EReal.coe_add, EReal.coe_mul, ← coe_sum]
  congr 2
  refine Finset.sum_congr rfl fun k _ => ?_
  rw [EReal.coe_mul, ← H.q, ← H.k]

omit H in
/-- Two numbers below `2 ^ 31` compare as words as they do as numbers. -/
theorem slt_nat (a b : ℕ) (ha : a < 2147483648) (hb : b < 2147483648) :
    IntOp.cmpi .slt (BitVec.ofNat 32 a) (BitVec.ofNat 32 b) = BitVec.ofBool (decide (a < b)) := by
  have ea : (BitVec.ofNat 32 a).toNat = a := by rw [BitVec.toNat_ofNat]; omega
  have eb : (BitVec.ofNat 32 b).toNat = b := by rw [BitVec.toNat_ofNat]; omega
  rw [WordCmp.cmpi_slt_of_lt (by rw [ea]; exact ha) (by rw [eb]; exact hb), ea, eb]

omit H in
/-- A key counts when it is before the query. -/
theorem causal_at (i : S4096x4096.Idx) :
    val_main_v21 (F := Ideal) i = BitVec.ofBool (decide ((i 1).val < (i 0).val)) := by
  have h0 : (i 0).val < 4096 := (i 0).isLt
  have h1 : (i 1).val < 4096 := (i 1).isLt
  rw [val_main_v21_apply, val_main_v19_apply, val_main_v16_apply, val_main_v15_apply, val_main_v20_apply, val_main_v18_apply,
    val_main_v17_apply]
  exact slt_nat _ _ (by dsimp only; omega) (by dsimp only; omega)

omit H in
/-- The host's logarithm of a sigmoid, at a real number `y`: a real number is equal to itself, so the branch for a
    missing number is not taken. -/
theorem log_sigmoid_real (y : ℝ) (other : EReal) :
    FloatOps.negf (F := Ideal) (φ := .f32) (Scalar.select (FloatOps.cmpf (F := Ideal) (φ := .f32) CmpFPredicate.une (y : EReal) (y : EReal)) other
        (max (y : EReal) 0 + Ideal.log1p (Ideal.exp (-(FloatOps.absf (F := Ideal) (φ := .f32) (y : EReal)))))) = ((lg y : ℝ) : EReal) := by
  have hc : FloatOps.cmpf (F := Ideal) (φ := .f32) CmpFPredicate.une (y : EReal) (y : EReal) = 0#1 := by
    simp [FloatOps.cmpf, Ideal.cmp]
  have ha : FloatOps.absf (F := Ideal) (φ := .f32) (y : EReal) = max (y : EReal) (-(y : EReal)) := rfl
  rw [hc, ha, softplus_coe, WordCmp.select_zero, Ideal.negf_def, ← EReal.coe_neg, neg_neg]

/-- `log (1 - sigmoid z)` in the reference. -/
theorem log_not_at (i : S4x8x4096x4096.Idx) :
    val_main_v23 (F := Ideal) x0 x1 i
      = ((lg (score x0 x1 (i 0).val (i 1).val (i 2).val (i 3).val) : ℝ) : EReal) := by
  simp only [val_main_v23_apply, val_main_call0_v1_apply, val_main_call0_call0_v4_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v2_apply, val_main_call0_call0_v0_apply,
    val_main_call0_call0_cst_apply, val_main_call0_v0_apply, val_main_v22_apply, z_at H]
  generalize score x0 x1 (i 0).val (i 1).val (i 2).val (i 3).val = z
  refine Eq.trans ?_ (log_sigmoid_real z (val_main_call0_call0_v6 (F := Ideal) x0 x1 i))
  simp [ofBits_zero, sub_eq_add_neg]

/-- `log (sigmoid z)` in the reference. -/
theorem log_at (i : S4x8x4096x4096.Idx) :
    val_main_v27 (F := Ideal) x0 x1 i
      = ((score x0 x1 (i 0).val (i 1).val (i 2).val (i 3).val + lg (score x0 x1 (i 0).val (i 1).val (i 2).val (i 3).val) : ℝ) : EReal) := by
  simp only [val_main_v27_apply, val_main_call3_v1_apply, val_main_call3_call0_v4_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v2_apply, val_main_call3_call0_v0_apply,
    val_main_call3_call0_cst_apply, val_main_call3_v0_apply, z_at H]
  generalize score x0 x1 (i 0).val (i 1).val (i 2).val (i 3).val = z
  rw [← lg_neg]
  refine Eq.trans ?_ (log_sigmoid_real (-z) (val_main_call3_call0_v6 (F := Ideal) x0 x1 i))
  simp [ofBits_zero, sub_eq_add_neg]

/-- The logarithms that are summed, zero from the query on. -/
theorem log_masked_at (i : S4x8x4096x4096.Idx) :
    val_main_v24 (F := Ideal) x0 x1 i
      = if (i 3).val < (i 2).val then ((lg (score x0 x1 (i 0).val (i 1).val (i 2).val (i 3).val) : ℝ) : EReal) else 0 := by
  rw [val_main_v24_apply, val_main_call1_v1_apply, causal_at, log_not_at H, WordCmp.select_ofBool, val_main_call1_v2_apply,
    val_main_call1_v0_apply, val_main_cst_0_apply, Ideal.ofBits_def, ofBits_zero]
  simp only [decide_eq_true_eq]

omit H in
/-- A sum over all positions from `j` on, of terms that are zero from `t` on. -/
theorem sum_masked (g : ℕ → ℝ) (j t N : ℕ) (h : t ≤ j + N) :
    ∑ n ∈ Finset.range N, (if j + n < t then ((g (j + n) : ℝ) : EReal) else 0) = ((∑ k ∈ Finset.Ico j t, g k : ℝ) : EReal) := by
  rw [Finset.sum_Ico_eq_sum_range, ← coe_sum]
  have hs : Finset.range (t - j) ⊆ Finset.range N := fun n hn => by
    rw [Finset.mem_range] at hn ⊢; omega
  rw [← Finset.sum_subset hs fun n _ hn => if_neg (by rw [Finset.mem_range] at hn; omega)]
  exact Finset.sum_congr rfl fun n hn => if_pos (by rw [Finset.mem_range] at hn; omega)

/-- The running sum: at key `j`, the logarithms from `j` up to the query. -/
theorem cum_at (i : S4x8x4096x4096.Idx) :
    val_main_v25 (F := Ideal) x0 x1 i
      = ((∑ k ∈ Finset.Ico (i 3).val (i 2).val, lg (score x0 x1 (i 0).val (i 1).val (i 2).val k) : ℝ) : EReal) := by
  have h2 : (i 2).val < 4096 := (i 2).isLt
  unfold val_main_v25
  rw [window_sum _ _ (fun k => by rw [val_main_call2_v0_apply, val_main_call2_cst_apply, Ideal.ofBits_def, ofBits_zero]) i
    (fun k => if k < (i 2).val then ((lg (score x0 x1 (i 0).val (i 1).val (i 2).val k) : ℝ) : EReal) else 0)
    (fun k => log_masked_at H (at4 i k)) (fun k hk => if_neg (by omega))]
  exact sum_masked (fun k => lg (score x0 x1 (i 0).val (i 1).val (i 2).val k)) _ _ _ (by omega)

/-- The attention weights. -/
theorem weight_at (i : S4x8x4096x4096.Idx) :
    val_main_v30 (F := Ideal) x0 x1 i
      = ((wt (score x0 x1 (i 0).val (i 1).val (i 2).val) (i 2).val (i 3).val : ℝ) : EReal) := by
  rw [val_main_v30_apply, val_main_call4_v1_apply, causal_at, WordCmp.select_ofBool, val_main_call4_v2_apply,
    val_main_call4_v0_apply, val_main_cst_1_apply, Ideal.ofBits_def, ofBits_zero, val_main_v29_apply, val_main_v28_apply,
    val_main_v26_apply, log_at H, cum_at H, log_masked_at H]
  simp only [decide_eq_true_eq, wt]
  by_cases h : (i 3).val < (i 2).val
  · have h' : (((idx_main_call4_v1 i) 1).val < ((idx_main_call4_v1 i) 0).val) := h
    rw [if_pos h, if_pos h', if_pos h, Ideal.hostUnary_exp_def, Ideal.addf_def, Ideal.subf_def, ← EReal.coe_sub, ← EReal.coe_add,
      Ideal.exp_coe, Finset.sum_eq_sum_Ico_succ_bot h]
    congr 2; ring
  · have h' : ¬ (((idx_main_call4_v1 i) 1).val < ((idx_main_call4_v1 i) 0).val) := h
    rw [if_neg h', if_neg h, EReal.coe_zero]

/-- One element of the reference's result. -/
theorem result_at (i : S16384x512.Idx) :
    val_main_v33 (F := Ideal) x0 x1 i = out x0 x1 ((i 0).val / 4096) ((i 0).val % 4096) (i 1).val := by
  have h0 : (i 0).val < 16384 := (i 0).isLt
  have h1 : (i 1).val < 512 := (i 1).isLt
  rw [val_main_v33_apply, val_main_v32_apply, val_main_v31_apply]
  simp only [v_at, weight_at H]
  have e0 : ((i 0).val * 512 + (i 1).val) / 2097152 = (i 0).val / 4096 := by omega
  have e1 : ((i 0).val * 512 + (i 1).val) / 512 % 4096 = (i 0).val % 4096 := by omega
  have e2 : ((i 0).val * 512 + (i 1).val) / 64 % 8 = (i 1).val / 64 := by omega
  have e3 : ((i 0).val * 512 + (i 1).val) % 64 = (i 1).val % 64 := by omega
  have e4 : (i 1).val / 64 * 64 + (i 1).val % 64 = (i 1).val := by omega
  rw [e0, e1, e2, e3, e4, out]
  generalize hz : score x0 x1 ((i 0).val / 4096) ((i 1).val / 64) ((i 0).val % 4096) = z
  have hs : Finset.range ((i 0).val % 4096) ⊆ Finset.range 4096 := fun n hn => by
    rw [Finset.mem_range] at hn ⊢; omega
  rw [Finset.sum_subset hs fun n _ hn => by
    rw [wt, if_neg (by rw [Finset.mem_range] at hn; exact hn), EReal.coe_zero, mul_zero]]
  exact Fin.sum_univ_eq_sum_range (fun k => at3 x0 2 ((i 0).val / 4096 * 4096 + k) (i 1).val * ((wt z ((i 0).val % 4096) k : ℝ) : EReal)) 4096

end Cert.AttnRefIdeal.Hand
-- ==== Proof.AttnValue.lean ====
/- The attention kernel over the reals: each tile walks the blocks of keys from its own back to the first, once per head;
   what it stores is the reference's value at the tile's place, so the array after the run is the reference's result. -/
module

public import proofs.«01_k».proof.Proof.AttnStep
public import proofs.«01_k».proof.Proof.AttnRef

@[expose] public section

set_option maxRecDepth 16384

noncomputable section

namespace Cert.AttnIdeal.Hand

open Cert.AttnIdeal Cert.AttnIdeal.Gen Idealize.ShloMosaic Idealize.ShloMosaic.TcCoe Idealize.SL.Sem
open Idealize.ShloMosaic.Pipeline (Dat)
open Cert.AttnMath

/-- Where the windows lie: the batch is `t / 64`, the pair of heads `t / 16 % 4`, the tile of queries `t % 16`. -/
theorem place : ∀ t : Fin cfg0.N, win0_0.index t = ![0]
    ∧ win0_1.index t = ![0, t.val / 64 * 16 + t.val % 16, t.val / 16 % 4]
    ∧ win0_2.index t = ![1, t.val / 64, t.val / 16 % 4]
    ∧ win0_3.index t = ![2, t.val / 64, t.val / 16 % 4]
    ∧ win0_4.index t = ![t.val / 64 * 16 + t.val % 16, t.val / 16 % 4] :=
  (by decide +kernel : ∀ t : Fin grid0.N, _)

/-- The grid coordinates of a point: the pair of heads and the tile of queries. -/
theorem coord : ∀ t : Fin cfg0.N, (grid0.coords t 1).val = t.val / 16 % 4 ∧ (grid0.coords t 2).val = t.val % 16 :=
  (by decide +kernel : ∀ t : Fin grid0.N, _)

/-! ### The loops over the earlier blocks of keys -/

/-- The upper bound of a loop as the kernel computes it, and the trips it gives. -/
theorem trips_first : ∀ q : Fin 16, (Scf.trips (0#32) (Scalar.addi 0#32 (Scalar.muli
    (Scalar.divsi (Scalar.subi (BitVec.ofNat 32 q.val) 0#32) 1#32) 1#32)) 1#32) = q.val := by decide +kernel

/-- The second loop of a head, kept for a remainder, never runs. -/
theorem trips_rest : ∀ q : Fin 16, (Scf.trips (Scalar.addi 0#32 (Scalar.muli
    (Scalar.divsi (Scalar.subi (BitVec.ofNat 32 q.val) 0#32) 1#32) 1#32))
    (Scalar.addi 0#32 (Scalar.subi (BitVec.ofNat 32 q.val) 0#32)) 1#32) = 0 := by decide +kernel

/-- The first head's loop runs once for each earlier block. -/
theorem trips1 (i : grid0.Coords) : (k0_t1_loop i).trips = (i 2).val := trips_first (i 2)

/-- The second head's loop does as well. -/
theorem trips3 (i : grid0.Coords) : (k0_t3_loop i).trips = (i 2).val := trips_first (i 2)

/-- The row a trip's block starts at. -/
theorem off_word : ∀ q k : Fin 16, k.val < q.val → (Scalar.muli (Scalar.subi (Scalar.subi (BitVec.ofNat 32 q.val) 1#32)
    (Scf.iv 0#32 1#32 k.val)) 256#32).toNat = (q.val - 1 - k.val) * 256 := by decide +kernel

/-- The first head's trip `k` reads the block before the previous one's. -/
theorem off3 (i : grid0.Coords) (k : Fin (k0_t1_loop i).trips) :
    k0_off3 i k = ![0, ((i 2).val - 1 - k.val) * 256, 0] := by
  have hk : k.val < (i 2).val := lt_of_lt_of_eq k.isLt (trips1 i)
  have hi : (i 2).val < 16 := (i 2).isLt
  exact congrArg (fun n => ![0, n, 0]) (off_word (i 2) ⟨k.val, by omega⟩ hk)

/-- The second head's trip does as well. -/
theorem off5 (i : grid0.Coords) (k : Fin (k0_t3_loop i).trips) :
    k0_off5 i k = ![0, ((i 2).val - 1 - k.val) * 256, 0] := by
  have hk : k.val < (i 2).val := lt_of_lt_of_eq k.isLt (trips3 i)
  have hi : (i 2).val < 16 := (i 2).isLt
  exact congrArg (fun n => ![0, n, 0]) (off_word (i 2) ⟨k.val, by omega⟩ hk)

/-- The tile's own block starts at the tile's first row. -/
theorem off2 (i : grid0.Coords) : k0_off2 i = ![0, (i 2).val * 256, 0] :=
  congrArg (fun n => ![0, n, 0]) ((by decide +kernel : ∀ q : Fin 16, (Scalar.muli (BitVec.ofNat 32 q.val) 256#32).toNat = q.val * 256) (i 2))

/-- The bias read for the first head is that of head `2 p`. -/
theorem off1_0 (i : grid0.Coords) : k0_off1 i 0#32 0 = 2 * (i 1).val + 0 :=
  (by decide +kernel : ∀ p : Fin 4, (Scalar.addi (Scalar.muli 2#32 (BitVec.ofNat 32 p.val)) 0#32).toNat = 2 * p.val + 0) (i 1)

/-- The bias read for the second head is that of head `2 p + 1`. -/
theorem off1_1 (i : grid0.Coords) : k0_off1 i 1#32 0 = 2 * (i 1).val + 1 :=
  (by decide +kernel : ∀ p : Fin 4, (Scalar.addi (Scalar.muli 2#32 (BitVec.ofNat 32 p.val)) 1#32).toNat = 2 * p.val + 1) (i 1)

/-- A block of 256 rows read from the rows `B` on. -/
theorem rows_at (X : Vec Ideal S1x4096x128 .f32) (B : ℕ) (off : Fin 3 → ℕ) (ho : off = ![0, B, 0]) (h)
    (a b p : ℕ) (x : Cert.AttnRefIdeal.S11x16384x512.Idx → EReal)
    (hX : ∀ y : S1x4096x128.Idx, X y = at3 x a (b * 4096 + (y 1).val) (p * 128 + (y 2).val)) (s : Fin 256) (l : Fin 128) :
    (View.ld X (Rect.unit (s := S1x4096x128) off S1x256x128.size h) : Vec Ideal S1x256x128 .f32) (ix3 0 s l) = at3 x a (b * 4096 + (B + s.val)) (p * 128 + l.val) := by
  subst ho
  rw [View.ld_apply, hX, Rect.idx_unit_val, Rect.idx_unit_val]
  have h1 : (![0, B, 0] : Fin 3 → ℕ) 1 + ((ix3 0 s l : S1x256x128.Idx) 1).val = B + s.val := rfl
  have h2 : (![0, B, 0] : Fin 3 → ℕ) 2 + ((ix3 0 s l : S1x256x128.Idx) 2).val = l.val := Nat.zero_add _
  rw [h1, h2]

section
variable (c : Dev nD) (i : grid0.Coords) (arg3 : Memref sig .tc .smem S8 .f32) (harg3 : arg3.IsWhole) (arg4 : Memref sig .tc .vmem S1x256x128 .f32) (harg4 : arg4.IsWhole) (arg5 : Memref sig .tc .vmem S1x4096x128 .f32) (harg5 : arg5.IsWhole) (arg6 : Memref sig .tc .vmem S1x4096x128 .f32) (harg6 : arg6.IsWhole) (arg7 : Memref sig .tc .vmem S256x128 .f32) (harg7 : arg7.IsWhole) (arg2 : BitVec 32)
  (v4 : IVec S256x128 32) (v7 : IVec S256x256 1) (v12 : FVec Ideal S256x256 .bf16) (v13 : FVec Ideal S256x128 .f32) (v39 : IVec S256x128 1) (v42 : FVec Ideal S256x128 .bf16) (v46 : Elt Ideal .f32) (v58 : FVec Ideal S256x128 .bf16) (v59 : FVec Ideal S256x1 .f32) (v60 : FVec Ideal S256x128 .f32) (v74 : FVec Ideal S256x256 .f32) (v76 : FVec Ideal S256x256 .f32) (v83 : FVec Ideal S256x256 .f32)
  (v129 : IVec S256x128 1) (v132 : FVec Ideal S256x128 .bf16) (v136 : Elt Ideal .f32)
  (x5 x6 : Vec Ideal S1x4096x128 .f32) (init acc : FVec Ideal S256x1 .f32 × FVec Ideal S256x128 .f32)

/-- What one trip of the first head's loop yields. -/
theorem trip1 (k : Fin (k0_t1_loop i).trips) :
    tripR_k0_t1 (F := Ideal) Variants.none c none i arg3 harg3 arg4 harg4 arg5 harg5 arg6 harg6 arg7 harg7 arg2 v4 v7 v12 v13 v39 v42 v46 v58 v59 v60 v74 v76 v83
      (harg5.unread x5) (harg6.unread x6) k acc
    = (k0_pay39 acc.1 (k0_pay9 v42 v46 (View.ld x5 (Rect.unit (s := S1x4096x128) (k0_off3 i k) S1x256x128.size (k0_off3_inb i k)))),
        k0_pay8 v12 v39 v42 v46 acc.1 acc.2 (View.ld x5 (Rect.unit (s := S1x4096x128) (k0_off3 i k) S1x256x128.size (k0_off3_inb i k)))
          (View.ld x6 (Rect.unit (s := S1x4096x128) (k0_off3 i k) S1x256x128.size (k0_off3_inb i k)))) := by
  unfold tripR_k0_t1 trip_k0_t1
  frame_out

/-- What one trip of the second head's loop yields. -/
theorem trip3 (k : Fin (k0_t3_loop i).trips) :
    tripR_k0_t3 (F := Ideal) Variants.none c none i arg3 harg3 arg4 harg4 arg5 harg5 arg6 harg6 arg7 harg7 arg2 v12 v129 v132 v136
      (harg5.unread x5) (harg6.unread x6) k acc
    = (k0_pay3 acc.1 (k0_pay17 v132 v136 (View.ld x5 (Rect.unit (s := S1x4096x128) (k0_off5 i k) S1x256x128.size (k0_off5_inb i k)))),
        k0_pay16 v12 v129 v132 v136 acc.1 acc.2 (View.ld x5 (Rect.unit (s := S1x4096x128) (k0_off5 i k) S1x256x128.size (k0_off5_inb i k)))
          (View.ld x6 (Rect.unit (s := S1x4096x128) (k0_off5 i k) S1x256x128.size (k0_off5_inb i k)))) := by
  unfold tripR_k0_t3 trip_k0_t3
  frame_out

variable {x : Cert.AttnRefIdeal.S11x16384x512.Idx → EReal} {y : Cert.AttnRefIdeal.S8.Idx → EReal}

/-- After all its trips the first head's loop has taken every key before each query. -/
theorem loop1 (H : Fin3 x y) (b p q e : ℕ) (he : e < 2) (hq : (i 2).val = q)
    (hmask : ∀ s l, v39 (ix2 s l) = BitVec.ofBool (decide (l.val / 64 = e)))
    (hqm : ∀ r l, v42 (ix2 r l) = if l.val / 64 = e then at3 x 0 (b * 4096 + (q * 256 + r.val)) (p * 128 + l.val) * ((1 / 8 : ℝ) : EReal) else 0)
    (hb : v46 = at1 y (2 * p + e))
    (hk : ∀ z : S1x4096x128.Idx, x5 z = at3 x 1 (b * 4096 + (z 1).val) (p * 128 + (z 2).val))
    (hv : ∀ z : S1x4096x128.Idx, x6 z = at3 x 2 (b * 4096 + (z 1).val) (p * 128 + (z 2).val))
    (hc : Carried x y b p q e (q * 256) init) (n : ℕ) (hn : n ≤ q) :
    Carried x y b p q e ((q - n) * 256) (st_k0_t1 (F := Ideal) Variants.none c none i arg3 harg3 arg4 harg4 arg5 harg5 arg6 harg6 arg7 harg7 arg2 v4 v7 k0_pay24 v13 v39 v42 v46 v58 v59 v60 v74 v76 v83
      (harg5.unread x5) (harg6.unread x6) init n) := by
  induction n with
  | zero => rw [st_k0_t1_zero]; exact hc
  | succ n ih =>
    have hlt : n < (k0_t1_loop i).trips := by rw [trips1 i, hq]; omega
    have hs : q - (n + 1) = q - 1 - n := by omega
    have hB : (q - (n + 1)) * 256 + 256 = (q - n) * 256 := by rw [← Nat.succ_mul]; congr 1; omega
    have ho : k0_off3 i ⟨n, hlt⟩ = ![0, (q - (n + 1)) * 256, 0] := by rw [off3, hq, hs]
    rw [st_k0_t1_succ Variants.none c none i arg3 harg3 arg4 harg4 arg5 harg5 arg6 harg6 arg7 harg7 arg2 v4 v7 k0_pay24 v13 v39 v42 v46 v58 v59 v60 v74 v76 v83
      (harg5.unread x5) (harg6.unread x6) init ⟨n, hlt⟩, trip1]
    refine block_step H b p q e _ he ?_ v39 hmask v42 hqm v46 hb _ _ (rows_at x5 _ _ ho _ _ _ _ _ hk) (rows_at x6 _ _ ho _ _ _ _ _ hv) _ ?_
    · rw [hB]; exact Nat.mul_le_mul_right _ (Nat.sub_le _ _)
    · rw [hB]; exact ih (by omega)

/-- After all its trips the second head's loop has taken every key before each query. -/
theorem loop3 (H : Fin3 x y) (b p q e : ℕ) (he : e < 2) (hq : (i 2).val = q)
    (hmask : ∀ s l, v129 (ix2 s l) = BitVec.ofBool (decide (l.val / 64 = e)))
    (hqm : ∀ r l, v132 (ix2 r l) = if l.val / 64 = e then at3 x 0 (b * 4096 + (q * 256 + r.val)) (p * 128 + l.val) * ((1 / 8 : ℝ) : EReal) else 0)
    (hb : v136 = at1 y (2 * p + e))
    (hk : ∀ z : S1x4096x128.Idx, x5 z = at3 x 1 (b * 4096 + (z 1).val) (p * 128 + (z 2).val))
    (hv : ∀ z : S1x4096x128.Idx, x6 z = at3 x 2 (b * 4096 + (z 1).val) (p * 128 + (z 2).val))
    (hc : Carried x y b p q e (q * 256) init) (n : ℕ) (hn : n ≤ q) :
    Carried x y b p q e ((q - n) * 256) (st_k0_t3 (F := Ideal) Variants.none c none i arg3 harg3 arg4 harg4 arg5 harg5 arg6 harg6 arg7 harg7 arg2 k0_pay24 v129 v132 v136
      (harg5.unread x5) (harg6.unread x6) init n) := by
  induction n with
  | zero => rw [st_k0_t3_zero]; exact hc
  | succ n ih =>
    have hlt : n < (k0_t3_loop i).trips := by rw [trips3 i, hq]; omega
    have hs : q - (n + 1) = q - 1 - n := by omega
    have hB : (q - (n + 1)) * 256 + 256 = (q - n) * 256 := by rw [← Nat.succ_mul]; congr 1; omega
    have ho : k0_off5 i ⟨n, hlt⟩ = ![0, (q - (n + 1)) * 256, 0] := by rw [off5, hq, hs]
    rw [st_k0_t3_succ Variants.none c none i arg3 harg3 arg4 harg4 arg5 harg5 arg6 harg6 arg7 harg7 arg2 k0_pay24 v129 v132 v136
      (harg5.unread x5) (harg6.unread x6) init ⟨n, hlt⟩, trip3]
    refine block_step H b p q e _ he ?_ v129 hmask v132 hqm v136 hb _ _ (rows_at x5 _ _ ho _ _ _ _ _ hk) (rows_at x6 _ _ ho _ _ _ _ _ hv) _ ?_
    · rw [hB]; exact Nat.mul_le_mul_right _ (Nat.sub_le _ _)
    · rw [hB]; exact ih (by omega)

end

/-! ### The blocks read -/

variable (m : (ℓ : Loc nD τ sig) → Buf (Elt Ideal) ℓ)

/-- The queries a tile reads. -/
theorem queries_at (c : Dev nD) (t : Fin cfg0.N) (y : S1x256x128.Idx) : (iblk m c 1 t : Vec Ideal S1x256x128 .f32) y =
   at3 (m ((c : Thread nD τ).loc main_arg0)) 0 ((t.val / 64 * 16 + t.val % 16) * 256 + (y 1).val) (t.val / 16 % 4 * 128 + (y 2).val) := by
  have h0 : (y 0).val < 1 := (y 0).isLt
  blk_simp [iblk, V]
  refine at3_eq _ _ _ _ _ ?_ ?_ ?_
  · blk_simp [place t]
  · blk_simp [place t]
  · blk_simp [place t]

/-- The keys a tile reads: all rows of its batch. -/
theorem keys_at (c : Dev nD) (t : Fin cfg0.N) (y : S1x4096x128.Idx) : (iblk m c 2 t : Vec Ideal S1x4096x128 .f32) y =
   at3 (m ((c : Thread nD τ).loc main_arg0)) 1 (t.val / 64 * 4096 + (y 1).val) (t.val / 16 % 4 * 128 + (y 2).val) := by
  have h0 : (y 0).val < 1 := (y 0).isLt
  blk_simp [iblk, V]
  refine at3_eq _ _ _ _ _ ?_ ?_ ?_
  · blk_simp [place t]
  · blk_simp [place t]
  · blk_simp [place t]

/-- The values a tile reads: all rows of its batch. -/
theorem values_at (c : Dev nD) (t : Fin cfg0.N) (y : S1x4096x128.Idx) : (iblk m c 3 t : Vec Ideal S1x4096x128 .f32) y =
   at3 (m ((c : Thread nD τ).loc main_arg0)) 2 (t.val / 64 * 4096 + (y 1).val) (t.val / 16 % 4 * 128 + (y 2).val) := by
  have h0 : (y 0).val < 1 := (y 0).isLt
  blk_simp [iblk, V]
  refine at3_eq _ _ _ _ _ ?_ ?_ ?_
  · blk_simp [place t]
  · blk_simp [place t]
  · blk_simp [place t]

/-- The bias a tile reads for a head. -/
theorem bias_at (c : Dev nD) (t : Fin cfg0.N) (hd : ℕ) (off : Fin 1 → ℕ) (ho : off 0 = hd) (h) (hp : 0 < S1.numel) :
   (View.ld (iblk m c 0 t : Vec Ideal S8 .f32) (Rect.unit off ![1] h) (Shape.Idx.first hp)) = at1 (m ((c : Thread nD τ).loc main_arg1)) hd := by
  rw [View.ld_apply]
  blk_simp [iblk, V]
  refine at1_eq _ _ _ ?_
  blk_simp [place t]
  rw [Rect.idx_unit_val, ho]
  have h1 : ((Shape.Idx.first hp : S1.Idx) 0).val < 1 := (Shape.Idx.first hp 0).isLt
  omega

/-- The output block adds the two heads' halves. -/
theorem halves_at (A B : FVec Ideal S256x128 .f32) (i : S256x128.Idx) : k0_pay5 (k0_pay41 k0_pay25 A) B i = A i + B i := by
  pointwise [k0_pay5, k0_pay41, k0_pay25]

/-- The queries, scaled by an eighth. -/
theorem scaled_at (c : Dev nD) (t : Fin cfg0.N) (r : Fin 256) (l : Fin 128) : k0_pay22 (iblk m c 1 t) (ix2 r l)
    = at3 (m ((c : Thread nD τ).loc main_arg0)) 0 (t.val / 64 * 4096 + (t.val % 16 * 256 + r.val)) (t.val / 16 % 4 * 128 + l.val) * ((1 / 8 : ℝ) : EReal) := by
  pointwise [k0_pay22]
  rw [queries_at, ofBits_eighth]
  congr 2
  show (t.val / 64 * 16 + t.val % 16) * 256 + r.val = _
  omega

/-- What a tile stores is the reference's value at the tile's queries and lanes. -/
theorem stored (c : Dev nD) (H : Fin3 (m ((c : Thread nD τ).loc main_arg0)) (m ((c : Thread nD τ).loc main_arg1))) (t : Fin cfg0.N) (r : Fin 256) (l : Fin 128) :
    (outsAt0 m c t : FVec Ideal S256x128 .f32) (ix2 r l)
      = out (m ((c : Thread nD τ).loc main_arg0)) (m ((c : Thread nD τ).loc main_arg1)) (t.val / 64) (t.val % 16 * 256 + r.val) (t.val / 16 % 4 * 128 + l.val) := by
  have hp : (grid0.coords t 1).val = t.val / 16 % 4 := (coord t).1
  have hq : (grid0.coords t 2).val = t.val % 16 := (coord t).2
  have hk := keys_at m c t
  have hv := values_at m c t
  have hs := scaled_at m c t
  have ho : k0_off2 (grid0.coords t) = ![0, t.val % 16 * 256, 0] := by rw [off2, hq]
  unfold outsAt0
  frame_out
  rw [halves_at]
  generalize hT2 : Scf.trips (Scalar.addi (0#32) (Scalar.muli (Scalar.divsi (Scalar.subi (BitVec.ofNat 32 (grid0.coords t 2).val) 0#32) 1#32) 1#32))
    (Scalar.addi (0#32) (Scalar.subi (BitVec.ofNat 32 (grid0.coords t 2).val) 0#32)) 1#32 = T2
  generalize hT1 : Scf.trips (0#32) (Scalar.addi (0#32) (Scalar.muli (Scalar.divsi (Scalar.subi (BitVec.ofNat 32 (grid0.coords t 2).val) 0#32) 1#32) 1#32)) 1#32 = T1
  have h2 : T2 = 0 := hT2.symm.trans (trips_rest (grid0.coords t 2))
  have h1 : T1 = t.val % 16 := (hT1.symm.trans (trips_first (grid0.coords t 2))).trans hq
  rw [h2, h1, st_k0_t2_zero, st_k0_t4_zero]
  dsimp only
  have hb0 := fun h hp' => bias_at m c t (2 * (t.val / 16 % 4) + 0) (k0_off1 (grid0.coords t) 0#32) (by rw [off1_0, hp]) h hp'
  have hb1 := fun h hp' => bias_at m c t (2 * (t.val / 16 % 4) + 1) (k0_off1 (grid0.coords t) 1#32) (by rw [off1_1, hp]) h hp'
  have hm0 : ∀ (r : Fin 256) (l : Fin 128), k0_pay28 (k0_pay22 (iblk m c 1 t)) k0_pay26 k0_pay27 (ix2 r l) = if l.val / 64 = 0 then
      at3 (m ((c : Thread nD τ).loc main_arg0)) 0 (t.val / 64 * 4096 + (t.val % 16 * 256 + r.val)) (t.val / 16 % 4 * 128 + l.val) * ((1 / 8 : ℝ) : EReal) else 0 := fun r l => by
    pointwise [k0_pay28, k0_pay27]
    rw [hs r l, lanes0_at, WordCmp.select_ofBool]
    simp only [decide_eq_true_eq]
  have hm1 : ∀ (r : Fin 256) (l : Fin 128), k0_pay45 (k0_pay22 (iblk m c 1 t)) (k0_pay42 (iota Kind.tc S256x128 32 [1] iota_S256x128_d1_w32)) k0_pay43 (ix2 r l) = if l.val / 64 = 1 then
      at3 (m ((c : Thread nD τ).loc main_arg0)) 0 (t.val / 64 * 4096 + (t.val % 16 * 256 + r.val)) (t.val / 16 % 4 * 128 + l.val) * ((1 / 8 : ℝ) : EReal) else 0 := fun r l => by
    pointwise [k0_pay45]
    rw [hs r l, lanes1_at, WordCmp.select_ofBool]
    simp only [decide_eq_true_eq]
  refine (congrArg₂ (fun u v : EReal => u + v)
    ((loop1 c (grid0.coords t) _ _ _ _ _ _ _ _ _ _ _ _ _ _ _ _ _ _ _ _ _ _ _ _ _ _ H (t.val / 64) (t.val / 16 % 4) (t.val % 16) 0 (by omega) hq
      lanes0_at hm0 (hb0 _ _) hk hv
      (own0 H (t.val / 64) (t.val / 16 % 4) (t.val % 16) 0 (by omega) k0_pay26 lanes0_at _ hs _ (hb0 _ _) _ _
        (rows_at _ _ _ ho _ _ _ _ _ hk) (rows_at _ _ _ ho _ _ _ _ _ hv)) (t.val % 16) le_rfl).out r l)
    ((loop3 c (grid0.coords t) _ _ _ _ _ _ _ _ _ _ _ _ _ _ _ _ _ H (t.val / 64) (t.val / 16 % 4) (t.val % 16) 1 (by omega) hq
      lanes1_at hm1 (hb1 _ _) hk hv
      (own1 H (t.val / 64) (t.val / 16 % 4) (t.val % 16) 1 (by omega) _ _ lanes1_at _ hs _ (hb1 _ _) _ _
        (rows_at _ _ _ ho _ _ _ _ _ hk) (rows_at _ _ _ ho _ _ _ _ _ hv)) (t.val % 16) le_rfl).out r l)).trans ?_
  rw [Nat.sub_self, Nat.zero_mul, out, ← Finset.range_eq_Ico]
  have hl := l.isLt
  rcases (by omega : l.val / 64 = 0 ∨ l.val / 64 = 1) with h | h
  · rw [if_pos h, if_neg (by omega), add_zero, show (t.val / 16 % 4 * 128 + l.val) / 64 = 2 * (t.val / 16 % 4) + 0 by omega]
    exact Finset.sum_congr rfl fun j _ => mul_comm _ _
  · rw [if_neg (by omega), if_pos h, zero_add, show (t.val / 16 % 4 * 128 + l.val) / 64 = 2 * (t.val / 16 % 4) + 1 by omega]
    exact Finset.sum_congr rfl fun j _ => mul_comm _ _

/-- The same at an index of the output block. -/
theorem stored_at (c : Dev nD) (H : Fin3 (m ((c : Thread nD τ).loc main_arg0)) (m ((c : Thread nD τ).loc main_arg1))) (t : Fin cfg0.N) (y : S256x128.Idx) :
    (outsAt0 m c t : FVec Ideal S256x128 .f32) y
      = out (m ((c : Thread nD τ).loc main_arg0)) (m ((c : Thread nD τ).loc main_arg1)) (t.val / 64) (t.val % 16 * 256 + (y 0).val) (t.val / 16 % 4 * 128 + (y 1).val) := by
  rw [eq_ix2 y]
  exact stored m c H t (y 0) (y 1)

/-- The reference's result at a place of the array that lies in the tile's block. -/
theorem reference_at (x : Cert.AttnRefIdeal.S11x16384x512.Idx → EReal) (y : Cert.AttnRefIdeal.S8.Idx → EReal) (H : Fin3 x y)
    (i : Cert.AttnRefIdeal.S16384x512.Idx) (t r l : ℕ) (ht : t < 256) (hr : r < 256)
    (h0 : (i 0).val = (t / 64 * 16 + t % 16) * 256 + r) (h1 : (i 1).val = t / 16 % 4 * 128 + l) :
    Cert.AttnRefIdeal.Read.val_main_v33 (F := Ideal) x y i = out x y (t / 64) (t % 16 * 256 + r) (t / 16 % 4 * 128 + l) := by
  rw [Cert.AttnRefIdeal.Hand.result_at H, h0, h1]
  congr 1 <;> omega

/-- The reference's result as one function of the arguments. -/
abbrev spec (c : Dev nD) : FVec Ideal S16384x512 .f32 :=
  Cert.AttnRefIdeal.Read.val_main_v33 (F := Ideal) (m ((c : Thread nD τ).loc main_arg0)) (m ((c : Thread nD τ).loc main_arg1))

/-- The array after the run is the reference's result. -/
theorem array (c : Dev nD) (H : Fin3 (m ((c : Thread nD τ).loc main_arg0)) (m ((c : Thread nD τ).loc main_arg1))) :
    (dats m 0 c).arrAt 4 (cfgs 0).N = spec m c := by
  refine (dats m 0 c).arrAt_eq_of_covers 4 _ (by decide +kernel) fun t _ y => ?_
  have h0 : (y 0).val < 256 := (y 0).isLt
  have ht : t.val < 256 := t.isLt
  have e0 : ((win0_4.blk t).view.emb y 0).val = (t.val / 64 * 16 + t.val % 16) * 256 + (y 0).val := by
    blk_simp [place t]
  have e1 : ((win0_4.blk t).view.emb y 1).val = t.val / 16 % 4 * 128 + (y 1).val := by
    blk_simp [place t]
  blk_simp
  rw [after0_4]
  exact (stored_at m c H t y).trans (reference_at _ _ H _ _ _ _ ht h0 e0 e1).symm

end Cert.AttnIdeal.Hand
-- ==== Proof.ProjValue.lean ====
/- The value of the input projection: every block the kernel writes is the matching block of the
   reference's transposed matrix product, so the whole result array is the reference's. -/
module

public import proofs.«01_k».proof.Proof.Gen.ProjIdeal.Frame
public import proofs.«01_k».proof.Proof.Gen.ProjRefIdeal.Read
public import Idealize.ShloMosaic.Lib.Pipeline.ValueKit

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- The reference's result as one function of the activations and the stacked weights. -/
abbrev spec (x : FVec Ideal S16384x1024 .f32) (w : FVec Ideal S2x1024x5632 .f32) :
    FVec Ideal S11x16384x512 .f32 :=
  transpose Cert.ProjRefIdeal.S11x16384x512 [1, 0, 2] (shapeCast Cert.ProjRefIdeal.S16384x11x512
    (Host.dotGeneral Cert.ProjRefIdeal.dot_S16384x1024_S1024x5632_S16384x5632_1_0_0_1_n_n none x
      (shapeCast Cert.ProjRefIdeal.S1024x5632
        (extractStridedSlice Cert.ProjRefIdeal.S1x1024x5632 ![0, 0, 0] w
          Cert.ProjRefIdeal.Gen.slices_S2x1024x5632_S1x1024x5632_0_0_0)
        Cert.ProjRefIdeal.Gen.shapeCasts_S1x1024x5632_S1024x5632))
    Cert.ProjRefIdeal.Gen.shapeCasts_S16384x5632_S16384x11x512)
    Cert.ProjRefIdeal.Gen.transposes_S16384x11x512_S11x16384x512_1_0_2

/-- Which block each window holds at grid point `t`: the row tile is `t / 11`, the column block `t % 11`. -/
theorem place : ∀ t : Fin cfg0.N, win0_0.index t = ![t.val / 11, 0] ∧ win0_1.index t = ![0, 0, t.val % 11]
    ∧ win0_2.index t = ![t.val % 11, t.val / 11, 0] :=
  (by decide +kernel : ∀ t : Fin grid0.N, _)

/-- The product stored at an index of a block is the reference's value where that index lies in the array. -/
theorem stored (c : Dev nD) (t : Fin cfg0.N) (y : S1x1024x512.Idx) :
    k0_pay1 (iblk m c 0 t) (iblk m c 1 t) y
      = spec (m ((c : Thread nD τ).loc main_arg0)) (m ((c : Thread nD τ).loc main_arg1))
          (((cfg0.win 2).blk t).view.emb y) := by
  pointwise [k0_pay1, spec]
  blk_point [iblk, V, place t]

/-- The array after the run is the reference's result. -/
theorem array (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.ProjIdeal.Hand

end
-- ==== Proof.FfnValue.lean ====
/- The value of the feed-forward network: two column tiles are summed into one accumulator, the sum is
   the reference's whole contraction over the hidden axis, and its layer norm is what the kernel stores. -/
module

public import proofs.«01_k».proof.Proof.Gen.FfnIdeal.Frame
public import proofs.«01_k».proof.Proof.Gen.FfnRefIdeal.Read
public import Idealize.ShloMosaic.Lib.Pipeline.ValueKit

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)
open Cert.FfnRefIdeal.Read

variable (m : (ℓ : Loc nD τ sig) → Buf (Elt Ideal) ℓ)

/-- Which block each window holds at grid point `t`: the row tile is `t / 2`, the tile of the hidden axis `t % 2`. -/
theorem place : ∀ t : Fin cfg0.N, win0_0.index t = ![t.val / 2, 0] ∧ win0_1.index t = ![0, 0, 0, t.val % 2]
    ∧ win0_2.index t = ![0, 0, 0, t.val % 2] ∧ win0_3.index t = ![0, 0, t.val % 2, 0]
    ∧ win0_4.index t = ![0, 0, 0, 0] ∧ win0_5.index t = ![0, 0, 0, 0] ∧ win0_6.index t = ![t.val / 2, 0] :=
  (by decide +kernel : ∀ t : Fin grid0.N, _)

/-- A sum over the hidden axis is the sum over its two tiles. -/
theorem sum_tiles (f : Fin 2816 → EReal) :
    ∑ k, f k = (∑ k : Fin 1408, f ⟨k.val, by omega⟩) + ∑ k : Fin 1408, f ⟨1408 + k.val, by omega⟩ :=
  Fin.sum_univ_add (a := 1408) (b := 1408) f

/-- The reference's contraction over the hidden axis, before the residual and the layer norm. -/
abbrev hidden (c : Dev nD) : FVec Ideal S16384x1024 .f32 :=
  val_main_v12 (F := Ideal) (m ((c : Thread nD τ).loc main_arg0)) (m ((c : Thread nD τ).loc main_arg1))
    (m ((c : Thread nD τ).loc main_arg2)) (m ((c : Thread nD τ).loc main_arg3))

/-- The reference's result as one function of the arguments. -/
abbrev spec (c : Dev nD) : FVec Ideal S16384x1024 .f32 :=
  val_main_v43 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

set_option maxHeartbeats 2000000 in
/-- After both tiles of a row block the accumulator holds the whole contraction. -/
theorem both_tiles (c : Dev nD) (t s : Fin cfg0.N) (ht : t.val % 2 = 1) (hs : s.val = t.val - 1) (y : S512x1024.Idx) :
    k0_pay3 (iblk m c 0 t) (iblk m c 1 t) (iblk m c 2 t) (iblk m c 3 t)
      (k0_pay2 (iblk m c 0 s) (iblk m c 1 s) (iblk m c 2 s) (iblk m c 3 s)) y
      = hidden m c (((cfg0.win 6).blk t).view.emb y) := by
  unfold hidden
  have hs0 : s.val % 2 = 0 := by omega
  have hs2 : s.val / 2 = t.val / 2 := by omega
  pointwise [k0_pay1, k0_pay2, k0_pay3, val_main_cst, val_main_v0, val_main_v1, val_main_v2, val_main_v3, val_main_v4, val_main_v5, val_main_v6, val_main_v7, val_main_v8, val_main_call0_v0, val_main_call0_v1, val_main_call0_cst, val_main_call0_v2, val_main_call0_v3, val_main_call0_cst_0, val_main_call0_v4, val_main_call0_v5, val_main_v9, val_main_v10, val_main_v11, val_main_v12]
  rw [sum_tiles]
  simp only [Ideal.logistic]
  blk_point [iblk, V, place t, place s, hs0, hs2, ht]

set_option maxHeartbeats 2000000 in
/-- What is stored at an index of a block is the reference's value where that index lies in the array. -/
theorem stored (c : Dev nD) (t s : Fin cfg0.N) (ht : t.val % 2 = 1) (hs : s.val = t.val - 1) (y : S512x1024.Idx) :
    k0_pay4 (iblk m c 0 t)
      (k0_pay3 (iblk m c 0 t) (iblk m c 1 t) (iblk m c 2 t) (iblk m c 3 t)
        (k0_pay2 (iblk m c 0 s) (iblk m c 1 s) (iblk m c 2 s) (iblk m c 3 s)))
      (iblk m c 4 t) (iblk m c 5 t) y
      = spec m c (((cfg0.win 6).blk t).view.emb y) := by
  have hA := both_tiles m c t s ht hs y
  have hR : ∀ k : Fin 1024, _ = hidden m c (ix2 (((cfg0.win 6).blk t).view.emb y 0) k) := fun k =>
    (both_tiles m c t s ht hs (ix2 (y 0) k)).trans (by blk_ext [place t])
  generalize k0_pay3 (iblk m c 0 t) (iblk m c 1 t) (iblk m c 2 t) (iblk m c 3 t)
    (k0_pay2 (iblk m c 0 s) (iblk m c 1 s) (iblk m c 2 s) (iblk m c 3 s)) = A at hA hR ⊢
  unfold spec
  unfold hidden at hA hR
  pointwise [k0_pay4, val_main_cst_0, val_main_v13, val_main_v14, val_main_v15, val_main_v16, val_main_v17, val_main_v18, val_main_v19, val_main_cst_1, val_main_v20, val_main_v21, val_main_cst_2, val_main_v22, val_main_v23, val_main_v24, val_main_v25, val_main_v26, val_main_cst_3, val_main_v27, val_main_v28, val_main_cst_4, val_main_v29, val_main_v30, val_main_v31, val_main_v32, val_main_cst_5, val_main_v33, val_main_v34, val_main_v35, val_main_v36, val_main_v37, val_main_v38, val_main_v39, val_main_v40, val_main_v41, val_main_v42, val_main_v43, val_main_cst_0, val_main_v1, val_main_cst, val_main_v0]
  generalize val_main_v12 (F := Ideal) (m ((c : Thread nD τ).loc main_arg0)) (m ((c : Thread nD τ).loc main_arg1))
    (m ((c : Thread nD τ).loc main_arg2)) (m ((c : Thread nD τ).loc main_arg3)) = H at hA hR ⊢
  blk_point [iblk, V, place t]
  · exact hA
  · exact hR _

/-- The first tile of a row block starts the accumulator afresh. -/
theorem first_tile (c : Dev nD) (s : Fin cfg0.N) (h : s.val % 2 = 0) : (outsAt0 m c s.val s.isLt).2
    = k0_pay2 (iblk m c 0 s) (iblk m c 1 s) (iblk m c 2 s) (iblk m c 3 s) := by
  rw [outsAt0_A m c s h (by omega) (by omega)]
  frame_out

/-- The second tile adds to the accumulator and stores the layer norm of the residual sum. -/
theorem second_tile (c : Dev nD) (t : Fin cfg0.N) (h : t.val % 2 = 1) : (outsAt0 m c t.val t.isLt).1
    = k0_pay4 (iblk m c 0 t) (k0_pay3 (iblk m c 0 t) (iblk m c 1 t) (iblk m c 2 t) (iblk m c 3 t)
        (outsAt0 m c (t.val - 1) (Nat.lt_of_le_of_lt (Nat.sub_le _ _) t.isLt)).2)
        (iblk m c 4 t) (iblk m c 5 t) := by
  rw [outsAt0_B m c t (by omega) h h]
  frame_out
  rw [show View.read (Elt Ideal) (View.whole cc0_scratch0) _ = _ from Memref.IsWhole.read_unread (Memref.isWhole_whole _) _]

set_option maxHeartbeats 2000000 in
/-- The array after the run is the reference's result. -/
theorem array (c : Dev nD) : (dats m 0 c).arrAt 6 (cfgs 0).N = spec m c := by
  refine (dats m 0 c).arrAt_eq_of_covers 6 _ (by decide +kernel) fun t hf y => ?_
  have ht : t.val % 2 = 1 := (flush0_6 t).mp hf
  have hs : t.val - 1 < cfg0.N := Nat.lt_of_le_of_lt (Nat.sub_le _ _) t.isLt
  blk_simp
  rw [after0_6, second_tile m c t ht, first_tile m c ⟨t.val - 1, hs⟩ (by dsimp only; omega)]
  exact stored m c t ⟨t.val - 1, hs⟩ ht rfl y

end Cert.FfnIdeal.Hand

end
-- ==== Proof.MergeValue.lean ====
/- The value of the merge: what the kernel stores at each index of a block is the reference's layer
   norm of the two gated branches mixed together, at the matching index of the array. -/
module

public import proofs.«01_k».proof.Proof.Gen.MergeIdeal.Frame
public import proofs.«01_k».proof.Proof.Gen.MergeRefIdeal.Read
public import Idealize.ShloMosaic.Lib.Pipeline.ValueKit

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- Which block each window holds at grid point `t`. -/
theorem place : ∀ t : Fin cfg0.N, win0_0.index t = ![t.val, 0] ∧ win0_1.index t = ![t.val, 0]
    ∧ win0_2.index t = ![t.val, 0] ∧ win0_3.index t = ![7, t.val, 0] ∧ win0_4.index t = ![8, t.val, 0]
    ∧ win0_5.index t = ![9, t.val, 0] ∧ win0_6.index t = ![10, t.val, 0] ∧ win0_7.index t = ![0, 0, 0]
    ∧ win0_8.index t = ![0, 0, 0] ∧ win0_9.index t = ![0, 0, 0] ∧ win0_10.index t = ![0, 0, 0]
    ∧ win0_11.index t = ![0, 1, 0, 0] ∧ win0_12.index t = ![0, 1, 0, 0] ∧ win0_13.index t = ![t.val, 0] :=
  (by decide +kernel : ∀ t : Fin grid0.N, _)

/-- The reference's result as one function of the arguments. -/
abbrev spec (c : Dev nD) : FVec Ideal S16384x1024 .f32 :=
  val_main_v74 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))

set_option maxHeartbeats 2000000 in
/-- What is stored at an index of a block is the reference's value where that index lies in the array. -/
theorem stored (c : Dev nD) (t : Fin cfg0.N) (y : S512x1024.Idx) :
    k0_pay1 (k0_pay3 (iblk m c 1 t) (iblk m c 8 t) (iblk m c 3 t) (iblk m c 4 t) (iblk m c 7 t))
      (k0_pay4 (iblk m c 2 t) (iblk m c 9 t) (iblk m c 5 t) (iblk m c 6 t) (iblk m c 7 t))
      (iblk m c 10 t) (iblk m c 0 t) (iblk m c 11 t) (iblk m c 12 t) y
      = spec m c (((cfg0.win 13).blk t).view.emb y) := by
  unfold spec
  pointwise [k0_pay1, k0_pay2, k0_pay3, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_v17, val_main_v18, val_main_cst_0, val_main_v19, val_main_v20, val_main_v21, val_main_v22, val_main_v23, val_main_v24, val_main_v25, val_main_v26, val_main_v27, val_main_v28, val_main_v29, val_main_v30, val_main_v31, val_main_cst_1, val_main_v32, val_main_v33, val_main_cst_2, val_main_v34, val_main_v35, val_main_v36, val_main_v37, val_main_v38, val_main_v39, val_main_v40, val_main_cst_3, val_main_v41, val_main_v42, val_main_v43, val_main_v44, val_main_v45, val_main_v46, val_main_v47, val_main_v48, val_main_v49, val_main_v50, val_main_cst_4, val_main_v51, val_main_v52, val_main_cst_5, val_main_v53, val_main_v54, val_main_v55, val_main_v56, val_main_v57, val_main_cst_6, val_main_v58, val_main_v59, val_main_cst_7, val_main_v60, val_main_v61, val_main_v62, val_main_v63, val_main_cst_8, val_main_v64, val_main_v65, val_main_v66, val_main_v67, val_main_v68, val_main_v69, val_main_v70, val_main_v71, val_main_v72, val_main_v73, val_main_v74]
  simp only [Ideal.logistic]
  blk_point [iblk, V, place t]

set_option maxHeartbeats 2000000 in
/-- The array after the run is the reference's result. -/
theorem array (c : Dev nD) : (dats m 0 c).arrAt 13 (cfgs 0).N = spec m c := by
  refine (dats m 0 c).arrAt_eq_of_covers 13 _ (by decide +kernel) fun t _ y => ?_
  blk_simp
  rw [after0_13]
  frame_out
  exact stored m c t y

end Cert.MergeIdeal.Hand

end
-- ==== Proof.EmbedValue.lean ====
/- The value of the embedding update: what the kernel stores at each index of a block is the
   reference's layer norm of the gated update at the matching index of the array. -/
module

public import proofs.«01_k».proof.Proof.Gen.EmbedIdeal.Frame
public import proofs.«01_k».proof.Proof.Gen.EmbedRefIdeal.Read
public import Idealize.ShloMosaic.Lib.Pipeline.ValueKit

@[expose] public section

set_option maxRecDepth 16384

noncomputable section

namespace Cert.EmbedIdeal.Hand

open Cert.EmbedIdeal Cert.EmbedIdeal.Gen Idealize.ShloMosaic Idealize.ShloMosaic.TcCoe Idealize.SL.Sem
open Idealize.ShloMosaic.Pipeline (Dat)
open Cert.EmbedRefIdeal.Read

variable (m : (ℓ : Loc nD τ sig) → Buf (Elt Ideal) ℓ)

/-- Which block each window holds at grid point `t`. -/
theorem place : ∀ t : Fin cfg0.N, win0_0.index t = ![t.val, 0] ∧ win0_1.index t = ![1, t.val, 0]
    ∧ win0_2.index t = ![1, 0, 0] ∧ win0_3.index t = ![1, 0, 0] ∧ win0_4.index t = ![1, 0, 0]
    ∧ win0_5.index t = ![1, 3, 0, 0] ∧ win0_6.index t = ![1, 3, 0, 0] ∧ win0_7.index t = ![t.val, 0] :=
  (by decide +kernel : ∀ t : Fin grid0.N, _)

/-- The reference's result as one function of the arguments. -/
abbrev spec (c : Dev nD) : FVec Ideal S16384x1024 .f32 :=
  val_main_v51 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))

set_option maxHeartbeats 2000000 in
/-- What is stored at an index of a block is the reference's value where that index lies in the array. -/
theorem stored (c : Dev nD) (t : Fin cfg0.N) (y : S512x1024.Idx) :
    k0_pay1 (k0_pay2 (iblk m c 5 t)) (k0_pay3 (iblk m c 6 t))
      (k0_pay4 (iblk m c 0 t) (iblk m c 2 t) (iblk m c 4 t) (iblk m c 1 t) (iblk m c 3 t))
      (k0_pay5 (iblk m c 0 t) (iblk m c 2 t) (iblk m c 4 t) (iblk m c 1 t) (iblk m c 3 t)) y
      = spec m c (((cfg0.win 7).blk t).view.emb y) := by
  unfold spec
  pointwise [k0_pay1, k0_pay2, k0_pay3, k0_pay4, k0_pay5, val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_v17, val_main_v18, val_main_v19, val_main_v20, val_main_cst_1, val_main_v21, val_main_v22, val_main_v23, val_main_v24, val_main_v25, val_main_v26, val_main_v27, val_main_cst_2, val_main_v28, val_main_v29, val_main_cst_3, val_main_v30, val_main_v31, val_main_v32, val_main_v33, val_main_v34, val_main_cst_4, val_main_v35, val_main_v36, val_main_cst_5, val_main_v37, val_main_v38, val_main_v39, val_main_v40, val_main_cst_6, val_main_v41, val_main_v42, val_main_v43, val_main_v44, val_main_v45, val_main_v46, val_main_v47, val_main_v48, val_main_v49, val_main_v50, val_main_v51]
  simp only [Ideal.logistic]
  blk_point [iblk, V, place t]

set_option maxHeartbeats 2000000 in
/-- The array after the run is the reference's result. -/
theorem array (c : Dev nD) : (dats m 0 c).arrAt 7 (cfgs 0).N = spec m c := by
  refine (dats m 0 c).arrAt_eq_of_covers 7 _ (by decide +kernel) fun t _ y => ?_
  blk_simp
  rw [after0_7]
  frame_out
  exact stored m c t y

end Cert.EmbedIdeal.Hand

end
-- ==== Proof.ProjSampleValue.lean ====
/- The value of the input projection of the sample batch: every block the kernel writes is the matching block of the
   reference's transposed matrix product, so the whole result array is the reference's. -/
module

public import proofs.«01_k».proof.Proof.Gen.ProjSampleIdeal.Frame
public import proofs.«01_k».proof.Proof.Gen.ProjSampleRefIdeal.Read
public import Idealize.ShloMosaic.Lib.Pipeline.ValueKit

@[expose] public section

set_option maxRecDepth 16384

noncomputable section

namespace Cert.ProjSampleIdeal.Hand

open Cert.ProjSampleIdeal Cert.ProjSampleIdeal.Gen Idealize.ShloMosaic Idealize.ShloMosaic.TcCoe Idealize.SL.Sem
open Idealize.ShloMosaic.Pipeline (Dat)

variable (m : (ℓ : Loc nD τ sig) → Buf (Elt Ideal) ℓ)

/-- The reference's result as one function of the activations and the stacked weights. -/
abbrev spec (x : FVec Ideal S256x1024 .f32) (w : FVec Ideal S2x1024x5632 .f32) :
    FVec Ideal S11x256x512 .f32 :=
  transpose Cert.ProjSampleRefIdeal.S11x256x512 [1, 0, 2] (shapeCast Cert.ProjSampleRefIdeal.S256x11x512
    (Host.dotGeneral Cert.ProjSampleRefIdeal.dot_S256x1024_S1024x5632_S256x5632_1_0_0_1_n_n none x
      (shapeCast Cert.ProjSampleRefIdeal.S1024x5632
        (extractStridedSlice Cert.ProjSampleRefIdeal.S1x1024x5632 ![0, 0, 0] w
          Cert.ProjSampleRefIdeal.Gen.slices_S2x1024x5632_S1x1024x5632_0_0_0)
        Cert.ProjSampleRefIdeal.Gen.shapeCasts_S1x1024x5632_S1024x5632))
    Cert.ProjSampleRefIdeal.Gen.shapeCasts_S256x5632_S256x11x512)
    Cert.ProjSampleRefIdeal.Gen.transposes_S256x11x512_S11x256x512_1_0_2

/-- Which block each window holds at grid point `t`: the row tile is `t / 11`, the column block `t % 11`. -/
theorem place : ∀ t : Fin cfg0.N, win0_0.index t = ![t.val / 11, 0] ∧ win0_1.index t = ![0, 0, t.val % 11]
    ∧ win0_2.index t = ![t.val % 11, t.val / 11, 0] :=
  (by decide +kernel : ∀ t : Fin grid0.N, _)

/-- The product stored at an index of a block is the reference's value where that index lies in the array. -/
theorem stored (c : Dev nD) (t : Fin cfg0.N) (y : S1x256x512.Idx) :
    k0_pay1 (iblk m c 0 t) (iblk m c 1 t) y
      = spec (m ((c : Thread nD τ).loc main_arg0)) (m ((c : Thread nD τ).loc main_arg1))
          (((cfg0.win 2).blk t).view.emb y) := by
  pointwise [k0_pay1, spec]
  blk_point [iblk, V, place t]

/-- The array after the run is the reference's result. -/
theorem array (c : Dev nD) : (dats m 0 c).arrAt 2 (cfgs 0).N
    = spec (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.ProjSampleIdeal.Hand

end
-- ==== Proof.EmbedSampleValue.lean ====
/- The value of the embedding update of the sample batch: what the kernel stores at each index of a block is the
   reference's layer norm of the gated update at the matching index of the array. -/
module

public import proofs.«01_k».proof.Proof.Gen.EmbedSampleIdeal.Frame
public import proofs.«01_k».proof.Proof.Gen.EmbedSampleRefIdeal.Read
public import Idealize.ShloMosaic.Lib.Pipeline.ValueKit

@[expose] public section

set_option maxRecDepth 16384

noncomputable section

namespace Cert.EmbedSampleIdeal.Hand

open Cert.EmbedSampleIdeal Cert.EmbedSampleIdeal.Gen Idealize.ShloMosaic Idealize.ShloMosaic.TcCoe Idealize.SL.Sem
open Idealize.ShloMosaic.Pipeline (Dat)
open Cert.EmbedSampleRefIdeal.Read

variable (m : (ℓ : Loc nD τ sig) → Buf (Elt Ideal) ℓ)

/-- Which block each window holds at grid point `t`. -/
theorem place : ∀ t : Fin cfg0.N, win0_0.index t = ![t.val, 0] ∧ win0_1.index t = ![1, t.val, 0]
    ∧ win0_2.index t = ![1, 0, 0] ∧ win0_3.index t = ![1, 0, 0] ∧ win0_4.index t = ![1, 0, 0]
    ∧ win0_5.index t = ![1, 3, 0, 0] ∧ win0_6.index t = ![1, 3, 0, 0] ∧ win0_7.index t = ![t.val, 0] :=
  (by decide +kernel : ∀ t : Fin grid0.N, _)

/-- The reference's result as one function of the arguments. -/
abbrev spec (c : Dev nD) : FVec Ideal S256x1024 .f32 :=
  val_main_v51 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))

set_option maxHeartbeats 2000000 in
/-- What is stored at an index of a block is the reference's value where that index lies in the array. -/
theorem stored (c : Dev nD) (t : Fin cfg0.N) (y : S256x1024.Idx) :
    k0_pay1 (k0_pay2 (iblk m c 5 t)) (k0_pay3 (iblk m c 6 t))
      (k0_pay4 (iblk m c 0 t) (iblk m c 2 t) (iblk m c 4 t) (iblk m c 1 t) (iblk m c 3 t))
      (k0_pay5 (iblk m c 0 t) (iblk m c 2 t) (iblk m c 4 t) (iblk m c 1 t) (iblk m c 3 t)) y
      = spec m c (((cfg0.win 7).blk t).view.emb y) := by
  unfold spec
  pointwise [k0_pay1, k0_pay2, k0_pay3, k0_pay4, k0_pay5, val_main_v0, val_main_v1, val_main_v2, val_main_v3, val_main_v4, val_main_v5, val_main_v6, val_main_v7, val_main_v8, val_main_v9, val_main_v10, val_main_v11, val_main_v12, val_main_cst, val_main_v13, val_main_v14, val_main_cst_0, val_main_v15, val_main_v16, val_main_v17, val_main_v18, val_main_v19, val_main_v20, val_main_cst_1, val_main_v21, val_main_v22, val_main_v23, val_main_v24, val_main_v25, val_main_v26, val_main_v27, val_main_cst_2, val_main_v28, val_main_v29, val_main_cst_3, val_main_v30, val_main_v31, val_main_v32, val_main_v33, val_main_v34, val_main_cst_4, val_main_v35, val_main_v36, val_main_cst_5, val_main_v37, val_main_v38, val_main_v39, val_main_v40, val_main_cst_6, val_main_v41, val_main_v42, val_main_v43, val_main_v44, val_main_v45, val_main_v46, val_main_v47, val_main_v48, val_main_v49, val_main_v50, val_main_v51]
  simp only [Ideal.logistic]
  blk_point [iblk, V, place t]

set_option maxHeartbeats 2000000 in
/-- The array after the run is the reference's result. -/
theorem array (c : Dev nD) : (dats m 0 c).arrAt 7 (cfgs 0).N = spec m c := by
  refine (dats m 0 c).arrAt_eq_of_covers 7 _ (by decide +kernel) fun t _ y => ?_
  blk_simp
  rw [after0_7]
  frame_out
  exact stored m c t y

end Cert.EmbedSampleIdeal.Hand

end
-- ==== Proof.HgrnIdealLoop.lean ====
/- The loop over a block's eight groups of sixteen rows. -/
module

public import proofs.«01_k».proof.Proof.Gen.HgrnIdeal.Skeleton
public import Idealize.ShloMosaic.Lib.Exec
public import Idealize.ShloMosaic.Lib.Tactic
public import Idealize.ShloMosaic.Lib.Pipeline.Kit

@[expose] public section

set_option maxRecDepth 65536
set_option maxHeartbeats 4000000

noncomputable section

namespace Cert.HgrnIdeal.Hand

open Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (v34 : FVec F S128x512 .f32) (v52 : IVec S128x128 32) (v54 : IVec S128x128 1) (v78 : IVec S128x128 32) (c16_i32_24 : BitVec 32) (v80 : IVec S128x128 32) (v83 : IVec S128x128 32) (v124 : IVec S16x1 32)
  (x6 : BufTy.Contents (Elt F) arg6.view.ty) (x12 : BufTy.Contents (Elt F) arg12.view.ty) (x13 : BufTy.Contents (Elt F) arg13.view.ty) (x14 : BufTy.Contents (Elt F) arg14.view.ty)

/-- The buffers one trip touches: the values, decays, keys and queries it reads, the running state and the outputs it writes. -/
abbrev Held (s : BufTy.Contents (Elt F) arg11.view.ty) (o : BufTy.Contents (Elt F) arg15.view.ty) : sProp 𝕄 :=
  iprop((arg6.view.loc (c : Thread nD τ) ↦[arg6.view.set]{fullShare} x6) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14) ∗ (arg11.view.loc (c : Thread nD τ) ↦[arg11.view.set]{fullShare} s) ∗ (arg15.view.loc (c : Thread nD τ) ↦[arg15.view.set]{fullShare} o))

/-- One trip, run: the pieces of the state and of the outputs it writes depend on the state it finds and on nothing the outputs held. -/
@[irreducible] def trip (k : Fin k0_t1_loop.trips) :
    Σ' (P : BufTy.Contents (Elt F) arg11.view.ty → List (View.Piece (Elt F) S4x128x128 .f32)), { O : BufTy.Contents (Elt F) arg11.view.ty → List (View.Piece (Elt F) S128x512 .f32) //
      ∀ (E : Set ℕ) (s : BufTy.Contents (Elt F) arg11.view.ty) (o : BufTy.Contents (Elt F) arg15.view.ty),
        Held (F := F) c arg6 arg11 arg12 arg13 arg14 arg15 x6 x12 x13 x14 s o
        ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 k PUnit.unit)
          (fun _ => Held (F := F) c arg6 arg11 arg12 arg13 arg14 arg15 x6 x12 x13 x14 (arg11.view.writes (Elt F) s (P s)) (arg15.view.writes (Elt F) o (O s))) } := by
  have hk : k.val < 8 := Nat.lt_of_lt_of_le k.isLt k0_t1_abs.2.1
  refine ⟨?_, ?_, fun E s o => ?run⟩
  case run =>
    unfold k0_t1_body
    iintro ⟨H6, H12, H13, H14, Hs, Ho⟩
    sl_exec
    sl_step
    sl_close

/-- The state before trip `k`, each trip's pieces written over what the trips before it left. -/
def stateAt (s : BufTy.Contents (Elt F) arg11.view.ty) : ℕ → BufTy.Contents (Elt F) arg11.view.ty
  | 0 => s
  | k + 1 => if h : k < k0_t1_loop.trips then
      arg11.view.writes (Elt F) (stateAt s k) ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 ⟨k, h⟩).1 (stateAt s k))
    else stateAt s k

/-- The pieces of the outputs written before trip `k`, the last first. -/
def rowsAt (s : BufTy.Contents (Elt F) arg11.view.ty) : ℕ → List (View.Piece (Elt F) S128x512 .f32)
  | 0 => []
  | k + 1 => if h : k < k0_t1_loop.trips then
      (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 ⟨k, h⟩).2.1 (stateAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s k) ++ rowsAt s k
    else rowsAt s k

theorem stateAt_succ (s : BufTy.Contents (Elt F) arg11.view.ty) (k : Fin k0_t1_loop.trips) :
    stateAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s (k.val + 1)
      = arg11.view.writes (Elt F) (stateAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s k.val)
          ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 k).1 (stateAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s k.val)) := by
  rw [stateAt.eq_2]; exact dif_pos k.isLt

theorem rowsAt_succ (s : BufTy.Contents (Elt F) arg11.view.ty) (k : Fin k0_t1_loop.trips) :
    rowsAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s (k.val + 1)
      = (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 k).2.1 (stateAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s k.val)
          ++ rowsAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s k.val := by
  rw [rowsAt.eq_2]; exact dif_pos k.isLt

/-- Before trip `k`: the four inputs as they were, the state and the outputs after the trips before it. -/
abbrev before (s : BufTy.Contents (Elt F) arg11.view.ty) (o : BufTy.Contents (Elt F) arg15.view.ty) (k : ℕ) (_ : Unit) : sProp 𝕄 :=
  iprop((arg6.view.loc (c : Thread nD τ) ↦[arg6.view.set]{fullShare} x6) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14)
    ∗ (∃ f, (arg11.view.loc (c : Thread nD τ) ↦[arg11.view.set]{fullShare} f) ∗ ⌜f = stateAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s k⌝)
    ∗ (∃ f, (arg15.view.loc (c : Thread nD τ) ↦[arg15.view.set]{fullShare} f) ∗ ⌜f = arg15.view.writes (Elt F) o (rowsAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s k)⌝))

set_option warn.classDefReducibility false in
/-- The loop goes by that invariant. -/
@[sl_loop] def through (E : Set ℕ) (s : BufTy.Contents (Elt F) arg11.view.ty) (o : BufTy.Contents (Elt F) arg15.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124) where
  inv := before (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s o
  step k acc := by
    iintro ⟨H6, H12, H13, H14, ⟨%f, Hs, %hf⟩, ⟨%g, Ho, %hg⟩⟩
    iapply (wp_wand_r Idealize.ShloMosaic.frame (wpE (defs₀ (F := F)) 𝒱 (c : Thread nD τ) bd) E)
    isplitl [H6 H12 H13 H14 Hs Ho]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 k).2.2 E f g)
      isplitl [H6]; · iexact H6
      isplitl [H12]; · iexact H12
      isplitl [H13]; · iexact H13
      isplitl [H14]; · iexact H14
      isplitl [Hs]; · iexact Hs
      iexact Ho
    · iintro %_ ⟨H6, H12, H13, H14, Hs, Ho⟩
      isplitl [H6]; · iexact H6
      isplitl [H12]; · iexact H12
      isplitl [H13]; · iexact H13
      isplitl [H14]; · iexact H14
      rw [stateAt_succ, rowsAt_succ]
      isplitl [Hs]
      · iexists _; isplitl [Hs]; · iexact Hs
        ipureintro; rw [hf]
      iexists _; isplitl [Ho]; · iexact Ho
      ipureintro; rw [hf, hg, ← View.writes_append]

end Cert.HgrnIdeal.Hand

end
-- ==== Proof.HgrnIdealRows.lean ====
/- The eight trips together write every row of the outputs. -/
module

public import proofs.«01_k».proof.Proof.HgrnIdealLoop

@[expose] public section

set_option maxRecDepth 16384

noncomputable section

namespace Cert.HgrnIdeal.Hand

open Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (𝒱 : Variants) (c : Dev nD) (bd : Option 𝒱.V) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (v34 : FVec F S128x512 .f32) (v52 : IVec S128x128 32) (v54 : IVec S128x128 1) (v78 : IVec S128x128 32) (c16_i32_24 : BitVec 32) (v80 : IVec S128x128 32) (v83 : IVec S128x128 32) (v124 : IVec S16x1 32)
  (x6 : BufTy.Contents (Elt F) arg6.view.ty) (x12 : BufTy.Contents (Elt F) arg12.view.ty) (x13 : BufTy.Contents (Elt F) arg13.view.ty) (x14 : BufTy.Contents (Elt F) arg14.view.ty)

theorem trips_eq : k0_t1_loop.trips = 8 := by decide +kernel
theorem off1_at : ∀ k : Fin k0_t1_loop.trips, k0_off1 k = ![16 * k.val, 0] := by decide +kernel
theorem off3_at : ∀ k : Fin k0_t1_loop.trips, k0_off3 k = ![16 * k.val, 128] := by decide +kernel
theorem off5_at : ∀ k : Fin k0_t1_loop.trips, k0_off5 k = ![16 * k.val, 256] := by decide +kernel
theorem off7_at : ∀ k : Fin k0_t1_loop.trips, k0_off7 k = ![16 * k.val, 384] := by decide +kernel

/-- One trip writes four pieces of the outputs, a head each, of the trip's sixteen rows. -/
theorem trip_pieces (k : Fin k0_t1_loop.trips) (s : BufTy.Contents (Elt F) arg11.view.ty) :
    ∃ o0 o1 o2 o3, (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 k).2.1 s
      = [⟨Rect.unit (s := S128x512) (k0_off7 k) S16x128.size (k0_off7_inb k), o3⟩, ⟨Rect.unit (s := S128x512) (k0_off5 k) S16x128.size (k0_off5_inb k), o2⟩,
        ⟨Rect.unit (s := S128x512) (k0_off3 k) S16x128.size (k0_off3_inb k), o1⟩, ⟨Rect.unit (s := S128x512) (k0_off1 k) S16x128.size (k0_off1_inb k), o0⟩] := by
  unfold trip
  exact ⟨_, _, _, _, rfl⟩

/-- A cell is in a head's piece of a trip when its row and its column are. -/
theorem in_piece (y : S128x512.Idx) (k h : ℕ) (off : Fin 2 → ℕ) (ho : off = ![16 * k, 128 * h]) (inb : ∀ a, off a + S16x128.size a ≤ S128x512.size a)
    (hr : (y 0).val / 16 = k) (hc : (y 1).val / 128 = h) : y ∈ (Rect.unit (s := S128x512) off S16x128.size inb).set := by
  subst ho
  rw [Rect.mem_set_unit]
  intro a
  match a with
  | ⟨0, _⟩ => exact ⟨show 16 * k ≤ (y 0).val by omega, show (y 0).val < 16 * k + 16 by omega⟩
  | ⟨1, _⟩ => exact ⟨show 128 * h ≤ (y 1).val by omega, show (y 1).val < 128 * h + 128 by omega⟩

/-- Every cell of the rows done before trip `n` is in some piece. -/
theorem rows_cover (s : BufTy.Contents (Elt F) arg11.view.ty) (y : S128x512.Idx) :
    ∀ n : ℕ, n ≤ k0_t1_loop.trips → (y 0).val / 16 < n → ∃ p ∈ rowsAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s n, y ∈ p.1.set
  | 0, _, h => absurd h (Nat.not_lt_zero _)
  | n + 1, hn, h => by
    rw [rowsAt_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s ⟨n, hn⟩]
    by_cases hy : (y 0).val / 16 < n
    · obtain ⟨p, hp, hm⟩ := rows_cover s y n (by omega) hy
      exact ⟨p, List.mem_append_right _ hp, hm⟩
    · have e : (y 0).val / 16 = n := by omega
      have h1 : (y 1).val < 512 := (y 1).isLt
      obtain ⟨o0, o1, o2, o3, ht⟩ := trip_pieces (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 ⟨n, hn⟩ (stateAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s n)
      have hcol : (y 1).val / 128 = 0 ∨ (y 1).val / 128 = 1 ∨ (y 1).val / 128 = 2 ∨ (y 1).val / 128 = 3 := by omega
      simp only [ht]
      rcases hcol with hc | hc | hc | hc
      · exact ⟨_, List.mem_append_left _ (List.Mem.tail _ (List.Mem.tail _ (List.Mem.tail _ (List.Mem.head _)))), in_piece y n 0 _ (off1_at _) (k0_off1_inb ⟨n, hn⟩) e hc⟩
      · exact ⟨_, List.mem_append_left _ (List.Mem.tail _ (List.Mem.tail _ (List.Mem.head _))), in_piece y n 1 _ (off3_at _) (k0_off3_inb ⟨n, hn⟩) e hc⟩
      · exact ⟨_, List.mem_append_left _ (List.Mem.tail _ (List.Mem.head _)), in_piece y n 2 _ (off5_at _) (k0_off5_inb ⟨n, hn⟩) e hc⟩
      · exact ⟨_, List.mem_append_left _ (List.Mem.head _), in_piece y n 3 _ (off7_at _) (k0_off7_inb ⟨n, hn⟩) e hc⟩

/-- So a reading of the outputs after the last trip does not see what they held before. -/
theorem rows_read (s : BufTy.Contents (Elt F) arg11.view.ty) (f : BufTy.Contents (Elt F) arg15.view.ty) (B : LoadRect S128x512) :
    arg15.view.readAt (Elt F) B (arg15.view.writes (Elt F) f (rowsAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s (Scf.trips k0_t1_loop.lb k0_t1_loop.ub k0_t1_loop.st)))
      = arg15.view.readCov (rowsAt (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s 8) B := by
  have e : Scf.trips k0_t1_loop.lb k0_t1_loop.ub k0_t1_loop.st = 8 := trips_eq
  rw [e]
  refine View.readAt_writes_of_cover _ f _ B fun j => ?_
  refine rows_cover (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 v124 x6 x12 x13 x14 s (B.idx j) 8 (le_of_eq trips_eq.symm) ?_
  have : (B.idx j 0).val < 128 := (B.idx j 0).isLt
  omega

end Cert.HgrnIdeal.Hand

end
-- ==== Proof.HgrnIdealRuns.lean ====
/- One grid point of the recurrence, run: at the first block of a sequence, in the middle, at the last. -/
module

public import proofs.«01_k».proof.Proof.Gen.HgrnIdeal.Frame
public import proofs.«01_k».proof.Proof.HgrnIdealRows

@[expose] public section

set_option maxRecDepth 16384

noncomputable section

namespace Cert.HgrnIdeal.Hand

open Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block is the first of its sequence. -/
abbrev first (i : grid0.Coords) : Prop := (Scalar.cmpi .ne (Scalar.extui (Scalar.cmpi .eq (BitVec.ofNat 32 (i 1).val) 0#32)) 0#32) = 1#1
/-- The block is the last of its sequence. -/
abbrev last (i : grid0.Coords) : Prop := k0_cond2 i = 1#1

set_option maxHeartbeats 8000000 in
/-- The body at the first block of a sequence: the state is set from the launch state before the loop. -/
noncomputable def runA (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : first i) (h2 : ¬last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) :
    Σ' (O : BufTy.Contents (Elt F) arg15.view.ty → List (View.Piece (Elt F) S128x512 .f32)), { S : BufTy.Contents (Elt F) arg11.view.ty //
      ∀ (x10 : Vec F S1x4x128x128 .f32) (f15 : BufTy.Contents (Elt F) arg15.view.ty) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (arg15.view.loc (c : Thread nD τ) ↦[arg15.view.set]{fullShare} f15)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f (O f15)) ∗ owns (c : Thread nD τ) arg10 fullShare x10 ∗ (arg11.view.loc (c : Thread nD τ) ↦[arg11.view.set]{fullShare} S) ∗ (∃ d, owns (c : Thread nD τ) arg12 fullShare d) ∗ (∃ d, owns (c : Thread nD τ) arg13 fullShare d) ∗ (∃ d, owns (c : Thread nD τ) arg14 fullShare d) ∗ (∃ f, (arg15.view.loc (c : Thread nD τ) ↦[arg15.view.set]{fullShare} f))) -∗ K ⟨⟩))
          ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun x10 f15 E K => ?run⟩
  case run =>
    simp only [cc0_hgrn2_eq_skeleton]; unfold cc0_hgrn2_skel
    simp only [k0_part31_eq_skeleton, k0_part32_eq_skeleton, k0_part33_eq_skeleton, k0_part34_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, ⟨%d14, %f14, -, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact hf10
      iexact H10
    isplitl [H11]; · iexact H11
    isplitl [H12]
    · iexists _, _; isplitr; swap; · iexact H12
      ipureintro; exact rfl
    isplitl [H13]
    · iexists _, _; isplitr; swap; · iexact H13
      ipureintro; exact rfl
    isplitl [H14]
    · iexists _, _; isplitr; swap; · iexact H14
      ipureintro; exact rfl
    iexists _; iexact H15

set_option maxHeartbeats 8000000 in
/-- The body at a block in the middle of a sequence: the state is what the block before left. -/
noncomputable def runB (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : ¬first i) (h2 : ¬last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) (xs : Vec F S4x128x128 .f32) :
    Σ' (O : BufTy.Contents (Elt F) arg15.view.ty → List (View.Piece (Elt F) S128x512 .f32)), { S : BufTy.Contents (Elt F) arg11.view.ty //
      ∀ (x10 : Vec F S1x4x128x128 .f32) (f15 : BufTy.Contents (Elt F) arg15.view.ty) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare xs ∗ (∃ d, owns (c : Thread nD τ) arg12 fullShare d) ∗ (∃ d, owns (c : Thread nD τ) arg13 fullShare d) ∗ (∃ d, owns (c : Thread nD τ) arg14 fullShare d) ∗ (arg15.view.loc (c : Thread nD τ) ↦[arg15.view.set]{fullShare} f15)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f (O f15)) ∗ owns (c : Thread nD τ) arg10 fullShare x10 ∗ (arg11.view.loc (c : Thread nD τ) ↦[arg11.view.set]{fullShare} S) ∗ (∃ d, owns (c : Thread nD τ) arg12 fullShare d) ∗ (∃ d, owns (c : Thread nD τ) arg13 fullShare d) ∗ (∃ d, owns (c : Thread nD τ) arg14 fullShare d) ∗ (∃ f, (arg15.view.loc (c : Thread nD τ) ↦[arg15.view.set]{fullShare} f))) -∗ K ⟨⟩))
          ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun x10 f15 E K => ?run⟩
  case run =>
    simp only [cc0_hgrn2_eq_skeleton]; unfold cc0_hgrn2_skel
    simp only [k0_part31_eq_skeleton, k0_part32_eq_skeleton, k0_part33_eq_skeleton, k0_part34_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%d13, %f13, -, H13⟩, ⟨%d14, %f14, -, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact hf10
      iexact H10
    isplitl [H11]; · iexact H11
    isplitl [H12]
    · iexists _, _; isplitr; swap; · iexact H12
      ipureintro; exact rfl
    isplitl [H13]
    · iexists _, _; isplitr; swap; · iexact H13
      ipureintro; exact rfl
    isplitl [H14]
    · iexists _, _; isplitr; swap; · iexact H14
      ipureintro; exact rfl
    iexists _; iexact H15

set_option maxHeartbeats 8000000 in
/-- The body at the last block of a sequence: the state it ends with is also stored into the output of states. -/
noncomputable def runC (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : ¬first i) (h2 : last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) (xs : Vec F S4x128x128 .f32) :
    Σ' (O : BufTy.Contents (Elt F) arg15.view.ty → List (View.Piece (Elt F) S128x512 .f32)), Σ' (Q : List (View.Piece (Elt F) S1x4x128x128 .f32)), { S : BufTy.Contents (Elt F) arg11.view.ty //
      ∀ (f15 : BufTy.Contents (Elt F) arg15.view.ty) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare xs ∗ (∃ d, owns (c : Thread nD τ) arg12 fullShare d) ∗ (∃ d, owns (c : Thread nD τ) arg13 fullShare d) ∗ (∃ d, owns (c : Thread nD τ) arg14 fullShare d) ∗ (arg15.view.loc (c : Thread nD τ) ↦[arg15.view.set]{fullShare} f15)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f (O f15)) ∗ (∃ f, arg10.view.loc (c : Thread nD τ) ↦[arg10.view.set]{fullShare} arg10.view.writes (Elt F) f Q) ∗ (arg11.view.loc (c : Thread nD τ) ↦[arg11.view.set]{fullShare} S) ∗ (∃ d, owns (c : Thread nD τ) arg12 fullShare d) ∗ (∃ d, owns (c : Thread nD τ) arg13 fullShare d) ∗ (∃ d, owns (c : Thread nD τ) arg14 fullShare d) ∗ (∃ f, (arg15.view.loc (c : Thread nD τ) ↦[arg15.view.set]{fullShare} f))) -∗ K ⟨⟩))
          ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun f15 E K => ?run⟩
  case run =>
    simp only [cc0_hgrn2_eq_skeleton]; unfold cc0_hgrn2_skel
    simp only [k0_part31_eq_skeleton, k0_part32_eq_skeleton, k0_part33_eq_skeleton, k0_part34_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%d13, %f13, -, H13⟩, ⟨%d14, %f14, -, H14⟩, H15, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg11.eq_unread hf11
    sl_exec (disch := first | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexact H11
    isplitl [H12]
    · iexists _, _; isplitr; swap; · iexact H12
      ipureintro; exact rfl
    isplitl [H13]
    · iexists _, _; isplitr; swap; · iexact H13
      ipureintro; exact rfl
    isplitl [H14]
    · iexists _, _; isplitr; swap; · iexact H14
      ipureintro; exact rfl
    iexists _; iexact H15

end Cert.HgrnIdeal.Hand

end
-- ==== Proof.HgrnIdealPoint.lean ====
/- What one grid point of the recurrence writes: every cell of its outputs, whatever the scratch rows held before. -/
module

public import proofs.«01_k».proof.Proof.HgrnIdealRuns

@[expose] public section

set_option maxRecDepth 16384

noncomputable section

namespace Cert.HgrnIdeal.Hand

open Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first head's outputs do not depend on what their buffer held before the loop. -/
theorem same132A (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (x8 : Vec F S1x4x128x128 .f32) (f f' : BufTy.Contents (Elt F) arg15.view.ty) :
    runA.sl.v132 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f = runA.sl.v132 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f' := by
  unfold runA.sl.v132
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- The second head's outputs do not depend on what their buffer held before the loop. -/
theorem same148A (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (x8 : Vec F S1x4x128x128 .f32) (f f' : BufTy.Contents (Elt F) arg15.view.ty) :
    runA.sl.v148 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f = runA.sl.v148 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f' := by
  unfold runA.sl.v148
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- The third head's outputs do not depend on what their buffer held before the loop. -/
theorem same164A (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (x8 : Vec F S1x4x128x128 .f32) (f f' : BufTy.Contents (Elt F) arg15.view.ty) :
    runA.sl.v164 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f = runA.sl.v164 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f' := by
  unfold runA.sl.v164
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- The fourth head's outputs do not depend on what their buffer held before the loop. -/
theorem same180A (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (x8 : Vec F S1x4x128x128 .f32) (f f' : BufTy.Contents (Elt F) arg15.view.ty) :
    runA.sl.v180 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f = runA.sl.v180 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f' := by
  unfold runA.sl.v180
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- So neither do the pieces the body writes out. -/
theorem sameA (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : first i) (h2 : ¬last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) (f f' : BufTy.Contents (Elt F) arg15.view.ty) :
    (runA c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8).1 f = (runA c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8).1 f' := by
  unfold runA
  dsimp only
  rw [same132A c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f f', same148A c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f f', same164A c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f f', same180A c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 x8 f f']

/-- The pieces the body writes out cover the block of outputs. -/
theorem coverA (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : first i) (h2 : ¬last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) (f : BufTy.Contents (Elt F) arg15.view.ty) (y : S128x512.Idx) :
    ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8).1 f, y ∈ pc.1.set :=
  View.cover_of_tiledL ((runA c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8).1 f) S128x128.size (by sl_kernel_rfl) y

/-- The first head's outputs do not depend on what their buffer held before the loop. -/
theorem same132B (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (xs : Vec F S4x128x128 .f32) (f f' : BufTy.Contents (Elt F) arg15.view.ty) :
    runB.sl.v132 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f = runB.sl.v132 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f' := by
  unfold runB.sl.v132
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- The second head's outputs do not depend on what their buffer held before the loop. -/
theorem same148B (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (xs : Vec F S4x128x128 .f32) (f f' : BufTy.Contents (Elt F) arg15.view.ty) :
    runB.sl.v148 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f = runB.sl.v148 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f' := by
  unfold runB.sl.v148
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- The third head's outputs do not depend on what their buffer held before the loop. -/
theorem same164B (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (xs : Vec F S4x128x128 .f32) (f f' : BufTy.Contents (Elt F) arg15.view.ty) :
    runB.sl.v164 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f = runB.sl.v164 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f' := by
  unfold runB.sl.v164
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- The fourth head's outputs do not depend on what their buffer held before the loop. -/
theorem same180B (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (xs : Vec F S4x128x128 .f32) (f f' : BufTy.Contents (Elt F) arg15.view.ty) :
    runB.sl.v180 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f = runB.sl.v180 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f' := by
  unfold runB.sl.v180
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- So neither do the pieces the body writes out. -/
theorem sameB (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : ¬first i) (h2 : ¬last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) (xs : Vec F S4x128x128 .f32) (f f' : BufTy.Contents (Elt F) arg15.view.ty) :
    (runB c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f = (runB c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f' := by
  unfold runB
  dsimp only
  rw [same132B c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f f', same148B c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f f', same164B c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f f', same180B c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f f']

/-- The pieces the body writes out cover the block of outputs. -/
theorem coverB (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : ¬first i) (h2 : ¬last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) (xs : Vec F S4x128x128 .f32) (f : BufTy.Contents (Elt F) arg15.view.ty) (y : S128x512.Idx) :
    ∃ pc ∈ (runB c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f, y ∈ pc.1.set :=
  View.cover_of_tiledL ((runB c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f) S128x128.size (by sl_kernel_rfl) y

/-- The first head's outputs do not depend on what their buffer held before the loop. -/
theorem same132C (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (xs : Vec F S4x128x128 .f32) (f f' : BufTy.Contents (Elt F) arg15.view.ty) :
    runC.sl.v132 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f = runC.sl.v132 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f' := by
  unfold runC.sl.v132
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- The second head's outputs do not depend on what their buffer held before the loop. -/
theorem same148C (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (xs : Vec F S4x128x128 .f32) (f f' : BufTy.Contents (Elt F) arg15.view.ty) :
    runC.sl.v148 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f = runC.sl.v148 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f' := by
  unfold runC.sl.v148
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- The third head's outputs do not depend on what their buffer held before the loop. -/
theorem same164C (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (xs : Vec F S4x128x128 .f32) (f f' : BufTy.Contents (Elt F) arg15.view.ty) :
    runC.sl.v164 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f = runC.sl.v164 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f' := by
  unfold runC.sl.v164
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- The fourth head's outputs do not depend on what their buffer held before the loop. -/
theorem same180C (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (x2 : Vec F S1x512 .f32) (x4 x5 x6 : Vec F S1x128x512 .f32) (xs : Vec F S4x128x128 .f32) (f f' : BufTy.Contents (Elt F) arg15.view.ty) :
    runC.sl.v180 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f = runC.sl.v180 c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f' := by
  unfold runC.sl.v180
  exact Eq.trans (rows_read _ _ _ _ _ _ _ _ _ _ _ _ _ _ _ _ _ _ _ _ _ _ _ _ _ _ _ _ _ _ _ _ _ _ _ _ _ _ _ _ _ _ _ _ _ _ _) (rows_read _ _ _ _ _ _ _ _ _ _ _ _ _ _ _ _ _ _ _ _ _ _ _ _ _ _ _ _ _ _ _ _ _ _ _ _ _ _ _ _ _ _ _ _ _ _ _).symm

/-- So neither do the pieces the body writes out. -/
theorem sameC (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : ¬first i) (h2 : last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) (xs : Vec F S4x128x128 .f32) (f f' : BufTy.Contents (Elt F) arg15.view.ty) :
    (runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f = (runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f' := by
  unfold runC
  dsimp only
  rw [same132C c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f f', same148C c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f f', same164C c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f f', same180C c i arg2 harg2 arg3 harg3 arg4 harg4 arg5 harg5 arg6 harg6 arg7 harg7 arg8 harg8 arg9 harg9 arg10 harg10 arg11 harg11 arg12 harg12 arg13 harg13 arg14 harg14 arg15 harg15 x2 x4 x5 x6 xs f f']

/-- The pieces the body writes out cover the block of outputs. -/
theorem coverC (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : ¬first i) (h2 : last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) (xs : Vec F S4x128x128 .f32) (f : BufTy.Contents (Elt F) arg15.view.ty) (y : S128x512.Idx) :
    ∃ pc ∈ (runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f, y ∈ pc.1.set :=
  View.cover_of_tiledL ((runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f) S128x128.size (by sl_kernel_rfl) y

/-- And the piece of the last block covers the block of states. -/
theorem coverState (c : Dev nD) (i : grid0.Coords) (arg2 : Memref sig .tc .vmem S1x512 .f32) (harg2 : arg2.IsWhole) (arg3 : Memref sig .tc .vmem S1x128 .f32) (harg3 : arg3.IsWhole) (arg4 : Memref sig .tc .vmem S1x128x512 .f32) (harg4 : arg4.IsWhole) (arg5 : Memref sig .tc .vmem S1x128x512 .f32) (harg5 : arg5.IsWhole) (arg6 : Memref sig .tc .vmem S1x128x512 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S128x512 .f32) (harg9 : arg9.IsWhole) (arg10 : Memref sig .tc .vmem S1x4x128x128 .f32) (harg10 : arg10.IsWhole) (arg11 : Memref sig .tc .vmem S4x128x128 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .f32) (harg14 : arg14.IsWhole) (arg15 : Memref sig .tc .vmem S128x512 .f32) (harg15 : arg15.IsWhole) (h1 : ¬first i) (h2 : last i) (x2 : Vec F S1x512 .f32) (x3 : Vec F S1x128 .f32) (x4 : Vec F S1x128x512 .f32) (x5 : Vec F S1x128x512 .f32) (x6 : Vec F S1x128x512 .f32) (x7 : Vec F S1x128x512 .f32) (x8 : Vec F S1x4x128x128 .f32) (xs : Vec F S4x128x128 .f32) (y : S1x4x128x128.Idx) :
    ∃ pc ∈ (runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).2.1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).2.1 S1x4x128x128.size (by sl_kernel_rfl) y

end Cert.HgrnIdeal.Hand

end
-- ==== Proof.HgrnIdealFrame.lean ====
/- The whole run of the recurrence over its grid, and that it leaves the arrays it reads as they were. -/
module

public import proofs.«01_k».proof.Proof.HgrnIdealPoint
public import Idealize.ShloMosaic.Lib.Claim

@[expose] public section

set_option maxRecDepth 16384

noncomputable section

namespace Cert.HgrnIdeal.Hand

open Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first block of a sequence is at every thirty-second point. -/
theorem first_at : ∀ t : Fin cfg0.N, first (grid0.coords t) ↔ t.val % 32 = 0 :=
  (by decide +kernel : ∀ t : Fin grid0.N, first (grid0.coords t) ↔ t.val % 32 = 0)
/-- The last block of a sequence is at the point before. -/
theorem last_at : ∀ t : Fin cfg0.N, last (grid0.coords t) ↔ t.val % 32 = 31 :=
  (by decide +kernel : ∀ t : Fin grid0.N, last (grid0.coords t) ↔ t.val % 32 = 31)
/-- Away from the last block of a sequence the states' window is idle, -/
theorem idle8 : ∀ t : Fin cfg0.N, ¬last (grid0.coords t) → cfg0.idle 8 (grid0.coords t) = true := by decide +kernel
/-- and is not written back; -/
theorem keep8 : ∀ t : Fin cfg0.N, ¬last (grid0.coords t) → (cfg0.win 8).flush t = false := by decide +kernel
/-- at the last block it is stored into. -/
theorem live8 : ∀ t : Fin cfg0.N, last (grid0.coords t) → cfg0.idle 8 (grid0.coords t) = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl

/-- Window 0's staging buffer at a point. -/
abbrev ms0_0 (t : Fin cfg0.N) : Memref sig .tc .vmem S1x512 .f32 := win0_0.stage (cfg0.slots t 0)
abbrev hs0_0 (t : Fin cfg0.N) : (ms0_0 t).IsWhole := hstage0_0 ((cfg0.slots t 0).cast nbuf0_0)
/-- Window 1's staging buffer at a point. -/
abbrev ms0_1 (t : Fin cfg0.N) : Memref sig .tc .vmem S1x128 .f32 := win0_1.stage (cfg0.slots t 1)
abbrev hs0_1 (t : Fin cfg0.N) : (ms0_1 t).IsWhole := hstage0_1 ((cfg0.slots t 1).cast nbuf0_1)
/-- Window 2's staging buffer at a point. -/
abbrev ms0_2 (t : Fin cfg0.N) : Memref sig .tc .vmem S1x128x512 .f32 := win0_2.stage (cfg0.slots t 2)
abbrev hs0_2 (t : Fin cfg0.N) : (ms0_2 t).IsWhole := hstage0_2 ((cfg0.slots t 2).cast nbuf0_2)
/-- Window 3's staging buffer at a point. -/
abbrev ms0_3 (t : Fin cfg0.N) : Memref sig .tc .vmem S1x128x512 .f32 := win0_3.stage (cfg0.slots t 3)
abbrev hs0_3 (t : Fin cfg0.N) : (ms0_3 t).IsWhole := hstage0_3 ((cfg0.slots t 3).cast nbuf0_3)
/-- Window 4's staging buffer at a point. -/
abbrev ms0_4 (t : Fin cfg0.N) : Memref sig .tc .vmem S1x128x512 .f32 := win0_4.stage (cfg0.slots t 4)
abbrev hs0_4 (t : Fin cfg0.N) : (ms0_4 t).IsWhole := hstage0_4 ((cfg0.slots t 4).cast nbuf0_4)
/-- Window 5's staging buffer at a point. -/
abbrev ms0_5 (t : Fin cfg0.N) : Memref sig .tc .vmem S1x128x512 .f32 := win0_5.stage (cfg0.slots t 5)
abbrev hs0_5 (t : Fin cfg0.N) : (ms0_5 t).IsWhole := hstage0_5 ((cfg0.slots t 5).cast nbuf0_5)
/-- Window 6's staging buffer at a point. -/
abbrev ms0_6 (t : Fin cfg0.N) : Memref sig .tc .vmem S1x4x128x128 .f32 := win0_6.stage (cfg0.slots t 6)
abbrev hs0_6 (t : Fin cfg0.N) : (ms0_6 t).IsWhole := hstage0_6 ((cfg0.slots t 6).cast nbuf0_6)
/-- Window 7's staging buffer at a point. -/
abbrev ms0_7 (t : Fin cfg0.N) : Memref sig .tc .vmem S128x512 .f32 := win0_7.stage (cfg0.slots t 7)
abbrev hs0_7 (t : Fin cfg0.N) : (ms0_7 t).IsWhole := hstage0_7 ((cfg0.slots t 7).cast nbuf0_7)
/-- Window 8's staging buffer at a point. -/
abbrev ms0_8 (t : Fin cfg0.N) : Memref sig .tc .vmem S1x4x128x128 .f32 := win0_8.stage (cfg0.slots t 8)
abbrev hs0_8 (t : Fin cfg0.N) : (ms0_8 t).IsWhole := hstage0_8 ((cfg0.slots t 8).cast nbuf0_8)
abbrev scM0_0 : Memref sig .tc .vmem S4x128x128 .f32 := Memref.whole cc0_scratch0
abbrev scM0_1 : Memref sig .tc .vmem S128x512 .f32 := Memref.whole cc0_scratch1
abbrev scM0_2 : Memref sig .tc .vmem S128x512 .f32 := Memref.whole cc0_scratch2
abbrev scM0_3 : Memref sig .tc .vmem S128x512 .f32 := Memref.whole cc0_scratch3
abbrev scM0_4 : Memref sig .tc .vmem S128x512 .f32 := Memref.whole cc0_scratch4
/-- One staging buffer of each output, through which its contents are stated. -/
abbrev VO7 : View sig .tc .vmem S128x512 .f32 := (Memref.whole cc0_stg7_0 : Memref sig .tc .vmem S128x512 .f32).view
abbrev VO8 : View sig .tc .vmem S1x4x128x128 .f32 := (Memref.whole cc0_stg8_0 : Memref sig .tc .vmem S1x4x128x128 .f32).view

/-- What the body leaves at a point — the outputs' block, the states' block (of account at the last block of a sequence
    only) and the state carried on — when the state carried in is `xs`. -/
def leaves (c : Dev nD) (t : Fin cfg0.N) (xs : Vec F S4x128x128 .f32) : Vec F S128x512 .f32 × Vec F S1x4x128x128 .f32 × Vec F S4x128x128 .f32 :=
  if h1 : first (grid0.coords t) then
    if h2 : last (grid0.coords t) then (VO7.read (Elt F) VO7.junk, VO8.read (Elt F) VO8.junk, xs)
    else (VO7.read (Elt F) (VO7.writes (Elt F) VO7.junk ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t)).1 scM0_4.view.junk)), VO8.read (Elt F) VO8.junk, scM0_0.view.read (Elt F) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t)).2.1)
  else
    if h2 : last (grid0.coords t) then (VO7.read (Elt F) (VO7.writes (Elt F) VO7.junk ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) xs).1 scM0_4.view.junk)), VO8.read (Elt F) (VO8.writes (Elt F) VO8.junk (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) xs).2.1), scM0_0.view.read (Elt F) (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) xs).2.2.1)
    else (VO7.read (Elt F) (VO7.writes (Elt F) VO7.junk ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) xs).1 scM0_4.view.junk)), VO8.read (Elt F) VO8.junk, scM0_0.view.read (Elt F) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) xs).2.1)

/-- The state carried into point `n`. -/
def carried (c : Dev nD) : ℕ → Vec F S4x128x128 .f32
  | 0 => scM0_0.view.read (Elt F) scM0_0.view.junk
  | n + 1 => if h : n < cfg0.N then (leaves m c ⟨n, h⟩ (carried c n)).2.2 else carried c n

theorem carried_succ (c : Dev nD) (t : Fin cfg0.N) : carried m c (t.val + 1) = (leaves m c t (carried m c t.val)).2.2 :=
  dif_pos t.isLt

/-- What it leaves at the first block of a sequence. -/
theorem leavesA (c : Dev nD) (t : Fin cfg0.N) (h1 : first (grid0.coords t)) (h2 : ¬last (grid0.coords t)) :
    leaves m c t (carried m c t.val) = (VO7.read (Elt F) (VO7.writes (Elt F) VO7.junk ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t)).1 scM0_4.view.junk)), VO8.read (Elt F) VO8.junk, scM0_0.view.read (Elt F) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t)).2.1) :=
  (dif_pos h1).trans (dif_neg h2)
/-- What it leaves at a block in the middle of a sequence. -/
theorem leavesB (c : Dev nD) (t : Fin cfg0.N) (h1 : ¬first (grid0.coords t)) (h2 : ¬last (grid0.coords t)) :
    leaves m c t (carried m c t.val) = (VO7.read (Elt F) (VO7.writes (Elt F) VO7.junk ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) (carried m c t.val)).1 scM0_4.view.junk)), VO8.read (Elt F) VO8.junk, scM0_0.view.read (Elt F) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) (carried m c t.val)).2.1) :=
  (dif_neg h1).trans (dif_neg h2)
/-- What it leaves at the last block of a sequence. -/
theorem leavesC (c : Dev nD) (t : Fin cfg0.N) (h1 : ¬first (grid0.coords t)) (h2 : last (grid0.coords t)) :
    leaves m c t (carried m c t.val) = (VO7.read (Elt F) (VO7.writes (Elt F) VO7.junk ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) (carried m c t.val)).1 scM0_4.view.junk)), VO8.read (Elt F) (VO8.writes (Elt F) VO8.junk (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) (carried m c t.val)).2.1), scM0_0.view.read (Elt F) (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) h1 h2 (iblk m c 0 t) (iblk m c 1 t) (iblk m c 2 t) (iblk m c 3 t) (iblk m c 4 t) (iblk m c 5 t) (iblk m c 6 t) (carried m c t.val)).2.2.1) :=
  (dif_neg h1).trans (dif_pos h2)

/-- Between points the state's buffer holds what the point before left in it; the other scratch buffers hold anything. -/
def Phi (c : Dev nD) : ℕ → sProp 𝕄
  | 0 => iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ f, scM0_4.view.loc (c : Thread nD τ) ↦[scM0_4.view.set]{fullShare} f) ∗ (∃ r, prngReg c r))
  | n + 1 => iprop(owns (c : Thread nD τ) scM0_0 fullShare (carried m c (n + 1)) ∗ (∃ d, owns (c : Thread nD τ) scM0_1 fullShare d) ∗ (∃ d, owns (c : Thread nD τ) scM0_2 fullShare d) ∗ (∃ d, owns (c : Thread nD τ) scM0_3 fullShare d) ∗ (∃ f, scM0_4.view.loc (c : Thread nD τ) ↦[scM0_4.view.set]{fullShare} f) ∗ (∃ r, prngReg c r))

theorem Phi_zero (c : Dev nD) (n : ℕ) (h : n = 0) : Phi m c n = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ f, scM0_4.view.loc (c : Thread nD τ) ↦[scM0_4.view.set]{fullShare} f) ∗ (∃ r, prngReg c r)) := by subst h; rfl
theorem Phi_pos (c : Dev nD) (n : ℕ) (h : n ≠ 0) :
    Phi m c n = iprop(owns (c : Thread nD τ) scM0_0 fullShare (carried m c n) ∗ (∃ d, owns (c : Thread nD τ) scM0_1 fullShare d) ∗ (∃ d, owns (c : Thread nD τ) scM0_2 fullShare d) ∗ (∃ d, owns (c : Thread nD τ) scM0_3 fullShare d) ∗ (∃ f, scM0_4.view.loc (c : Thread nD τ) ↦[scM0_4.view.set]{fullShare} f) ∗ (∃ r, prngReg c r)) := by
  cases n with
  | zero => exact absurd rfl h
  | succ n => rfl

/-- The scratch buffers at launch, one by one. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The proof data: each input's buffer keeps its block, the outputs' hold what `leaves` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (leaves m c t (carried m c t.val)).1
    | ⟨8, _⟩ => (leaves m c t (carried m c t.val)).2.1
  Φ t := Phi m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (leaves m c t (carried m c t.val)).1 := by dsimp only [dats]
theorem after8 (c : Dev nD) (t : Fin cfg0.N) : (dats m 0 c).after 8 t = (leaves m c t (carried m c t.val)).2.1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)))
/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

set_option maxHeartbeats 6400000 in
/-- The body at any point: the first block of a sequence, the last, or one between. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [Phi_pos m c (t.val + 1) (Nat.succ_ne_zero _), carried_succ]
  rw [show (dats m 0 c).leavesExact 0 t = owns (c : Thread nD τ) (ms0_0 t) fullShare ((dats m 0 c).after 0 t) from by
    unfold Dat.leavesExact; rw [live0 t], after0]
  rw [show (dats m 0 c).leavesExact 1 t = owns (c : Thread nD τ) (ms0_1 t) fullShare ((dats m 0 c).after 1 t) from by
    unfold Dat.leavesExact; rw [live1 t], after1]
  rw [show (dats m 0 c).leavesExact 2 t = owns (c : Thread nD τ) (ms0_2 t) fullShare ((dats m 0 c).after 2 t) from by
    unfold Dat.leavesExact; rw [live2 t], after2]
  rw [show (dats m 0 c).leavesExact 3 t = owns (c : Thread nD τ) (ms0_3 t) fullShare ((dats m 0 c).after 3 t) from by
    unfold Dat.leavesExact; rw [live3 t], after3]
  rw [show (dats m 0 c).leavesExact 4 t = owns (c : Thread nD τ) (ms0_4 t) fullShare ((dats m 0 c).after 4 t) from by
    unfold Dat.leavesExact; rw [live4 t], after4]
  rw [show (dats m 0 c).leavesExact 5 t = owns (c : Thread nD τ) (ms0_5 t) fullShare ((dats m 0 c).after 5 t) from by
    unfold Dat.leavesExact; rw [live5 t], after5]
  rw [show (dats m 0 c).leavesExact 6 t = owns (c : Thread nD τ) (ms0_6 t) fullShare ((dats m 0 c).after 6 t) from by
    unfold Dat.leavesExact; rw [live6 t], after6]
  rw [show (dats m 0 c).leavesExact 7 t = owns (c : Thread nD τ) (ms0_7 t) fullShare ((dats m 0 c).after 7 t) from by
    unfold Dat.leavesExact; rw [live7 t], after7]
  have f1 := first_at t
  have f2 := last_at t
  rcases (show first (grid0.coords t) ∧ ¬last (grid0.coords t) ∧ t.val = 0 ∨ first (grid0.coords t) ∧ ¬last (grid0.coords t) ∧ t.val ≠ 0 ∨ ¬first (grid0.coords t) ∧ ¬last (grid0.coords t) ∧ t.val ≠ 0 ∨ ¬first (grid0.coords t) ∧ last (grid0.coords t) ∧ t.val ≠ 0 by rw [f1, f2]; omega) with ⟨h1, h2, h0⟩ | ⟨h1, h2, h0⟩ | ⟨h1, h2, h0⟩ | ⟨h1, h2, h0⟩
  · rw [Phi_zero m c _ h0]
    rw [Dat.leavesExact_idle (dats m 0 c) 8 t (idle8 t h2) (keep8 t h2)]
    rw [leavesA m c t h1 h2]
    dsimp only
    iintro ⟨⟨HS, T1, T2, T3, ⟨%f15, T4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    isplitl [T1]; · iexact T1
    isplitl [T2]; · iexact T2
    isplitl [T3]; · iexact T3
    isplitl [T4]; · iexact T4
    iintro ⟨H0, H1, H2, H3, H4, H5, H6, ⟨%e7, H7⟩, H8, HS, T1, T2, T3, T4⟩
    isplitl [HS T1 T2 T3 T4 Hg]
    · isplitl [HS]
      · unfold owns; iexists _; isplitr
        swap; · iexact HS
        ipureintro; rfl
      isplitl [T1]; · iexact T1
      isplitl [T2]; · iexact T2
      isplitl [T3]; · iexact T3
      isplitl [T4]; · iexact T4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; rw [sameA c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) f15 scM0_4.view.junk]; exact View.read_writes_of_cover _ _ _ _ _ (coverA c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) _)
    iexists _; iexact H8
  · rw [Phi_pos m c _ h0]
    rw [Dat.leavesExact_idle (dats m 0 c) 8 t (idle8 t h2) (keep8 t h2)]
    rw [leavesA m c t h1 h2]
    dsimp only
    iintro ⟨⟨HS, T1, T2, T3, ⟨%f15, T4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexists _; iexact HS
    isplitl [T1]; · iexact T1
    isplitl [T2]; · iexact T2
    isplitl [T3]; · iexact T3
    isplitl [T4]; · iexact T4
    iintro ⟨H0, H1, H2, H3, H4, H5, H6, ⟨%e7, H7⟩, H8, HS, T1, T2, T3, T4⟩
    isplitl [HS T1 T2 T3 T4 Hg]
    · isplitl [HS]
      · unfold owns; iexists _; isplitr
        swap; · iexact HS
        ipureintro; rfl
      isplitl [T1]; · iexact T1
      isplitl [T2]; · iexact T2
      isplitl [T3]; · iexact T3
      isplitl [T4]; · iexact T4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; rw [sameA c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) f15 scM0_4.view.junk]; exact View.read_writes_of_cover _ _ _ _ _ (coverA c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) _)
    iexists _; iexact H8
  · rw [Phi_pos m c _ h0]
    rw [Dat.leavesExact_idle (dats m 0 c) 8 t (idle8 t h2) (keep8 t h2)]
    rw [leavesB m c t h1 h2]
    dsimp only
    iintro ⟨⟨HS, T1, T2, T3, ⟨%f15, T4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) (carried m c t.val)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [HS]; · iexact HS
    isplitl [T1]; · iexact T1
    isplitl [T2]; · iexact T2
    isplitl [T3]; · iexact T3
    isplitl [T4]; · iexact T4
    iintro ⟨H0, H1, H2, H3, H4, H5, H6, ⟨%e7, H7⟩, H8, HS, T1, T2, T3, T4⟩
    isplitl [HS T1 T2 T3 T4 Hg]
    · isplitl [HS]
      · unfold owns; iexists _; isplitr
        swap; · iexact HS
        ipureintro; rfl
      isplitl [T1]; · iexact T1
      isplitl [T2]; · iexact T2
      isplitl [T3]; · iexact T3
      isplitl [T4]; · iexact T4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; rw [sameB c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) (carried m c t.val) f15 scM0_4.view.junk]; exact View.read_writes_of_cover _ _ _ _ _ (coverB c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) (carried m c t.val) _)
    iexists _; iexact H8
  · rw [Phi_pos m c _ h0]
    rw [show (dats m 0 c).leavesExact 8 t = owns (c : Thread nD τ) (ms0_8 t) fullShare ((dats m 0 c).after 8 t) from by
          unfold Dat.leavesExact; rw [live8 t h2], after8]
    rw [leavesC m c t h1 h2]
    dsimp only
    iintro ⟨⟨HS, T1, T2, T3, ⟨%f15, T4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runC c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) (carried m c t.val)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    isplitl [T1]; · iexact T1
    isplitl [T2]; · iexact T2
    isplitl [T3]; · iexact T3
    isplitl [T4]; · iexact T4
    iintro ⟨H0, H1, H2, H3, H4, H5, H6, ⟨%e7, H7⟩, ⟨%e8, H8⟩, HS, T1, T2, T3, T4⟩
    isplitl [HS T1 T2 T3 T4 Hg]
    · isplitl [HS]
      · unfold owns; iexists _; isplitr
        swap; · iexact HS
        ipureintro; rfl
      isplitl [T1]; · iexact T1
      isplitl [T2]; · iexact T2
      isplitl [T3]; · iexact T3
      isplitl [T4]; · iexact T4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; rw [sameC c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) (carried m c t.val) f15 scM0_4.view.junk]; exact View.read_writes_of_cover _ _ _ _ _ (coverC c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) (carried m c t.val) _)
    unfold owns; iexists _; isplitr
    swap; · iexact H8
    ipureintro; exact View.read_writes_of_cover _ _ _ _ _ (coverState c (grid0.coords t) _ _ _ _ _ _ _ _ _ _ _ _ _ _ _ _ _ _ _ _ _ _ _ _ _ _ _ _ h1 h2 (iblk m c 0 t) (iblk m c 1 t) (iblk m c 2 t) (iblk m c 3 t) (iblk m c 4 t) (iblk m c 5 t) (iblk m c 6 t) (carried m c t.val))

theorem defs₀_row (t : Fin cfg0.N) : defs₀ (F := F) .tc cfg0.body (cfg0.bodyArgs t (cfg0.slots t)) = bodyAt0 t := by
  unfold defs₀; rw [Defs.onTc_tc]

/-- So at every point the body does what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what is held before the first point, -/
theorem hin (c : Dev nD) : Pipeline.ΦA spec0 c ⊢ (dats m 0 c).Φ 0 := by
  rw [show (dats m 0 c).Φ 0 = Phi m c 0 from rfl, Phi_zero m c 0 rfl, PhiA0_eq]
  unfold owns
  iintro ⟨⟨H0, H1, H2, H3, ⟨%d, %f, -, H4⟩⟩, Hg⟩
  isplitl [H0]; · iexact H0
  isplitl [H1]; · iexact H1
  isplitl [H2]; · iexact H2
  isplitl [H3]; · iexact H3
  isplitl [H4]; · iexists _; iexact H4
  iexact Hg

/-- and what is held after the last is what it takes back. -/
theorem hout (c : Dev nD) : (dats m 0 c).Φ (Fin.last cfg0.N) ⊢ Pipeline.ΦA spec0 c := by
  rw [show (dats m 0 c).Φ (Fin.last cfg0.N) = Phi m c (Fin.last cfg0.N).val from rfl,
    Phi_pos m c _ (by rw [Fin.val_last]; have : cfg0.N = 128 := N_0; omega), PhiA0_eq]
  iintro ⟨H0, H1, H2, H3, ⟨%f, H4⟩, Hg⟩
  isplitl [H0 H1 H2 H3 H4]
  · isplitl [H0]; · iexists _; iexact H0
    isplitl [H1]; · iexact H1
    isplitl [H2]; · iexact H2
    isplitl [H3]; · iexact H3
    unfold owns
    iexists _, _; isplitr; swap; · iexact H4
    ipureintro; exact rfl
  iexact Hg

/-- The run: it terminates, with every counter at zero and every array at what the proof data says. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arrays the program reads end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The same, with every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.HgrnIdeal.Hand

end
-- ==== Proof.HgrnSampleMath.lean ====
/- The gated recurrence over the extended reals: the logarithm of the forget gate is not positive, and the output and the new state of one sequence of eight tokens as sums over its tokens. Both the reference and the
   kernel are compared with `out` and `next`. -/
module

public import proofs.«01_k».proof.Proof.Gen.HgrnSampleRefIdeal.Read
public import proofs.«01_k».proof.Proof.AttnMath

@[expose] public section

set_option maxRecDepth 16384

noncomputable section

namespace Cert.HgrnSampleMath

open Cert.HgrnSampleRefIdeal Cert.HgrnSampleRefIdeal.Gen Idealize.ShloMosaic
open Cert.AttnMath (lg log1p_exp max_coe max_coe_zero abs_coe softplus_coe coe_sum)

/-- The logarithm of a sum of two exponentials, as both programs compute it. -/
def lae (x y : EReal) : EReal := max x y + Ideal.log1p (Ideal.exp (-(max (x - y) (-(x - y)))))

/-- The logarithm of a sigmoid, as both programs compute it. -/
def lsig (z : EReal) : EReal := -(max (-z) 0 + Ideal.log1p (Ideal.exp (-(max z (-z)))))

/-- The logarithm of the forget gate `lb + (1 - lb) * sigmoid z`. -/
def lgate (l z : EReal) : EReal := lae (Ideal.log l) (Ideal.log1p (-l) + lsig z)

theorem lg_nonpos (z : ℝ) : lg z ≤ 0 := by
  have h1 : 0 ≤ max z 0 := le_max_right _ _
  have h2 : 0 ≤ Real.log (1 + Real.exp (-|z|)) := Real.log_nonneg (by have := Real.exp_pos (-|z|); linarith)
  rw [lg]; linarith

theorem lsig_coe (z : ℝ) : lsig z = ((lg (-z) : ℝ) : EReal) := by
  have h := softplus_coe (-z)
  rw [EReal.coe_neg, neg_neg, max_comm (-(z : EReal)) (z : EReal)] at h
  rw [lsig, h, ← EReal.coe_neg, neg_neg]

/-- The sum of exponentials whose logarithm `lae` is. -/
theorem lae_coe (x y : ℝ) : lae x y = ((Real.log (Real.exp x + Real.exp y) : ℝ) : EReal) := by
  rw [lae, ← EReal.coe_sub, abs_coe, ← EReal.coe_neg, log1p_exp, max_coe, ← EReal.coe_add]
  congr 1
  rcases le_total x y with h | h
  · rw [max_eq_right h, abs_of_nonpos (by linarith)]
    have e : Real.exp x + Real.exp y = Real.exp y * (1 + Real.exp (-(-(x - y)))) := by
      rw [mul_add, mul_one, ← Real.exp_add, add_comm]; congr 2; ring
    rw [e, Real.log_mul (Real.exp_pos y).ne' (by positivity), Real.log_exp]
  · rw [max_eq_left h, abs_of_nonneg (by linarith)]
    have e : Real.exp x + Real.exp y = Real.exp x * (1 + Real.exp (-(x - y))) := by
      rw [mul_add, mul_one, ← Real.exp_add]; congr 2; ring
    rw [e, Real.log_mul (Real.exp_pos x).ne' (by positivity), Real.log_exp]

theorem lae_bot (y : ℝ) : lae ⊥ y = (y : EReal) := by
  have h : (⊥ : EReal) - (y : EReal) = ⊥ := by rw [EReal.bot_sub]
  rw [lae, h, max_eq_right bot_le, EReal.neg_bot, max_eq_right bot_le, EReal.neg_top, Ideal.exp_bot, Ideal.log1p, add_zero,
    ← EReal.coe_one, Ideal.log_coe, if_neg (by norm_num), Real.log_one, EReal.coe_zero, add_zero]

theorem log1p_zero : Ideal.log1p 0 = 0 := by
  rw [Ideal.log1p, add_zero, ← EReal.coe_one, Ideal.log_coe, if_neg (by norm_num), Real.log_one, EReal.coe_zero]

theorem log1p_neg_one : Ideal.log1p (-((1 : ℝ) : EReal)) = ⊥ := by
  rw [Ideal.log1p, ← EReal.coe_neg, ← EReal.coe_one, ← EReal.coe_add, Ideal.log_coe, if_pos (by norm_num)]

theorem log1p_neg (l : ℝ) (h1 : l < 1) : Ideal.log1p (-(l : EReal)) = ((Real.log (1 - l) : ℝ) : EReal) := by
  have e : (1 : EReal) + -(l : EReal) = ((1 - l : ℝ) : EReal) := by
    rw [← EReal.coe_neg, ← EReal.coe_one, ← EReal.coe_add, sub_eq_add_neg]
  rw [Ideal.log1p, e, Ideal.log_coe, if_neg (by linarith)]

/-- A lower bound of one leaves the gate open: its logarithm is zero. -/
theorem lgate_one (z : ℝ) : lgate ((1 : ℝ) : EReal) z = 0 := by
  have e1 : Ideal.log1p (-((1 : ℝ) : EReal)) = ⊥ := by
    rw [Ideal.log1p, ← EReal.coe_neg, ← EReal.coe_one, ← EReal.coe_add, Ideal.log_coe, if_pos (by norm_num)]
  have e2 : (0 : EReal) - ⊥ = ⊤ := by rw [← EReal.coe_zero, EReal.coe_sub_bot]
  rw [lgate, e1, EReal.bot_add, Ideal.log_coe, if_neg (by norm_num), Real.log_one, EReal.coe_zero, lae, e2, max_eq_left bot_le,
    max_eq_left le_top, EReal.neg_top, Ideal.exp_bot, Ideal.log1p, add_zero, ← EReal.coe_one, Ideal.log_coe, if_neg (by norm_num),
    Real.log_one, EReal.coe_zero, add_zero]

/-- With the lower bound in `[0, 1]` the logarithm of the forget gate is a real number and not positive. -/
theorem lgate_real (l z : ℝ) (h0 : 0 ≤ l) (h1 : l ≤ 1) : ∃ r : ℝ, r ≤ 0 ∧ lgate l z = (r : EReal) := by
  rcases h1.eq_or_lt with rfl | h1
  · exact ⟨0, le_rfl, (lgate_one z).trans EReal.coe_zero.symm⟩
  have hs := lg_nonpos (-z)
  have e1 : Ideal.log1p (-(l : EReal)) = ((Real.log (1 - l) : ℝ) : EReal) := by
    have e : (1 : EReal) + -(l : EReal) = ((1 - l : ℝ) : EReal) := by
      rw [← EReal.coe_neg, ← EReal.coe_one, ← EReal.coe_add, sub_eq_add_neg]
    rw [Ideal.log1p, e, Ideal.log_coe, if_neg (by linarith)]
  have hl : Real.log (1 - l) ≤ 0 := Real.log_nonpos (by linarith) (by linarith)
  rw [lgate, e1, lsig_coe, ← EReal.coe_add, Ideal.log_coe]
  rcases h0.eq_or_lt with h | h
  · rw [if_pos (by linarith), lae_bot]
    exact ⟨_, by linarith, rfl⟩
  · rw [if_neg (by linarith), lae_coe]
    refine ⟨_, Real.log_nonpos (by positivity) ?_, rfl⟩
    rw [Real.exp_log h, Real.exp_add, Real.exp_log (by linarith)]
    have : Real.exp (lg (-z)) ≤ 1 := Real.exp_le_one_iff.mpr hs
    nlinarith

/-- With the lower bound in `[0, 1]` the logarithm of the forget gate is not positive, whatever the logit: it is a real
    number, or −∞ for the logit −∞ with lower bound zero. -/
theorem lgate_nonpos (l : ℝ) (z : EReal) (h0 : 0 ≤ l) (h1 : l ≤ 1) : lgate l z ≤ 0 := by
  induction z using EReal.rec with
  | coe z =>
    obtain ⟨r, hr, e⟩ := lgate_real l z h0 h1
    rw [e, ← EReal.coe_zero]
    exact EReal.coe_le_coe_iff.mpr hr
  | bot =>
    have e : lsig ⊥ = ⊥ := by
      rw [lsig, EReal.neg_bot, max_eq_left le_top, max_eq_right bot_le, EReal.neg_top, Ideal.exp_bot, log1p_zero, add_zero, EReal.neg_top]
    rw [lgate, e, EReal.add_bot]
    rcases h0.eq_or_lt with h | h
    · rw [Ideal.log_coe, if_pos (by linarith), lae, max_self, EReal.bot_add]
      exact bot_le
    · have e2 : ((Real.log l : ℝ) : EReal) - ⊥ = ⊤ := EReal.coe_sub_bot _
      rw [Ideal.log_coe, if_neg (by linarith), lae, e2, max_eq_left bot_le, max_eq_left le_top, EReal.neg_top, Ideal.exp_bot,
        log1p_zero, add_zero, ← EReal.coe_zero]
      exact EReal.coe_le_coe_iff.mpr (Real.log_nonpos h.le h1)
  | top =>
    have e : lsig ⊤ = 0 := by
      rw [lsig, EReal.neg_top, max_eq_right bot_le, max_eq_left bot_le, EReal.neg_top, Ideal.exp_bot, log1p_zero, add_zero, neg_zero]
    rw [lgate, e, add_zero]
    rcases h1.eq_or_lt with rfl | h1
    · have := lgate_one 0
      rw [lgate, lsig_coe] at this
      have e1 : Ideal.log1p (-((1 : ℝ) : EReal)) = ⊥ := log1p_neg_one
      rw [e1, EReal.bot_add] at this
      rw [e1, this]
    have e1 := log1p_neg l h1
    rw [e1, Ideal.log_coe]
    rcases h0.eq_or_lt with h | h
    · rw [if_pos (by linarith), lae_bot, ← EReal.coe_zero]
      exact EReal.coe_le_coe_iff.mpr (Real.log_nonpos (by linarith) (by linarith))
    · rw [if_neg (by linarith), lae_coe, Real.exp_log h, Real.exp_log (by linarith), ← EReal.coe_zero]
      exact EReal.coe_le_coe_iff.mpr (Real.log_nonpos (by linarith) (by linarith))

/-- The projections read at natural numbers, zero outside. -/
def at3 (x : S11x256x512.Idx → EReal) (a r c : ℕ) : EReal :=
  if h : a < 11 ∧ r < 256 ∧ c < 512 then
    x (fun i => match i with | ⟨0, _⟩ => ⟨a, h.1⟩ | ⟨1, _⟩ => ⟨r, h.2.1⟩ | ⟨2, _⟩ => ⟨c, h.2.2⟩) else 0

/-- The lower bounds of the forget gate read at a natural number, zero outside. -/
def at1 (x : S512.Idx → EReal) (c : ℕ) : EReal :=
  if h : c < 512 then x (fun i => match i with | ⟨0, _⟩ => ⟨c, h⟩) else 0

/-- The norm's scale read at a natural number, zero outside. -/
def atn (x : S128.Idx → EReal) (c : ℕ) : EReal :=
  if h : c < 128 then x (fun i => match i with | ⟨0, _⟩ => ⟨c, h⟩) else 0

/-- The states read at natural numbers, zero outside. -/
def at4 (x : S32x4x128x128.Idx → EReal) (b h k d : ℕ) : EReal :=
  if hh : b < 32 ∧ h < 4 ∧ k < 128 ∧ d < 128 then
    x (fun i => match i with | ⟨0, _⟩ => ⟨b, hh.1⟩ | ⟨1, _⟩ => ⟨h, hh.2.1⟩ | ⟨2, _⟩ => ⟨k, hh.2.2.1⟩ | ⟨3, _⟩ => ⟨d, hh.2.2.2⟩) else 0

theorem at3_eq (x : S11x256x512.Idx → EReal) (i : S11x256x512.Idx) (a r c : ℕ)
    (h0 : (i 0).val = a) (h1 : (i 1).val = r) (h2 : (i 2).val = c) : x i = at3 x a r c := by
  have ha : a < 11 := h0 ▸ (i 0).isLt
  have hr : r < 256 := h1 ▸ (i 1).isLt
  have hc : c < 512 := h2 ▸ (i 2).isLt
  rw [at3, dif_pos ⟨ha, hr, hc⟩]
  congr 1; funext k
  match k with
  | ⟨0, _⟩ => exact Fin.ext h0
  | ⟨1, _⟩ => exact Fin.ext h1
  | ⟨2, _⟩ => exact Fin.ext h2

theorem at1_eq (x : S512.Idx → EReal) (i : S512.Idx) (c : ℕ) (h0 : (i 0).val = c) : x i = at1 x c := by
  have hc : c < 512 := h0 ▸ (i 0).isLt
  rw [at1, dif_pos hc]
  congr 1; funext k
  match k with
  | ⟨0, _⟩ => exact Fin.ext h0

theorem atn_eq (x : S128.Idx → EReal) (i : S128.Idx) (c : ℕ) (h0 : (i 0).val = c) : x i = atn x c := by
  have hc : c < 128 := h0 ▸ (i 0).isLt
  rw [atn, dif_pos hc]
  congr 1; funext k
  match k with
  | ⟨0, _⟩ => exact Fin.ext h0

theorem at4_eq (x : S32x4x128x128.Idx → EReal) (i : S32x4x128x128.Idx) (b h k d : ℕ)
    (h0 : (i 0).val = b) (h1 : (i 1).val = h) (h2 : (i 2).val = k) (h3 : (i 3).val = d) : x i = at4 x b h k d := by
  have hb : b < 32 := h0 ▸ (i 0).isLt
  have hh : h < 4 := h1 ▸ (i 1).isLt
  have hk : k < 128 := h2 ▸ (i 2).isLt
  have hd : d < 128 := h3 ▸ (i 3).isLt
  rw [at4, dif_pos ⟨hb, hh, hk, hd⟩]
  congr 1; funext k
  match k with
  | ⟨0, _⟩ => exact Fin.ext h0
  | ⟨1, _⟩ => exact Fin.ext h1
  | ⟨2, _⟩ => exact Fin.ext h2
  | ⟨3, _⟩ => exact Fin.ext h3

variable (x : S11x256x512.Idx → EReal) (l : S512.Idx → EReal) (n : S128.Idx → EReal) (s : S32x4x128x128.Idx → EReal)

/-- The lower bounds of the forget gate lie in `[0, 1]`. -/
def Gated : Prop := ∀ c, ∃ v : ℝ, 0 ≤ v ∧ v ≤ 1 ∧ at1 l c = (v : EReal)

/-- The logarithm of the forget gate of row `r`, column `c`. -/
def lf (r c : ℕ) : EReal := lgate (at1 l c) (at3 x 4 r c)

variable {l} in
theorem lf_nonpos (h : Gated l) (r c : ℕ) : lf x l r c ≤ 0 := by
  obtain ⟨v, h0, h1, e⟩ := h c
  rw [lf, e]
  exact lgate_nonpos v _ h0 h1

/-- The decay of sequence `b` up to and including token `t`, at column `c`. -/
def cum (b t c : ℕ) : EReal := ∑ j ∈ Finset.range (t + 1), lf x l (b * 8 + j) c

variable {l} in
/-- The decay only falls along the sequence. -/
theorem cum_anti (h : Gated l) (b c : ℕ) {s t : ℕ} (hst : s ≤ t) : cum x l b t c ≤ cum x l b s c := by
  induction t, hst using Nat.le_induction with
  | base => exact le_rfl
  | succ t _ ih =>
    have e : cum x l b (t + 1) c = cum x l b t c + lf x l (b * 8 + (t + 1)) c := Finset.sum_range_succ _ _
    rw [e]
    exact (add_le_of_nonpos_right (lf_nonpos x h (b * 8 + (t + 1)) c)).trans ih

/-- A number that is not positive, in three parts: the number, the remainder of taking it off itself, and the remainder of
    that remainder. The remainders are zero, or −∞ like the number. -/
theorem three_parts (v : EReal) (h : v ≤ 0) : v + (v - v) + (v - v - (v - v)) = v := by
  induction v using EReal.rec with
  | bot => rw [EReal.bot_sub, EReal.bot_sub, EReal.bot_add, EReal.bot_add]
  | coe v => rw [← EReal.coe_sub, sub_self, EReal.coe_zero, sub_zero, add_zero, add_zero]
  | top => exact absurd h (by rw [← EReal.coe_zero]; exact not_le_of_gt (EReal.coe_lt_top 0))

variable {l} in
/-- The exponent of the decay from one token to a later one is not positive. -/
theorem fall_nonpos (h : Gated l) (b c : ℕ) {s t : ℕ} (hst : s ≤ t) : cum x l b t c - cum x l b s c ≤ 0 := by
  have ha := cum_anti x h b c hst
  have hs : cum x l b s c ≤ 0 := Finset.sum_nonpos fun j _ => lf_nonpos x h _ _
  revert ha hs
  generalize cum x l b t c = u
  generalize cum x l b s c = v
  intro ha hs
  induction v using EReal.rec with
  | bot => rw [le_bot_iff.mp ha, EReal.bot_sub]; exact bot_le
  | coe v => exact (EReal.sub_le_sub ha le_rfl).trans (by rw [← EReal.coe_sub, sub_self, EReal.coe_zero])
  | top => exact absurd hs (by rw [← EReal.coe_zero]; exact not_le_of_gt (EReal.coe_lt_top 0))

/-- The query with its gate. -/
def qry (r c : ℕ) : EReal := at3 x 3 r c * Ideal.logistic (at3 x 3 r c)

/-- The key: one minus the forget gate. -/
def key (r c : ℕ) : EReal := (1 - at1 l c) * Ideal.logistic (-(at3 x 4 r c))

/-- The weight that token `t` gives token `j` of the same sequence, head `h`. -/
def att (b h t j : ℕ) : EReal :=
  if j ≤ t then ∑ k : Fin 128, qry x (b * 8 + t) (h * 128 + k.val) * key x l (b * 8 + j) (h * 128 + k.val)
      * Ideal.exp (cum x l b t (h * 128 + k.val) - cum x l b j (h * 128 + k.val))
  else 0

/-- The output of token `t` of sequence `b`, head `h`, before the norm: the old state read by the query, and the
    values of the tokens so far. -/
def mix (b h t d : ℕ) : EReal :=
  (∑ k : Fin 128, qry x (b * 8 + t) (h * 128 + k.val) * Ideal.exp (cum x l b t (h * 128 + k.val)) * at4 s b h k.val d)
    + ∑ j : Fin 8, att x l b h t j.val * at3 x 5 (b * 8 + j.val) (h * 128 + d)

/-- The state after the eight tokens of sequence `b`, head `h`. -/
def next (b h k d : ℕ) : EReal :=
  Ideal.exp (cum x l b 7 (h * 128 + k)) * at4 s b h k d
    + ∑ j : Fin 8, key x l (b * 8 + j.val) (h * 128 + k)
        * Ideal.exp (cum x l b 7 (h * 128 + k) - cum x l b j.val (h * 128 + k)) * at3 x 5 (b * 8 + j.val) (h * 128 + d)

/-- The result of token `t` of sequence `b` at head `h`, column `d`: the norm over the head's columns, scaled and gated. -/
def out (b h t d : ℕ) : EReal :=
  mix x l s b h t d * Ideal.rsqrt (Ideal.div (∑ k : Fin 128, mix x l s b h t k.val * mix x l s b h t k.val) (Ideal.ofBits .f32 0x43000000#32)
      + Ideal.ofBits .f32 0x358637BD#32) * atn n d
    * (at3 x 6 (b * 8 + t) (h * 128 + d) * Ideal.logistic (at3 x 6 (b * 8 + t) (h * 128 + d)))

end Cert.HgrnSampleMath

end
-- ==== Proof.HgrnSampleHead.lean ====
/- One head of the recurrence as the kernel computes it: the four heads run the same operations on their own columns,
   and what they compute is one function of the head's decays, queries, keys, values and state. -/
module

public import proofs.«01_k».proof.Proof.Gen.HgrnSampleIdeal.Frame
public import proofs.«01_k».proof.Proof.HgrnSampleMath
public import Idealize.ShloMosaic.Lib.Pipeline.ValueKit

@[expose] public section

set_option maxRecDepth 16384

noncomputable section

namespace Cert.HgrnSampleIdeal.Hand

open Cert.HgrnSampleIdeal Cert.HgrnSampleIdeal.Gen Idealize.ShloMosaic Idealize.ShloMosaic.TcCoe Idealize.SL.Sem
open Cert.HgrnSampleMath

section Heads

variable (B Q K : Vec Ideal S8x128 .f32) (V : Vec Ideal S1x8x128 .f32) (S : Vec Ideal S1x128x128 .f32)

/-- The head's output before the norm. -/
def headO : FVec Ideal S8x128 .f32 :=
  k0_pay30 (iota Kind.tc S8x1 32 [0] iota_S8x1_d0_w32) B Q K (k0_pay16 V) (k0_pay26 (iota Kind.tc S8x1 32 [0] iota_S8x1_d0_w32) B Q K (k0_pay16 V) (k0_pay23 (iota Kind.tc S8x1 32 [0] iota_S8x1_d0_w32) B Q K (k0_pay16 V) (k0_pay19 (iota Kind.tc S8x1 32 [0] iota_S8x1_d0_w32) B Q K V S) (k0_pay20 V) (k0_pay21 B) (k0_pay22 Q K)) (k0_pay24 (k0_pay16 V)) (k0_pay25 (iota Kind.tc S8x1 32 [0] iota_S8x1_d0_w32) B Q K)) (k0_pay27 K) (k0_pay28 (k0_pay16 V)) (k0_pay29 B) (FloatOps.ofBits FTy.f32 0#32)

/-- The head's state after the eight tokens. -/
def headS : FVec Ideal S1x128x128 .f32 :=
  k0_pay34 (k0_pay31 (k0_pay17 B) (k0_pay18 S)) (k0_pay32 (k0_pay16 V)) (k0_pay33 B K (k0_pay17 B)) (constant S128x128 FTy.f32 0#32)

/-- The output of the first head. -/
theorem head0_o :
    k0_pay30 (iota Kind.tc S8x1 32 [0] iota_S8x1_d0_w32) B Q K (k0_pay16 V) (k0_pay26 (iota Kind.tc S8x1 32 [0] iota_S8x1_d0_w32) B Q K (k0_pay16 V) (k0_pay23 (iota Kind.tc S8x1 32 [0] iota_S8x1_d0_w32) B Q K (k0_pay16 V) (k0_pay19 (iota Kind.tc S8x1 32 [0] iota_S8x1_d0_w32) B Q K V S) (k0_pay20 V) (k0_pay21 B) (k0_pay22 Q K)) (k0_pay24 (k0_pay16 V)) (k0_pay25 (iota Kind.tc S8x1 32 [0] iota_S8x1_d0_w32) B Q K)) (k0_pay27 K) (k0_pay28 (k0_pay16 V)) (k0_pay29 B) (FloatOps.ofBits FTy.f32 0#32)
      = headO B Q K V S := rfl

/-- The new state of the first head. -/
theorem head0_s :
    k0_pay34 (k0_pay31 (k0_pay17 B) (k0_pay18 S)) (k0_pay32 (k0_pay16 V)) (k0_pay33 B K (k0_pay17 B)) (constant S128x128 FTy.f32 0#32)
      = headS B K V S := rfl

/-- The output of the second head. -/
theorem head1_o :
    k0_pay48 (iota Kind.tc S8x1 32 [0] iota_S8x1_d0_w32) B Q K (k0_pay35 V) (k0_pay43 (iota Kind.tc S8x1 32 [0] iota_S8x1_d0_w32) B Q K (k0_pay35 V) (k0_pay39 (iota Kind.tc S8x1 32 [0] iota_S8x1_d0_w32) B Q K (k0_pay35 V) (k0_pay38 (iota Kind.tc S8x1 32 [0] iota_S8x1_d0_w32) B Q K V S)) (k0_pay40 (k0_pay35 V)) (k0_pay41 B) (k0_pay42 K)) (k0_pay44 (k0_pay35 V)) (k0_pay45 B Q K) (k0_pay46 (iota Kind.tc S8x1 32 [0] iota_S8x1_d0_w32)) k0_pay47
      = headO B Q K V S := rfl

/-- The new state of the second head. -/
theorem head1_s :
    k0_pay49 B K (k0_pay35 V) (k0_pay36 B) (k0_pay37 S)
      = headS B K V S := rfl

/-- The output of the third head. -/
theorem head2_o :
    k0_pay66 (k0_pay62 (iota Kind.tc S8x1 32 [0] iota_S8x1_d0_w32) B Q K (k0_pay50 V) (k0_pay58 (iota Kind.tc S8x1 32 [0] iota_S8x1_d0_w32) B Q K (k0_pay50 V) (k0_pay56 (iota Kind.tc S8x1 32 [0] iota_S8x1_d0_w32) B Q K (k0_pay50 V) (k0_pay53 B Q S) (k0_pay54 V) (k0_pay55 B Q K)) (k0_pay57 (iota Kind.tc S8x1 32 [0] iota_S8x1_d0_w32) B Q K (k0_pay50 V))) (k0_pay59 K) (k0_pay60 (k0_pay50 V)) (k0_pay61 B)) (k0_pay63 (k0_pay50 V)) (k0_pay64 B Q K) (k0_pay65 (iota Kind.tc S8x1 32 [0] iota_S8x1_d0_w32)) (FloatOps.ofBits FTy.f32 0#32)
      = headO B Q K V S := rfl

/-- The new state of the third head. -/
theorem head2_s :
    k0_pay67 B K (k0_pay50 V) (k0_pay51 B) (k0_pay52 S)
      = headS B K V S := rfl

/-- The output of the fourth head. -/
theorem head3_o :
    k0_pay85 (iota Kind.tc S8x1 32 [0] iota_S8x1_d0_w32) Q (k0_pay81 (iota Kind.tc S8x1 32 [0] iota_S8x1_d0_w32) B Q K (k0_pay68 V) (k0_pay78 (iota Kind.tc S8x1 32 [0] iota_S8x1_d0_w32) B Q K (k0_pay68 V) (k0_pay75 (iota Kind.tc S8x1 32 [0] iota_S8x1_d0_w32) B Q K (k0_pay68 V) (k0_pay71 B Q S) (k0_pay72 B) (k0_pay73 K) (k0_pay74 V)) (k0_pay76 (k0_pay68 V)) (k0_pay77 B Q K)) (k0_pay79 (iota Kind.tc S8x1 32 [0] iota_S8x1_d0_w32) B Q K) (k0_pay80 (k0_pay68 V))) (k0_pay82 K) (k0_pay83 (k0_pay68 V)) (k0_pay84 B)
      = headO B Q K V S := rfl

/-- The new state of the fourth head. -/
theorem head3_s :
    k0_pay86 B K (k0_pay68 V) (k0_pay69 B) (k0_pay70 S)
      = headS B K V S := rfl

/-- Row numbers compare as words as they do as numbers. -/
theorem sge_word (r t : Fin 8) : IntOp.cmpi .sge (BitVec.ofNat 32 r.val) (BitVec.ofNat 32 t.val) = BitVec.ofBool (decide (t.val ≤ r.val)) := by
  revert r t; decide

variable {B Q K V S}
variable {x : Cert.HgrnSampleRefIdeal.S11x256x512.Idx → EReal} {l : Cert.HgrnSampleRefIdeal.S512.Idx → EReal}
  {s : Cert.HgrnSampleRefIdeal.S32x4x128x128.Idx → EReal} (H : Gated l) (b h : ℕ)
  (hB : ∀ (r : Fin 8) (k : Fin 128), B (ix2 r k) = cum x l b r.val (h * 128 + k.val))
  (hQ : ∀ (r : Fin 8) (k : Fin 128), Q (ix2 r k) = qry x (b * 8 + r.val) (h * 128 + k.val))
  (hK : ∀ (r : Fin 8) (k : Fin 128), K (ix2 r k) = key x l (b * 8 + r.val) (h * 128 + k.val))
  (hV : ∀ (r : Fin 8) (d : Fin 128), V (ix3 0 r d) = at3 x 5 (b * 8 + r.val) (h * 128 + d.val))
  (hS : ∀ (d k : Fin 128), S (ix3 0 d k) = at4 s b h k.val d.val)

include H hB hQ hK hV in
/-- What token `t` adds to the output of token `r`: nothing when it comes later. -/
theorem term_at (r t : Fin 8) (d : Fin 128) :
    Scalar.select (IntOp.cmpi CmpIPredicate.sge (BitVec.ofNat 32 r.val) (BitVec.ofNat 32 t.val))
      ((∑ k : Fin 128, Q (ix2 r k) * K (ix2 t k) * Ideal.exp (min (B (ix2 r k) - B (ix2 t k)) 0)) * V (ix3 0 t d)) 0
      = att x l b h r.val t.val * at3 x 5 (b * 8 + t.val) (h * 128 + d.val) := by
  rw [sge_word, WordCmp.select_ofBool, hV, att]
  simp only [decide_eq_true_eq]
  by_cases hrt : t.val ≤ r.val
  · rw [if_pos hrt, if_pos hrt]
    refine congrArg (fun w : EReal => w * _) (Finset.sum_congr rfl fun k _ => ?_)
    rw [hQ, hK, hB, hB, min_eq_left (fall_nonpos x H b (h * 128 + k.val) hrt)]
  · rw [if_neg hrt, if_neg hrt, zero_mul]

include hB hK hV hS in
/-- One element of the head's new state. -/
theorem headS_at (y : S1x128x128.Idx) : headS B K V S y = next x l s b h (y 2).val (y 1).val := by
  pointwise [headS, k0_pay16, k0_pay17, k0_pay18, k0_pay31, k0_pay32, k0_pay33, k0_pay34]
  have e : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  rw [next, e]
  refine congrArg₂ _ ?_ (Finset.sum_congr rfl fun j _ => ?_)
  · refine (congrArg₂ _ (hS (y 1) (y 2)) (congrArg Ideal.exp (hB 7 (y 2)))).trans ?_
    exact mul_comm _ _
  · refine (congrArg₂ _ (hV j (y 1)) (congrArg₂ _ (hK j (y 2)) (congrArg Ideal.exp (congrArg₂ _ (hB 7 (y 2)) (hB j (y 2)))))).trans ?_
    refine (mul_comm _ _).trans ?_
    rfl

include H hB hQ hK hV hS in
/-- One element of the head's output before the norm. -/
theorem headO_at (y : S8x128.Idx) : headO B Q K V S y = mix x l s b h (y 0).val (y 1).val := by
  pointwise [headO, k0_pay16, k0_pay19, k0_pay20, k0_pay21, k0_pay22, k0_pay23, k0_pay24, k0_pay25, k0_pay26, k0_pay27, k0_pay28, k0_pay29, k0_pay30, k0_pay18]
  rw [mix, Fin.sum_univ_eight]
  simp only [← add_assoc]
  have T := fun t : Fin 8 => term_at H b h hB hQ hK hV (y 0) t (y 1)
  refine congrArg₂ _ (congrArg₂ _ (congrArg₂ _ (congrArg₂ _ (congrArg₂ _ (congrArg₂ _ (congrArg₂ _ (congrArg₂ _ ?_ (T 0)) (T 1))
    (T 2)) (T 3)) (T 4)) (T 5)) (T 6)) (T 7)
  refine Finset.sum_congr rfl fun k _ => ?_
  exact congrArg₂ _ (congrArg₂ _ (hQ (y 0) k) (congrArg Ideal.exp (hB (y 0) k))) (hS (y 1) k)

end Heads

/-- The triangular mask of the running sum: eight tokens are one block. -/
theorem mask_word : ∀ r x : Fin 8, ((IntOp.andi (IntOp.cmpi CmpIPredicate.sle (BitVec.ofNat 32 x.val) (BitVec.ofNat 32 r.val)) (IntOp.cmpi CmpIPredicate.eq (Scalar.select (IntOp.andi (IntOp.cmpi CmpIPredicate.ne (IntOp.subi (BitVec.setWidth 32 (IntOp.cmpi CmpIPredicate.sgt (BitVec.ofNat 32 x.val) 0#32)) (BitVec.setWidth 32 (IntOp.cmpi CmpIPredicate.slt (BitVec.ofNat 32 x.val) 0#32))) (Scalar.subi (Scalar.extui (Scalar.cmpi CmpIPredicate.sgt 8#32 0#32)) (Scalar.extui (Scalar.cmpi CmpIPredicate.slt 8#32 0#32)))) (IntOp.cmpi CmpIPredicate.ne (IntOp.remsi ArithUnit.vector (BitVec.ofNat 32 x.val) 8#32) 0#32)) (IntOp.subi (IntOp.divsi ArithUnit.vector (BitVec.ofNat 32 x.val) 8#32) 1#32) (IntOp.divsi ArithUnit.vector (BitVec.ofNat 32 x.val) 8#32)) (Scalar.select (IntOp.andi (IntOp.cmpi CmpIPredicate.ne (IntOp.subi (BitVec.setWidth 32 (IntOp.cmpi CmpIPredicate.sgt (BitVec.ofNat 32 r.val) 0#32)) (BitVec.setWidth 32 (IntOp.cmpi CmpIPredicate.slt (BitVec.ofNat 32 r.val) 0#32))) (Scalar.subi (Scalar.extui (Scalar.cmpi CmpIPredicate.sgt 8#32 0#32)) (Scalar.extui (Scalar.cmpi CmpIPredicate.slt 8#32 0#32)))) (IntOp.cmpi CmpIPredicate.ne (IntOp.remsi ArithUnit.vector (BitVec.ofNat 32 r.val) 8#32) 0#32)) (IntOp.subi (IntOp.divsi ArithUnit.vector (BitVec.ofNat 32 r.val) 8#32) 1#32) (IntOp.divsi ArithUnit.vector (BitVec.ofNat 32 r.val) 8#32)))))
    = BitVec.ofBool (decide (x.val ≤ r.val)) := by decide +kernel

theorem masked_sum (r : Fin 8) (f : Fin 8 → EReal) :
    (∑ x : Fin 8, Scalar.select ((IntOp.andi (IntOp.cmpi CmpIPredicate.sle (BitVec.ofNat 32 x.val) (BitVec.ofNat 32 r.val)) (IntOp.cmpi CmpIPredicate.eq (Scalar.select (IntOp.andi (IntOp.cmpi CmpIPredicate.ne (IntOp.subi (BitVec.setWidth 32 (IntOp.cmpi CmpIPredicate.sgt (BitVec.ofNat 32 x.val) 0#32)) (BitVec.setWidth 32 (IntOp.cmpi CmpIPredicate.slt (BitVec.ofNat 32 x.val) 0#32))) (Scalar.subi (Scalar.extui (Scalar.cmpi CmpIPredicate.sgt 8#32 0#32)) (Scalar.extui (Scalar.cmpi CmpIPredicate.slt 8#32 0#32)))) (IntOp.cmpi CmpIPredicate.ne (IntOp.remsi ArithUnit.vector (BitVec.ofNat 32 x.val) 8#32) 0#32)) (IntOp.subi (IntOp.divsi ArithUnit.vector (BitVec.ofNat 32 x.val) 8#32) 1#32) (IntOp.divsi ArithUnit.vector (BitVec.ofNat 32 x.val) 8#32)) (Scalar.select (IntOp.andi (IntOp.cmpi CmpIPredicate.ne (IntOp.subi (BitVec.setWidth 32 (IntOp.cmpi CmpIPredicate.sgt (BitVec.ofNat 32 r.val) 0#32)) (BitVec.setWidth 32 (IntOp.cmpi CmpIPredicate.slt (BitVec.ofNat 32 r.val) 0#32))) (Scalar.subi (Scalar.extui (Scalar.cmpi CmpIPredicate.sgt 8#32 0#32)) (Scalar.extui (Scalar.cmpi CmpIPredicate.slt 8#32 0#32)))) (IntOp.cmpi CmpIPredicate.ne (IntOp.remsi ArithUnit.vector (BitVec.ofNat 32 r.val) 8#32) 0#32)) (IntOp.subi (IntOp.divsi ArithUnit.vector (BitVec.ofNat 32 r.val) 8#32) 1#32) (IntOp.divsi ArithUnit.vector (BitVec.ofNat 32 r.val) 8#32))))) (f x) 0) = ∑ x : Fin 8, if x.val ≤ r.val then f x else 0 := by
  refine Finset.sum_congr rfl fun x _ => ?_
  rw [mask_word, WordCmp.select_ofBool]
  simp only [decide_eq_true_eq]

/-- A sum over the tokens up to `r`. -/
theorem sum_upto (r : Fin 8) (f : ℕ → EReal) :
    (∑ x : Fin 8, if x.val ≤ r.val then f x.val else 0) = ∑ j ∈ Finset.range (r.val + 1), f j := by
  have hr := r.isLt
  rw [Fin.sum_univ_eq_sum_range (fun n => if n ≤ r.val then f n else 0)]
  have hs : Finset.range (r.val + 1) ⊆ Finset.range 8 := fun n hn => by
    rw [Finset.mem_range] at hn ⊢; omega
  rw [← Finset.sum_subset hs fun n _ hn => if_neg (by rw [Finset.mem_range] at hn; omega)]
  exact Finset.sum_congr rfl fun n hn => if_pos (by rw [Finset.mem_range] at hn; omega)

variable {x : Cert.HgrnSampleRefIdeal.S11x256x512.Idx → EReal} {l : Cert.HgrnSampleRefIdeal.S512.Idx → EReal}

/-- The decays: the kernel sums the logarithms in three parts, of which the last two don't change the sum. -/
theorem decay_at (L : FVec Ideal S8x512 .f32) (b : ℕ) (H : Gated l)
    (hL : ∀ (r : Fin 8) (c : Fin 512), L (ix2 r c) = lf x l (b * 8 + r.val) c.val) (y : S8x512.Idx) :
    k0_pay15 L (iota Kind.tc S8x8 32 [0] iota_S8x8_d0_w32) k0_pay11 k0_pay12 (8#32) k0_pay13 k0_pay14 y
      = cum x l b (y 0).val (y 1).val := by
  pointwise [k0_pay15, k0_pay14, k0_pay13, k0_pay12, k0_pay11]
  refine (congrArg₂ _ (congrArg₂ _ (masked_sum (y 0) fun k => L (ix2 k (y 1))) (masked_sum (y 0) fun k => L (ix2 k (y 1)) - L (ix2 k (y 1))))
    (masked_sum (y 0) fun k => L (ix2 k (y 1)) - L (ix2 k (y 1)) - (L (ix2 k (y 1)) - L (ix2 k (y 1))))).trans ?_
  rw [← Finset.sum_add_distrib, ← Finset.sum_add_distrib]
  refine (Finset.sum_congr rfl fun k _ => ?_).trans (sum_upto (y 0) fun j => lf x l (b * 8 + j) (y 1).val)
  have e : L (ix2 k (y 1)) = lf x l (b * 8 + k.val) (y 1).val := hL k (y 1)
  by_cases hk : k.val ≤ (y 0).val
  · simp only [if_pos hk]
    rw [e]
    exact three_parts _ (lf_nonpos x H _ _)
  · simp only [if_neg hk, add_zero]

/-- The logarithms of the forget gate. -/
theorem lgate_at (a : Vec Ideal S1x512 .f32) (z : Vec Ideal S1x8x512 .f32) (y : S8x512.Idx) :
    k0_pay7 a z y = lgate (a (ix2 0 (y 1))) (z (ix3 0 (y 0) (y 1))) := by
  pointwise [k0_pay7, k0_pay6, k0_pay5]
  generalize a (ix2 0 (y 1)) = u
  generalize z (ix3 0 (y 0) (y 1)) = v
  simp only [zero_sub]
  rfl

/-- The keys. -/
theorem key_at (a : Vec Ideal S1x512 .f32) (z : Vec Ideal S1x8x512 .f32) (y : S8x512.Idx) :
    k0_pay9 (k0_pay8 a z) y = (1 - a (ix2 0 (y 1))) * Ideal.logistic (-(z (ix3 0 (y 0) (y 1)))) := by
  pointwise [k0_pay8, k0_pay9, k0_pay6, k0_pay5]
  simp only [zero_sub]

/-- The queries. -/
theorem qry_at (z : Vec Ideal S1x8x512 .f32) (y : S8x512.Idx) :
    k0_pay10 z y = z (ix3 0 (y 0) (y 1)) * Ideal.logistic (z (ix3 0 (y 0) (y 1))) := by
  pointwise [k0_pay10]

end Cert.HgrnSampleIdeal.Hand

end
-- ==== Proof.HgrnSampleBlock.lean ====
/- What the recurrent mix of the sample batch reads at a grid point: the point's sequence in each of the four projections,
   the lower bounds, the norm's scale and the sequence's four states, and from them the inputs of each head. -/
module

public import proofs.«01_k».proof.Proof.HgrnSampleHead
public import Idealize.ShloMosaic.Lib.Pipeline.ReadBack

@[expose] public section

set_option maxRecDepth 16384

noncomputable section

namespace Cert.HgrnSampleIdeal.Hand

open Cert.HgrnSampleIdeal Cert.HgrnSampleIdeal.Gen Idealize.ShloMosaic Idealize.ShloMosaic.TcCoe Idealize.SL.Sem
open Idealize.ShloMosaic.Pipeline (Dat)
open Cert.HgrnSampleMath

variable (m : (ℓ : Loc nD τ sig) → Buf (Elt Ideal) ℓ)

/-- Where the windows lie: point `t` is sequence `t`. -/
theorem place : ∀ t : Fin cfg0.N, win0_0.index t = ![0, 0] ∧ win0_1.index t = ![0, 0]
    ∧ win0_2.index t = ![3, t.val, 0] ∧ win0_3.index t = ![4, t.val, 0] ∧ win0_4.index t = ![5, t.val, 0]
    ∧ win0_5.index t = ![6, t.val, 0] ∧ win0_6.index t = ![t.val, 0, 0, 0]
    ∧ win0_7.index t = ![t.val, 0] ∧ win0_8.index t = ![t.val, 0, 0, 0] :=
  (by decide +kernel : ∀ t : Fin grid0.N, _)

/-- The lower bounds as the region finds them: a row. -/
theorem bounds_entry (c : Dev nD) : V m c main_v0
    = broadcastInDim S1x512 ![1] bcast_S512_S1x512_1 (m ((c : Thread nD τ).loc main_arg1)) := by
  simp only [V, V0, hostOps0, List.flatten_cons, List.flatten_nil, List.append_nil]
  after_results

/-- The norm's scale as the region finds it: a row. -/
theorem scale_entry (c : Dev nD) : V m c main_v1
    = broadcastInDim S1x128 ![1] bcast_S128_S1x128_1 (m ((c : Thread nD τ).loc main_arg2)) := by
  simp only [V, V0, hostOps0, List.flatten_cons, List.flatten_nil, List.append_nil]
  after_results

/-- The states as the region finds them: each transposed. -/
theorem states_entry (c : Dev nD) : V m c main_v2
    = transpose S32x4x128x128 [0, 1, 3, 2] (m ((c : Thread nD τ).loc main_arg3)) transposes_S32x4x128x128_S32x4x128x128_0_1_3_2 := by
  simp only [V, V0, hostOps0, List.flatten_cons, List.flatten_nil, List.append_nil]
  after_results

/-- The lower bounds' block. -/
theorem bounds_at (c : Dev nD) (t : Fin cfg0.N) (y : S1x512.Idx) :
    (iblk m c 0 t : Vec Ideal S1x512 .f32) y = at1 (m ((c : Thread nD τ).loc main_arg1)) (y 1).val := by
  refine (congrFun (congrArg (((cfg0.win 0).blk t).view.read (Elt Ideal)) (bounds_entry m c)) y).trans ?_
  blk_simp
  pointwise
  refine at1_eq _ _ _ ?_
  blk_simp [place t]

/-- The norm's scale's block. -/
theorem scale_at (c : Dev nD) (t : Fin cfg0.N) (y : S1x128.Idx) :
    (iblk m c 1 t : Vec Ideal S1x128 .f32) y = atn (m ((c : Thread nD τ).loc main_arg2)) (y 1).val := by
  refine (congrFun (congrArg (((cfg0.win 1).blk t).view.read (Elt Ideal)) (scale_entry m c)) y).trans ?_
  blk_simp
  pointwise
  refine atn_eq _ _ _ ?_
  blk_simp [place t]

/-- The states' block: the sequence's four states, each transposed. -/
theorem states_at (c : Dev nD) (t : Fin cfg0.N) (y : S1x4x128x128.Idx) :
    (iblk m c 6 t : Vec Ideal S1x4x128x128 .f32) y
      = at4 (m ((c : Thread nD τ).loc main_arg3)) t.val (y 1).val (y 3).val (y 2).val := by
  have h0 : (y 0).val < 1 := (y 0).isLt
  refine (congrFun (congrArg (((cfg0.win 6).blk t).view.read (Elt Ideal)) (states_entry m c)) y).trans ?_
  blk_simp
  pointwise
  refine at4_eq _ _ _ _ _ _ ?_ ?_ ?_ ?_
  · blk_simp [place t]
  · blk_simp [place t]
  · blk_simp [place t]
  · blk_simp [place t]

/-- The block of the query logits. -/
theorem qlogits_at (c : Dev nD) (t : Fin cfg0.N) (y : S1x8x512.Idx) :
    (iblk m c 2 t : Vec Ideal S1x8x512 .f32) y
      = at3 (m ((c : Thread nD τ).loc main_arg0)) 3 (t.val * 8 + (y 1).val) (y 2).val := by
  have h0 : (y 0).val < 1 := (y 0).isLt
  blk_simp [iblk, V]
  refine at3_eq _ _ _ _ _ ?_ ?_ ?_
  · blk_simp [place t]
  · blk_simp [place t]
  · blk_simp [place t]

/-- The block of the forget logits. -/
theorem flogits_at (c : Dev nD) (t : Fin cfg0.N) (y : S1x8x512.Idx) :
    (iblk m c 3 t : Vec Ideal S1x8x512 .f32) y
      = at3 (m ((c : Thread nD τ).loc main_arg0)) 4 (t.val * 8 + (y 1).val) (y 2).val := by
  have h0 : (y 0).val < 1 := (y 0).isLt
  blk_simp [iblk, V]
  refine at3_eq _ _ _ _ _ ?_ ?_ ?_
  · blk_simp [place t]
  · blk_simp [place t]
  · blk_simp [place t]

/-- The block of the values. -/
theorem values_at (c : Dev nD) (t : Fin cfg0.N) (y : S1x8x512.Idx) :
    (iblk m c 4 t : Vec Ideal S1x8x512 .f32) y
      = at3 (m ((c : Thread nD τ).loc main_arg0)) 5 (t.val * 8 + (y 1).val) (y 2).val := by
  have h0 : (y 0).val < 1 := (y 0).isLt
  blk_simp [iblk, V]
  refine at3_eq _ _ _ _ _ ?_ ?_ ?_
  · blk_simp [place t]
  · blk_simp [place t]
  · blk_simp [place t]

/-- The block of the output gate's logits. -/
theorem glogits_at (c : Dev nD) (t : Fin cfg0.N) (y : S1x8x512.Idx) :
    (iblk m c 5 t : Vec Ideal S1x8x512 .f32) y
      = at3 (m ((c : Thread nD τ).loc main_arg0)) 6 (t.val * 8 + (y 1).val) (y 2).val := by
  have h0 : (y 0).val < 1 := (y 0).isLt
  blk_simp [iblk, V]
  refine at3_eq _ _ _ _ _ ?_ ?_ ?_
  · blk_simp [place t]
  · blk_simp [place t]
  · blk_simp [place t]

/-! ### The heads' inputs -/

/-- A head's columns read back from a scratch buffer filled whole. -/
theorem cols_at {sp : Space} (v : View sig .tc sp S8x512 .f32) (inb) (Z : Vec Ideal S8x512 .f32) (h : ℕ) (hh : h < 4) (off : Fin 2 → ℕ)
    (ho : off = ![0, h * 128]) (inb') (r : Fin 8) (k : Fin 128) :
    (v.readCov [⟨Rect.unit (s := S8x512) ![0, 0] ![8, 512] inb, Z⟩] (Rect.unit (s := S8x512) off ![8, 128] inb').toLoadRect
        : Vec Ideal S8x128 .f32) (ix2 r k)
      = Z (ix2 r ⟨h * 128 + k.val, by have := k.isLt; omega⟩) := by
  subst ho
  have hz : ∀ a : Fin 2, (![0, 0] : Fin 2 → ℕ) a = 0 := by decide
  refine (congrFun (View.readCov_fill v inb Z [] (Rect.unit (s := S8x512) ![0, h * 128] ![8, 128] inb') hz) (ix2 r k)).trans ?_
  rw [View.ld_apply]
  congr 1; funext a; apply Fin.ext
  rw [Rect.idx_unit_val]
  match a with
  | ⟨0, _⟩ => exact Nat.zero_add _
  | ⟨1, _⟩ => rfl

/-- A head's columns of the values. -/
theorem vals_at (c : Dev nD) (t : Fin cfg0.N) (h : ℕ) (off : Fin 3 → ℕ) (ho : off = ![0, 0, h * 128]) (inb') (r : Fin 8) (k : Fin 128) :
    (View.ld (iblk m c 4 t : Vec Ideal S1x8x512 .f32) (Rect.unit (s := S1x8x512) off ![1, 8, 128] inb')
        : Vec Ideal S1x8x128 .f32) (ix3 0 r k)
      = at3 (m ((c : Thread nD τ).loc main_arg0)) 5 (t.val * 8 + r.val) (h * 128 + k.val) := by
  subst ho
  rw [View.ld_apply, values_at, Rect.idx_unit_val, Rect.idx_unit_val]
  have h1 : (![0, 0, h * 128] : Fin 3 → ℕ) 1 + ((ix3 0 r k : S1x8x128.Idx) 1).val = r.val := Nat.zero_add _
  have h2 : (![0, 0, h * 128] : Fin 3 → ℕ) 2 + ((ix3 0 r k : S1x8x128.Idx) 2).val = h * 128 + k.val := rfl
  rw [h1, h2]

/-- A head's state before the tokens. -/
theorem state_in (c : Dev nD) (t : Fin cfg0.N) (h : ℕ) (inb') (d k : Fin 128) :
    (View.ld (k0_pay4 (iblk m c 6 t : Vec Ideal S1x4x128x128 .f32)) (Rect.unit (s := S4x128x128) ![h, 0, 0] ![1, 128, 128] inb')
        : Vec Ideal S1x128x128 .f32) (ix3 0 d k)
      = at4 (m ((c : Thread nD τ).loc main_arg3)) t.val h k.val d.val := by
  rw [View.ld_apply]
  pointwise [k0_pay4]
  rw [states_at]
  congr 1

/-- The decays, the keys and the queries of a sequence, columns together. -/
theorem decays (c : Dev nD) (t : Fin cfg0.N) (H : Gated (m ((c : Thread nD τ).loc main_arg1))) (y : S8x512.Idx) :
    k0_pay15 (k0_pay7 (iblk m c 0 t) (iblk m c 3 t)) (iota Kind.tc S8x8 32 [0] iota_S8x8_d0_w32) k0_pay11 k0_pay12 (8#32) k0_pay13 k0_pay14 y
      = cum (m ((c : Thread nD τ).loc main_arg0)) (m ((c : Thread nD τ).loc main_arg1)) t.val (y 0).val (y 1).val :=
  decay_at _ t.val H (fun r k => by
    rw [lgate_at, bounds_at, flogits_at]
    rfl) y

theorem keys (c : Dev nD) (t : Fin cfg0.N) (y : S8x512.Idx) :
    k0_pay9 (k0_pay8 (iblk m c 0 t) (iblk m c 3 t)) y
      = key (m ((c : Thread nD τ).loc main_arg0)) (m ((c : Thread nD τ).loc main_arg1)) (t.val * 8 + (y 0).val) (y 1).val := by
  rw [key_at, bounds_at, flogits_at]; rfl

theorem queries (c : Dev nD) (t : Fin cfg0.N) (y : S8x512.Idx) :
    k0_pay10 (iblk m c 2 t) y
      = qry (m ((c : Thread nD τ).loc main_arg0)) (t.val * 8 + (y 0).val) (y 1).val := by
  rw [qry_at, qlogits_at]; rfl

end Cert.HgrnSampleIdeal.Hand

end
-- ==== Proof.HgrnSampleRef.lean ====
/- The reference of the recurrence on the sample batch, read at one element of each of its two results: the host
   program's stages are followed from the gates to the output and the new state. -/
module

public import proofs.«01_k».proof.Proof.HgrnSampleMath
public import proofs.«01_k».proof.Proof.AttnRef

@[expose] public section

set_option maxRecDepth 16384

noncomputable section

namespace Cert.HgrnSampleRefIdeal.Hand

open Cert.HgrnSampleRefIdeal Cert.HgrnSampleRefIdeal.Gen Cert.HgrnSampleRefIdeal.Read Cert.HgrnSampleMath Idealize.ShloMosaic
open Cert.AttnMath (ofBits_zero ofBits_one)
open Cert.AttnRefIdeal.Hand (window_apply)

variable (x0 : S11x256x512.Idx → EReal) (x1 : S512.Idx → EReal) (x2 : S128.Idx → EReal) (x3 : S32x4x128x128.Idx → EReal)

/-- The queries before their gate. -/
theorem q_at (i : S32x8x4x128.Idx) :
    val_main_v2 (F := Ideal) x0 i = at3 x0 3 ((i 0).val * 8 + (i 1).val) ((i 2).val * 128 + (i 3).val) := by
  have h0 : (i 0).val < 32 := (i 0).isLt
  have h1 : (i 1).val < 8 := (i 1).isLt
  have h2 : (i 2).val < 4 := (i 2).isLt
  have h3 : (i 3).val < 128 := (i 3).isLt
  rw [val_main_v2_apply, val_main_v1_apply, val_main_v0_apply]
  refine at3_eq x0 _ _ _ _ ?_ ?_ ?_ <;> dsimp only <;> omega

/-- The forget logits. -/
theorem f_at (i : S32x8x4x128.Idx) :
    val_main_v5 (F := Ideal) x0 i = at3 x0 4 ((i 0).val * 8 + (i 1).val) ((i 2).val * 128 + (i 3).val) := by
  have h0 : (i 0).val < 32 := (i 0).isLt
  have h1 : (i 1).val < 8 := (i 1).isLt
  have h2 : (i 2).val < 4 := (i 2).isLt
  have h3 : (i 3).val < 128 := (i 3).isLt
  rw [val_main_v5_apply, val_main_v4_apply, val_main_v3_apply]
  refine at3_eq x0 _ _ _ _ ?_ ?_ ?_ <;> dsimp only <;> omega

/-- The values. -/
theorem v_at (i : S32x8x4x128.Idx) :
    val_main_v8 (F := Ideal) x0 i = at3 x0 5 ((i 0).val * 8 + (i 1).val) ((i 2).val * 128 + (i 3).val) := by
  have h0 : (i 0).val < 32 := (i 0).isLt
  have h1 : (i 1).val < 8 := (i 1).isLt
  have h2 : (i 2).val < 4 := (i 2).isLt
  have h3 : (i 3).val < 128 := (i 3).isLt
  rw [val_main_v8_apply, val_main_v7_apply, val_main_v6_apply]
  refine at3_eq x0 _ _ _ _ ?_ ?_ ?_ <;> dsimp only <;> omega

/-- The output gates before their activation. -/
theorem g_at (i : S256x512.Idx) : val_main_v104 (F := Ideal) x0 i = at3 x0 6 (i 0).val (i 1).val := by
  have h0 : (i 0).val < 256 := (i 0).isLt
  have h1 : (i 1).val < 512 := (i 1).isLt
  rw [val_main_v104_apply, val_main_v103_apply]
  refine at3_eq x0 _ _ _ _ ?_ ?_ ?_ <;> dsimp only <;> omega

/-- The lower bounds of the forget gate. -/
theorem l_at (i : S4x128.Idx) : val_main_v9 (F := Ideal) x1 i = at1 x1 ((i 0).val * 128 + (i 1).val) := by
  rw [val_main_v9_apply]
  exact at1_eq x1 _ _ (by dsimp only)

/-- A number is equal to itself, so the branch for a missing number is not taken. -/
theorem select_une (v a b : EReal) :
    Scalar.select (FloatOps.cmpf (F := Ideal) (φ := .f32) CmpFPredicate.une v v) a b = b := by
  have hc : FloatOps.cmpf (F := Ideal) (φ := .f32) CmpFPredicate.une v v = 0#1 := by
    simp [FloatOps.cmpf, Ideal.cmp]
  rw [hc, WordCmp.select_zero]

/-- The logarithm of the sigmoid in the reference. -/
theorem lsig_at (i : S32x8x4x128.Idx) :
    val_main_v13 (F := Ideal) x0 i = lsig (at3 x0 4 ((i 0).val * 8 + (i 1).val) ((i 2).val * 128 + (i 3).val)) := by
  simp only [val_main_v13_apply, val_main_call0_v1_apply, val_main_call0_call0_v4_apply, select_une, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v2_apply, val_main_call0_call0_v0_apply,
    val_main_call0_call0_cst_apply, val_main_call0_v0_apply, f_at]
  generalize at3 x0 4 ((i 0).val * 8 + (i 1).val) ((i 2).val * 128 + (i 3).val) = z
  have e : lsig z = -(max (-z) 0 + Ideal.log1p (Ideal.exp (-(max (-z - 0) (-(-z - 0)))))) := by
    rw [sub_zero, neg_neg, max_comm (-z) z, lsig]
  rw [e, ← ofBits_zero]
  rfl

/-- The logarithm of the forget gate in the reference. -/
theorem lgate_at (i : S32x8x4x128.Idx) :
    val_main_v30 (F := Ideal) x0 x1 i
      = lgate (at1 x1 ((i 2).val * 128 + (i 3).val)) (at3 x0 4 ((i 0).val * 8 + (i 1).val) ((i 2).val * 128 + (i 3).val)) := by
  simp only [val_main_v30_apply, val_main_v22_apply, select_une, val_main_v29_apply, val_main_v28_apply, val_main_v27_apply,
    val_main_v26_apply, val_main_v25_apply, val_main_v21_apply, val_main_v20_apply, val_main_v19_apply, val_main_v18_apply,
    val_main_v17_apply, val_main_v16_apply, val_main_v15_apply, val_main_v14_apply, val_main_v12_apply, val_main_v11_apply,
    val_main_v10_apply, l_at, lsig_at]
  rfl

/-- The gated queries. -/
theorem qry_at (i : S32x4x8x128.Idx) :
    val_main_v32 (F := Ideal) x0 i = qry x0 ((i 0).val * 8 + (i 2).val) ((i 1).val * 128 + (i 3).val) := by
  simp only [val_main_v32_apply, val_main_v31_apply, val_main_call1_v5_apply, val_main_call1_v4_apply, val_main_call1_cst_0_apply,
    val_main_call1_v3_apply, val_main_call1_v2_apply, val_main_call1_cst_apply, val_main_call1_v1_apply, val_main_call1_v0_apply, q_at]
  rw [qry, Ideal.logistic, ← ofBits_one]
  rfl

/-- The keys. -/
theorem key_at (i : S32x4x8x128.Idx) :
    val_main_v45 (F := Ideal) x0 x1 i = key x0 x1 ((i 0).val * 8 + (i 2).val) ((i 1).val * 128 + (i 3).val) := by
  simp only [val_main_v45_apply, val_main_v44_apply, val_main_v43_apply, val_main_v42_apply, val_main_v41_apply, val_main_v40_apply,
    val_main_cst_1_apply, val_main_v39_apply, val_main_v38_apply, val_main_cst_0_apply, val_main_v37_apply, val_main_v36_apply,
    val_main_v35_apply, val_main_v34_apply, val_main_v33_apply, val_main_cst_apply, f_at, l_at]
  rw [key, Ideal.logistic, ← ofBits_one]
  rfl

/-- The values, by head. -/
theorem val_at (i : S32x4x8x128.Idx) :
    val_main_v46 (F := Ideal) x0 i = at3 x0 5 ((i 0).val * 8 + (i 2).val) ((i 1).val * 128 + (i 3).val) := by
  rw [val_main_v46_apply, v_at]

/-- The position `n` of a window along the tokens. -/
def pos (n : Fin 8) : (⟨4, ![1, 1, 8, 1]⟩ : Shape).Idx := fun a => match a with
  | ⟨0, _⟩ => ⟨0, Nat.one_pos⟩
  | ⟨1, _⟩ => ⟨0, Nat.one_pos⟩
  | ⟨2, _⟩ => ⟨n.val, n.isLt⟩
  | ⟨3, _⟩ => ⟨0, Nat.one_pos⟩

/-- The positions of that window are the numbers below its length. -/
theorem pos_bijective : Function.Bijective pos := by
  constructor
  · intro a b h
    have : (pos a 2).val = (pos b 2).val := by rw [h]
    exact Fin.ext this
  · intro w
    refine ⟨⟨(w 2).val, (w 2).isLt⟩, funext fun a => ?_⟩
    match a with
    | ⟨0, _⟩ => exact Fin.ext (by have h : (w 0).val < 1 := (w 0).isLt; show 0 = (w 0).val; omega)
    | ⟨1, _⟩ => exact Fin.ext (by have h : (w 1).val < 1 := (w 1).isLt; show 0 = (w 1).val; omega)
    | ⟨2, _⟩ => rfl
    | ⟨3, _⟩ => exact Fin.ext (by have h : (w 3).val < 1 := (w 3).isLt; show 0 = (w 3).val; omega)

/-- The index with the token replaced. -/
abbrev tok (i : S32x4x8x128.Idx) (k : Fin 8) : S32x4x8x128.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 3).val, (i 3).isLt⟩

/-- The windowed sum along the tokens: element `t` is the sum of the elements up to `t`. -/
theorem window_sum (x : S32x4x8x128.Idx → EReal) (z : S_.Idx → EReal) (hz : ∀ i, z i = 0) (i : S32x4x8x128.Idx)
    (f : ℕ → EReal) (hf : ∀ k : Fin 8, x (tok i k) = f k.val) :
    Host.reduceWindowAdd (F := Ideal) (φ := .f32) ![1, 1, 8, 1] ![1, 1, 1, 1] ![0, 0, 7, 0] ![0, 0, 0, 0] x z
        reduceWindows_S32x4x8x128_S32x4x8x128_w1s1p0_0_w1s1p0_0_w8s1p7_0_w1s1p0_0 h_S_ i
      = ∑ n ∈ Finset.range ((i 2).val + 1), f n := by
  have h2 : (i 2).val < 8 := (i 2).isLt
  have e : ∑ n ∈ Finset.range ((i 2).val + 1), f n
      = ∑ n : Fin 8, if 7 ≤ (i 2).val + n.val then f ((i 2).val + n.val - 7) else 0 := by
    rw [Fin.sum_univ_eq_sum_range (fun n => if 7 ≤ (i 2).val + n then f ((i 2).val + n - 7) else 0)]
    rw [← Finset.sum_filter]
    refine Finset.sum_bij' (fun n _ => n + 7 - (i 2).val) (fun n _ => (i 2).val + n - 7) ?_ ?_ ?_ ?_ ?_
    · intro n hn; rw [Finset.mem_range] at hn; rw [Finset.mem_filter, Finset.mem_range]; omega
    · intro n hn; rw [Finset.mem_filter, Finset.mem_range] at hn; rw [Finset.mem_range]; omega
    · intro n hn; rw [Finset.mem_range] at hn; dsimp only; omega
    · intro n hn; rw [Finset.mem_filter, Finset.mem_range] at hn; dsimp only; omega
    · intro n hn; rw [Finset.mem_range] at hn; dsimp only; congr 1; omega
  rw [window_apply _ _ _ _ x z _ _ (hz _), e]
  refine (Fintype.sum_bijective pos pos_bijective _ _ fun n => ?_).symm
  have hn : n.val < 8 := n.isLt
  by_cases hin : 7 ≤ (i 2).val + n.val
  · rw [if_pos hin, dif_pos]
    · have := hf ⟨(i 2).val + n.val - 7, by omega⟩
      dsimp only at this
      rw [← this]
      refine congrArg x (funext fun a => ?_)
      match a with
      | ⟨0, _⟩ => exact Fin.ext (by show (i 0).val = (i 0).val * 1 + 0 - 0; omega)
      | ⟨1, _⟩ => exact Fin.ext (by show (i 1).val = (i 1).val * 1 + 0 - 0; omega)
      | ⟨2, _⟩ => exact Fin.ext (by show (i 2).val + n.val - 7 = (i 2).val * 1 + n.val - 7; omega)
      | ⟨3, _⟩ => exact Fin.ext (by show (i 3).val = (i 3).val * 1 + 0 - 0; omega)
    · intro a
      match a with
      | ⟨0, _⟩ => exact ⟨Nat.zero_le _, by have h : (i 0).val < 32 := (i 0).isLt; show (i 0).val * 1 + 0 - 0 < 32; omega⟩
      | ⟨1, _⟩ => exact ⟨Nat.zero_le _, by have h : (i 1).val < 4 := (i 1).isLt; show (i 1).val * 1 + 0 - 0 < 4; omega⟩
      | ⟨2, _⟩ => exact ⟨by show 7 ≤ (i 2).val * 1 + n.val; omega, by show (i 2).val * 1 + n.val - 7 < 8; omega⟩
      | ⟨3, _⟩ => exact ⟨Nat.zero_le _, by have h : (i 3).val < 128 := (i 3).isLt; show (i 3).val * 1 + 0 - 0 < 128; omega⟩
  · rw [if_neg hin, dif_neg]
    intro hall
    have h : 7 ≤ (i 2).val * 1 + n.val := (hall 2).1
    omega

variable {x0 x1}

/-- The running sum of the logarithms. -/
theorem cum_at (i : S32x4x8x128.Idx) :
    val_main_v48 (F := Ideal) x0 x1 i = cum x0 x1 (i 0).val (i 2).val ((i 1).val * 128 + (i 3).val) := by
  unfold val_main_v48
  rw [window_sum _ _ (fun k => by rw [val_main_call2_call0_v0_apply, val_main_call2_call0_cst_apply, Ideal.ofBits_def, ofBits_zero]) i
    (fun k => lf x0 x1 ((i 0).val * 8 + k) ((i 1).val * 128 + (i 3).val))
    (fun k => by rw [val_main_v47_apply, lgate_at]; rfl)]
  rfl

theorem sle_word (a b : Fin 8) : IntOp.cmpi .sle (BitVec.ofNat 32 b.val) (BitVec.ofNat 32 a.val) = BitVec.ofBool (decide (b.val ≤ a.val)) := by
  revert a b; decide

/-- A token counts when it is not after the query's. -/
theorem causal_at (i : S32x4x8x8x128.Idx) :
    val_main_call3_v1 (F := Ideal) i = BitVec.ofBool (decide ((i 3).val ≤ (i 2).val)) := by
  rw [val_main_call3_v1_apply, val_main_v64_apply, val_main_v58_apply, val_main_v56_apply, val_main_v53_apply, val_main_v52_apply,
    val_main_v57_apply, val_main_v55_apply, val_main_v54_apply]
  exact sle_word ⟨(i 2).val, (i 2).isLt⟩ ⟨(i 3).val, (i 3).isLt⟩

theorem ofBits_bot : Ideal.ofBits .f32 0xFF800000#32 = ⊥ := by
  simp [Ideal.ofBits, Ideal.ieee]

/-- The decay from one token to another: zero when it is after the query's. -/
theorem decay_at (i : S32x4x8x8x128.Idx) :
    val_main_v66 (F := Ideal) x0 x1 i = if (i 3).val ≤ (i 2).val then
      Ideal.exp (cum x0 x1 (i 0).val (i 2).val ((i 1).val * 128 + (i 4).val) - cum x0 x1 (i 0).val (i 3).val ((i 1).val * 128 + (i 4).val))
      else 0 := by
  rw [val_main_v66_apply, val_main_v65_apply, causal_at, WordCmp.select_ofBool, val_main_v63_apply, val_main_v61_apply, val_main_v59_apply,
    val_main_v62_apply, val_main_v60_apply, cum_at, cum_at, val_main_call3_v2_apply]
  by_cases h : (i 3).val ≤ (i 2).val
  · simp only [decide_eq_true_eq, if_pos h]
    rw [Ideal.hostUnary_exp_def, Ideal.subf_def]
  · simp only [decide_eq_true_eq, if_neg h]
    show Ideal.exp (Ideal.ofBits .f32 0xFF800000#32) = 0
    rw [ofBits_bot, Ideal.exp_bot]

/-- The weight one token gives another. -/
theorem att_at (i : S32x4x8x8.Idx) :
    val_main_v73 (F := Ideal) x0 x1 i = att x0 x1 (i 0).val (i 1).val (i 2).val (i 3).val := by
  rw [val_main_v73_apply, att]
  simp only [val_main_v72_apply, val_main_v69_apply, val_main_v68_apply, val_main_v67_apply, val_main_v71_apply, val_main_v70_apply,
    qry_at, key_at, decay_at, val_main_cst_3_apply, Ideal.ofBits_def, ofBits_zero, zero_add, Ideal.mulf_def]
  by_cases h : (i 3).val ≤ (i 2).val
  · rw [if_pos h]
    refine Finset.sum_congr rfl fun k _ => ?_
    rw [if_pos h, mul_assoc, mul_assoc]
    exact congrArg _ (mul_comm _ _)
  · rw [if_neg h]
    refine Finset.sum_eq_zero fun k _ => ?_
    rw [if_neg h, mul_zero, zero_mul]

/-- The output before the norm. -/
theorem mix_at (i : S32x4x8x128.Idx) :
    val_main_v75 (F := Ideal) x0 x1 x3 i = mix x0 x1 x3 (i 0).val (i 1).val (i 2).val (i 3).val := by
  rw [val_main_v75_apply, val_main_v51_apply, val_main_v74_apply, mix, Ideal.addf_def]
  refine congrArg₂ _ (Finset.sum_congr rfl fun k _ => ?_) (Finset.sum_congr rfl fun k _ => ?_)
  · rw [val_main_v50_apply, val_main_v49_apply, qry_at, cum_at, at4_eq x3 _ (i 0).val (i 1).val k.val (i 3).val rfl rfl rfl rfl]
    rfl
  · rw [att_at, val_at]

/-- One element of the new state. -/
theorem state_at (i : S32x4x128x128.Idx) :
    val_main_v87 (F := Ideal) x0 x1 x3 i = next x0 x1 x3 (i 0).val (i 1).val (i 2).val (i 3).val := by
  have h0 : (i 0).val < 32 := (i 0).isLt
  have h1 : (i 1).val < 4 := (i 1).isLt
  have h2 : (i 2).val < 128 := (i 2).isLt
  rw [val_main_v87_apply, val_main_v81_apply, val_main_v80_apply, val_main_v79_apply, val_main_v78_apply, val_main_v77_apply,
    val_main_v76_apply, cum_at, val_main_v86_apply, next, Ideal.addf_def, Ideal.mulf_def, Ideal.hostUnary_exp_def,
    at4_eq x3 i (i 0).val (i 1).val (i 2).val (i 3).val rfl rfl rfl rfl]
  refine congrArg₂ _ ?_ (Finset.sum_congr rfl fun k _ => ?_)
  · dsimp only
    congr 6 <;> omega
  · rw [val_main_v85_apply, val_main_v84_apply, val_main_v83_apply, val_main_v82_apply, val_main_v76_apply, cum_at, cum_at,
      key_at, val_at, Ideal.mulf_def, Ideal.subf_def, Ideal.hostUnary_exp_def]
    rfl

/-- One element of the reference's output. -/
theorem result_at (i : S256x512.Idx) :
    val_main_v106 (F := Ideal) x0 x1 x2 x3 i
      = out x0 x1 x2 x3 ((i 0).val / 8) ((i 1).val / 128) ((i 0).val % 8) ((i 1).val % 128) := by
  have h0 : (i 0).val < 256 := (i 0).isLt
  have h1 : (i 1).val < 512 := (i 1).isLt
  have e0 : ((i 0).val * 512 + (i 1).val) / 4096 = (i 0).val / 8 := by omega
  have e1 : ((i 0).val * 512 + (i 1).val) / 512 % 8 = (i 0).val % 8 := by omega
  have e2 : ((i 0).val * 512 + (i 1).val) / 128 % 4 = (i 1).val / 128 := by omega
  have e3 : ((i 0).val * 512 + (i 1).val) % 128 = (i 1).val % 128 := by omega
  have e4 : (i 0).val / 8 * 8 + (i 0).val % 8 = (i 0).val := by omega
  have e5 : (i 1).val / 128 * 128 + (i 1).val % 128 = (i 1).val := by omega
  simp only [val_main_v106_apply, val_main_v105_apply, val_main_call4_v5_apply, val_main_call4_v4_apply, val_main_call4_cst_0_apply,
    val_main_call4_v3_apply, val_main_call4_v2_apply, val_main_call4_cst_apply, val_main_call4_v1_apply, val_main_call4_v0_apply,
    val_main_v102_apply, val_main_v101_apply, val_main_v100_apply, val_main_v99_apply, val_main_v98_apply, val_main_v97_apply,
    val_main_v96_apply, val_main_v95_apply, val_main_v94_apply, val_main_cst_6_apply, val_main_v93_apply, val_main_v92_apply,
    val_main_cst_5_apply, val_main_v91_apply, val_main_v90_apply, val_main_cst_4_apply, val_main_v89_apply, val_main_v88_apply,
    mix_at x3, g_at, Ideal.ofBits_def, ofBits_zero, zero_add]
  rw [e0, e1, e2, e3, out, e4, e5, Ideal.logistic, ← ofBits_one, atn_eq x2 _ ((i 1).val % 128) (by dsimp only; omega)]
  rfl

end Cert.HgrnSampleRefIdeal.Hand

end
-- ==== Proof.HgrnSampleValue.lean ====
/- The recurrent mix of the sample batch over the reals: what a grid point stores is the reference's value at the point's
   sequence, so the two arrays after the run are the reference's results, the states transposed back by the last operation. -/
module

public import proofs.«01_k».proof.Proof.HgrnSampleBlock
public import proofs.«01_k».proof.Proof.HgrnSampleRef

@[expose] public section

set_option maxRecDepth 16384

noncomputable section

namespace Cert.HgrnSampleIdeal.Hand

open Cert.HgrnSampleIdeal Cert.HgrnSampleIdeal.Gen Idealize.ShloMosaic Idealize.ShloMosaic.TcCoe Idealize.SL.Sem
open Idealize.ShloMosaic.Pipeline (Dat)
open Cert.HgrnSampleMath

section Stack
variable {sp : Space} (v : View sig .tc sp S4x128x128 .f32) (Z : Vec Ideal S4x128x128 .f32) (s0 s1 s2 s3 : Vec Ideal S1x128x128 .f32)

/-- The first head's state is read from the states as loaded. -/
theorem slab0 :
    v.readCov [⟨Rect.unit ![0, 0, 0] ![4, 128, 128] inb_S4x128x128_S4x128x128_0_0_0, Z⟩]
      (Rect.unit ![0, 0, 0] ![1, 128, 128] inb_S4x128x128_S1x128x128_0_0_0).toLoadRect
    = View.ld Z (Rect.unit (s := S4x128x128) ![0, 0, 0] ![1, 128, 128] inb_S4x128x128_S1x128x128_0_0_0) :=
  View.readCov_fill v inb_S4x128x128_S4x128x128_0_0_0 Z [] _ (by decide)

/-- The second head's state is what was loaded: the first head wrote another. -/
theorem slab1 :
    v.readCov [⟨Rect.unit ![0, 0, 0] ![1, 128, 128] inb_S4x128x128_S1x128x128_0_0_0, s0⟩,
        ⟨Rect.unit ![0, 0, 0] ![4, 128, 128] inb_S4x128x128_S4x128x128_0_0_0, Z⟩]
      (Rect.unit ![1, 0, 0] ![1, 128, 128] inb_S4x128x128_S1x128x128_1_0_0).toLoadRect
    = View.ld Z (Rect.unit (s := S4x128x128) ![1, 0, 0] ![1, 128, 128] inb_S4x128x128_S1x128x128_1_0_0) := by
  refine (View.readCov_skip v _ _ _ _ (by decide)).trans ?_
  exact View.readCov_fill v inb_S4x128x128_S4x128x128_0_0_0 Z [] _ (by decide)

/-- The third head's state is what was loaded. -/
theorem slab2 :
    v.readCov [⟨Rect.unit ![1, 0, 0] ![1, 128, 128] inb_S4x128x128_S1x128x128_1_0_0, s1⟩,
        ⟨Rect.unit ![0, 0, 0] ![1, 128, 128] inb_S4x128x128_S1x128x128_0_0_0, s0⟩,
        ⟨Rect.unit ![0, 0, 0] ![4, 128, 128] inb_S4x128x128_S4x128x128_0_0_0, Z⟩]
      (Rect.unit ![2, 0, 0] ![1, 128, 128] inb_S4x128x128_S1x128x128_2_0_0).toLoadRect
    = View.ld Z (Rect.unit (s := S4x128x128) ![2, 0, 0] ![1, 128, 128] inb_S4x128x128_S1x128x128_2_0_0) := by
  refine (View.readCov_skip v _ _ _ _ (by decide)).trans ?_
  refine (View.readCov_skip v _ _ _ _ (by decide)).trans ?_
  exact View.readCov_fill v inb_S4x128x128_S4x128x128_0_0_0 Z [] _ (by decide)

/-- The fourth head's state is what was loaded. -/
theorem slab3 :
    v.readCov [⟨Rect.unit ![2, 0, 0] ![1, 128, 128] inb_S4x128x128_S1x128x128_2_0_0, s2⟩,
        ⟨Rect.unit ![1, 0, 0] ![1, 128, 128] inb_S4x128x128_S1x128x128_1_0_0, s1⟩,
        ⟨Rect.unit ![0, 0, 0] ![1, 128, 128] inb_S4x128x128_S1x128x128_0_0_0, s0⟩,
        ⟨Rect.unit ![0, 0, 0] ![4, 128, 128] inb_S4x128x128_S4x128x128_0_0_0, Z⟩]
      (Rect.unit ![3, 0, 0] ![1, 128, 128] inb_S4x128x128_S1x128x128_3_0_0).toLoadRect
    = View.ld Z (Rect.unit (s := S4x128x128) ![3, 0, 0] ![1, 128, 128] inb_S4x128x128_S1x128x128_3_0_0) := by
  refine (View.readCov_skip v _ _ _ _ (by decide)).trans ?_
  refine (View.readCov_skip v _ _ _ _ (by decide)).trans ?_
  refine (View.readCov_skip v _ _ _ _ (by decide)).trans ?_
  exact View.readCov_fill v inb_S4x128x128_S4x128x128_0_0_0 Z [] _ (by decide)

/-- A stack of four matrices given entry by entry. -/
def stackOf (G : ℕ → ℕ → ℕ → EReal) (i : S4x128x128.Idx) : EReal := G (i 0).val (i 1).val (i 2).val

/-- A slab is a block of the stack. -/
theorem slab_piece (G : ℕ → ℕ → ℕ → EReal) (n : ℕ) (inb) (s : Vec Ideal S1x128x128 .f32)
    (h : ∀ y : S1x128x128.Idx, s y = G n (y 1).val (y 2).val) (y : S1x128x128.Idx) :
    s y = stackOf G ((Rect.unit (s := S4x128x128) ![n, 0, 0] ![1, 128, 128] inb).emb y) := by
  have h0 : (y 0).val < 1 := (y 0).isLt
  have e : ∀ a, ((Rect.unit (s := S4x128x128) ![n, 0, 0] ![1, 128, 128] inb).emb y a).val = (![n, 0, 0] : Fin 3 → ℕ) a + (y a).val :=
    Rect.idx_unit_val _ _ inb y
  rw [stackOf, h y, e 0, e 1, e 2]
  have e0 : (![n, 0, 0] : Fin 3 → ℕ) 0 + (y 0).val = n := by show n + (y 0).val = n; omega
  have e1 : (![n, 0, 0] : Fin 3 → ℕ) 1 + (y 1).val = (y 1).val := Nat.zero_add _
  have e2 : (![n, 0, 0] : Fin 3 → ℕ) 2 + (y 2).val = (y 2).val := Nat.zero_add _
  rw [e0, e1, e2]

/-- The four states read back together. -/
theorem stack_at (G : ℕ → ℕ → ℕ → EReal) (h0 : ∀ y : S1x128x128.Idx, s0 y = G 0 (y 1).val (y 2).val)
    (h1 : ∀ y : S1x128x128.Idx, s1 y = G 1 (y 1).val (y 2).val) (h2 : ∀ y : S1x128x128.Idx, s2 y = G 2 (y 1).val (y 2).val)
    (h3 : ∀ y : S1x128x128.Idx, s3 y = G 3 (y 1).val (y 2).val) (i : S4x128x128.Idx) :
    (v.readCov [⟨Rect.unit ![3, 0, 0] ![1, 128, 128] inb_S4x128x128_S1x128x128_3_0_0, s3⟩,
        ⟨Rect.unit ![2, 0, 0] ![1, 128, 128] inb_S4x128x128_S1x128x128_2_0_0, s2⟩,
        ⟨Rect.unit ![1, 0, 0] ![1, 128, 128] inb_S4x128x128_S1x128x128_1_0_0, s1⟩,
        ⟨Rect.unit ![0, 0, 0] ![1, 128, 128] inb_S4x128x128_S1x128x128_0_0_0, s0⟩,
        ⟨Rect.unit ![0, 0, 0] ![4, 128, 128] inb_S4x128x128_S4x128x128_0_0_0, Z⟩]
      (Rect.unit (s := S4x128x128) ![0, 0, 0] ![4, 128, 128] inb_S4x128x128_S4x128x128_0_0_0).toLoadRect : Vec Ideal S4x128x128 .f32) i
    = G (i 0).val (i 1).val (i 2).val := by
  have e : (Rect.unit (s := S4x128x128) ![0, 0, 0] ![4, 128, 128] inb_S4x128x128_S4x128x128_0_0_0).toLoadRect.idx i = i := by
    funext a; apply Fin.ext
    refine (Rect.idx_unit_val (s := S4x128x128) ![0, 0, 0] ![4, 128, 128] inb_S4x128x128_S4x128x128_0_0_0 i a).trans ?_
    match a with
    | ⟨0, _⟩ => exact Nat.zero_add _
    | ⟨1, _⟩ => exact Nat.zero_add _
    | ⟨2, _⟩ => exact Nat.zero_add _
  rw [View.readCov_eq_canon' v]
  dsimp only
  rw [e]
  exact View.canon_append_of_piecesOf (stackOf G)
    [⟨Rect.unit ![0, 0, 0] ![4, 128, 128] inb_S4x128x128_S4x128x128_0_0_0, Z⟩]
    [⟨Rect.unit ![3, 0, 0] ![1, 128, 128] inb_S4x128x128_S1x128x128_3_0_0, s3⟩,
        ⟨Rect.unit ![2, 0, 0] ![1, 128, 128] inb_S4x128x128_S1x128x128_2_0_0, s2⟩,
        ⟨Rect.unit ![1, 0, 0] ![1, 128, 128] inb_S4x128x128_S1x128x128_1_0_0, s1⟩,
        ⟨Rect.unit ![0, 0, 0] ![1, 128, 128] inb_S4x128x128_S1x128x128_0_0_0, s0⟩]
    ⟨slab_piece G 3 inb_S4x128x128_S1x128x128_3_0_0 s3 h3, slab_piece G 2 inb_S4x128x128_S1x128x128_2_0_0 s2 h2,
      slab_piece G 1 inb_S4x128x128_S1x128x128_1_0_0 s1 h1, slab_piece G 0 inb_S4x128x128_S1x128x128_0_0_0 s0 h0, trivial⟩ i
    (View.cover_of_tiled_head _ _ _ (by rfl) i)
end Stack

variable (m : (ℓ : Loc nD τ sig) → Buf (Elt Ideal) ℓ)

/-- The four states a grid point stores, transposed. -/
theorem state_block (c : Dev nD) (t : Fin cfg0.N)
    (H : Gated (m ((c : Thread nD τ).loc main_arg1))) (y : S1x4x128x128.Idx) :
    (outsAt0 m c t).2 y = next (m ((c : Thread nD τ).loc main_arg0)) (m ((c : Thread nD τ).loc main_arg1))
      (m ((c : Thread nD τ).loc main_arg3)) t.val (y 1).val (y 3).val (y 2).val := by
  unfold outsAt0
  frame_out
  rw [head3_s, head2_s, head1_s, head0_s, slab3, slab2, slab1, slab0]
  pointwise [k0_pay3]
  refine (stack_at _ _ _ _ _ _ (fun h d k => next (m ((c : Thread nD τ).loc main_arg0)) (m ((c : Thread nD τ).loc main_arg1))
    (m ((c : Thread nD τ).loc main_arg3)) t.val h k d) ?_ ?_ ?_ ?_ _).trans ?_
  · exact headS_at t.val 0
      (fun r k => (cols_at _ _ _ 0 (by decide) _ k0_off1_eq _ r k).trans (decays m c t H _))
      (fun r k => (cols_at _ _ _ 0 (by decide) _ k0_off1_eq _ r k).trans (keys m c t _))
      (fun r d => vals_at m c t 0 _ k0_off2_eq _ r d) (fun d k => state_in m c t 0 _ d k)
  · exact headS_at t.val 1
      (fun r k => (cols_at _ _ _ 1 (by decide) _ k0_off3_eq _ r k).trans (decays m c t H _))
      (fun r k => (cols_at _ _ _ 1 (by decide) _ k0_off3_eq _ r k).trans (keys m c t _))
      (fun r d => vals_at m c t 1 _ k0_off4_eq _ r d) (fun d k => state_in m c t 1 _ d k)
  · exact headS_at t.val 2
      (fun r k => (cols_at _ _ _ 2 (by decide) _ k0_off5_eq _ r k).trans (decays m c t H _))
      (fun r k => (cols_at _ _ _ 2 (by decide) _ k0_off5_eq _ r k).trans (keys m c t _))
      (fun r d => vals_at m c t 2 _ k0_off6_eq _ r d) (fun d k => state_in m c t 2 _ d k)
  · exact headS_at t.val 3
      (fun r k => (cols_at _ _ _ 3 (by decide) _ k0_off7_eq _ r k).trans (decays m c t H _))
      (fun r k => (cols_at _ _ _ 3 (by decide) _ k0_off7_eq _ r k).trans (keys m c t _))
      (fun r d => vals_at m c t 3 _ k0_off8_eq _ r d) (fun d k => state_in m c t 3 _ d k)
  · rfl

section Lanes
variable {sp : Space} (v : View sig .tc sp S8x512 .f32) (o o0 o1 o2 o3 : Vec Ideal S8x128 .f32)

/-- Columns just written read back as written. -/
theorem lane_hit (L : List (View.Piece (Elt Ideal) S8x512 .f32)) (off off' : Fin 2 → ℕ) (h : off = off') (inb inb') :
    v.readCov (⟨Rect.unit (s := S8x512) off ![8, 128] inb, o⟩ :: L) (Rect.unit (s := S8x512) off' ![8, 128] inb').toLoadRect = o := by
  subst h; exact View.readCov_cons_toLoadRect v (Rect.unit (s := S8x512) off ![8, 128] inb) o L

/-- Other columns just written do not matter. -/
theorem lane_miss (L : List (View.Piece (Elt Ideal) S8x512 .f32)) (off off' off'' : Fin 2 → ℕ) (h : off = off'') (inb inb' inb'')
    (hd : LoadRect.disj (Rect.unit (s := S8x512) off'' ![8, 128] inb'') (Rect.unit (s := S8x512) off' ![8, 128] inb').toLoadRect = true) :
    v.readCov (⟨Rect.unit (s := S8x512) off ![8, 128] inb, o⟩ :: L) (Rect.unit (s := S8x512) off' ![8, 128] inb').toLoadRect
      = v.readCov L (Rect.unit (s := S8x512) off' ![8, 128] inb').toLoadRect := by
  subst h; exact View.readCov_skip v (Rect.unit (s := S8x512) off ![8, 128] inb) o L _ hd

/-- The fourth head's output read back. -/
theorem lane3 : v.readCov [⟨Rect.unit k0_off7 ![8, 128] k0_off7_inb, o3⟩, ⟨Rect.unit k0_off5 ![8, 128] k0_off5_inb, o2⟩,
      ⟨Rect.unit k0_off3 ![8, 128] k0_off3_inb, o1⟩, ⟨Rect.unit k0_off1 ![8, 128] k0_off1_inb, o0⟩]
      (Rect.unit ![0, 384] ![8, 128] inb_S8x512_S8x128_0_384).toLoadRect = o3 := by
  exact lane_hit v o3 _ _ _ k0_off7_eq _ _

/-- The third head's output read back. -/
theorem lane2 : v.readCov [⟨Rect.unit k0_off7 ![8, 128] k0_off7_inb, o3⟩, ⟨Rect.unit k0_off5 ![8, 128] k0_off5_inb, o2⟩,
      ⟨Rect.unit k0_off3 ![8, 128] k0_off3_inb, o1⟩, ⟨Rect.unit k0_off1 ![8, 128] k0_off1_inb, o0⟩]
      (Rect.unit ![0, 256] ![8, 128] inb_S8x512_S8x128_0_256).toLoadRect = o2 := by
  refine (lane_miss v o3 _ _ _ _ k0_off7_eq _ _ inb_S8x512_S8x128_0_384 (by decide)).trans ?_
  exact lane_hit v o2 _ _ _ k0_off5_eq _ _

/-- The second head's output read back. -/
theorem lane1 : v.readCov [⟨Rect.unit k0_off7 ![8, 128] k0_off7_inb, o3⟩, ⟨Rect.unit k0_off5 ![8, 128] k0_off5_inb, o2⟩,
      ⟨Rect.unit k0_off3 ![8, 128] k0_off3_inb, o1⟩, ⟨Rect.unit k0_off1 ![8, 128] k0_off1_inb, o0⟩]
      (Rect.unit ![0, 128] ![8, 128] inb_S8x512_S8x128_0_128).toLoadRect = o1 := by
  refine (lane_miss v o3 _ _ _ _ k0_off7_eq _ _ inb_S8x512_S8x128_0_384 (by decide)).trans ?_
  refine (lane_miss v o2 _ _ _ _ k0_off5_eq _ _ inb_S8x512_S8x128_0_256 (by decide)).trans ?_
  exact lane_hit v o1 _ _ _ k0_off3_eq _ _

/-- The first head's output read back. -/
theorem lane0 : v.readCov [⟨Rect.unit k0_off7 ![8, 128] k0_off7_inb, o3⟩, ⟨Rect.unit k0_off5 ![8, 128] k0_off5_inb, o2⟩,
      ⟨Rect.unit k0_off3 ![8, 128] k0_off3_inb, o1⟩, ⟨Rect.unit k0_off1 ![8, 128] k0_off1_inb, o0⟩]
      (Rect.unit ![0, 0] ![8, 128] inb_S8x512_S8x128_0_0).toLoadRect = o0 := by
  refine (lane_miss v o3 _ _ _ _ k0_off7_eq _ _ inb_S8x512_S8x128_0_384 (by decide)).trans ?_
  refine (lane_miss v o2 _ _ _ _ k0_off5_eq _ _ inb_S8x512_S8x128_0_256 (by decide)).trans ?_
  refine (lane_miss v o1 _ _ _ _ k0_off3_eq _ _ inb_S8x512_S8x128_0_128 (by decide)).trans ?_
  exact lane_hit v o0 _ _ _ k0_off1_eq _ _

/-- A row of four heads given entry by entry. -/
def rowOf (G : ℕ → ℕ → ℕ → EReal) (i : S8x512.Idx) : EReal := G ((i 1).val / 128) (i 0).val ((i 1).val % 128)

/-- A head's columns are a block of the rows. -/
theorem lane_piece (G : ℕ → ℕ → ℕ → EReal) (n a : ℕ) (ha : a = n * 128) (inb) (h : ∀ y : S8x128.Idx, o y = G n (y 0).val (y 1).val)
    (y : S8x128.Idx) : o y = rowOf G ((Rect.unit (s := S8x512) ![0, a] ![8, 128] inb).emb y) := by
  have h1 : (y 1).val < 128 := (y 1).isLt
  have e : ∀ i, ((Rect.unit (s := S8x512) ![0, a] ![8, 128] inb).emb y i).val = (![0, a] : Fin 2 → ℕ) i + (y i).val :=
    Rect.idx_unit_val _ _ inb y
  have e0 : (![0, a] : Fin 2 → ℕ) 0 + (y 0).val = (y 0).val := Nat.zero_add _
  have e1 : (![0, a] : Fin 2 → ℕ) 1 + (y 1).val = a + (y 1).val := rfl
  rw [rowOf, h y, e 0, e 1, e0, e1, show (a + (y 1).val) / 128 = n by omega, show (a + (y 1).val) % 128 = (y 1).val by omega]

/-- The four heads' columns together. -/
theorem rows_at (G : ℕ → ℕ → ℕ → EReal) (h0 : ∀ y : S8x128.Idx, o0 y = G 0 (y 0).val (y 1).val)
    (h1 : ∀ y : S8x128.Idx, o1 y = G 1 (y 0).val (y 1).val) (h2 : ∀ y : S8x128.Idx, o2 y = G 2 (y 0).val (y 1).val)
    (h3 : ∀ y : S8x128.Idx, o3 y = G 3 (y 0).val (y 1).val) (i : S8x512.Idx) :
    View.canon [(⟨Rect.unit ![0, 384] ![8, 128] inb_S8x512_S8x128_0_384, o3⟩ : View.Piece (Elt Ideal) S8x512 .f32),
        ⟨Rect.unit ![0, 256] ![8, 128] inb_S8x512_S8x128_0_256, o2⟩,
        ⟨Rect.unit ![0, 128] ![8, 128] inb_S8x512_S8x128_0_128, o1⟩,
        ⟨Rect.unit ![0, 0] ![8, 128] inb_S8x512_S8x128_0_0, o0⟩] i
    = G ((i 1).val / 128) (i 0).val ((i 1).val % 128) := by
  have hp : View.PiecesOf (Val := Elt Ideal) (e := .f32) (rowOf G)
      [⟨Rect.unit ![0, 384] ![8, 128] inb_S8x512_S8x128_0_384, o3⟩,
        ⟨Rect.unit ![0, 256] ![8, 128] inb_S8x512_S8x128_0_256, o2⟩,
        ⟨Rect.unit ![0, 128] ![8, 128] inb_S8x512_S8x128_0_128, o1⟩,
        ⟨Rect.unit ![0, 0] ![8, 128] inb_S8x512_S8x128_0_0, o0⟩] :=
    ⟨lane_piece o3 G 3 384 rfl inb_S8x512_S8x128_0_384 h3, lane_piece o2 G 2 256 rfl inb_S8x512_S8x128_0_256 h2,
      lane_piece o1 G 1 128 rfl inb_S8x512_S8x128_0_128 h1, lane_piece o0 G 0 0 rfl inb_S8x512_S8x128_0_0 h0, trivial⟩
  exact View.canon_append_of_piecesOf (Val := Elt Ideal) (e := .f32) (rowOf G) []
      [⟨Rect.unit ![0, 384] ![8, 128] inb_S8x512_S8x128_0_384, o3⟩,
        ⟨Rect.unit ![0, 256] ![8, 128] inb_S8x512_S8x128_0_256, o2⟩,
        ⟨Rect.unit ![0, 128] ![8, 128] inb_S8x512_S8x128_0_128, o1⟩,
        ⟨Rect.unit ![0, 0] ![8, 128] inb_S8x512_S8x128_0_0, o0⟩] hp i
    (View.cover_of_tiled_head _ _ _ (by rfl) i)
end Lanes

section Norm
variable {x : Cert.HgrnSampleRefIdeal.S11x256x512.Idx → EReal} {l : Cert.HgrnSampleRefIdeal.S512.Idx → EReal}
  {n : Cert.HgrnSampleRefIdeal.S128.Idx → EReal} {s : Cert.HgrnSampleRefIdeal.S32x4x128x128.Idx → EReal} (b h : ℕ)
  (g : Vec Ideal S1x8x512 .f32) (w : Vec Ideal S1x128 .f32) (X : Vec Ideal S8x128 .f32)
  (hg : ∀ y : S1x8x512.Idx, g y = at3 x 6 (b * 8 + (y 1).val) (y 2).val) (hw : ∀ y : S1x128.Idx, w y = atn n (y 1).val)
  (hX : ∀ y : S8x128.Idx, X y = mix x l s b h (y 0).val (y 1).val)

include hg hw hX

/-- The first head's norm and gate. -/
theorem norm0 (hh : h = 0) (y : S8x128.Idx) : k0_pay90 (k0_pay87 g) (k0_pay88 w) X (k0_pay89 X) y = out x l n s b h (y 0).val (y 1).val := by
  subst hh
  pointwise [k0_pay90, k0_pay89, k0_pay88, k0_pay87]
  simp only [hX, hg, hw, out, Nat.zero_mul, Nat.zero_add]
  rfl

/-- The second head's norm and gate. -/
theorem norm1 (hh : h = 1) (y : S8x128.Idx) : k0_pay91 (k0_pay87 g) (k0_pay88 w) X y = out x l n s b h (y 0).val (y 1).val := by
  subst hh
  pointwise [k0_pay91, k0_pay88, k0_pay87]
  simp only [hX, hg, hw, out]
  rfl

/-- The third head's norm and gate. -/
theorem norm2 (hh : h = 2) (y : S8x128.Idx) : k0_pay1 (k0_pay87 g) (k0_pay92 (k0_pay88 w) X) y = out x l n s b h (y 0).val (y 1).val := by
  subst hh
  pointwise [k0_pay1, k0_pay92, k0_pay88, k0_pay87]
  simp only [hX, hg, hw, out]
  rfl

/-- The fourth head's norm and gate. -/
theorem norm3 (hh : h = 3) (y : S8x128.Idx) : k0_pay2 (k0_pay87 g) (k0_pay88 w) X y = out x l n s b h (y 0).val (y 1).val := by
  subst hh
  pointwise [k0_pay2, k0_pay88, k0_pay87]
  simp only [hX, hg, hw, out]
  rfl
end Norm

/-- The eight rows a grid point stores. -/
theorem out_block (c : Dev nD) (t : Fin cfg0.N)
    (H : Gated (m ((c : Thread nD τ).loc main_arg1))) (y : S8x512.Idx) :
    (outsAt0 m c t).1 y = out (m ((c : Thread nD τ).loc main_arg0)) (m ((c : Thread nD τ).loc main_arg1))
      (m ((c : Thread nD τ).loc main_arg2)) (m ((c : Thread nD τ).loc main_arg3)) t.val ((y 1).val / 128) (y 0).val ((y 1).val % 128) := by
  unfold outsAt0
  frame_out
  rw [head3_o, head2_o, head1_o, head0_o, slab3, slab2, slab1, slab0, lane3, lane2, lane1, lane0]
  refine rows_at _ _ _ _ (fun h r d => out (m ((c : Thread nD τ).loc main_arg0)) (m ((c : Thread nD τ).loc main_arg1))
    (m ((c : Thread nD τ).loc main_arg2)) (m ((c : Thread nD τ).loc main_arg3)) t.val h r d) ?_ ?_ ?_ ?_ _
  · exact norm0 t.val 0 _ _ _ (glogits_at m c t) (scale_at m c t) (headO_at H t.val 0
      (fun r k => (cols_at _ _ _ 0 (by decide) _ k0_off1_eq _ r k).trans (decays m c t H _))
      (fun r k => (cols_at _ _ _ 0 (by decide) _ k0_off1_eq _ r k).trans (queries m c t _))
      (fun r k => (cols_at _ _ _ 0 (by decide) _ k0_off1_eq _ r k).trans (keys m c t _))
      (fun r d => vals_at m c t 0 _ k0_off2_eq _ r d) (fun d k => state_in m c t 0 _ d k)) rfl
  · exact norm1 t.val 1 _ _ _ (glogits_at m c t) (scale_at m c t) (headO_at H t.val 1
      (fun r k => (cols_at _ _ _ 1 (by decide) _ k0_off3_eq _ r k).trans (decays m c t H _))
      (fun r k => (cols_at _ _ _ 1 (by decide) _ k0_off3_eq _ r k).trans (queries m c t _))
      (fun r k => (cols_at _ _ _ 1 (by decide) _ k0_off3_eq _ r k).trans (keys m c t _))
      (fun r d => vals_at m c t 1 _ k0_off4_eq _ r d) (fun d k => state_in m c t 1 _ d k)) rfl
  · exact norm2 t.val 2 _ _ _ (glogits_at m c t) (scale_at m c t) (headO_at H t.val 2
      (fun r k => (cols_at _ _ _ 2 (by decide) _ k0_off5_eq _ r k).trans (decays m c t H _))
      (fun r k => (cols_at _ _ _ 2 (by decide) _ k0_off5_eq _ r k).trans (queries m c t _))
      (fun r k => (cols_at _ _ _ 2 (by decide) _ k0_off5_eq _ r k).trans (keys m c t _))
      (fun r d => vals_at m c t 2 _ k0_off6_eq _ r d) (fun d k => state_in m c t 2 _ d k)) rfl
  · exact norm3 t.val 3 _ _ _ (glogits_at m c t) (scale_at m c t) (headO_at H t.val 3
      (fun r k => (cols_at _ _ _ 3 (by decide) _ k0_off7_eq _ r k).trans (decays m c t H _))
      (fun r k => (cols_at _ _ _ 3 (by decide) _ k0_off7_eq _ r k).trans (queries m c t _))
      (fun r k => (cols_at _ _ _ 3 (by decide) _ k0_off7_eq _ r k).trans (keys m c t _))
      (fun r d => vals_at m c t 3 _ k0_off8_eq _ r d) (fun d k => state_in m c t 3 _ d k)) rfl

/-- The array of the outputs after the run is the reference's first result. -/
theorem out_array (c : Dev nD) (H : Gated (m ((c : Thread nD τ).loc main_arg1))) :
    (dats m 0 c).arrAt 7 (cfgs 0).N = Cert.HgrnSampleRefIdeal.Read.val_main_v106 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 7 _ (by decide +kernel) fun t _ y => ?_
  have h0 : ((y : S8x512.Idx) 0).val < 8 := ((y : S8x512.Idx) 0).isLt
  blk_simp
  rw [after0_7]
  refine (out_block m c t H y).trans ?_
  refine Eq.trans ?_ (Cert.HgrnSampleRefIdeal.Hand.result_at _ _ _).symm
  blk_simp [place t]
  rw [show (t.val * 8 + ((y : S8x512.Idx) 0).val) / 8 = t.val by omega, show (t.val * 8 + ((y : S8x512.Idx) 0).val) % 8 = ((y : S8x512.Idx) 0).val by omega]

/-- The array of the transposed states after the run. -/
theorem states_array (c : Dev nD) (H : Gated (m ((c : Thread nD τ).loc main_arg1))) :
    (dats m 0 c).arrAt 8 (cfgs 0).N = fun i : S32x4x128x128.Idx => next (m ((c : Thread nD τ).loc main_arg0))
      (m ((c : Thread nD τ).loc main_arg1)) (m ((c : Thread nD τ).loc main_arg3)) (i 0).val (i 1).val (i 3).val (i 2).val := by
  refine (dats m 0 c).arrAt_eq_of_covers 8 _ (by decide +kernel) fun t _ y => ?_
  have h0 : ((y : S1x4x128x128.Idx) 0).val < 1 := ((y : S1x4x128x128.Idx) 0).isLt
  blk_simp
  rw [after0_8]
  refine (state_block m c t H y).trans ?_
  blk_simp [place t]

/-- The last operation transposes the states back: they are the reference's second result. -/
theorem states_after (c : Dev nD) (H : Gated (m ((c : Thread nD τ).loc main_arg1))) :
    Pipeline.afterTail₀ cfgs (dats m) 0 (V0 m) [hostOps1] c main_v4
      = Cert.HgrnSampleRefIdeal.Read.val_main_v87 (F := Ideal) (m ((c : Thread nD τ).loc main_arg0)) (m ((c : Thread nD τ).loc main_arg1))
          (m ((c : Thread nD τ).loc main_arg3)) := by
  simp only [Pipeline.afterTail₀, hostOps1, List.flatten_cons, List.flatten_nil, List.append_nil]
  after_results
  have hs := (dats m 0 c).withArrays_arrAt launch₀0.sharedIn (V0 m c) (A_eq m c) 8
  have e : Pipeline.withArrays (cfgs 0).spec c (V0 m c) (fun w => (dats m 0 c).arrAt w (cfgs 0).N) (Proc.tc.devRef main_v3_1)
      = fun i : S32x4x128x128.Idx => next (m ((c : Thread nD τ).loc main_arg0))
      (m ((c : Thread nD τ).loc main_arg1)) (m ((c : Thread nD τ).loc main_arg3)) (i 0).val (i 1).val (i 3).val (i 2).val :=
    hs.trans (states_array m c H)
  rw [e]
  funext i
  rw [Cert.HgrnSampleRefIdeal.Hand.state_at _ i]
  pointwise

end Cert.HgrnSampleIdeal.Hand

end
-- ==== Proof.HgrnSampleBound.lean ====
/- The precondition of the recurrent mix read element by element: the forget gate's lower bounds are real numbers between
   zero and one. -/
module

public import proofs.«01_k».proof.Pre_unit_bound
public import proofs.«01_k».proof.Proof.AttnFinite
public import proofs.«01_k».proof.Proof.HgrnSampleMath
public import Idealize.ShloMosaic.Lib.Pipeline.ValueKit

@[expose] public section

noncomputable section

namespace Cert.HgrnSampleMath

open Idealize.ShloMosaic
open Cert.HgrnSampleRefIdeal (S11x256x512 S512 S128 S32x4x128x128)
open Cert.AttnMath (ofBits_zero ofBits_one)

/-- The shape relations the precondition's operations take. -/
theorem bound_facts : Cert.Pre_unit_bound.Facts where
  bcast_S_S512 := by decide

/-- A number found at least zero and at most one is real. -/
theorem real_of_unit (v : EReal) (h0 : FloatOps.cmpf (F := Ideal) (φ := .f32) .oge v (Ideal.ofBits .f32 0x00000000#32) = 1#1)
    (h1 : FloatOps.cmpf (F := Ideal) (φ := .f32) .ole v (Ideal.ofBits .f32 0x3F800000#32) = 1#1) :
    ∃ r : ℝ, 0 ≤ r ∧ r ≤ 1 ∧ v = (r : EReal) := by
  rw [ofBits_zero] at h0
  rw [ofBits_one] at h1
  have g0 : (0 : EReal) ≤ v := by
    by_contra hn
    have : FloatOps.cmpf (F := Ideal) (φ := .f32) .oge v (0 : EReal) = 0#1 := by
      show BitVec.ofBool (decide ((0 : EReal) ≤ v)) = 0#1
      rw [decide_eq_false hn]; rfl
    rw [this] at h0
    exact absurd h0 (by decide)
  have g1 : v ≤ (1 : EReal) := by
    by_contra hn
    have : FloatOps.cmpf (F := Ideal) (φ := .f32) .ole v (1 : EReal) = 0#1 := by
      show BitVec.ofBool (decide (v ≤ (1 : EReal))) = 0#1
      rw [decide_eq_false hn]; rfl
    rw [this] at h1
    exact absurd h1 (by decide)
  have e : v = ((v.toReal : ℝ) : EReal) := by
    refine (EReal.coe_toReal ?_ ?_).symm
    · rintro rfl; exact absurd g1 (by rw [← EReal.coe_one]; exact not_le_of_gt (EReal.coe_lt_top 1))
    · rintro rfl; exact absurd g0 (by rw [← EReal.coe_zero]; exact not_le_of_gt (EReal.bot_lt_coe 0))
  refine ⟨v.toReal, ?_, ?_, e⟩
  · rw [e] at g0; exact EReal.coe_nonneg.mp g0
  · rw [e, ← EReal.coe_one] at g1; exact EReal.coe_le_coe_iff.mp g1

variable (x : S11x256x512.Idx → EReal) (l : S512.Idx → EReal) (n : S128.Idx → EReal) (s : S32x4x128x128.Idx → EReal)

/-- The precondition gives what the recurrence needs. -/
theorem gated_of_pre [Cert.Pre_unit_bound.Facts]
    (h0 : (Cert.Pre_unit_bound.fn (F := Ideal) x l n s).1 = fun _ => 1#1)
    (h1 : (Cert.Pre_unit_bound.fn (F := Ideal) x l n s).2 = fun _ => 1#1) : Gated l := fun c => by
  by_cases hi : c < 512
  · rw [at1, dif_pos hi]
    exact real_of_unit _ (congrFun h0 _) (congrFun h1 _)
  · rw [at1, dif_neg hi]
    exact ⟨0, le_rfl, zero_le_one, EReal.coe_zero.symm⟩

end Cert.HgrnSampleMath

end
-- ==== Proof.HgrnMath.lean ====
/- The gated recurrence of the prompt over the extended reals: the output and the last state of one sequence of 4096 tokens
   as sums over its tokens. Both the reference and the kernel are compared with `out` and `next`. -/
module

public import proofs.«01_k».proof.Proof.Gen.HgrnRefIdeal.Read
public import proofs.«01_k».proof.Proof.HgrnSampleMath

@[expose] public section

set_option maxRecDepth 16384

noncomputable section

namespace Cert.HgrnMath

open Cert.HgrnRefIdeal Cert.HgrnRefIdeal.Gen Idealize.ShloMosaic
open Cert.HgrnSampleMath (lae lsig lgate lgate_real)
open Cert.AttnMath (coe_sum)

/-- The projections read at natural numbers, zero outside. -/
def at3 (x : S11x16384x512.Idx → EReal) (a r c : ℕ) : EReal :=
  if h : a < 11 ∧ r < 16384 ∧ c < 512 then
    x (fun i => match i with | ⟨0, _⟩ => ⟨a, h.1⟩ | ⟨1, _⟩ => ⟨r, h.2.1⟩ | ⟨2, _⟩ => ⟨c, h.2.2⟩) else 0

/-- The lower bounds of the forget gate read at a natural number, zero outside. -/
def at1 (x : S512.Idx → EReal) (c : ℕ) : EReal :=
  if h : c < 512 then x (fun i => match i with | ⟨0, _⟩ => ⟨c, h⟩) else 0

/-- The norm's scale read at a natural number, zero outside. -/
def atn (x : S128.Idx → EReal) (c : ℕ) : EReal :=
  if h : c < 128 then x (fun i => match i with | ⟨0, _⟩ => ⟨c, h⟩) else 0

theorem at3_eq (x : S11x16384x512.Idx → EReal) (i : S11x16384x512.Idx) (a r c : ℕ)
    (h0 : (i 0).val = a) (h1 : (i 1).val = r) (h2 : (i 2).val = c) : x i = at3 x a r c := by
  have ha : a < 11 := h0 ▸ (i 0).isLt
  have hr : r < 16384 := h1 ▸ (i 1).isLt
  have hc : c < 512 := h2 ▸ (i 2).isLt
  rw [at3, dif_pos ⟨ha, hr, hc⟩]
  congr 1; funext k
  match k with
  | ⟨0, _⟩ => exact Fin.ext h0
  | ⟨1, _⟩ => exact Fin.ext h1
  | ⟨2, _⟩ => exact Fin.ext h2

theorem at1_eq (x : S512.Idx → EReal) (i : S512.Idx) (c : ℕ) (h0 : (i 0).val = c) : x i = at1 x c := by
  have hc : c < 512 := h0 ▸ (i 0).isLt
  rw [at1, dif_pos hc]
  congr 1; funext k
  match k with
  | ⟨0, _⟩ => exact Fin.ext h0

theorem atn_eq (x : S128.Idx → EReal) (i : S128.Idx) (c : ℕ) (h0 : (i 0).val = c) : x i = atn x c := by
  have hc : c < 128 := h0 ▸ (i 0).isLt
  rw [atn, dif_pos hc]
  congr 1; funext k
  match k with
  | ⟨0, _⟩ => exact Fin.ext h0

variable (x : S11x16384x512.Idx → EReal) (l : S512.Idx → EReal) (n : S128.Idx → EReal)

/-- The logarithm of the forget gate of row `r`, column `c`. -/
def lf (r c : ℕ) : EReal := lgate (at1 l c) (at3 x 4 r c)

/-- The decay of sequence `b` up to and including token `t`, at column `c`. -/
def cum (b t c : ℕ) : EReal := ∑ j ∈ Finset.range (t + 1), lf x l (b * 4096 + j) c

/-- The query with its gate. -/
def qry (r c : ℕ) : EReal := at3 x 3 r c * Ideal.logistic (at3 x 3 r c)

/-- The key: one minus the forget gate. -/
def key (r c : ℕ) : EReal := (1 - at1 l c) * Ideal.logistic (-(at3 x 4 r c))

/-- The weight that token `t` gives token `j` of the same sequence, head `h`. -/
def att (b h t j : ℕ) : EReal :=
  if j ≤ t then ∑ k : Fin 128, qry x (b * 4096 + t) (h * 128 + k.val) * key x l (b * 4096 + j) (h * 128 + k.val)
      * Ideal.exp (cum x l b t (h * 128 + k.val) - cum x l b j (h * 128 + k.val))
  else 0

/-- The output of token `t` of sequence `b`, head `h`, before the norm: the values of the tokens so far. -/
def mix (b h t d : ℕ) : EReal :=
  ∑ j : Fin 4096, att x l b h t j.val * at3 x 5 (b * 4096 + j.val) (h * 128 + d)

/-- The state after the last token of sequence `b`, head `h`. -/
def next (b h k d : ℕ) : EReal :=
  ∑ j : Fin 4096, key x l (b * 4096 + j.val) (h * 128 + k)
        * Ideal.exp (cum x l b 4095 (h * 128 + k) - cum x l b j.val (h * 128 + k)) * at3 x 5 (b * 4096 + j.val) (h * 128 + d)

/-- The result of token `t` of sequence `b` at head `h`, column `d`: the norm over the head's columns, scaled and gated. -/
def out (b h t d : ℕ) : EReal :=
  mix x l b h t d * Ideal.rsqrt (Ideal.div (∑ k : Fin 128, mix x l b h t k.val * mix x l b h t k.val) (Ideal.ofBits .f32 0x43000000#32)
      + Ideal.ofBits .f32 0x358637BD#32) * atn n d
    * (at3 x 6 (b * 4096 + t) (h * 128 + d) * Ideal.logistic (at3 x 6 (b * 4096 + t) (h * 128 + d)))

/-! ### With finite inputs everything is a real number -/

/-- What the precondition gives: the lower bounds of the forget gate lie in `[0, 1]`; queries, forget logits and values are
    real numbers. -/
def Given : Prop := (∀ c, ∃ v : ℝ, 0 ≤ v ∧ v ≤ 1 ∧ at1 l c = (v : EReal))
  ∧ ∀ a, a = 3 ∨ a = 4 ∨ a = 5 → ∀ r c, ∃ v : ℝ, at3 x a r c = (v : EReal)

/-- The logarithm of the forget gate as a real number. -/
def lr (r c : ℕ) : ℝ := (lf x l r c).toReal
/-- The query as a real number. -/
def qr (r c : ℕ) : ℝ := (qry x r c).toReal
/-- The key as a real number. -/
def kr (r c : ℕ) : ℝ := (key x l r c).toReal
/-- The value as a real number. -/
def vr (r c : ℕ) : ℝ := (at3 x 5 r c).toReal
/-- The logarithm of the decay over the first `n` tokens of sequence `b`. -/
def dr (b c n : ℕ) : ℝ := ∑ j ∈ Finset.range n, lr x l (b * 4096 + j) c
/-- The state after the first `n` tokens of sequence `b`, head `h`. -/
def st (b h n k d : ℕ) : ℝ := ∑ j ∈ Finset.range n, kr x l (b * 4096 + j) (h * 128 + k)
  * Real.exp (dr x l b (h * 128 + k) n - dr x l b (h * 128 + k) (j + 1)) * vr x (b * 4096 + j) (h * 128 + d)
/-- The weight token `t` gives token `j`. -/
def wt (b h t j : ℕ) : ℝ := ∑ k : Fin 128, qr x (b * 4096 + t) (h * 128 + k.val) * kr x l (b * 4096 + j) (h * 128 + k.val)
  * Real.exp (dr x l b (h * 128 + k.val) (t + 1) - dr x l b (h * 128 + k.val) (j + 1))
/-- The output of token `t` of sequence `b`, head `h`, before the norm. -/
def mr (b h t d : ℕ) : ℝ := ∑ j ∈ Finset.range (t + 1), wt x l b h t j * vr x (b * 4096 + j) (h * 128 + d)

section Finite
variable {x l} (G : Given x l)
include G

theorem lf_coe (r c : ℕ) : lf x l r c = ((lr x l r c : ℝ) : EReal) ∧ lr x l r c ≤ 0 := by
  obtain ⟨v, h0, h1, e⟩ := G.1 c
  obtain ⟨z, ez⟩ := G.2 4 (.inr (.inl rfl)) r c
  obtain ⟨w, hw, ew⟩ := lgate_real v z h0 h1
  have : lf x l r c = (w : EReal) := by rw [lf, e, ez, ew]
  rw [lr, this, EReal.toReal_coe]
  exact ⟨rfl, hw⟩

theorem qry_coe (r c : ℕ) : qry x r c = ((qr x r c : ℝ) : EReal) := by
  obtain ⟨z, ez⟩ := G.2 3 (.inl rfl) r c
  have : qry x r c = ((z * (1 + Real.exp (-z))⁻¹ : ℝ) : EReal) := by rw [qry, ez, Ideal.logistic_coe, ← EReal.coe_mul]
  rw [qr, this, EReal.toReal_coe]

theorem key_coe (r c : ℕ) : key x l r c = ((kr x l r c : ℝ) : EReal) := by
  obtain ⟨v, h0, h1, e⟩ := G.1 c
  obtain ⟨z, ez⟩ := G.2 4 (.inr (.inl rfl)) r c
  have : key x l r c = (((1 - v) * (1 + Real.exp (-(-z)))⁻¹ : ℝ) : EReal) := by
    rw [key, e, ez, ← EReal.coe_neg, Ideal.logistic_coe, ← EReal.coe_one, ← EReal.coe_sub, ← EReal.coe_mul]
  rw [kr, this, EReal.toReal_coe]

theorem val_coe (r c : ℕ) : at3 x 5 r c = ((vr x r c : ℝ) : EReal) := by
  obtain ⟨z, ez⟩ := G.2 5 (.inr (.inr rfl)) r c
  rw [vr, ez, EReal.toReal_coe]

theorem cum_coe (b t c : ℕ) : cum x l b t c = ((dr x l b c (t + 1) : ℝ) : EReal) := by
  rw [cum, dr, ← coe_sum]
  exact Finset.sum_congr rfl fun j _ => (lf_coe G _ _).1

/-- The decay only falls along the sequence. -/
theorem dr_anti (b c : ℕ) {m n : ℕ} (h : m ≤ n) : dr x l b c n ≤ dr x l b c m := by
  induction n, h using Nat.le_induction with
  | base => exact le_rfl
  | succ n _ ih =>
    have e : dr x l b c (n + 1) = dr x l b c n + lr x l (b * 4096 + n) c := Finset.sum_range_succ _ _
    have := (lf_coe G (b * 4096 + n) c).2
    linarith

/-- The reference's weight. -/
theorem att_coe (b h t j : ℕ) : att x l b h t j = (((if j ≤ t then wt x l b h t j else 0 : ℝ)) : EReal) := by
  rw [att]
  by_cases hj : j ≤ t
  · rw [if_pos hj, if_pos hj, wt, ← coe_sum]
    refine Finset.sum_congr rfl fun k _ => ?_
    rw [qry_coe G, key_coe G, cum_coe G, cum_coe G, ← EReal.coe_sub, Ideal.exp_coe, ← EReal.coe_mul, ← EReal.coe_mul]
  · rw [if_neg hj, if_neg hj, EReal.coe_zero]

/-- The reference's output before the norm. -/
theorem mix_coe (b h t d : ℕ) (ht : t < 4096) : mix x l b h t d = ((mr x l b h t d : ℝ) : EReal) := by
  have e : mr x l b h t d = ∑ j : Fin 4096, (if j.val ≤ t then wt x l b h t j.val else 0) * vr x (b * 4096 + j.val) (h * 128 + d) := by
    rw [Fin.sum_univ_eq_sum_range (fun j => (if j ≤ t then wt x l b h t j else 0) * vr x (b * 4096 + j) (h * 128 + d)) 4096, mr]
    refine (Finset.sum_congr rfl fun j hj => ?_).trans (Finset.sum_subset (s₂ := Finset.range 4096)
      (f := fun j => (if j ≤ t then wt x l b h t j else 0) * vr x (b * 4096 + j) (h * 128 + d)) (fun j hj => ?_) fun j _ hj => ?_)
    · rw [Finset.mem_range] at hj; rw [if_pos (by omega)]
    · rw [Finset.mem_range] at hj ⊢; omega
    · rw [Finset.mem_range] at hj; rw [if_neg (by omega), zero_mul]
  rw [mix, e, ← coe_sum]
  refine Finset.sum_congr rfl fun j _ => ?_
  rw [att_coe G, val_coe G, ← EReal.coe_mul]

/-- The reference's last state. -/
theorem next_coe (b h k d : ℕ) : next x l b h k d = ((st x l b h 4096 k d : ℝ) : EReal) := by
  have e : st x l b h 4096 k d = ∑ j : Fin 4096, kr x l (b * 4096 + j.val) (h * 128 + k)
      * Real.exp (dr x l b (h * 128 + k) 4096 - dr x l b (h * 128 + k) (j.val + 1)) * vr x (b * 4096 + j.val) (h * 128 + d) :=
    (Fin.sum_univ_eq_sum_range (fun j => kr x l (b * 4096 + j) (h * 128 + k)
      * Real.exp (dr x l b (h * 128 + k) 4096 - dr x l b (h * 128 + k) (j + 1)) * vr x (b * 4096 + j) (h * 128 + d)) 4096).symm
  rw [next, e, ← coe_sum]
  refine Finset.sum_congr rfl fun j _ => ?_
  rw [key_coe G, cum_coe G, cum_coe G, val_coe G, ← EReal.coe_sub, Ideal.exp_coe, ← EReal.coe_mul, ← EReal.coe_mul]
end Finite

/-- Sixteen more tokens: the state decays and takes them in. -/
theorem st_step (b h n k d : ℕ) :
    st x l b h (n + 16) k d = st x l b h n k d * Real.exp (dr x l b (h * 128 + k) (n + 16) - dr x l b (h * 128 + k) n)
      + ∑ i : Fin 16, vr x (b * 4096 + (n + i.val)) (h * 128 + d) * (kr x l (b * 4096 + (n + i.val)) (h * 128 + k)
        * Real.exp ((dr x l b (h * 128 + k) (n + 16) - dr x l b (h * 128 + k) n)
          - (dr x l b (h * 128 + k) (n + i.val + 1) - dr x l b (h * 128 + k) n))) := by
  rw [st, Finset.sum_range_add, st, Finset.sum_mul]
  refine congrArg₂ _ (Finset.sum_congr rfl fun j _ => ?_) ?_
  · rw [show dr x l b (h * 128 + k) (n + 16) - dr x l b (h * 128 + k) (j + 1)
      = (dr x l b (h * 128 + k) n - dr x l b (h * 128 + k) (j + 1)) + (dr x l b (h * 128 + k) (n + 16) - dr x l b (h * 128 + k) n) by ring,
      Real.exp_add]
    ring
  · rw [Fin.sum_univ_eq_sum_range (fun i => vr x (b * 4096 + (n + i)) (h * 128 + d) * (kr x l (b * 4096 + (n + i)) (h * 128 + k)
        * Real.exp ((dr x l b (h * 128 + k) (n + 16) - dr x l b (h * 128 + k) n)
          - (dr x l b (h * 128 + k) (n + i + 1) - dr x l b (h * 128 + k) n)))) 16]
    refine Finset.sum_congr rfl fun i _ => ?_
    rw [sub_sub_sub_cancel_right]
    ring

/-- The output of token `r` of a run of sixteen: the state before the run read by the query, and the run's tokens so far. -/
theorem mr_step (b h n r d : ℕ) (hr : r < 16) :
    mr x l b h (n + r) d = (∑ k : Fin 128, qr x (b * 4096 + (n + r)) (h * 128 + k.val)
        * Real.exp (dr x l b (h * 128 + k.val) (n + r + 1) - dr x l b (h * 128 + k.val) n) * st x l b h n k.val d)
      + ∑ i : Fin 16, (if i.val ≤ r then wt x l b h (n + r) (n + i.val) else 0) * vr x (b * 4096 + (n + i.val)) (h * 128 + d) := by
  rw [mr, show n + r + 1 = n + (r + 1) by omega, Finset.sum_range_add]
  refine congrArg₂ _ ?_ ?_
  · simp only [st, Finset.mul_sum]
    rw [Finset.sum_comm]
    refine Finset.sum_congr rfl fun j _ => ?_
    rw [wt, Finset.sum_mul]
    refine Finset.sum_congr rfl fun k _ => ?_
    rw [show dr x l b (h * 128 + k.val) (n + r + 1) - dr x l b (h * 128 + k.val) (j + 1)
      = (dr x l b (h * 128 + k.val) (n + r + 1) - dr x l b (h * 128 + k.val) n) + (dr x l b (h * 128 + k.val) n - dr x l b (h * 128 + k.val) (j + 1)) by ring,
      Real.exp_add]
    rw [show n + (r + 1) = n + r + 1 by omega]
    ring
  · rw [Fin.sum_univ_eq_sum_range (fun i => (if i ≤ r then wt x l b h (n + r) (n + i) else 0) * vr x (b * 4096 + (n + i)) (h * 128 + d)) 16]
    refine (Finset.sum_congr rfl fun j hj => ?_).trans (Finset.sum_subset (s₂ := Finset.range 16)
      (f := fun i => (if i ≤ r then wt x l b h (n + r) (n + i) else 0) * vr x (b * 4096 + (n + i)) (h * 128 + d)) (fun j hj => ?_) fun j _ hj => ?_)
    · rw [Finset.mem_range] at hj; rw [if_pos (by omega)]
    · rw [Finset.mem_range] at hj ⊢; omega
    · rw [Finset.mem_range] at hj; rw [if_neg (by omega), zero_mul]

end Cert.HgrnMath

end
-- ==== Proof.HgrnBound.lean ====
/- The precondition of the recurrence over the prompt read element by element: the queries', forget gate's and values' entries
   are real numbers and the forget gate's lower bounds are between zero and one. -/
module

public import proofs.«01_k».proof.Pre_gated
public import proofs.«01_k».proof.Proof.AttnFinite
public import proofs.«01_k».proof.Proof.HgrnSampleBound
public import proofs.«01_k».proof.Proof.HgrnMath
public import Idealize.ShloMosaic.Lib.Pipeline.ValueKit

@[expose] public section

noncomputable section

namespace Cert.HgrnMath

open Idealize.ShloMosaic
open Cert.HgrnRefIdeal (S11x16384x512 S512 S128)
open Cert.AttnMath (real_of_lt)
open Cert.HgrnSampleMath (real_of_unit)

/-- The shape relations the precondition's operations take. -/
theorem gated_facts : Cert.Pre_gated.Facts where
  slices_S11x16384x512_S1x16384x512_3_0_0 := by decide
  shapeCasts_S1x16384x512_S16384x512 := by decide
  bcast_S_S16384x512 := by decide
  slices_S11x16384x512_S1x16384x512_4_0_0 := by decide
  slices_S11x16384x512_S1x16384x512_5_0_0 := by decide
  bcast_S_S512 := by decide

/-- A plane of the stack, cut out and read as a matrix. -/
theorem plane_at (x : S11x16384x512.Idx → EReal) (a : ℕ) (h : S11x16384x512.Slices ![a, 0, 0] Cert.Pre_gated.S1x16384x512)
    (h' : Cert.Pre_gated.S1x16384x512.ShapeCasts Cert.Pre_gated.S16384x512) (i : Cert.Pre_gated.S16384x512.Idx) :
    (shapeCast Cert.Pre_gated.S16384x512 (extractStridedSlice Cert.Pre_gated.S1x16384x512 ![a, 0, 0] x h) h' : Cert.Pre_gated.S16384x512.Idx → EReal) i
      = at3 x a (i 0).val (i 1).val := by
  pointwise
  refine at3_eq x _ _ _ _ ?_ ?_ ?_ <;> simp

variable (x : S11x16384x512.Idx → EReal) (l : S512.Idx → EReal) (n : S128.Idx → EReal)

/-- The precondition gives what the recurrence needs. -/
theorem given_of_pre [Cert.Pre_gated.Facts]
    (h3 : (Cert.Pre_gated.fn (F := Ideal) x l n).1 = fun _ => 1#1)
    (h4 : (Cert.Pre_gated.fn (F := Ideal) x l n).2.1 = fun _ => 1#1)
    (h5 : (Cert.Pre_gated.fn (F := Ideal) x l n).2.2.1 = fun _ => 1#1)
    (h0 : (Cert.Pre_gated.fn (F := Ideal) x l n).2.2.2.1 = fun _ => 1#1)
    (h1 : (Cert.Pre_gated.fn (F := Ideal) x l n).2.2.2.2 = fun _ => 1#1) : Given x l := by
  refine ⟨fun c => ?_, fun a ha r c => ?_⟩
  · by_cases hi : c < 512
    · rw [at1, dif_pos hi]
      exact real_of_unit _ (congrFun h0 _) (congrFun h1 _)
    · rw [at1, dif_neg hi]
      exact ⟨0, le_rfl, zero_le_one, EReal.coe_zero.symm⟩
  · by_cases hi : a < 11 ∧ r < 16384 ∧ c < 512
    · rcases ha with rfl | rfl | rfl
      · have h := congrFun h3 (fun i => match i with | ⟨0, _⟩ => ⟨r, hi.2.1⟩ | ⟨1, _⟩ => ⟨c, hi.2.2⟩)
        exact ⟨_, (plane_at x 3 Cert.Pre_gated.Facts.slices_S11x16384x512_S1x16384x512_3_0_0 Cert.Pre_gated.Facts.shapeCasts_S1x16384x512_S16384x512 _).symm.trans (real_of_lt _ h)⟩
      · have h := congrFun h4 (fun i => match i with | ⟨0, _⟩ => ⟨r, hi.2.1⟩ | ⟨1, _⟩ => ⟨c, hi.2.2⟩)
        exact ⟨_, (plane_at x 4 Cert.Pre_gated.Facts.slices_S11x16384x512_S1x16384x512_4_0_0 Cert.Pre_gated.Facts.shapeCasts_S1x16384x512_S16384x512 _).symm.trans (real_of_lt _ h)⟩
      · have h := congrFun h5 (fun i => match i with | ⟨0, _⟩ => ⟨r, hi.2.1⟩ | ⟨1, _⟩ => ⟨c, hi.2.2⟩)
        exact ⟨_, (plane_at x 5 Cert.Pre_gated.Facts.slices_S11x16384x512_S1x16384x512_5_0_0 Cert.Pre_gated.Facts.shapeCasts_S1x16384x512_S16384x512 _).symm.trans (real_of_lt _ h)⟩
    · rw [at3, dif_neg hi]
      exact ⟨0, EReal.coe_zero.symm⟩

end Cert.HgrnMath

end
-- ==== Proof.HgrnIdealHead.lean ====
/- The recurrence over sixteen tokens at one head: the four heads' expressions are one function of the head's decays,
   queries, keys, values and state, and that function is the recurrence over real numbers. -/
module

public import proofs.«01_k».proof.Proof.HgrnMath
public import proofs.«01_k».proof.Proof.Gen.HgrnIdeal.Skeleton

@[expose] public section

set_option maxRecDepth 65536
set_option maxHeartbeats 4000000

noncomputable section

namespace Cert.HgrnIdeal.Hand

open Cert.HgrnIdeal Cert.HgrnIdeal.Gen Idealize.ShloMosaic
open Cert.HgrnMath
open Cert.AttnMath (coe_sum max_coe)
open Cert.HgrnRefIdeal (S11x16384x512 S512)

section Heads

variable (B Q K : Vec Ideal S16x128 .f32) (V : Vec Ideal S1x16x128 .f32) (S : Vec Ideal S1x128x128 .f32)

/-- The head's output before the norm. -/
def headO : FVec Ideal S16x128 .f32 :=
  (k0_pay31 (iota Kind.tc S16x1 32 [0] iota_S16x1_d0_w32) (k0_pay28 (iota Kind.tc S16x1 32 [0] iota_S16x1_d0_w32) B Q K (k0_pay4 V) (k0_pay24 (iota Kind.tc S16x1 32 [0] iota_S16x1_d0_w32) B Q K (k0_pay4 V) (k0_pay19 (iota Kind.tc S16x1 32 [0] iota_S16x1_d0_w32) B Q K (k0_pay4 V) (k0_pay15 (iota Kind.tc S16x1 32 [0] iota_S16x1_d0_w32) B Q K (k0_pay4 V) (k0_pay14 (iota Kind.tc S16x1 32 [0] iota_S16x1_d0_w32) B Q K (k0_pay4 V) (k0_pay11 (iota Kind.tc S16x1 32 [0] iota_S16x1_d0_w32) B Q K (k0_pay4 V) (k0_pay7 (iota Kind.tc S16x1 32 [0] iota_S16x1_d0_w32) B Q K V S) (k0_pay8 K) (k0_pay9 V) (k0_pay10 B)) (k0_pay12 (k0_pay4 V)) (k0_pay13 B Q K))) (k0_pay16 (k0_pay4 V)) (k0_pay17 B) (k0_pay18 K)) (k0_pay20 (k0_pay4 V)) (k0_pay21 B Q K) (k0_pay22 (iota Kind.tc S16x1 32 [0] iota_S16x1_d0_w32)) k0_pay23) (k0_pay25 K) (k0_pay26 (k0_pay4 V)) (k0_pay27 B)) (k0_pay29 (k0_pay4 V)) (k0_pay30 B Q K))

/-- The head's state after the sixteen tokens. -/
def headS : FVec Ideal S1x128x128 .f32 :=
  (k0_pay32 B K (k0_pay4 V) (k0_pay5 B) (k0_pay6 S))

/-- The output of the first head. -/
theorem head0_o : (k0_pay31 (iota Kind.tc S16x1 32 [0] iota_S16x1_d0_w32) (k0_pay28 (iota Kind.tc S16x1 32 [0] iota_S16x1_d0_w32) B Q K (k0_pay4 V) (k0_pay24 (iota Kind.tc S16x1 32 [0] iota_S16x1_d0_w32) B Q K (k0_pay4 V) (k0_pay19 (iota Kind.tc S16x1 32 [0] iota_S16x1_d0_w32) B Q K (k0_pay4 V) (k0_pay15 (iota Kind.tc S16x1 32 [0] iota_S16x1_d0_w32) B Q K (k0_pay4 V) (k0_pay14 (iota Kind.tc S16x1 32 [0] iota_S16x1_d0_w32) B Q K (k0_pay4 V) (k0_pay11 (iota Kind.tc S16x1 32 [0] iota_S16x1_d0_w32) B Q K (k0_pay4 V) (k0_pay7 (iota Kind.tc S16x1 32 [0] iota_S16x1_d0_w32) B Q K V S) (k0_pay8 K) (k0_pay9 V) (k0_pay10 B)) (k0_pay12 (k0_pay4 V)) (k0_pay13 B Q K))) (k0_pay16 (k0_pay4 V)) (k0_pay17 B) (k0_pay18 K)) (k0_pay20 (k0_pay4 V)) (k0_pay21 B Q K) (k0_pay22 (iota Kind.tc S16x1 32 [0] iota_S16x1_d0_w32)) k0_pay23) (k0_pay25 K) (k0_pay26 (k0_pay4 V)) (k0_pay27 B)) (k0_pay29 (k0_pay4 V)) (k0_pay30 B Q K))
      = headO B Q K V S := rfl

/-- The new state of the first head. -/
theorem head0_s : (k0_pay32 B K (k0_pay4 V) (k0_pay5 B) (k0_pay6 S))
      = headS B K V S := rfl

/-- The output of the second head. -/
theorem head1_o : (k0_pay59 (iota Kind.tc S16x1 32 [0] iota_S16x1_d0_w32) B Q K (k0_pay33 V) (k0_pay55 (iota Kind.tc S16x1 32 [0] iota_S16x1_d0_w32) B Q K (k0_pay33 V) (k0_pay53 (iota Kind.tc S16x1 32 [0] iota_S16x1_d0_w32) B Q K (k0_pay33 V) (k0_pay50 (iota Kind.tc S16x1 32 [0] iota_S16x1_d0_w32) B Q K (k0_pay33 V) (k0_pay46 (iota Kind.tc S16x1 32 [0] iota_S16x1_d0_w32) B Q K (k0_pay33 V) (k0_pay42 (iota Kind.tc S16x1 32 [0] iota_S16x1_d0_w32) B Q K (k0_pay33 V) (k0_pay38 (iota Kind.tc S16x1 32 [0] iota_S16x1_d0_w32) B Q K (k0_pay33 V) (k0_pay36 B Q) (k0_pay37 S) (constant S16x128 FTy.f32 0#32)) (k0_pay39 K) (k0_pay40 (k0_pay33 V)) (k0_pay41 B)) (k0_pay43 (k0_pay33 V)) (k0_pay44 B Q K) (k0_pay45 (iota Kind.tc S16x1 32 [0] iota_S16x1_d0_w32)) (Scalar.ofBits FTy.f32 0x00000000#32)) (k0_pay47 K) (k0_pay48 (k0_pay33 V)) (k0_pay49 B)) (k0_pay51 (k0_pay33 V)) (k0_pay52 B Q K)) (k0_pay54 (iota Kind.tc S16x1 32 [0] iota_S16x1_d0_w32) B Q K (k0_pay33 V))) (k0_pay56 K) (k0_pay57 (k0_pay33 V)) (k0_pay58 B))
      = headO B Q K V S := rfl

/-- The new state of the second head. -/
theorem head1_s : (k0_pay61 (k0_pay60 B K (k0_pay33 V) (k0_pay34 B) (k0_pay35 S)))
      = headS B K V S := rfl

/-- The output of the third head. -/
theorem head2_o : (k0_pay90 (iota Kind.tc S16x1 32 [0] iota_S16x1_d0_w32) (k0_pay87 (iota Kind.tc S16x1 32 [0] iota_S16x1_d0_w32) B Q K (k0_pay62 V) (k0_pay83 (iota Kind.tc S16x1 32 [0] iota_S16x1_d0_w32) B Q K (k0_pay62 V) (k0_pay79 (iota Kind.tc S16x1 32 [0] iota_S16x1_d0_w32) B Q K (k0_pay62 V) (k0_pay75 (iota Kind.tc S16x1 32 [0] iota_S16x1_d0_w32) B Q K (k0_pay62 V) (k0_pay72 (iota Kind.tc S16x1 32 [0] iota_S16x1_d0_w32) B Q K (k0_pay62 V) (k0_pay69 (iota Kind.tc S16x1 32 [0] iota_S16x1_d0_w32) B Q K (k0_pay62 V) (k0_pay65 (iota Kind.tc S16x1 32 [0] iota_S16x1_d0_w32) B Q K V S) (k0_pay66 B) (k0_pay67 K) (k0_pay68 V)) (k0_pay70 (k0_pay62 V)) (k0_pay71 B Q K)) (k0_pay73 (iota Kind.tc S16x1 32 [0] iota_S16x1_d0_w32) B Q K) (k0_pay74 (k0_pay62 V))) (k0_pay76 K) (k0_pay77 (k0_pay62 V)) (k0_pay78 B)) (k0_pay80 (k0_pay62 V)) (k0_pay81 B Q K) (k0_pay82 (iota Kind.tc S16x1 32 [0] iota_S16x1_d0_w32))) (k0_pay84 B) (k0_pay85 K) (k0_pay86 (k0_pay62 V))) (k0_pay88 (k0_pay62 V)) (k0_pay89 B Q K))
      = headO B Q K V S := rfl

/-- The new state of the third head. -/
theorem head2_s : (k0_pay91 B K (k0_pay62 V) (k0_pay63 B) (k0_pay64 S))
      = headS B K V S := rfl

/-- The output of the fourth head. -/
theorem head3_o : (k0_pay119 (iota Kind.tc S16x1 32 [0] iota_S16x1_d0_w32) B Q K (k0_pay92 V) (k0_pay114 (iota Kind.tc S16x1 32 [0] iota_S16x1_d0_w32) B Q K (k0_pay92 V) (k0_pay111 (iota Kind.tc S16x1 32 [0] iota_S16x1_d0_w32) B Q K (k0_pay92 V) (k0_pay108 (iota Kind.tc S16x1 32 [0] iota_S16x1_d0_w32) B Q K (k0_pay92 V) (k0_pay105 (iota Kind.tc S16x1 32 [0] iota_S16x1_d0_w32) B Q K (k0_pay92 V) (k0_pay101 (iota Kind.tc S16x1 32 [0] iota_S16x1_d0_w32) B Q K (k0_pay92 V) (k0_pay96 (iota Kind.tc S16x1 32 [0] iota_S16x1_d0_w32) B Q K (k0_pay92 V) (k0_pay94 S) (k0_pay95 B Q)) (k0_pay97 K) (k0_pay98 (k0_pay92 V)) (k0_pay99 B) k0_pay100) (k0_pay102 (k0_pay92 V)) (k0_pay103 B Q K) k0_pay104) (k0_pay106 B) (k0_pay107 K)) (k0_pay109 (k0_pay92 V)) (k0_pay110 B Q K)) (k0_pay112 (k0_pay92 V)) (k0_pay113 (iota Kind.tc S16x1 32 [0] iota_S16x1_d0_w32) B Q K)) (k0_pay115 K) (k0_pay116 (k0_pay92 V)) (k0_pay117 B) k0_pay118)
      = headO B Q K V S := rfl

/-- The new state of the fourth head. -/
theorem head3_s : (k0_pay134 (k0_pay120 (k0_pay93 B) (k0_pay94 S)) (k0_pay121 B K (k0_pay92 V) (k0_pay93 B)))
      = headS B K V S := rfl

end Heads

end Cert.HgrnIdeal.Hand

end
-- ==== Proof.HgrnIdealStep.lean ====
/- The recurrence over sixteen tokens at one head is the recurrence over real numbers. -/
module

public import proofs.«01_k».proof.Proof.HgrnMath
public import proofs.«01_k».proof.Proof.HgrnIdealHead

@[expose] public section

set_option maxRecDepth 65536
set_option maxHeartbeats 4000000

noncomputable section

namespace Cert.HgrnIdeal.Hand

open Cert.HgrnIdeal Cert.HgrnIdeal.Gen Idealize.ShloMosaic
open Cert.HgrnMath
open Cert.AttnMath (coe_sum max_coe)
open Cert.HgrnRefIdeal (S11x16384x512 S512)

section Step

/-- Row numbers compare as words as they do as numbers. -/
theorem sge_word (r t : Fin 16) : IntOp.cmpi .sge (BitVec.ofNat 32 r.val) (BitVec.ofNat 32 t.val) = BitVec.ofBool (decide (t.val ≤ r.val)) := by
  revert r t; decide +kernel

/-- A number plus a sum of sixteen terms, written out from the left. -/
theorem add_sum16 (a : EReal) (f : Fin 16 → EReal) : a + ∑ i, f i = a + f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  simp only [← add_assoc]
  rfl

variable {B Q K : Vec Ideal S16x128 .f32} {V : Vec Ideal S1x16x128 .f32} {S : Vec Ideal S1x128x128 .f32}
variable {x : S11x16384x512.Idx → EReal} {l : S512.Idx → EReal} (G : Given x l) (b h n : ℕ)
  (hB : ∀ (r : Fin 16) (k : Fin 128), B (ix2 r k) = ((dr x l b (h * 128 + k.val) (n + r.val + 1) - dr x l b (h * 128 + k.val) n : ℝ) : EReal))
  (hQ : ∀ (r : Fin 16) (k : Fin 128), Q (ix2 r k) = ((qr x (b * 4096 + (n + r.val)) (h * 128 + k.val) : ℝ) : EReal))
  (hK : ∀ (r : Fin 16) (k : Fin 128), K (ix2 r k) = ((kr x l (b * 4096 + (n + r.val)) (h * 128 + k.val) : ℝ) : EReal))
  (hV : ∀ (r : Fin 16) (d : Fin 128), V (ix3 0 r d) = ((vr x (b * 4096 + (n + r.val)) (h * 128 + d.val) : ℝ) : EReal))
  (hS : ∀ (d k : Fin 128), S (ix3 0 d k) = ((st x l b h n k.val d.val : ℝ) : EReal))

include G hB hQ hK hV in
/-- What token `t` adds to the output of token `r`: nothing when it comes later. -/
theorem term_at (r t : Fin 16) (d : Fin 128) :
    Scalar.select (IntOp.cmpi CmpIPredicate.sge (BitVec.ofNat 32 r.val) (BitVec.ofNat 32 t.val))
      ((∑ k : Fin 128, Q (ix2 r k) * K (ix2 t k) * Ideal.exp (min (B (ix2 r k) - B (ix2 t k)) 0)) * V (ix3 0 t d)) 0
      = (((if t.val ≤ r.val then wt x l b h (n + r.val) (n + t.val) else 0) * vr x (b * 4096 + (n + t.val)) (h * 128 + d.val) : ℝ) : EReal) := by
  rw [sge_word, WordCmp.select_ofBool, hV, EReal.coe_mul]
  simp only [decide_eq_true_eq]
  by_cases hrt : t.val ≤ r.val
  · rw [if_pos hrt, if_pos hrt, wt, ← coe_sum]
    refine congrArg (fun w : EReal => w * _) (Finset.sum_congr rfl fun k _ => ?_)
    have ha := dr_anti G b (h * 128 + k.val) (show n + t.val + 1 ≤ n + r.val + 1 by omega)
    rw [hQ, hK, hB, hB, ← EReal.coe_sub, sub_sub_sub_cancel_right, min_eq_left (by rw [← EReal.coe_zero]; exact EReal.coe_le_coe_iff.mpr (by linarith)),
      Ideal.exp_coe, ← EReal.coe_mul, ← EReal.coe_mul]
  · rw [if_neg hrt, if_neg hrt, EReal.coe_zero, zero_mul]

include hB hK hV hS in
/-- One element of the head's new state. -/
theorem headS_at (y : S1x128x128.Idx) : headS B K V S y = ((st x l b h (n + 16) (y 2).val (y 1).val : ℝ) : EReal) := by
  pointwise [headS, k0_pay4, k0_pay5, k0_pay6, k0_pay32]
  have e : y = ix3 0 (y 1) (y 2) := by
    funext a
    match a with
    | ⟨0, _⟩ => exact Fin.ext (by have h : (y 0).val < 1 := (y 0).isLt; show (y 0).val = 0; omega)
    | ⟨1, _⟩ => rfl
    | ⟨2, _⟩ => rfl
  rw [e, st_step, EReal.coe_add, ← coe_sum]
  refine congrArg₂ _ ?_ (Finset.sum_congr rfl fun j _ => ?_)
  · refine (congrArg₂ _ (hS (y 1) (y 2)) (congrArg Ideal.exp (hB 15 (y 2)))).trans ?_
    rw [Ideal.exp_coe, EReal.coe_mul]
    rfl
  · refine (congrArg₂ _ (hV j (y 1)) (congrArg₂ _ (hK j (y 2)) (congrArg Ideal.exp (congrArg₂ _ (hB 15 (y 2)) (hB j (y 2)))))).trans ?_
    rw [EReal.coe_mul, EReal.coe_mul, ← Ideal.exp_coe, EReal.coe_sub]
    rfl

/-- The state's row as the product reads it. -/
theorem state_row (d k : Fin 128) : k0_pay6 S (ix2 d k) = S (ix3 0 d k) := by
  pointwise [k0_pay6]
  all_goals rfl

include G hB hQ hK hV hS in
/-- One element of the head's output before the norm. -/
theorem headO_at (y : S16x128.Idx) : headO B Q K V S y = ((mr x l b h (n + (y 0).val) (y 1).val : ℝ) : EReal) := by
  pointwise [headO, k0_pay4, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rw [mr_step x l b h n (y 0).val (y 1).val (y 0).isLt, EReal.coe_add, ← coe_sum, ← coe_sum]
  rw [add_sum16]
  have T := fun t : Fin 16 => term_at G b h n hB hQ hK hV (y 0) t (y 1)
  refine congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ (congrArg₂ _ ?_ (T 0)) (T 1)) (T 2)) (T 3)) (T 4)) (T 5)) (T 6)) (T 7)) (T 8)) (T 9)) (T 10)) (T 11)) (T 12)) (T 13)) (T 14)) (T 15)
  refine Finset.sum_congr rfl fun k _ => ?_
  refine (congrArg₂ (fun u v : EReal => u * v) (congrArg₂ (fun u v : EReal => u * v) (hQ (y 0) k) (congrArg Ideal.exp (hB (y 0) k)))
    ((state_row (y 1) k).trans (hS (y 1) k))).trans ?_
  beta_reduce
  rw [Ideal.exp_coe, ← EReal.coe_mul, ← EReal.coe_mul]

end Step

end Cert.HgrnIdeal.Hand

end
-- ==== Proof.HgrnIdealTrip.lean ====
/- One trip of the recurrence's loop over the reals: what it leaves in the state and in the outputs. -/
module

public import proofs.«01_k».proof.Proof.HgrnIdealStep
public import proofs.«01_k».proof.Proof.HgrnIdealRows
public import Idealize.ShloMosaic.Lib.Pipeline.ReadBack

@[expose] public section

set_option maxRecDepth 65536
set_option maxHeartbeats 4000000

noncomputable section

namespace Cert.HgrnIdeal.Hand

open Cert.HgrnIdeal Cert.HgrnIdeal.Gen Idealize.ShloMosaic
open Cert.HgrnMath
open Cert.HgrnRefIdeal (S11x16384x512 S512)

/-- The row numbers of a group. -/
abbrev IO : IVec S16x1 32 := iota Kind.tc S16x1 32 [0] iota_S16x1_d0_w32

section Trip

variable {𝒱 : Variants} {c : Dev nD} {bd : Option 𝒱.V} {i : grid0.Coords} {arg2 : Memref sig .tc .vmem S1x512 .f32} {harg2 : arg2.IsWhole} {arg3 : Memref sig .tc .vmem S1x128 .f32} {harg3 : arg3.IsWhole} {arg4 : Memref sig .tc .vmem S1x128x512 .f32} {harg4 : arg4.IsWhole} {arg5 : Memref sig .tc .vmem S1x128x512 .f32} {harg5 : arg5.IsWhole} {arg6 : Memref sig .tc .vmem S1x128x512 .f32} {harg6 : arg6.IsWhole} {arg7 : Memref sig .tc .vmem S1x128x512 .f32} {harg7 : arg7.IsWhole} {arg8 : Memref sig .tc .vmem S1x4x128x128 .f32} {harg8 : arg8.IsWhole} {arg9 : Memref sig .tc .vmem S128x512 .f32} {harg9 : arg9.IsWhole} {arg10 : Memref sig .tc .vmem S1x4x128x128 .f32} {harg10 : arg10.IsWhole} {arg11 : Memref sig .tc .vmem S4x128x128 .f32} {harg11 : arg11.IsWhole} {arg12 : Memref sig .tc .vmem S128x512 .f32} {harg12 : arg12.IsWhole} {arg13 : Memref sig .tc .vmem S128x512 .f32} {harg13 : arg13.IsWhole} {arg14 : Memref sig .tc .vmem S128x512 .f32} {harg14 : arg14.IsWhole} {arg15 : Memref sig .tc .vmem S128x512 .f32} {harg15 : arg15.IsWhole} {v34 : FVec Ideal S128x512 .f32} {v52 : IVec S128x128 32} {v54 : IVec S128x128 1} {v78 : IVec S128x128 32} {c16_i32_24 : BitVec 32} {v80 : IVec S128x128 32} {v83 : IVec S128x128 32}
  {x6 : BufTy.Contents (Elt Ideal) arg6.view.ty} {x12 : BufTy.Contents (Elt Ideal) arg12.view.ty} {x13 : BufTy.Contents (Elt Ideal) arg13.view.ty} {x14 : BufTy.Contents (Elt Ideal) arg14.view.ty}

/-- The states one trip writes. -/
theorem trip_s (k : Fin k0_t1_loop.trips) (s : BufTy.Contents (Elt Ideal) arg11.view.ty) :
    (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 k).1 s
      = [⟨Rect.unit (s := S4x128x128) ![3, 0, 0] S1x128x128.size inb_S4x128x128_S1x128x128_3_0_0, headS (arg12.view.readAt (Elt Ideal) (Rect.unit (s := S128x512) (k0_off7 k) S16x128.size (k0_off7_inb k)).toLoadRect x12) (arg14.view.readAt (Elt Ideal) (Rect.unit (s := S128x512) (k0_off7 k) S16x128.size (k0_off7_inb k)).toLoadRect x14) (arg6.view.readAt (Elt Ideal) (Rect.unit (s := S1x128x512) (k0_off8 k) S1x16x128.size (k0_off8_inb k)).toLoadRect x6) (arg11.view.readAt (Elt Ideal) (Rect.unit (s := S4x128x128) ![3, 0, 0] S1x128x128.size inb_S4x128x128_S1x128x128_3_0_0).toLoadRect s)⟩,
        ⟨Rect.unit (s := S4x128x128) ![2, 0, 0] S1x128x128.size inb_S4x128x128_S1x128x128_2_0_0, headS (arg12.view.readAt (Elt Ideal) (Rect.unit (s := S128x512) (k0_off5 k) S16x128.size (k0_off5_inb k)).toLoadRect x12) (arg14.view.readAt (Elt Ideal) (Rect.unit (s := S128x512) (k0_off5 k) S16x128.size (k0_off5_inb k)).toLoadRect x14) (arg6.view.readAt (Elt Ideal) (Rect.unit (s := S1x128x512) (k0_off6 k) S1x16x128.size (k0_off6_inb k)).toLoadRect x6) (arg11.view.readAt (Elt Ideal) (Rect.unit (s := S4x128x128) ![2, 0, 0] S1x128x128.size inb_S4x128x128_S1x128x128_2_0_0).toLoadRect s)⟩,
        ⟨Rect.unit (s := S4x128x128) ![1, 0, 0] S1x128x128.size inb_S4x128x128_S1x128x128_1_0_0, headS (arg12.view.readAt (Elt Ideal) (Rect.unit (s := S128x512) (k0_off3 k) S16x128.size (k0_off3_inb k)).toLoadRect x12) (arg14.view.readAt (Elt Ideal) (Rect.unit (s := S128x512) (k0_off3 k) S16x128.size (k0_off3_inb k)).toLoadRect x14) (arg6.view.readAt (Elt Ideal) (Rect.unit (s := S1x128x512) (k0_off4 k) S1x16x128.size (k0_off4_inb k)).toLoadRect x6) (arg11.view.readAt (Elt Ideal) (Rect.unit (s := S4x128x128) ![1, 0, 0] S1x128x128.size inb_S4x128x128_S1x128x128_1_0_0).toLoadRect s)⟩,
        ⟨Rect.unit (s := S4x128x128) ![0, 0, 0] S1x128x128.size inb_S4x128x128_S1x128x128_0_0_0, headS (arg12.view.readAt (Elt Ideal) (Rect.unit (s := S128x512) (k0_off1 k) S16x128.size (k0_off1_inb k)).toLoadRect x12) (arg14.view.readAt (Elt Ideal) (Rect.unit (s := S128x512) (k0_off1 k) S16x128.size (k0_off1_inb k)).toLoadRect x14) (arg6.view.readAt (Elt Ideal) (Rect.unit (s := S1x128x512) (k0_off2 k) S1x16x128.size (k0_off2_inb k)).toLoadRect x6) (arg11.view.readAt (Elt Ideal) (Rect.unit (s := S4x128x128) ![0, 0, 0] S1x128x128.size inb_S4x128x128_S1x128x128_0_0_0).toLoadRect s)⟩] := by
  unfold trip
  exact rfl

/-- The outputs one trip writes. -/
theorem trip_o (k : Fin k0_t1_loop.trips) (s : BufTy.Contents (Elt Ideal) arg11.view.ty) :
    (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 k).2.1 s
      = [⟨Rect.unit (s := S128x512) (k0_off7 k) S16x128.size (k0_off7_inb k), headO (arg12.view.readAt (Elt Ideal) (Rect.unit (s := S128x512) (k0_off7 k) S16x128.size (k0_off7_inb k)).toLoadRect x12) (arg13.view.readAt (Elt Ideal) (Rect.unit (s := S128x512) (k0_off7 k) S16x128.size (k0_off7_inb k)).toLoadRect x13) (arg14.view.readAt (Elt Ideal) (Rect.unit (s := S128x512) (k0_off7 k) S16x128.size (k0_off7_inb k)).toLoadRect x14) (arg6.view.readAt (Elt Ideal) (Rect.unit (s := S1x128x512) (k0_off8 k) S1x16x128.size (k0_off8_inb k)).toLoadRect x6) (arg11.view.readAt (Elt Ideal) (Rect.unit (s := S4x128x128) ![3, 0, 0] S1x128x128.size inb_S4x128x128_S1x128x128_3_0_0).toLoadRect s)⟩,
        ⟨Rect.unit (s := S128x512) (k0_off5 k) S16x128.size (k0_off5_inb k), headO (arg12.view.readAt (Elt Ideal) (Rect.unit (s := S128x512) (k0_off5 k) S16x128.size (k0_off5_inb k)).toLoadRect x12) (arg13.view.readAt (Elt Ideal) (Rect.unit (s := S128x512) (k0_off5 k) S16x128.size (k0_off5_inb k)).toLoadRect x13) (arg14.view.readAt (Elt Ideal) (Rect.unit (s := S128x512) (k0_off5 k) S16x128.size (k0_off5_inb k)).toLoadRect x14) (arg6.view.readAt (Elt Ideal) (Rect.unit (s := S1x128x512) (k0_off6 k) S1x16x128.size (k0_off6_inb k)).toLoadRect x6) (arg11.view.readAt (Elt Ideal) (Rect.unit (s := S4x128x128) ![2, 0, 0] S1x128x128.size inb_S4x128x128_S1x128x128_2_0_0).toLoadRect s)⟩,
        ⟨Rect.unit (s := S128x512) (k0_off3 k) S16x128.size (k0_off3_inb k), headO (arg12.view.readAt (Elt Ideal) (Rect.unit (s := S128x512) (k0_off3 k) S16x128.size (k0_off3_inb k)).toLoadRect x12) (arg13.view.readAt (Elt Ideal) (Rect.unit (s := S128x512) (k0_off3 k) S16x128.size (k0_off3_inb k)).toLoadRect x13) (arg14.view.readAt (Elt Ideal) (Rect.unit (s := S128x512) (k0_off3 k) S16x128.size (k0_off3_inb k)).toLoadRect x14) (arg6.view.readAt (Elt Ideal) (Rect.unit (s := S1x128x512) (k0_off4 k) S1x16x128.size (k0_off4_inb k)).toLoadRect x6) (arg11.view.readAt (Elt Ideal) (Rect.unit (s := S4x128x128) ![1, 0, 0] S1x128x128.size inb_S4x128x128_S1x128x128_1_0_0).toLoadRect s)⟩,
        ⟨Rect.unit (s := S128x512) (k0_off1 k) S16x128.size (k0_off1_inb k), headO (arg12.view.readAt (Elt Ideal) (Rect.unit (s := S128x512) (k0_off1 k) S16x128.size (k0_off1_inb k)).toLoadRect x12) (arg13.view.readAt (Elt Ideal) (Rect.unit (s := S128x512) (k0_off1 k) S16x128.size (k0_off1_inb k)).toLoadRect x13) (arg14.view.readAt (Elt Ideal) (Rect.unit (s := S128x512) (k0_off1 k) S16x128.size (k0_off1_inb k)).toLoadRect x14) (arg6.view.readAt (Elt Ideal) (Rect.unit (s := S1x128x512) (k0_off2 k) S1x16x128.size (k0_off2_inb k)).toLoadRect x6) (arg11.view.readAt (Elt Ideal) (Rect.unit (s := S4x128x128) ![0, 0, 0] S1x128x128.size inb_S4x128x128_S1x128x128_0_0_0).toLoadRect s)⟩] := by
  unfold trip
  exact rfl

end Trip

/-! ### What a trip reads -/

theorem off2_at : ∀ k : Fin k0_t1_loop.trips, k0_off2 k = ![0, 16 * k.val, 0] := by decide +kernel
theorem off4_at : ∀ k : Fin k0_t1_loop.trips, k0_off4 k = ![0, 16 * k.val, 128] := by decide +kernel
theorem off6_at : ∀ k : Fin k0_t1_loop.trips, k0_off6 k = ![0, 16 * k.val, 256] := by decide +kernel
theorem off8_at : ∀ k : Fin k0_t1_loop.trips, k0_off8 k = ![0, 16 * k.val, 384] := by decide +kernel

/-- A head's sixteen rows of a scratch buffer. -/
theorem rows16 (v : View sig .tc .vmem S128x512 .f32) (f : BufTy.Contents (Elt Ideal) v.ty) (k h : ℕ) (hk : k < 8) (hh : h < 4) (off : Fin 2 → ℕ)
    (ho : off = ![16 * k, h * 128]) (inb) (r : Fin 16) (d : Fin 128) :
    (v.readAt (Elt Ideal) (Rect.unit (s := S128x512) off S16x128.size inb).toLoadRect f : Vec Ideal S16x128 .f32) (ix2 r d)
      = v.read (Elt Ideal) f (ix2 ⟨16 * k + r.val, by have := r.isLt; omega⟩ ⟨h * 128 + d.val, by have := d.isLt; omega⟩ : S128x512.Idx) := by
  subst ho
  rw [View.readAt_apply]
  refine congrArg (v.read (Elt Ideal) f) (funext fun a => Fin.ext ?_)
  refine (Rect.idx_unit_val (s := S128x512) ![16 * k, h * 128] S16x128.size inb (ix2 r d) a).trans ?_
  match a with
  | ⟨0, _⟩ => rfl
  | ⟨1, _⟩ => rfl

/-- A head's sixteen rows of the values. -/
theorem vals16 (v : View sig .tc .vmem S1x128x512 .f32) (f : BufTy.Contents (Elt Ideal) v.ty) (k h : ℕ) (hk : k < 8) (hh : h < 4) (off : Fin 3 → ℕ)
    (ho : off = ![0, 16 * k, h * 128]) (inb) (r : Fin 16) (d : Fin 128) :
    (v.readAt (Elt Ideal) (Rect.unit (s := S1x128x512) off S1x16x128.size inb).toLoadRect f : Vec Ideal S1x16x128 .f32) (ix3 0 r d)
      = v.read (Elt Ideal) f (ix3 0 ⟨16 * k + r.val, by have := r.isLt; omega⟩ ⟨h * 128 + d.val, by have := d.isLt; omega⟩ : S1x128x512.Idx) := by
  subst ho
  rw [View.readAt_apply]
  refine congrArg (v.read (Elt Ideal) f) (funext fun a => Fin.ext ?_)
  refine (Rect.idx_unit_val (s := S1x128x512) ![0, 16 * k, h * 128] S1x16x128.size inb (ix3 0 r d) a).trans ?_
  match a with
  | ⟨0, _⟩ => rfl
  | ⟨1, _⟩ => rfl
  | ⟨2, _⟩ => rfl

/-- One head's state. -/
theorem slab_in (v : View sig .tc .vmem S4x128x128 .f32) (f : BufTy.Contents (Elt Ideal) v.ty) (h : Fin 4) (inb) (d k : Fin 128) :
    (v.readAt (Elt Ideal) (Rect.unit (s := S4x128x128) ![h.val, 0, 0] S1x128x128.size inb).toLoadRect f : Vec Ideal S1x128x128 .f32) (ix3 0 d k)
      = v.read (Elt Ideal) f (ix3 h d k : S4x128x128.Idx) := by
  rw [View.readAt_apply]
  refine congrArg (v.read (Elt Ideal) f) (funext fun a => Fin.ext ?_)
  refine (Rect.idx_unit_val (s := S4x128x128) ![h.val, 0, 0] S1x128x128.size inb (ix3 0 d k) a).trans ?_
  match a with
  | ⟨0, _⟩ => rfl
  | ⟨1, _⟩ => exact Nat.zero_add _
  | ⟨2, _⟩ => exact Nat.zero_add _

/-- The state of a sequence after `n` tokens, transposed. -/
def stF (x : S11x16384x512.Idx → EReal) (l : S512.Idx → EReal) (b n : ℕ) (i : S4x128x128.Idx) : EReal :=
  ((st x l b (i 0).val n (i 2).val (i 1).val : ℝ) : EReal)

/-- The outputs before the norm of the block that starts at token `N`. -/
def mrF (x : S11x16384x512.Idx → EReal) (l : S512.Idx → EReal) (b N : ℕ) (i : S128x512.Idx) : EReal :=
  ((mr x l b ((i 1).val / 128) (N + (i 0).val) ((i 1).val % 128) : ℝ) : EReal)

variable (x : S11x16384x512.Idx → EReal) (l : S512.Idx → EReal)

/-- A head's new state is a block of the stack. -/
theorem slab_of (b n h : ℕ) (inb) (s : Vec Ideal S1x128x128 .f32)
    (hs : ∀ y : S1x128x128.Idx, s y = ((st x l b h n (y 2).val (y 1).val : ℝ) : EReal)) (y : S1x128x128.Idx) :
    s y = stF x l b n ((Rect.unit (s := S4x128x128) ![h, 0, 0] S1x128x128.size inb).emb y) := by
  have h0 : (y 0).val < 1 := (y 0).isLt
  have e : ∀ a, ((Rect.unit (s := S4x128x128) ![h, 0, 0] S1x128x128.size inb).emb y a).val = (![h, 0, 0] : Fin 3 → ℕ) a + (y a).val :=
    Rect.idx_unit_val _ _ inb y
  have e0 : (![h, 0, 0] : Fin 3 → ℕ) 0 + (y 0).val = h := by show h + (y 0).val = h; omega
  have e1 : (![h, 0, 0] : Fin 3 → ℕ) 1 + (y 1).val = (y 1).val := Nat.zero_add _
  have e2 : (![h, 0, 0] : Fin 3 → ℕ) 2 + (y 2).val = (y 2).val := Nat.zero_add _
  rw [stF, hs y, e 0, e 1, e 2, e0, e1, e2]

/-- A head's outputs are a block of the rows. -/
theorem lane_of (b N k h : ℕ) (off : Fin 2 → ℕ) (ho : off = ![16 * k, h * 128]) (inb) (o : Vec Ideal S16x128 .f32)
    (hs : ∀ y : S16x128.Idx, o y = ((mr x l b h (N + 16 * k + (y 0).val) (y 1).val : ℝ) : EReal)) (y : S16x128.Idx) :
    o y = mrF x l b N ((Rect.unit (s := S128x512) off S16x128.size inb).emb y) := by
  subst ho
  have h1 : (y 1).val < 128 := (y 1).isLt
  have e : ∀ a, ((Rect.unit (s := S128x512) ![16 * k, h * 128] S16x128.size inb).emb y a).val = (![16 * k, h * 128] : Fin 2 → ℕ) a + (y a).val :=
    Rect.idx_unit_val _ _ inb y
  have e0 : (![16 * k, h * 128] : Fin 2 → ℕ) 0 + (y 0).val = 16 * k + (y 0).val := rfl
  have e1 : (![16 * k, h * 128] : Fin 2 → ℕ) 1 + (y 1).val = h * 128 + (y 1).val := rfl
  rw [mrF, hs y, e 0, e 1, e0, e1, show (h * 128 + (y 1).val) / 128 = h by omega, show (h * 128 + (y 1).val) % 128 = (y 1).val by omega,
    Nat.add_assoc]

/-- Pieces of one function put together are pieces of it. -/
theorem pieces_append {s : Shape} (H : s.Idx → EReal) : ∀ L L' : List (View.Piece (Elt Ideal) s .f32),
    View.PiecesOf (Val := Elt Ideal) (e := .f32) H L → View.PiecesOf (Val := Elt Ideal) (e := .f32) H L' → View.PiecesOf (Val := Elt Ideal) (e := .f32) H (L ++ L')
  | [], _, _, h => h
  | _ :: L, L', h, h' => ⟨h.1, pieces_append H L L' h.2 h'⟩

/-- A buffer written in blocks of one function reads as that function where a block lies. -/
theorem read_pieces {s : Shape} (v : View sig .tc .vmem s .f32) (f : v.ty.Contents (Elt Ideal)) (H : s.Idx → EReal) (L : List (View.Piece (Elt Ideal) s .f32))
    (hp : View.PiecesOf (Val := Elt Ideal) (e := .f32) H L) (y : s.Idx) (hc : ∃ p ∈ L, y ∈ p.1.set) :
    v.read (Elt Ideal) (v.writes (Elt Ideal) f L) y = H y := by
  rw [View.read_writes_apply_eq_canon v f y L hc]
  have h := View.canon_append_of_piecesOf (Val := Elt Ideal) (e := .f32) H [] L hp y hc
  rwa [List.append_nil] at h

section Values

variable {𝒱 : Variants} {c : Dev nD} {bd : Option 𝒱.V} {i : grid0.Coords} {arg2 : Memref sig .tc .vmem S1x512 .f32} {harg2 : arg2.IsWhole} {arg3 : Memref sig .tc .vmem S1x128 .f32} {harg3 : arg3.IsWhole} {arg4 : Memref sig .tc .vmem S1x128x512 .f32} {harg4 : arg4.IsWhole} {arg5 : Memref sig .tc .vmem S1x128x512 .f32} {harg5 : arg5.IsWhole} {arg6 : Memref sig .tc .vmem S1x128x512 .f32} {harg6 : arg6.IsWhole} {arg7 : Memref sig .tc .vmem S1x128x512 .f32} {harg7 : arg7.IsWhole} {arg8 : Memref sig .tc .vmem S1x4x128x128 .f32} {harg8 : arg8.IsWhole} {arg9 : Memref sig .tc .vmem S128x512 .f32} {harg9 : arg9.IsWhole} {arg10 : Memref sig .tc .vmem S1x4x128x128 .f32} {harg10 : arg10.IsWhole} {arg11 : Memref sig .tc .vmem S4x128x128 .f32} {harg11 : arg11.IsWhole} {arg12 : Memref sig .tc .vmem S128x512 .f32} {harg12 : arg12.IsWhole} {arg13 : Memref sig .tc .vmem S128x512 .f32} {harg13 : arg13.IsWhole} {arg14 : Memref sig .tc .vmem S128x512 .f32} {harg14 : arg14.IsWhole} {arg15 : Memref sig .tc .vmem S128x512 .f32} {harg15 : arg15.IsWhole} {v34 : FVec Ideal S128x512 .f32} {v52 : IVec S128x128 32} {v54 : IVec S128x128 1} {v78 : IVec S128x128 32} {c16_i32_24 : BitVec 32} {v80 : IVec S128x128 32} {v83 : IVec S128x128 32}
  {x6 : BufTy.Contents (Elt Ideal) arg6.view.ty} {x12 : BufTy.Contents (Elt Ideal) arg12.view.ty} {x13 : BufTy.Contents (Elt Ideal) arg13.view.ty} {x14 : BufTy.Contents (Elt Ideal) arg14.view.ty}
variable {x : S11x16384x512.Idx → EReal} {l : S512.Idx → EReal} (G : Given x l) (b N : ℕ)
  (h6 : ∀ y : S1x128x512.Idx, arg6.view.read (Elt Ideal) x6 y = ((vr x (b * 4096 + (N + (y 1).val)) (y 2).val : ℝ) : EReal))
  (h12 : ∀ y : S128x512.Idx, arg12.view.read (Elt Ideal) x12 y
    = ((dr x l b (y 1).val (N + (y 0).val + 1) - dr x l b (y 1).val (N + (y 0).val / 16 * 16) : ℝ) : EReal))
  (h13 : ∀ y : S128x512.Idx, arg13.view.read (Elt Ideal) x13 y = ((qr x (b * 4096 + (N + (y 0).val)) (y 1).val : ℝ) : EReal))
  (h14 : ∀ y : S128x512.Idx, arg14.view.read (Elt Ideal) x14 y = ((kr x l (b * 4096 + (N + (y 0).val)) (y 1).val : ℝ) : EReal))

include h12 in
theorem dec16 (k h : ℕ) (hk : k < 8) (hh : h < 4) (off : Fin 2 → ℕ) (ho : off = ![16 * k, h * 128]) (inb) (r : Fin 16) (d : Fin 128) :
    (arg12.view.readAt (Elt Ideal) (Rect.unit (s := S128x512) off S16x128.size inb).toLoadRect x12 : Vec Ideal S16x128 .f32) (ix2 r d)
      = ((dr x l b (h * 128 + d.val) (N + 16 * k + r.val + 1) - dr x l b (h * 128 + d.val) (N + 16 * k) : ℝ) : EReal) := by
  rw [rows16 arg12.view x12 k h hk hh off ho inb r d, h12]
  have e0 : ((ix2 ⟨16 * k + r.val, by have := r.isLt; omega⟩ ⟨h * 128 + d.val, by have := d.isLt; omega⟩ : S128x512.Idx) 0).val = 16 * k + r.val := rfl
  have e1 : ((ix2 ⟨16 * k + r.val, by have := r.isLt; omega⟩ ⟨h * 128 + d.val, by have := d.isLt; omega⟩ : S128x512.Idx) 1).val = h * 128 + d.val := rfl
  have := r.isLt
  rw [e0, e1, show (16 * k + r.val) / 16 * 16 = 16 * k by omega, show N + (16 * k + r.val) + 1 = N + 16 * k + r.val + 1 by omega]

include h13 in
theorem qry16 (k h : ℕ) (hk : k < 8) (hh : h < 4) (off : Fin 2 → ℕ) (ho : off = ![16 * k, h * 128]) (inb) (r : Fin 16) (d : Fin 128) :
    (arg13.view.readAt (Elt Ideal) (Rect.unit (s := S128x512) off S16x128.size inb).toLoadRect x13 : Vec Ideal S16x128 .f32) (ix2 r d)
      = ((qr x (b * 4096 + (N + 16 * k + r.val)) (h * 128 + d.val) : ℝ) : EReal) := by
  rw [rows16 arg13.view x13 k h hk hh off ho inb r d, h13, Nat.add_assoc N]
  rfl

include h14 in
theorem key16 (k h : ℕ) (hk : k < 8) (hh : h < 4) (off : Fin 2 → ℕ) (ho : off = ![16 * k, h * 128]) (inb) (r : Fin 16) (d : Fin 128) :
    (arg14.view.readAt (Elt Ideal) (Rect.unit (s := S128x512) off S16x128.size inb).toLoadRect x14 : Vec Ideal S16x128 .f32) (ix2 r d)
      = ((kr x l (b * 4096 + (N + 16 * k + r.val)) (h * 128 + d.val) : ℝ) : EReal) := by
  rw [rows16 arg14.view x14 k h hk hh off ho inb r d, h14, Nat.add_assoc N]
  rfl

include h6 in
theorem val16 (k h : ℕ) (hk : k < 8) (hh : h < 4) (off : Fin 3 → ℕ) (ho : off = ![0, 16 * k, h * 128]) (inb) (r : Fin 16) (d : Fin 128) :
    (arg6.view.readAt (Elt Ideal) (Rect.unit (s := S1x128x512) off S1x16x128.size inb).toLoadRect x6 : Vec Ideal S1x16x128 .f32) (ix3 0 r d)
      = ((vr x (b * 4096 + (N + 16 * k + r.val)) (h * 128 + d.val) : ℝ) : EReal) := by
  rw [vals16 arg6.view x6 k h hk hh off ho inb r d, h6, Nat.add_assoc N]
  rfl

theorem st16 (s : BufTy.Contents (Elt Ideal) arg11.view.ty) (n : ℕ) (hs : ∀ y, arg11.view.read (Elt Ideal) s y = stF x l b n y) (h : Fin 4) (inb) (d k : Fin 128) :
    (arg11.view.readAt (Elt Ideal) (Rect.unit (s := S4x128x128) ![h.val, 0, 0] S1x128x128.size inb).toLoadRect s : Vec Ideal S1x128x128 .f32) (ix3 0 d k)
      = ((st x l b h.val n k.val d.val : ℝ) : EReal) := by
  rw [slab_in, hs]; rfl

include G h6 h12 h13 h14 in
/-- The outputs of a trip are the recurrence's. -/
theorem trip_rows (k : Fin k0_t1_loop.trips) (s : BufTy.Contents (Elt Ideal) arg11.view.ty) (hs : ∀ y, arg11.view.read (Elt Ideal) s y = stF x l b (N + 16 * k.val) y) :
    View.PiecesOf (Val := Elt Ideal) (e := .f32) (mrF x l b N) ((trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 k).2.1 s) := by
  have hk : k.val < 8 := lt_of_lt_of_eq k.isLt trips_eq
  rw [trip_o]
  refine ⟨?_, ?_, ?_, ?_, trivial⟩
  · exact lane_of x l b N k.val 3 _ (off7_at k) (k0_off7_inb k) _ (headO_at G b 3 (N + 16 * k.val)
      (dec16 b N h12 k.val 3 hk (by decide) _ (off7_at k) _) (qry16 b N h13 k.val 3 hk (by decide) _ (off7_at k) _)
      (key16 b N h14 k.val 3 hk (by decide) _ (off7_at k) _) (val16 b N h6 k.val 3 hk (by decide) _ (off8_at k) _)
      (st16 b s _ hs 3 inb_S4x128x128_S1x128x128_3_0_0))
  · exact lane_of x l b N k.val 2 _ (off5_at k) (k0_off5_inb k) _ (headO_at G b 2 (N + 16 * k.val)
      (dec16 b N h12 k.val 2 hk (by decide) _ (off5_at k) _) (qry16 b N h13 k.val 2 hk (by decide) _ (off5_at k) _)
      (key16 b N h14 k.val 2 hk (by decide) _ (off5_at k) _) (val16 b N h6 k.val 2 hk (by decide) _ (off6_at k) _)
      (st16 b s _ hs 2 inb_S4x128x128_S1x128x128_2_0_0))
  · exact lane_of x l b N k.val 1 _ (off3_at k) (k0_off3_inb k) _ (headO_at G b 1 (N + 16 * k.val)
      (dec16 b N h12 k.val 1 hk (by decide) _ (off3_at k) _) (qry16 b N h13 k.val 1 hk (by decide) _ (off3_at k) _)
      (key16 b N h14 k.val 1 hk (by decide) _ (off3_at k) _) (val16 b N h6 k.val 1 hk (by decide) _ (off4_at k) _)
      (st16 b s _ hs 1 inb_S4x128x128_S1x128x128_1_0_0))
  · exact lane_of x l b N k.val 0 _ (off1_at k) (k0_off1_inb k) _ (headO_at G b 0 (N + 16 * k.val)
      (dec16 b N h12 k.val 0 hk (by decide) _ (off1_at k) _) (qry16 b N h13 k.val 0 hk (by decide) _ (off1_at k) _)
      (key16 b N h14 k.val 0 hk (by decide) _ (off1_at k) _) (val16 b N h6 k.val 0 hk (by decide) _ (off2_at k) _)
      (st16 b s _ hs 0 inb_S4x128x128_S1x128x128_0_0_0))

include h6 h12 h14 in
/-- The state after a trip. -/
theorem trip_state (k : Fin k0_t1_loop.trips) (s : BufTy.Contents (Elt Ideal) arg11.view.ty) (hs : ∀ y, arg11.view.read (Elt Ideal) s y = stF x l b (N + 16 * k.val) y) (y : S4x128x128.Idx) :
    arg11.view.read (Elt Ideal) (arg11.view.writes (Elt Ideal) s ((trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 k).1 s)) y = stF x l b (N + 16 * (k.val + 1)) y := by
  have hk : k.val < 8 := lt_of_lt_of_eq k.isLt trips_eq
  rw [show N + 16 * (k.val + 1) = N + 16 * k.val + 16 by omega]
  rw [trip_s]
  refine read_pieces arg11.view s (stF x l b (N + 16 * k.val + 16)) _ ?_ y ?_
  case' refine_2 => exact View.cover_of_tiled_head _ _ _ (by rfl) y
  refine ⟨?_, ?_, ?_, ?_, trivial⟩
  · exact slab_of x l b _ 3 inb_S4x128x128_S1x128x128_3_0_0 _ (headS_at b 3 (N + 16 * k.val)
      (dec16 b N h12 k.val 3 hk (by decide) _ (off7_at k) _)
      (key16 b N h14 k.val 3 hk (by decide) _ (off7_at k) _) (val16 b N h6 k.val 3 hk (by decide) _ (off8_at k) _)
      (st16 b s _ hs 3 inb_S4x128x128_S1x128x128_3_0_0))
  · exact slab_of x l b _ 2 inb_S4x128x128_S1x128x128_2_0_0 _ (headS_at b 2 (N + 16 * k.val)
      (dec16 b N h12 k.val 2 hk (by decide) _ (off5_at k) _)
      (key16 b N h14 k.val 2 hk (by decide) _ (off5_at k) _) (val16 b N h6 k.val 2 hk (by decide) _ (off6_at k) _)
      (st16 b s _ hs 2 inb_S4x128x128_S1x128x128_2_0_0))
  · exact slab_of x l b _ 1 inb_S4x128x128_S1x128x128_1_0_0 _ (headS_at b 1 (N + 16 * k.val)
      (dec16 b N h12 k.val 1 hk (by decide) _ (off3_at k) _)
      (key16 b N h14 k.val 1 hk (by decide) _ (off3_at k) _) (val16 b N h6 k.val 1 hk (by decide) _ (off4_at k) _)
      (st16 b s _ hs 1 inb_S4x128x128_S1x128x128_1_0_0))
  · exact slab_of x l b _ 0 inb_S4x128x128_S1x128x128_0_0_0 _ (headS_at b 0 (N + 16 * k.val)
      (dec16 b N h12 k.val 0 hk (by decide) _ (off1_at k) _)
      (key16 b N h14 k.val 0 hk (by decide) _ (off1_at k) _) (val16 b N h6 k.val 0 hk (by decide) _ (off2_at k) _)
      (st16 b s _ hs 0 inb_S4x128x128_S1x128x128_0_0_0))

include h6 h12 h14 in
/-- The state before each trip. -/
theorem state_before (s : BufTy.Contents (Elt Ideal) arg11.view.ty) (hs : ∀ y, arg11.view.read (Elt Ideal) s y = stF x l b N y) :
    ∀ k : ℕ, k ≤ k0_t1_loop.trips → ∀ y, arg11.view.read (Elt Ideal) (stateAt (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 s k) y = stF x l b (N + 16 * k) y
  | 0, _, y => hs y
  | k + 1, hk, y => by
    have ih := state_before s hs k (by omega)
    rw [stateAt_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 s ⟨k, hk⟩]
    exact trip_state (k := ⟨k, hk⟩) (b := b) (N := N) (h6 := h6) (h12 := h12) (h14 := h14) (s := _) (hs := ih) (y := y)

include G h6 h12 h13 h14 in
/-- The outputs of all trips are the recurrence's. -/
theorem rows_of (s : BufTy.Contents (Elt Ideal) arg11.view.ty) (hs : ∀ y, arg11.view.read (Elt Ideal) s y = stF x l b N y) :
    ∀ k : ℕ, k ≤ k0_t1_loop.trips → View.PiecesOf (Val := Elt Ideal) (e := .f32) (mrF x l b N) (rowsAt (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 s k)
  | 0, _ => trivial
  | k + 1, hk => by
    have ih := rows_of s hs k (by omega)
    have h0 : ∀ y, arg11.view.read (Elt Ideal) (stateAt (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 s k) y = stF x l b (N + 16 * k) y :=
      state_before b N h6 h12 h14 s hs k (by omega)
    rw [rowsAt_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 s ⟨k, hk⟩]
    exact pieces_append _ _ _ (trip_rows (G := G) (k := ⟨k, hk⟩) (b := b) (N := N) (h6 := h6) (h12 := h12) (h13 := h13) (h14 := h14) (s := _) (hs := h0)) ih

end Values

end Cert.HgrnIdeal.Hand

end
-- ==== Proof.HgrnIdealDecay.lean ====
/- What a grid point of the recurrence computes before and after its loop: the decays, keys and queries of a block of 128
   tokens, and the norm and gate of each head. -/
module

public import proofs.«01_k».proof.Proof.HgrnMath
public import proofs.«01_k».proof.Proof.Gen.HgrnIdeal.Skeleton

@[expose] public section

set_option maxRecDepth 65536
set_option maxHeartbeats 4000000

noncomputable section

namespace Cert.HgrnIdeal.Hand

open Cert.HgrnIdeal Cert.HgrnIdeal.Gen Idealize.ShloMosaic
open Cert.HgrnMath
open Cert.HgrnSampleMath (lgate)
open Cert.AttnMath (coe_sum max_coe)
open Cert.HgrnRefIdeal (S11x16384x512 S512)

/-- The mask of the running sum: the tokens up to this one in the same group of sixteen. -/
theorem mask_word : ∀ r x : Fin 128, ((IntOp.andi (IntOp.cmpi CmpIPredicate.sle (BitVec.ofNat 32 x.val) (BitVec.ofNat 32 r.val)) (IntOp.cmpi CmpIPredicate.eq (Scalar.select (IntOp.andi (IntOp.cmpi CmpIPredicate.ne (IntOp.subi (BitVec.setWidth 32 (IntOp.cmpi CmpIPredicate.sgt (BitVec.ofNat 32 x.val) 0#32)) (BitVec.setWidth 32 (IntOp.cmpi CmpIPredicate.slt (BitVec.ofNat 32 x.val) 0#32))) (Scalar.subi (Scalar.extui (Scalar.cmpi CmpIPredicate.sgt 16#32 0#32)) (Scalar.extui (Scalar.cmpi CmpIPredicate.slt 16#32 0#32)))) (IntOp.cmpi CmpIPredicate.ne (IntOp.remsi ArithUnit.vector (BitVec.ofNat 32 x.val) 16#32) 0#32)) (IntOp.subi (IntOp.divsi ArithUnit.vector (BitVec.ofNat 32 x.val) 16#32) 1#32) (IntOp.divsi ArithUnit.vector (BitVec.ofNat 32 x.val) 16#32)) (Scalar.select (IntOp.andi (IntOp.cmpi CmpIPredicate.ne (IntOp.subi (BitVec.setWidth 32 (IntOp.cmpi CmpIPredicate.sgt (BitVec.ofNat 32 r.val) 0#32)) (BitVec.setWidth 32 (IntOp.cmpi CmpIPredicate.slt (BitVec.ofNat 32 r.val) 0#32))) (Scalar.subi (Scalar.extui (Scalar.cmpi CmpIPredicate.sgt 16#32 0#32)) (Scalar.extui (Scalar.cmpi CmpIPredicate.slt 16#32 0#32)))) (IntOp.cmpi CmpIPredicate.ne (IntOp.remsi ArithUnit.vector (BitVec.ofNat 32 r.val) 16#32) 0#32)) (IntOp.subi (IntOp.divsi ArithUnit.vector (BitVec.ofNat 32 r.val) 16#32) 1#32) (IntOp.divsi ArithUnit.vector (BitVec.ofNat 32 r.val) 16#32)))))
    = BitVec.ofBool (decide (x.val ≤ r.val ∧ x.val / 16 = r.val / 16)) := by decide +kernel

theorem masked_sum (r : Fin 128) (f : Fin 128 → EReal) :
    (∑ x : Fin 128, Scalar.select ((IntOp.andi (IntOp.cmpi CmpIPredicate.sle (BitVec.ofNat 32 x.val) (BitVec.ofNat 32 r.val)) (IntOp.cmpi CmpIPredicate.eq (Scalar.select (IntOp.andi (IntOp.cmpi CmpIPredicate.ne (IntOp.subi (BitVec.setWidth 32 (IntOp.cmpi CmpIPredicate.sgt (BitVec.ofNat 32 x.val) 0#32)) (BitVec.setWidth 32 (IntOp.cmpi CmpIPredicate.slt (BitVec.ofNat 32 x.val) 0#32))) (Scalar.subi (Scalar.extui (Scalar.cmpi CmpIPredicate.sgt 16#32 0#32)) (Scalar.extui (Scalar.cmpi CmpIPredicate.slt 16#32 0#32)))) (IntOp.cmpi CmpIPredicate.ne (IntOp.remsi ArithUnit.vector (BitVec.ofNat 32 x.val) 16#32) 0#32)) (IntOp.subi (IntOp.divsi ArithUnit.vector (BitVec.ofNat 32 x.val) 16#32) 1#32) (IntOp.divsi ArithUnit.vector (BitVec.ofNat 32 x.val) 16#32)) (Scalar.select (IntOp.andi (IntOp.cmpi CmpIPredicate.ne (IntOp.subi (BitVec.setWidth 32 (IntOp.cmpi CmpIPredicate.sgt (BitVec.ofNat 32 r.val) 0#32)) (BitVec.setWidth 32 (IntOp.cmpi CmpIPredicate.slt (BitVec.ofNat 32 r.val) 0#32))) (Scalar.subi (Scalar.extui (Scalar.cmpi CmpIPredicate.sgt 16#32 0#32)) (Scalar.extui (Scalar.cmpi CmpIPredicate.slt 16#32 0#32)))) (IntOp.cmpi CmpIPredicate.ne (IntOp.remsi ArithUnit.vector (BitVec.ofNat 32 r.val) 16#32) 0#32)) (IntOp.subi (IntOp.divsi ArithUnit.vector (BitVec.ofNat 32 r.val) 16#32) 1#32) (IntOp.divsi ArithUnit.vector (BitVec.ofNat 32 r.val) 16#32))))) (f x) 0) = ∑ x : Fin 128, if x.val ≤ r.val ∧ x.val / 16 = r.val / 16 then f x else 0 := by
  refine Finset.sum_congr rfl fun x _ => ?_
  rw [mask_word, WordCmp.select_ofBool]
  simp only [decide_eq_true_eq]

/-- A sum over the tokens up to `r` of `r`'s group of sixteen. -/
theorem sum_group (r : Fin 128) (f : ℕ → ℝ) :
    (∑ x : Fin 128, if x.val ≤ r.val ∧ x.val / 16 = r.val / 16 then f x.val else 0) = ∑ j ∈ Finset.Ico (r.val / 16 * 16) (r.val + 1), f j := by
  have hr := r.isLt
  rw [Fin.sum_univ_eq_sum_range (fun n => if n ≤ r.val ∧ n / 16 = r.val / 16 then f n else 0)]
  have hs : Finset.Ico (r.val / 16 * 16) (r.val + 1) ⊆ Finset.range 128 := fun n hn => by
    rw [Finset.mem_Ico] at hn; rw [Finset.mem_range]; omega
  rw [← Finset.sum_subset hs fun n _ hn => if_neg (by rw [Finset.mem_Ico] at hn; omega)]
  exact Finset.sum_congr rfl fun n hn => if_pos (by rw [Finset.mem_Ico] at hn; omega)

variable {x : S11x16384x512.Idx → EReal} {l : S512.Idx → EReal}

/-- The decays within groups of sixteen: the kernel sums the logarithms in three parts, of which the last two don't change
    the sum. -/
theorem decay_at (L : FVec Ideal S128x512 .f32) (b N : ℕ)
    (hL : ∀ (r : Fin 128) (c : Fin 512), L (ix2 r c) = ((lr x l (b * 4096 + (N + r.val)) c.val : ℝ) : EReal)) (y : S128x512.Idx) :
    k0_pay133 L (iota Kind.tc S128x128 32 [0] iota_S128x128_d0_w32) k0_pay129 k0_pay130 (16#32) k0_pay131 k0_pay132 y
      = ((dr x l b (y 1).val (N + (y 0).val + 1) - dr x l b (y 1).val (N + (y 0).val / 16 * 16) : ℝ) : EReal) := by
  pointwise [k0_pay133, k0_pay132, k0_pay131, k0_pay130, k0_pay129]
  refine (congrArg₂ _ (congrArg₂ _ (masked_sum (y 0) fun k => L (ix2 k (y 1))) (masked_sum (y 0) fun k => L (ix2 k (y 1)) - L (ix2 k (y 1))))
    (masked_sum (y 0) fun k => L (ix2 k (y 1)) - L (ix2 k (y 1)) - (L (ix2 k (y 1)) - L (ix2 k (y 1))))).trans ?_
  rw [← Finset.sum_add_distrib, ← Finset.sum_add_distrib]
  have hd : dr x l b (y 1).val (N + (y 0).val + 1) - dr x l b (y 1).val (N + (y 0).val / 16 * 16)
      = ∑ k : Fin 128, if k.val ≤ (y 0).val ∧ k.val / 16 = (y 0).val / 16 then lr x l (b * 4096 + (N + k.val)) (y 1).val else 0 := by
    rw [sum_group (y 0) fun j => lr x l (b * 4096 + (N + j)) (y 1).val,
      Finset.sum_Ico_add (fun j => lr x l (b * 4096 + j) (y 1).val), Finset.sum_Ico_eq_sub _ (by omega)]
    rw [dr, dr, show N + (y 0).val + 1 = (y 0).val + 1 + N by omega, show N + (y 0).val / 16 * 16 = (y 0).val / 16 * 16 + N by omega]
  rw [hd, ← coe_sum]
  refine Finset.sum_congr rfl fun k _ => ?_
  have e : L (ix2 k (y 1)) = ((lr x l (b * 4096 + (N + k.val)) (y 1).val : ℝ) : EReal) := hL k (y 1)
  by_cases hk : k.val ≤ (y 0).val ∧ k.val / 16 = (y 0).val / 16
  · simp only [if_pos hk]
    rw [e, ← EReal.coe_sub, ← EReal.coe_sub, ← EReal.coe_add, ← EReal.coe_add]
    congr 1; ring
  · simp only [if_neg hk, add_zero]
    rfl

/-- The logarithms of the forget gate. -/
theorem lgate_at (a : Vec Ideal S1x512 .f32) (z : Vec Ideal S1x128x512 .f32) (y : S128x512.Idx) :
    k0_pay125 a z y = lgate (a (ix2 0 (y 1))) (z (ix3 0 (y 0) (y 1))) := by
  pointwise [k0_pay125, k0_pay124, k0_pay123]
  generalize a (ix2 0 (y 1)) = u
  generalize z (ix3 0 (y 0) (y 1)) = v
  simp only [zero_sub]
  rfl

/-- The keys. -/
theorem key_at (a : Vec Ideal S1x512 .f32) (z : Vec Ideal S1x128x512 .f32) (y : S128x512.Idx) :
    k0_pay127 (k0_pay126 a z) y = (1 - a (ix2 0 (y 1))) * Ideal.logistic (-(z (ix3 0 (y 0) (y 1)))) := by
  pointwise [k0_pay127, k0_pay126, k0_pay124, k0_pay123]
  simp only [zero_sub]

/-- The queries. -/
theorem qry_at (z : Vec Ideal S1x128x512 .f32) (y : S128x512.Idx) :
    k0_pay128 z y = z (ix3 0 (y 0) (y 1)) * Ideal.logistic (z (ix3 0 (y 0) (y 1))) := by
  pointwise [k0_pay128]

/-! ### The norm and the gate -/

section Norm
variable {n : Cert.HgrnRefIdeal.S128.Idx → EReal} (b N h : ℕ)
  (g : Vec Ideal S1x128x512 .f32) (w : Vec Ideal S1x128 .f32) (X : Vec Ideal S128x128 .f32)
  (hg : ∀ y : S1x128x512.Idx, g y = at3 x 6 (b * 4096 + (N + (y 1).val)) (y 2).val) (hw : ∀ y : S1x128.Idx, w y = atn n (y 1).val)
  (hX : ∀ y : S128x128.Idx, X y = mix x l b h (N + (y 0).val) (y 1).val)

include hg hw hX

/-- The first head's norm and gate. -/
theorem norm0 (hh : h = 0) (y : S128x128.Idx) : k0_pay137 g w X y = out x l n b h (N + (y 0).val) (y 1).val := by
  subst hh
  pointwise [k0_pay137, k0_pay136, k0_pay135]
  simp only [hX, hg, hw, out, Nat.zero_mul, Nat.zero_add]
  rfl

/-- The second head's norm and gate. -/
theorem norm1 (hh : h = 1) (y : S128x128.Idx) : k0_pay138 g w X y = out x l n b h (N + (y 0).val) (y 1).val := by
  subst hh
  pointwise [k0_pay138, k0_pay136, k0_pay135]
  simp only [hX, hg, hw, out]
  rfl

/-- The third head's norm and gate. -/
theorem norm2 (hh : h = 2) (y : S128x128.Idx) : k0_pay1 (k0_pay135 g) (k0_pay136 w) X y = out x l n b h (N + (y 0).val) (y 1).val := by
  subst hh
  pointwise [k0_pay1, k0_pay136, k0_pay135]
  simp only [hX, hg, hw, out]
  rfl

/-- The fourth head's norm and gate. -/
theorem norm3 (hh : h = 3) (y : S128x128.Idx) : k0_pay2 (k0_pay135 g) (k0_pay136 w) X y = out x l n b h (N + (y 0).val) (y 1).val := by
  subst hh
  pointwise [k0_pay2, k0_pay136, k0_pay135]
  simp only [hX, hg, hw, out]
  rfl
end Norm

end Cert.HgrnIdeal.Hand

end
-- ==== Proof.HgrnIdealBlock.lean ====
/- What the recurrence over the prompt reads at a grid point: 128 tokens of the point's sequence in each of the four
   projections, the lower bounds, the norm's scale and the launch state, which is zero. -/
module

public import proofs.«01_k».proof.Proof.HgrnMath
public import proofs.«01_k».proof.Proof.HgrnIdealFrame
public import Idealize.ShloMosaic.Lib.Pipeline.ReadBack

@[expose] public section

set_option maxRecDepth 16384

noncomputable section

namespace Cert.HgrnIdeal.Hand

open Cert.HgrnIdeal Cert.HgrnIdeal.Gen Idealize.ShloMosaic Idealize.ShloMosaic.TcCoe Idealize.SL.Sem
open Idealize.ShloMosaic.Pipeline (Dat)
open Cert.HgrnMath

variable (m : (ℓ : Loc nD τ sig) → Buf (Elt Ideal) ℓ)

/-- Where the windows lie: point `t` is block `t % 32` of sequence `t / 32`. -/
theorem place : ∀ t : Fin cfg0.N, win0_0.index t = ![0, 0] ∧ win0_1.index t = ![0, 0]
    ∧ win0_2.index t = ![3, t.val, 0] ∧ win0_3.index t = ![4, t.val, 0] ∧ win0_4.index t = ![5, t.val, 0]
    ∧ win0_5.index t = ![6, t.val, 0] ∧ win0_6.index t = ![t.val / 32, 0, 0, 0]
    ∧ win0_7.index t = ![t.val, 0] ∧ win0_8.index t = ![t.val / 32, 0, 0, 0] :=
  (by decide +kernel : ∀ t : Fin grid0.N, _)

/-- The launch state as the region finds it: zero. -/
theorem states_entry (c : Dev nD) : V m c main_v0
    = broadcastInDim S4x4x128x128 ![] bcast_S_S4x4x128x128 (constant (F := Ideal) S_ .f32 0x00000000#32) := by
  simp only [V, V0, hostOps0, List.flatten_cons, List.flatten_nil, List.append_nil]
  after_results

/-- The lower bounds as the region finds them: a row. -/
theorem bounds_entry (c : Dev nD) : V m c main_v1
    = broadcastInDim S1x512 ![1] bcast_S512_S1x512_1 (m ((c : Thread nD τ).loc main_arg1)) := by
  simp only [V, V0, hostOps0, List.flatten_cons, List.flatten_nil, List.append_nil]
  after_results

/-- The norm's scale as the region finds it: a row. -/
theorem scale_entry (c : Dev nD) : V m c main_v2
    = broadcastInDim S1x128 ![1] bcast_S128_S1x128_1 (m ((c : Thread nD τ).loc main_arg2)) := by
  simp only [V, V0, hostOps0, List.flatten_cons, List.flatten_nil, List.append_nil]
  after_results

/-- The lower bounds' block. -/
theorem bounds_at (c : Dev nD) (t : Fin cfg0.N) (y : S1x512.Idx) :
    (iblk m c 0 t : Vec Ideal S1x512 .f32) y = at1 (m ((c : Thread nD τ).loc main_arg1)) (y 1).val := by
  refine (congrFun (congrArg (((cfg0.win 0).blk t).view.read (Elt Ideal)) (bounds_entry m c)) y).trans ?_
  blk_simp
  pointwise
  refine at1_eq _ _ _ ?_
  blk_simp [place t]

/-- The norm's scale's block. -/
theorem scale_at (c : Dev nD) (t : Fin cfg0.N) (y : S1x128.Idx) :
    (iblk m c 1 t : Vec Ideal S1x128 .f32) y = atn (m ((c : Thread nD τ).loc main_arg2)) (y 1).val := by
  refine (congrFun (congrArg (((cfg0.win 1).blk t).view.read (Elt Ideal)) (scale_entry m c)) y).trans ?_
  blk_simp
  pointwise
  refine atn_eq _ _ _ ?_
  blk_simp [place t]

/-- The launch state's block. -/
theorem states_at (c : Dev nD) (t : Fin cfg0.N) (y : S1x4x128x128.Idx) :
    (iblk m c 6 t : Vec Ideal S1x4x128x128 .f32) y = (0 : EReal) := by
  refine (congrFun (congrArg (((cfg0.win 6).blk t).view.read (Elt Ideal)) (states_entry m c)) y).trans ?_
  blk_simp
  pointwise

/-- The block of the query logits. -/
theorem qlogits_at (c : Dev nD) (t : Fin cfg0.N) (y : S1x128x512.Idx) :
    (iblk m c 2 t : Vec Ideal S1x128x512 .f32) y
      = at3 (m ((c : Thread nD τ).loc main_arg0)) 3 (t.val / 32 * 4096 + (t.val % 32 * 128 + (y 1).val)) (y 2).val := by
  have h0 : (y 0).val < 1 := (y 0).isLt
  rw [show t.val / 32 * 4096 + (t.val % 32 * 128 + (y 1).val) = t.val * 128 + (y 1).val by omega]
  blk_simp [iblk, V]
  refine at3_eq _ _ _ _ _ ?_ ?_ ?_
  · blk_simp [place t]
  · blk_simp [place t]
  · blk_simp [place t]

/-- The block of the forget logits. -/
theorem flogits_at (c : Dev nD) (t : Fin cfg0.N) (y : S1x128x512.Idx) :
    (iblk m c 3 t : Vec Ideal S1x128x512 .f32) y
      = at3 (m ((c : Thread nD τ).loc main_arg0)) 4 (t.val / 32 * 4096 + (t.val % 32 * 128 + (y 1).val)) (y 2).val := by
  have h0 : (y 0).val < 1 := (y 0).isLt
  rw [show t.val / 32 * 4096 + (t.val % 32 * 128 + (y 1).val) = t.val * 128 + (y 1).val by omega]
  blk_simp [iblk, V]
  refine at3_eq _ _ _ _ _ ?_ ?_ ?_
  · blk_simp [place t]
  · blk_simp [place t]
  · blk_simp [place t]

/-- The block of the values. -/
theorem values_at (c : Dev nD) (t : Fin cfg0.N) (y : S1x128x512.Idx) :
    (iblk m c 4 t : Vec Ideal S1x128x512 .f32) y
      = at3 (m ((c : Thread nD τ).loc main_arg0)) 5 (t.val / 32 * 4096 + (t.val % 32 * 128 + (y 1).val)) (y 2).val := by
  have h0 : (y 0).val < 1 := (y 0).isLt
  rw [show t.val / 32 * 4096 + (t.val % 32 * 128 + (y 1).val) = t.val * 128 + (y 1).val by omega]
  blk_simp [iblk, V]
  refine at3_eq _ _ _ _ _ ?_ ?_ ?_
  · blk_simp [place t]
  · blk_simp [place t]
  · blk_simp [place t]

/-- The block of the output gate's logits. -/
theorem glogits_at (c : Dev nD) (t : Fin cfg0.N) (y : S1x128x512.Idx) :
    (iblk m c 5 t : Vec Ideal S1x128x512 .f32) y
      = at3 (m ((c : Thread nD τ).loc main_arg0)) 6 (t.val / 32 * 4096 + (t.val % 32 * 128 + (y 1).val)) (y 2).val := by
  have h0 : (y 0).val < 1 := (y 0).isLt
  rw [show t.val / 32 * 4096 + (t.val % 32 * 128 + (y 1).val) = t.val * 128 + (y 1).val by omega]
  blk_simp [iblk, V]
  refine at3_eq _ _ _ _ _ ?_ ?_ ?_
  · blk_simp [place t]
  · blk_simp [place t]
  · blk_simp [place t]

end Cert.HgrnIdeal.Hand

end
-- ==== Proof.HgrnIdealValue.lean ====
/- The values of one block of tokens: the outputs it writes and the state it leaves, from the values of its inputs. -/
module

public import proofs.«01_k».proof.Proof.HgrnIdealTrip
public import proofs.«01_k».proof.Proof.HgrnIdealDecay
public import proofs.«01_k».proof.Proof.HgrnIdealBlock
public import Idealize.ShloMosaic.Lib.VecWindow

@[expose] public section

set_option maxRecDepth 65536
set_option maxHeartbeats 4000000

noncomputable section

namespace Cert.HgrnIdeal.Hand

open Cert.HgrnIdeal Cert.HgrnIdeal.Gen Idealize.ShloMosaic
open Cert.HgrnMath
open Cert.HgrnSampleMath (lgate)
open Cert.HgrnRefIdeal (S11x16384x512 S512)

/-- The normed and gated outputs of the block that starts at token `N`. -/
def outF (x : S11x16384x512.Idx → EReal) (l : S512.Idx → EReal) (n : Cert.HgrnRefIdeal.S128.Idx → EReal) (b N : ℕ) (i : S128x512.Idx) : EReal :=
  out x l n b ((i 1).val / 128) (N + (i 0).val) ((i 1).val % 128)

/-- A whole buffer loads as what it holds. -/
theorem load_at {s : Shape} (a : Memref sig .tc .vmem s .f32) (ha : a.IsWhole) (x : Vec Ideal s .f32) {off : Fin s.rank → ℕ}
    (inb : ∀ k, off k + s.size k ≤ s.size k) (y : s.Idx) :
    a.view.readAt (Elt Ideal) (Rect.unit off s.size inb).toLoadRect (ha.unread x) y = x y :=
  congrFun ((View.readAt_full a.view (ha.unread x) inb).trans (ha.read_unread x)) y

section Blocks
variable {x : S11x16384x512.Idx → EReal} {l : S512.Idx → EReal} {n : Cert.HgrnRefIdeal.S128.Idx → EReal} (G : Given x l) (b N : ℕ)

include G in
/-- The decays as the loop finds them. -/
theorem dec_in (v : View sig .tc .vmem S128x512 .f32) (f : v.ty.Contents (Elt Ideal)) {off : Fin 2 → ℕ} (inb)
    (a : Vec Ideal S1x512 .f32) (z : Vec Ideal S1x128x512 .f32) (ha : ∀ y : S1x512.Idx, a y = at1 l (y 1).val)
    (hz : ∀ y : S1x128x512.Idx, z y = at3 x 4 (b * 4096 + (N + (y 1).val)) (y 2).val) (y : S128x512.Idx) :
    v.read (Elt Ideal) (v.writes (Elt Ideal) f [⟨Rect.unit (s := S128x512) off S128x512.size inb,
        k0_pay133 (k0_pay125 a z) (iota Kind.tc S128x128 32 [0] iota_S128x128_d0_w32) k0_pay129 k0_pay130 (16#32) k0_pay131 k0_pay132⟩]) y
      = ((dr x l b (y 1).val (N + (y 0).val + 1) - dr x l b (y 1).val (N + (y 0).val / 16 * 16) : ℝ) : EReal) :=
  (congrFun (View.read_writes_full v f inb _ []) y).trans (decay_at _ b N
    (fun r c => (lgate_at a z (ix2 r c)).trans ((congrArg₂ lgate (ha _) (hz _)).trans (lf_coe G _ _).1)) y)

include G in
/-- The keys as the loop finds them. -/
theorem key_in (v : View sig .tc .vmem S128x512 .f32) (f : v.ty.Contents (Elt Ideal)) {off : Fin 2 → ℕ} (inb)
    (a : Vec Ideal S1x512 .f32) (z : Vec Ideal S1x128x512 .f32) (ha : ∀ y : S1x512.Idx, a y = at1 l (y 1).val)
    (hz : ∀ y : S1x128x512.Idx, z y = at3 x 4 (b * 4096 + (N + (y 1).val)) (y 2).val) (y : S128x512.Idx) :
    v.read (Elt Ideal) (v.writes (Elt Ideal) f [⟨Rect.unit (s := S128x512) off S128x512.size inb, k0_pay127 (k0_pay126 a z)⟩]) y
      = ((kr x l (b * 4096 + (N + (y 0).val)) (y 1).val : ℝ) : EReal) :=
  (congrFun (View.read_writes_full v f inb _ []) y).trans ((key_at a z y).trans
    ((congrArg₂ (fun u w : EReal => (1 - u) * Ideal.logistic (-w)) (ha _) (hz _)).trans (key_coe G _ _)))

include G in
/-- The queries as the loop finds them. -/
theorem qry_in (v : View sig .tc .vmem S128x512 .f32) (f : v.ty.Contents (Elt Ideal)) {off : Fin 2 → ℕ} (inb)
    (z : Vec Ideal S1x128x512 .f32)
    (hz : ∀ y : S1x128x512.Idx, z y = at3 x 3 (b * 4096 + (N + (y 1).val)) (y 2).val) (y : S128x512.Idx) :
    v.read (Elt Ideal) (v.writes (Elt Ideal) f [⟨Rect.unit (s := S128x512) off S128x512.size inb, k0_pay128 z⟩]) y
      = ((qr x (b * 4096 + (N + (y 0).val)) (y 1).val : ℝ) : EReal) :=
  (congrFun (View.read_writes_full v f inb _ []) y).trans ((qry_at z y).trans
    ((congrArg (fun u : EReal => u * Ideal.logistic u) (hz _)).trans (qry_coe G _ _)))

/-- The state at the start of a sequence is zero. -/
theorem zero_in (v : View sig .tc .vmem S4x128x128 .f32) (f : v.ty.Contents (Elt Ideal)) {off : Fin 3 → ℕ} (inb)
    (z : Vec Ideal S1x4x128x128 .f32) (hz : ∀ y : S1x4x128x128.Idx, z y = (0 : EReal)) (y : S4x128x128.Idx) :
    v.read (Elt Ideal) (v.writes (Elt Ideal) f [⟨Rect.unit (s := S4x128x128) off S4x128x128.size inb, k0_pay122 z⟩]) y
      = stF x l b 0 y := by
  refine (congrFun (View.read_writes_full v f inb _ []) y).trans ?_
  have e : k0_pay122 z y = (0 : EReal) := by
    pointwise [k0_pay122]
    exact hz _
  rw [e, stF, st, Finset.sum_range_zero, EReal.coe_zero]

/-- A head's outputs are a block of the outputs. -/
theorem out_lane (h a : ℕ) (ha : a = h * 128) (inb) (o : Vec Ideal S128x128 .f32)
    (ho : ∀ y : S128x128.Idx, o y = out x l n b h (N + (y 0).val) (y 1).val) (y : S128x128.Idx) :
    o y = outF x l n b N ((Rect.unit (s := S128x512) ![0, a] S128x128.size inb).emb y) := by
  subst ha
  have e : ∀ k, ((Rect.unit (s := S128x512) ![0, h * 128] S128x128.size inb).emb y k).val = (![0, h * 128] : Fin 2 → ℕ) k + (y k).val :=
    Rect.idx_unit_val _ _ inb y
  have e0 : (![0, h * 128] : Fin 2 → ℕ) 0 + (y 0).val = (y 0).val := Nat.zero_add _
  have e1 : (![0, h * 128] : Fin 2 → ℕ) 1 + (y 1).val = h * 128 + (y 1).val := rfl
  have h1 : (y 1).val < 128 := (y 1).isLt
  rw [ho y, outF, e 0, e 1, e0, e1, show (h * 128 + (y 1).val) / 128 = h by omega, show (h * 128 + (y 1).val) % 128 = (y 1).val by omega]

end Blocks

section Rows
variable {𝒱 : Variants} {bd : Option 𝒱.V} {c : Dev nD} {i : grid0.Coords} {arg2 : Memref sig .tc .vmem S1x512 .f32} {harg2 : arg2.IsWhole} {arg3 : Memref sig .tc .vmem S1x128 .f32} {harg3 : arg3.IsWhole} {arg4 : Memref sig .tc .vmem S1x128x512 .f32} {harg4 : arg4.IsWhole} {arg5 : Memref sig .tc .vmem S1x128x512 .f32} {harg5 : arg5.IsWhole} {arg6 : Memref sig .tc .vmem S1x128x512 .f32} {harg6 : arg6.IsWhole} {arg7 : Memref sig .tc .vmem S1x128x512 .f32} {harg7 : arg7.IsWhole} {arg8 : Memref sig .tc .vmem S1x4x128x128 .f32} {harg8 : arg8.IsWhole} {arg9 : Memref sig .tc .vmem S128x512 .f32} {harg9 : arg9.IsWhole} {arg10 : Memref sig .tc .vmem S1x4x128x128 .f32} {harg10 : arg10.IsWhole} {arg11 : Memref sig .tc .vmem S4x128x128 .f32} {harg11 : arg11.IsWhole} {arg12 : Memref sig .tc .vmem S128x512 .f32} {harg12 : arg12.IsWhole} {arg13 : Memref sig .tc .vmem S128x512 .f32} {harg13 : arg13.IsWhole} {arg14 : Memref sig .tc .vmem S128x512 .f32} {harg14 : arg14.IsWhole} {arg15 : Memref sig .tc .vmem S128x512 .f32} {harg15 : arg15.IsWhole} {v34 : FVec Ideal S128x512 .f32} {v52 : IVec S128x128 32} {v54 : IVec S128x128 1} {v78 : IVec S128x128 32} {c16_i32_24 : BitVec 32} {v80 : IVec S128x128 32} {v83 : IVec S128x128 32}
  {x6 : BufTy.Contents (Elt Ideal) arg6.view.ty} {x12 : BufTy.Contents (Elt Ideal) arg12.view.ty} {x13 : BufTy.Contents (Elt Ideal) arg13.view.ty} {x14 : BufTy.Contents (Elt Ideal) arg14.view.ty}
variable {x : S11x16384x512.Idx → EReal} {l : S512.Idx → EReal} (G : Given x l) (b N : ℕ)
  (h6 : ∀ y : S1x128x512.Idx, arg6.view.read (Elt Ideal) x6 y = ((vr x (b * 4096 + (N + (y 1).val)) (y 2).val : ℝ) : EReal))
  (h12 : ∀ y : S128x512.Idx, arg12.view.read (Elt Ideal) x12 y
    = ((dr x l b (y 1).val (N + (y 0).val + 1) - dr x l b (y 1).val (N + (y 0).val / 16 * 16) : ℝ) : EReal))
  (h13 : ∀ y : S128x512.Idx, arg13.view.read (Elt Ideal) x13 y = ((qr x (b * 4096 + (N + (y 0).val)) (y 1).val : ℝ) : EReal))
  (h14 : ∀ y : S128x512.Idx, arg14.view.read (Elt Ideal) x14 y = ((kr x l (b * 4096 + (N + (y 0).val)) (y 1).val : ℝ) : EReal))

include G h6 h12 h13 h14 in
/-- A head's outputs before the norm, read back after the loop. -/
theorem rows_val (hN : N + 128 ≤ 4096) (s : BufTy.Contents (Elt Ideal) arg11.view.ty) (hs : ∀ y, arg11.view.read (Elt Ideal) s y = stF x l b N y)
    (f : BufTy.Contents (Elt Ideal) arg15.view.ty) (h a : ℕ) (ha : a = h * 128) (inb) (y : S128x128.Idx) :
    (arg15.view.readAt (Elt Ideal) (Rect.unit (s := S128x512) ![0, a] S128x128.size inb).toLoadRect
      (arg15.view.writes (Elt Ideal) f (rowsAt (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 s (Scf.trips k0_t1_loop.lb k0_t1_loop.ub k0_t1_loop.st))) : Vec Ideal S128x128 .f32) y
      = mix x l b h (N + (y 0).val) (y 1).val := by
  subst ha
  have h0 : (y 0).val < 128 := (y 0).isLt
  have h1 : (y 1).val < 128 := (y 1).isLt
  rw [mix_coe G b h _ _ (by omega)]
  have e : Scf.trips k0_t1_loop.lb k0_t1_loop.ub k0_t1_loop.st = 8 := trips_eq
  rw [e]
  refine (read_pieces arg15.view f (mrF x l b N) _ (rows_of G b N h6 h12 h13 h14 s hs 8 (le_of_eq trips_eq.symm))
    ((Rect.unit (s := S128x512) ![0, h * 128] S128x128.size inb).toLoadRect.idx y) ?_).trans ?_
  · refine rows_cover (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v34 v52 v54 v78 c16_i32_24 v80 v83 IO x6 x12 x13 x14 s _ 8 (le_of_eq trips_eq.symm) ?_
    have := ((Rect.unit (s := S128x512) ![0, h * 128] S128x128.size inb).toLoadRect.idx y 0).isLt
    have h2 : ((Rect.unit (s := S128x512) ![0, h * 128] S128x128.size inb).toLoadRect.idx y 0).val < 128 := this
    omega
  · have ee : ∀ k, ((Rect.unit (s := S128x512) ![0, h * 128] S128x128.size inb).toLoadRect.idx y k).val = (![0, h * 128] : Fin 2 → ℕ) k + (y k).val :=
      Rect.idx_unit_val _ _ inb y
    have e0 : (![0, h * 128] : Fin 2 → ℕ) 0 + (y 0).val = (y 0).val := Nat.zero_add _
    have e1 : (![0, h * 128] : Fin 2 → ℕ) 1 + (y 1).val = h * 128 + (y 1).val := rfl
    rw [mrF, ee 0, ee 1, e0, e1, show (h * 128 + (y 1).val) / 128 = h by omega, show (h * 128 + (y 1).val) % 128 = (y 1).val by omega]

end Rows

section Runs
variable {c : Dev nD} {i : grid0.Coords} {arg2 : Memref sig .tc .vmem S1x512 .f32} {harg2 : arg2.IsWhole} {arg3 : Memref sig .tc .vmem S1x128 .f32} {harg3 : arg3.IsWhole} {arg4 : Memref sig .tc .vmem S1x128x512 .f32} {harg4 : arg4.IsWhole} {arg5 : Memref sig .tc .vmem S1x128x512 .f32} {harg5 : arg5.IsWhole} {arg6 : Memref sig .tc .vmem S1x128x512 .f32} {harg6 : arg6.IsWhole} {arg7 : Memref sig .tc .vmem S1x128x512 .f32} {harg7 : arg7.IsWhole} {arg8 : Memref sig .tc .vmem S1x4x128x128 .f32} {harg8 : arg8.IsWhole} {arg9 : Memref sig .tc .vmem S128x512 .f32} {harg9 : arg9.IsWhole} {arg10 : Memref sig .tc .vmem S1x4x128x128 .f32} {harg10 : arg10.IsWhole} {arg11 : Memref sig .tc .vmem S4x128x128 .f32} {harg11 : arg11.IsWhole} {arg12 : Memref sig .tc .vmem S128x512 .f32} {harg12 : arg12.IsWhole} {arg13 : Memref sig .tc .vmem S128x512 .f32} {harg13 : arg13.IsWhole} {arg14 : Memref sig .tc .vmem S128x512 .f32} {harg14 : arg14.IsWhole} {arg15 : Memref sig .tc .vmem S128x512 .f32} {harg15 : arg15.IsWhole}
  {x2 : Vec Ideal S1x512 .f32} {x3 : Vec Ideal S1x128 .f32} {x4 : Vec Ideal S1x128x512 .f32} {x5 : Vec Ideal S1x128x512 .f32} {x6 : Vec Ideal S1x128x512 .f32} {x7 : Vec Ideal S1x128x512 .f32} {x8 : Vec Ideal S1x4x128x128 .f32} {xs : Vec Ideal S4x128x128 .f32}
variable {x : S11x16384x512.Idx → EReal} {l : S512.Idx → EReal} {n : Cert.HgrnRefIdeal.S128.Idx → EReal} (G : Given x l) (b N : ℕ) (hN : N + 128 ≤ 4096)
  (hx2 : ∀ y : S1x512.Idx, x2 y = at1 l (y 1).val) (hx3 : ∀ y : S1x128.Idx, x3 y = atn n (y 1).val)
  (hx4 : ∀ y : S1x128x512.Idx, x4 y = at3 x 3 (b * 4096 + (N + (y 1).val)) (y 2).val)
  (hx5 : ∀ y : S1x128x512.Idx, x5 y = at3 x 4 (b * 4096 + (N + (y 1).val)) (y 2).val)
  (hx6 : ∀ y : S1x128x512.Idx, x6 y = at3 x 5 (b * 4096 + (N + (y 1).val)) (y 2).val)
  (hx7 : ∀ y : S1x128x512.Idx, x7 y = at3 x 6 (b * 4096 + (N + (y 1).val)) (y 2).val)
  (hx8 : N = 0 ∧ ∀ y : S1x4x128x128.Idx, x8 y = (0 : EReal)) (hxs : ∀ y : S4x128x128.Idx, xs y = stF x l b N y)

include G hx6 in
/-- The values as the loop finds them. -/
theorem val_in (y : S1x128x512.Idx) : arg6.view.read (Elt Ideal) (harg6.unread x6) y = ((vr x (b * 4096 + (N + (y 1).val)) (y 2).val : ℝ) : EReal) :=
  (congrFun (harg6.read_unread x6) y).trans ((hx6 y).trans (val_coe G _ _))

include hxs in
/-- The state as the loop finds it inside a sequence. -/
theorem kept_in (y : S4x128x128.Idx) : arg11.view.read (Elt Ideal) (harg11.unread xs) y = stF x l b N y :=
  (congrFun (harg11.read_unread xs) y).trans (hxs y)

include G hx2 hx5 hx6 hx8 in
/-- The state the first kind of block leaves. -/
theorem stateA (h1 : first i) (h2 : ¬last i) (y : S4x128x128.Idx) :
    arg11.view.read (Elt Ideal) (runA c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8).2.1 y = stF x l b (N + 128) y := by
  unfold runA
  refine (state_before b N (fun y => val_in (harg6 := harg6) G b N hx6 y) ?h12 ?h14 _ ?hs k0_t1_loop.trips le_rfl y).trans (by rw [trips_eq])
  case h12 => exact (fun y => dec_in G b N arg12.view _ _ _ _ (fun y => (load_at arg2 harg2 x2 _ y).trans (hx2 y)) (fun y => (load_at arg5 harg5 x5 _ y).trans (hx5 y)) y)
  case h14 => exact (fun y => key_in G b N arg14.view _ _ _ _ (fun y => (load_at arg2 harg2 x2 _ y).trans (hx2 y)) (fun y => (load_at arg5 harg5 x5 _ y).trans (hx5 y)) y)
  case hs => exact (by obtain ⟨rfl, hz⟩ := hx8; exact fun y => zero_in b arg11.view _ _ _ (fun y => (load_at arg8 harg8 x8 _ y).trans (hz y)) y)

include G hN hx2 hx3 hx4 hx5 hx6 hx7 hx8 in
/-- The outputs the first kind of block writes. -/
theorem outA (h1 : first i) (h2 : ¬last i) (v : View sig .tc .vmem S128x512 .f32) (f' : v.ty.Contents (Elt Ideal)) (f : BufTy.Contents (Elt Ideal) arg15.view.ty) (y : S128x512.Idx) :
    v.read (Elt Ideal) (v.writes (Elt Ideal) f' ((runA c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8).1 f)) y = outF x l n b N y := by
  refine read_pieces v f' (outF x l n b N) _ ?_ y (coverA c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 f y)
  unfold runA
  refine ⟨?_, ?_, ?_, ?_, trivial⟩
  · refine out_lane b N 3 384 rfl inb_S128x512_S128x128_0_384 _ (fun y => norm3 b N 3 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (by obtain ⟨rfl, hz⟩ := hx8; exact fun y => zero_in b arg11.view _ _ _ (fun y => (load_at arg8 harg8 x8 _ y).trans (hz y)) y) f 3 384 rfl inb_S128x512_S128x128_0_384 y
  · refine out_lane b N 2 256 rfl inb_S128x512_S128x128_0_256 _ (fun y => norm2 b N 2 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (by obtain ⟨rfl, hz⟩ := hx8; exact fun y => zero_in b arg11.view _ _ _ (fun y => (load_at arg8 harg8 x8 _ y).trans (hz y)) y) f 2 256 rfl inb_S128x512_S128x128_0_256 y
  · refine out_lane b N 1 128 rfl inb_S128x512_S128x128_0_128 _ (fun y => norm1 b N 1 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (by obtain ⟨rfl, hz⟩ := hx8; exact fun y => zero_in b arg11.view _ _ _ (fun y => (load_at arg8 harg8 x8 _ y).trans (hz y)) y) f 1 128 rfl inb_S128x512_S128x128_0_128 y
  · refine out_lane b N 0 0 rfl inb_S128x512_S128x128_0_0 _ (fun y => norm0 b N 0 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (by obtain ⟨rfl, hz⟩ := hx8; exact fun y => zero_in b arg11.view _ _ _ (fun y => (load_at arg8 harg8 x8 _ y).trans (hz y)) y) f 0 0 rfl inb_S128x512_S128x128_0_0 y

include G hx2 hx5 hx6 hxs in
/-- The state the middle kind of block leaves. -/
theorem stateB (h1 : ¬first i) (h2 : ¬last i) (y : S4x128x128.Idx) :
    arg11.view.read (Elt Ideal) (runB c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).2.1 y = stF x l b (N + 128) y := by
  unfold runB
  refine (state_before b N (fun y => val_in (harg6 := harg6) G b N hx6 y) ?h12 ?h14 _ ?hs k0_t1_loop.trips le_rfl y).trans (by rw [trips_eq])
  case h12 => exact (fun y => dec_in G b N arg12.view _ _ _ _ (fun y => (load_at arg2 harg2 x2 _ y).trans (hx2 y)) (fun y => (load_at arg5 harg5 x5 _ y).trans (hx5 y)) y)
  case h14 => exact (fun y => key_in G b N arg14.view _ _ _ _ (fun y => (load_at arg2 harg2 x2 _ y).trans (hx2 y)) (fun y => (load_at arg5 harg5 x5 _ y).trans (hx5 y)) y)
  case hs => exact (fun y => kept_in (harg11 := harg11) b N hxs y)

include G hN hx2 hx3 hx4 hx5 hx6 hx7 hxs in
/-- The outputs the middle kind of block writes. -/
theorem outB (h1 : ¬first i) (h2 : ¬last i) (v : View sig .tc .vmem S128x512 .f32) (f' : v.ty.Contents (Elt Ideal)) (f : BufTy.Contents (Elt Ideal) arg15.view.ty) (y : S128x512.Idx) :
    v.read (Elt Ideal) (v.writes (Elt Ideal) f' ((runB c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f)) y = outF x l n b N y := by
  refine read_pieces v f' (outF x l n b N) _ ?_ y (coverB c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs f y)
  unfold runB
  refine ⟨?_, ?_, ?_, ?_, trivial⟩
  · refine out_lane b N 3 384 rfl inb_S128x512_S128x128_0_384 _ (fun y => norm3 b N 3 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (fun y => kept_in (harg11 := harg11) b N hxs y) f 3 384 rfl inb_S128x512_S128x128_0_384 y
  · refine out_lane b N 2 256 rfl inb_S128x512_S128x128_0_256 _ (fun y => norm2 b N 2 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (fun y => kept_in (harg11 := harg11) b N hxs y) f 2 256 rfl inb_S128x512_S128x128_0_256 y
  · refine out_lane b N 1 128 rfl inb_S128x512_S128x128_0_128 _ (fun y => norm1 b N 1 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (fun y => kept_in (harg11 := harg11) b N hxs y) f 1 128 rfl inb_S128x512_S128x128_0_128 y
  · refine out_lane b N 0 0 rfl inb_S128x512_S128x128_0_0 _ (fun y => norm0 b N 0 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (fun y => kept_in (harg11 := harg11) b N hxs y) f 0 0 rfl inb_S128x512_S128x128_0_0 y

include G hx2 hx5 hx6 hxs in
/-- The state the last kind of block leaves. -/
theorem stateC (h1 : ¬first i) (h2 : last i) (y : S4x128x128.Idx) :
    arg11.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).2.2.1 y = stF x l b (N + 128) y := by
  unfold runC
  refine (state_before b N (fun y => val_in (harg6 := harg6) G b N hx6 y) ?h12 ?h14 _ ?hs k0_t1_loop.trips le_rfl y).trans (by rw [trips_eq])
  case h12 => exact (fun y => dec_in G b N arg12.view _ _ _ _ (fun y => (load_at arg2 harg2 x2 _ y).trans (hx2 y)) (fun y => (load_at arg5 harg5 x5 _ y).trans (hx5 y)) y)
  case h14 => exact (fun y => key_in G b N arg14.view _ _ _ _ (fun y => (load_at arg2 harg2 x2 _ y).trans (hx2 y)) (fun y => (load_at arg5 harg5 x5 _ y).trans (hx5 y)) y)
  case hs => exact (fun y => kept_in (harg11 := harg11) b N hxs y)

include G hN hx2 hx3 hx4 hx5 hx6 hx7 hxs in
/-- The outputs the last kind of block writes. -/
theorem outC (h1 : ¬first i) (h2 : last i) (v : View sig .tc .vmem S128x512 .f32) (f' : v.ty.Contents (Elt Ideal)) (f : BufTy.Contents (Elt Ideal) arg15.view.ty) (y : S128x512.Idx) :
    v.read (Elt Ideal) (v.writes (Elt Ideal) f' ((runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).1 f)) y = outF x l n b N y := by
  refine read_pieces v f' (outF x l n b N) _ ?_ y (coverC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs f y)
  unfold runC
  refine ⟨?_, ?_, ?_, ?_, trivial⟩
  · refine out_lane b N 3 384 rfl inb_S128x512_S128x128_0_384 _ (fun y => norm3 b N 3 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (fun y => kept_in (harg11 := harg11) b N hxs y) f 3 384 rfl inb_S128x512_S128x128_0_384 y
  · refine out_lane b N 2 256 rfl inb_S128x512_S128x128_0_256 _ (fun y => norm2 b N 2 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (fun y => kept_in (harg11 := harg11) b N hxs y) f 2 256 rfl inb_S128x512_S128x128_0_256 y
  · refine out_lane b N 1 128 rfl inb_S128x512_S128x128_0_128 _ (fun y => norm1 b N 1 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (fun y => kept_in (harg11 := harg11) b N hxs y) f 1 128 rfl inb_S128x512_S128x128_0_128 y
  · refine out_lane b N 0 0 rfl inb_S128x512_S128x128_0_0 _ (fun y => norm0 b N 0 _ _ _ (fun y => (load_at arg7 harg7 x7 inb_S1x128x512_S1x128x512_0_0_0 y).trans (hx7 y)) (fun y => (load_at arg3 harg3 x3 inb_S1x128_S1x128_0_0 y).trans (hx3 y)) ?_ rfl y)
    exact fun y => rows_val G b N (fun y => val_in (harg6 := harg6) G b N hx6 y) (fun y => dec_in G b N arg12.view _ _ _ _ (fun y => (load_at arg2 harg2 x2 _ y).trans (hx2 y)) (fun y => (load_at arg5 harg5 x5 _ y).trans (hx5 y)) y) (fun y => qry_in G b N arg13.view _ _ _ (fun y => (load_at arg4 harg4 x4 _ y).trans (hx4 y)) y) (fun y => key_in G b N arg14.view _ _ _ _ (fun y => (load_at arg2 harg2 x2 _ y).trans (hx2 y)) (fun y => (load_at arg5 harg5 x5 _ y).trans (hx5 y)) y) hN _ (fun y => kept_in (harg11 := harg11) b N hxs y) f 0 0 rfl inb_S128x512_S128x128_0_0 y

include G hx2 hx5 hx6 hxs in
/-- The states the last block of a sequence writes. -/
theorem statesC (h1 : ¬first i) (h2 : last i) (v : View sig .tc .vmem S1x4x128x128 .f32) (f' : v.ty.Contents (Elt Ideal)) (y : S1x4x128x128.Idx) :
    v.read (Elt Ideal) (v.writes (Elt Ideal) f' (runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).2.1) y
      = stF x l b (N + 128) (ix3 (y 1) (y 2) (y 3)) := by
  have e : ∀ z, arg11.view.read (Elt Ideal) (runC c i arg2 harg2 arg3 harg3 arg4 harg4 arg5 harg5 arg6 harg6 arg7 harg7 arg8 harg8 arg9 harg9 arg10 harg10 arg11 harg11 arg12 harg12 arg13 harg13 arg14 harg14 arg15 harg15 h1 h2 x2 x3 x4 x5 x6 x7 x8 xs).2.2.1 z = stF x l b (N + 128) z :=
    stateC G b N hx2 hx5 hx6 hxs h1 h2
  unfold runC at e ⊢
  dsimp only at e ⊢
  refine (congrFun (View.read_writes_full v f' _ _ []) y).trans ?_
  unfold runC.sl.v199
  pointwise [k0_pay3]
  refine (congrFun (View.readAt_full arg11.view _ _) _).trans ((e _).trans ?_)
  rfl

end Runs

end Cert.HgrnIdeal.Hand

end
-- ==== Proof.HgrnRef.lean ====
/- The reference of the recurrence on the prompt, read at one element of each of its two results: the host
   program's stages are followed from the gates to the output and the new state. -/
module

public import proofs.«01_k».proof.Proof.HgrnMath
public import proofs.«01_k».proof.Proof.AttnRef

@[expose] public section

set_option maxRecDepth 16384

noncomputable section

namespace Cert.HgrnRefIdeal.Hand

open Cert.HgrnRefIdeal Cert.HgrnRefIdeal.Gen Cert.HgrnRefIdeal.Read Cert.HgrnMath Idealize.ShloMosaic
open Cert.HgrnSampleMath (lae lsig lgate)
open Cert.AttnMath (ofBits_zero ofBits_one)
open Cert.AttnRefIdeal.Hand (window_apply)

variable (x0 : S11x16384x512.Idx → EReal) (x1 : S512.Idx → EReal) (x2 : S128.Idx → EReal)

/-- The queries before their gate. -/
theorem q_at (i : S4x4096x4x128.Idx) :
    val_main_v3 (F := Ideal) x0 i = at3 x0 3 ((i 0).val * 4096 + (i 1).val) ((i 2).val * 128 + (i 3).val) := by
  have h0 : (i 0).val < 4 := (i 0).isLt
  have h1 : (i 1).val < 4096 := (i 1).isLt
  have h2 : (i 2).val < 4 := (i 2).isLt
  have h3 : (i 3).val < 128 := (i 3).isLt
  rw [val_main_v3_apply, val_main_v2_apply, val_main_v1_apply]
  refine at3_eq x0 _ _ _ _ ?_ ?_ ?_ <;> dsimp only <;> omega

/-- The forget logits. -/
theorem f_at (i : S4x4096x4x128.Idx) :
    val_main_v6 (F := Ideal) x0 i = at3 x0 4 ((i 0).val * 4096 + (i 1).val) ((i 2).val * 128 + (i 3).val) := by
  have h0 : (i 0).val < 4 := (i 0).isLt
  have h1 : (i 1).val < 4096 := (i 1).isLt
  have h2 : (i 2).val < 4 := (i 2).isLt
  have h3 : (i 3).val < 128 := (i 3).isLt
  rw [val_main_v6_apply, val_main_v5_apply, val_main_v4_apply]
  refine at3_eq x0 _ _ _ _ ?_ ?_ ?_ <;> dsimp only <;> omega

/-- The values. -/
theorem v_at (i : S4x4096x4x128.Idx) :
    val_main_v9 (F := Ideal) x0 i = at3 x0 5 ((i 0).val * 4096 + (i 1).val) ((i 2).val * 128 + (i 3).val) := by
  have h0 : (i 0).val < 4 := (i 0).isLt
  have h1 : (i 1).val < 4096 := (i 1).isLt
  have h2 : (i 2).val < 4 := (i 2).isLt
  have h3 : (i 3).val < 128 := (i 3).isLt
  rw [val_main_v9_apply, val_main_v8_apply, val_main_v7_apply]
  refine at3_eq x0 _ _ _ _ ?_ ?_ ?_ <;> dsimp only <;> omega

/-- The output gates before their activation. -/
theorem g_at (i : S16384x512.Idx) : val_main_v105 (F := Ideal) x0 i = at3 x0 6 (i 0).val (i 1).val := by
  have h0 : (i 0).val < 16384 := (i 0).isLt
  have h1 : (i 1).val < 512 := (i 1).isLt
  rw [val_main_v105_apply, val_main_v104_apply]
  refine at3_eq x0 _ _ _ _ ?_ ?_ ?_ <;> dsimp only <;> omega

/-- The lower bounds of the forget gate. -/
theorem l_at (i : S4x128.Idx) : val_main_v10 (F := Ideal) x1 i = at1 x1 ((i 0).val * 128 + (i 1).val) := by
  rw [val_main_v10_apply]
  exact at1_eq x1 _ _ (by dsimp only)

/-- A number is equal to itself, so the branch for a missing number is not taken. -/
theorem select_une (v a b : EReal) :
    Scalar.select (FloatOps.cmpf (F := Ideal) (φ := .f32) CmpFPredicate.une v v) a b = b := by
  have hc : FloatOps.cmpf (F := Ideal) (φ := .f32) CmpFPredicate.une v v = 0#1 := by
    simp [FloatOps.cmpf, Ideal.cmp]
  rw [hc, WordCmp.select_zero]

/-- The logarithm of the sigmoid in the reference. -/
theorem lsig_at (i : S4x4096x4x128.Idx) :
    val_main_v14 (F := Ideal) x0 i = lsig (at3 x0 4 ((i 0).val * 4096 + (i 1).val) ((i 2).val * 128 + (i 3).val)) := by
  simp only [val_main_v14_apply, val_main_call0_v1_apply, val_main_call0_call0_v4_apply, select_une, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v2_apply, val_main_call0_call0_v0_apply,
    val_main_call0_call0_cst_apply, val_main_call0_v0_apply, f_at]
  generalize at3 x0 4 ((i 0).val * 4096 + (i 1).val) ((i 2).val * 128 + (i 3).val) = z
  have e : lsig z = -(max (-z) 0 + Ideal.log1p (Ideal.exp (-(max (-z - 0) (-(-z - 0)))))) := by
    rw [sub_zero, neg_neg, max_comm (-z) z, lsig]
  rw [e, ← ofBits_zero]
  rfl

/-- The logarithm of the forget gate in the reference. -/
theorem lgate_at (i : S4x4096x4x128.Idx) :
    val_main_v31 (F := Ideal) x0 x1 i
      = lgate (at1 x1 ((i 2).val * 128 + (i 3).val)) (at3 x0 4 ((i 0).val * 4096 + (i 1).val) ((i 2).val * 128 + (i 3).val)) := by
  simp only [val_main_v31_apply, val_main_v23_apply, select_une, val_main_v30_apply, val_main_v29_apply, val_main_v28_apply,
    val_main_v27_apply, val_main_v26_apply, val_main_v22_apply, val_main_v21_apply, val_main_v20_apply, val_main_v19_apply,
    val_main_v18_apply, val_main_v17_apply, val_main_v16_apply, val_main_v15_apply, val_main_v13_apply, val_main_v12_apply,
    val_main_v11_apply, l_at, lsig_at]
  rfl

/-- The gated queries. -/
theorem qry_at (i : S4x4x4096x128.Idx) :
    val_main_v33 (F := Ideal) x0 i = qry x0 ((i 0).val * 4096 + (i 2).val) ((i 1).val * 128 + (i 3).val) := by
  simp only [val_main_v33_apply, val_main_v32_apply, val_main_call1_v5_apply, val_main_call1_v4_apply, val_main_call1_cst_0_apply,
    val_main_call1_v3_apply, val_main_call1_v2_apply, val_main_call1_cst_apply, val_main_call1_v1_apply, val_main_call1_v0_apply, q_at]
  rw [qry, Ideal.logistic, ← ofBits_one]
  rfl

/-- The keys. -/
theorem key_at (i : S4x4x4096x128.Idx) :
    val_main_v46 (F := Ideal) x0 x1 i = key x0 x1 ((i 0).val * 4096 + (i 2).val) ((i 1).val * 128 + (i 3).val) := by
  simp only [val_main_v46_apply, val_main_v45_apply, val_main_v44_apply, val_main_v43_apply, val_main_v42_apply, val_main_v41_apply,
    val_main_cst_2_apply, val_main_v40_apply, val_main_v39_apply, val_main_cst_1_apply, val_main_v38_apply, val_main_v37_apply,
    val_main_v36_apply, val_main_v35_apply, val_main_v34_apply, val_main_cst_0_apply, f_at, l_at]
  rw [key, Ideal.logistic, ← ofBits_one]
  rfl

/-- The values, by head. -/
theorem val_at (i : S4x4x4096x128.Idx) :
    val_main_v47 (F := Ideal) x0 i = at3 x0 5 ((i 0).val * 4096 + (i 2).val) ((i 1).val * 128 + (i 3).val) := by
  rw [val_main_v47_apply, v_at]

/-- The position `n` of a window along the tokens. -/
def pos (n : Fin 4096) : (⟨4, ![1, 1, 4096, 1]⟩ : Shape).Idx := fun a => match a with
  | ⟨0, _⟩ => ⟨0, Nat.one_pos⟩
  | ⟨1, _⟩ => ⟨0, Nat.one_pos⟩
  | ⟨2, _⟩ => ⟨n.val, n.isLt⟩
  | ⟨3, _⟩ => ⟨0, Nat.one_pos⟩

/-- The positions of that window are the numbers below its length. -/
theorem pos_bijective : Function.Bijective pos := by
  constructor
  · intro a b h
    have : (pos a 2).val = (pos b 2).val := by rw [h]
    exact Fin.ext this
  · intro w
    refine ⟨⟨(w 2).val, (w 2).isLt⟩, funext fun a => ?_⟩
    match a with
    | ⟨0, _⟩ => exact Fin.ext (by have h : (w 0).val < 1 := (w 0).isLt; show 0 = (w 0).val; omega)
    | ⟨1, _⟩ => exact Fin.ext (by have h : (w 1).val < 1 := (w 1).isLt; show 0 = (w 1).val; omega)
    | ⟨2, _⟩ => rfl
    | ⟨3, _⟩ => exact Fin.ext (by have h : (w 3).val < 1 := (w 3).isLt; show 0 = (w 3).val; omega)

/-- The index with the token replaced. -/
abbrev tok (i : S4x4x4096x128.Idx) (k : Fin 4096) : S4x4x4096x128.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 3).val, (i 3).isLt⟩

/-- The windowed sum along the tokens: element `t` is the sum of the elements up to `t`. -/
theorem window_sum (x : S4x4x4096x128.Idx → EReal) (z : S_.Idx → EReal) (hz : ∀ i, z i = 0) (i : S4x4x4096x128.Idx)
    (f : ℕ → EReal) (hf : ∀ k : Fin 4096, x (tok i k) = f k.val) :
    Host.reduceWindowAdd (F := Ideal) (φ := .f32) ![1, 1, 4096, 1] ![1, 1, 1, 1] ![0, 0, 4095, 0] ![0, 0, 0, 0] x z
        reduceWindows_S4x4x4096x128_S4x4x4096x128_w1s1p0_0_w1s1p0_0_w4096s1p4095_0_w1s1p0_0 h_S_ i
      = ∑ n ∈ Finset.range ((i 2).val + 1), f n := by
  have h2 : (i 2).val < 4096 := (i 2).isLt
  have e : ∑ n ∈ Finset.range ((i 2).val + 1), f n
      = ∑ n : Fin 4096, if 4095 ≤ (i 2).val + n.val then f ((i 2).val + n.val - 4095) else 0 := by
    rw [Fin.sum_univ_eq_sum_range (fun n => if 4095 ≤ (i 2).val + n then f ((i 2).val + n - 4095) else 0) 4096]
    rw [← Finset.sum_filter]
    refine Finset.sum_bij' (fun n _ => n + 4095 - (i 2).val) (fun n _ => (i 2).val + n - 4095) ?_ ?_ ?_ ?_ ?_
    · intro n hn; rw [Finset.mem_range] at hn; rw [Finset.mem_filter, Finset.mem_range]; omega
    · intro n hn; rw [Finset.mem_filter, Finset.mem_range] at hn; rw [Finset.mem_range]; omega
    · intro n hn; rw [Finset.mem_range] at hn; dsimp only; omega
    · intro n hn; rw [Finset.mem_filter, Finset.mem_range] at hn; dsimp only; omega
    · intro n hn; rw [Finset.mem_range] at hn; dsimp only; rw [show (i 2).val + (n + 4095 - (i 2).val) - 4095 = n by omega]
  rw [window_apply _ _ _ _ x z _ _ (hz _), e]
  refine (Fintype.sum_bijective pos pos_bijective _ _ fun n => ?_).symm
  have hn : n.val < 4096 := n.isLt
  by_cases hin : 4095 ≤ (i 2).val + n.val
  · rw [if_pos hin, dif_pos]
    · have := hf ⟨(i 2).val + n.val - 4095, by omega⟩
      dsimp only at this
      rw [← this]
      refine congrArg x (funext fun a => ?_)
      match a with
      | ⟨0, _⟩ => exact Fin.ext (by show (i 0).val = (i 0).val * 1 + 0 - 0; omega)
      | ⟨1, _⟩ => exact Fin.ext (by show (i 1).val = (i 1).val * 1 + 0 - 0; omega)
      | ⟨2, _⟩ => exact Fin.ext (by show (i 2).val + n.val - 4095 = (i 2).val * 1 + n.val - 4095; omega)
      | ⟨3, _⟩ => exact Fin.ext (by show (i 3).val = (i 3).val * 1 + 0 - 0; omega)
    · intro a
      match a with
      | ⟨0, _⟩ => exact ⟨Nat.zero_le _, by have h : (i 0).val < 4 := (i 0).isLt; show (i 0).val * 1 + 0 - 0 < 4; omega⟩
      | ⟨1, _⟩ => exact ⟨Nat.zero_le _, by have h : (i 1).val < 4 := (i 1).isLt; show (i 1).val * 1 + 0 - 0 < 4; omega⟩
      | ⟨2, _⟩ => exact ⟨by show 4095 ≤ (i 2).val * 1 + n.val; omega, by show (i 2).val * 1 + n.val - 4095 < 4096; omega⟩
      | ⟨3, _⟩ => exact ⟨Nat.zero_le _, by have h : (i 3).val < 128 := (i 3).isLt; show (i 3).val * 1 + 0 - 0 < 128; omega⟩
  · rw [if_neg hin, dif_neg]
    intro hall
    have h : 4095 ≤ (i 2).val * 1 + n.val := (hall 2).1
    omega

variable {x0 x1}

/-- The running sum of the logarithms. -/
theorem cum_at (i : S4x4x4096x128.Idx) :
    val_main_v49 (F := Ideal) x0 x1 i = cum x0 x1 (i 0).val (i 2).val ((i 1).val * 128 + (i 3).val) := by
  unfold val_main_v49
  rw [window_sum _ _ (fun k => by rw [val_main_call2_call0_v0_apply, val_main_call2_call0_cst_apply, Ideal.ofBits_def, ofBits_zero]) i
    (fun k => lf x0 x1 ((i 0).val * 4096 + k) ((i 1).val * 128 + (i 3).val))
    (fun k => by rw [val_main_v48_apply, lgate_at]; rfl)]
  rfl

theorem sle_word (a b : Fin 4096) : IntOp.cmpi .sle (BitVec.ofNat 32 b.val) (BitVec.ofNat 32 a.val) = BitVec.ofBool (decide (b.val ≤ a.val)) := by
  have ha := a.isLt
  have hb := b.isLt
  show BitVec.ofBool (BitVec.sle (BitVec.ofNat 32 b.val) (BitVec.ofNat 32 a.val)) = _
  have e : ∀ n : ℕ, n < 4096 → (BitVec.ofNat 32 n).toInt = (n : ℤ) := fun n hn => by
    rw [BitVec.toInt_eq_toNat_of_lt, BitVec.toNat_ofNat, Nat.mod_eq_of_lt (by omega)]
    rw [BitVec.toNat_ofNat, Nat.mod_eq_of_lt (by omega)]; omega
  rw [BitVec.sle, e _ ha, e _ hb]
  congr 2
  exact propext Int.ofNat_le

/-- A token counts when it is not after the query's. -/
theorem causal_at (i : S4x4x4096x4096x128.Idx) :
    val_main_call3_v1 (F := Ideal) i = BitVec.ofBool (decide ((i 3).val ≤ (i 2).val)) := by
  rw [val_main_call3_v1_apply, val_main_v65_apply, val_main_v59_apply, val_main_v57_apply, val_main_v54_apply, val_main_v53_apply,
    val_main_v58_apply, val_main_v56_apply, val_main_v55_apply]
  exact sle_word ⟨(i 2).val, (i 2).isLt⟩ ⟨(i 3).val, (i 3).isLt⟩

theorem ofBits_bot : Ideal.ofBits .f32 0xFF800000#32 = ⊥ := by
  simp [Ideal.ofBits, Ideal.ieee]

/-- The decay from one token to another: zero when it is after the query's. -/
theorem decay_at (i : S4x4x4096x4096x128.Idx) :
    val_main_v67 (F := Ideal) x0 x1 i = if (i 3).val ≤ (i 2).val then
      Ideal.exp (cum x0 x1 (i 0).val (i 2).val ((i 1).val * 128 + (i 4).val) - cum x0 x1 (i 0).val (i 3).val ((i 1).val * 128 + (i 4).val))
      else 0 := by
  rw [val_main_v67_apply, val_main_v66_apply, causal_at, WordCmp.select_ofBool, val_main_v64_apply, val_main_v62_apply, val_main_v60_apply,
    val_main_v63_apply, val_main_v61_apply, cum_at, cum_at, val_main_call3_v2_apply]
  by_cases h : (i 3).val ≤ (i 2).val
  · simp only [decide_eq_true_eq, if_pos h]
    rw [Ideal.hostUnary_exp_def, Ideal.subf_def]
  · simp only [decide_eq_true_eq, if_neg h]
    show Ideal.exp (Ideal.ofBits .f32 0xFF800000#32) = 0
    rw [ofBits_bot, Ideal.exp_bot]

/-- The weight one token gives another. -/
theorem att_at (i : S4x4x4096x4096.Idx) :
    val_main_v74 (F := Ideal) x0 x1 i = att x0 x1 (i 0).val (i 1).val (i 2).val (i 3).val := by
  rw [val_main_v74_apply, att]
  simp only [val_main_v73_apply, val_main_v70_apply, val_main_v69_apply, val_main_v68_apply, val_main_v72_apply, val_main_v71_apply,
    qry_at, key_at, decay_at, val_main_cst_4_apply, Ideal.ofBits_def, ofBits_zero, zero_add, Ideal.mulf_def]
  by_cases h : (i 3).val ≤ (i 2).val
  · rw [if_pos h]
    refine Finset.sum_congr rfl fun k _ => ?_
    rw [if_pos h, mul_assoc, mul_assoc]
    exact congrArg _ (mul_comm _ _)
  · rw [if_neg h]
    refine Finset.sum_eq_zero fun k _ => ?_
    rw [if_neg h, mul_zero, zero_mul]

/-- The state a sequence starts from is zero. -/
theorem zero_at (i : S4x4x128x128.Idx) : val_main_v0 (F := Ideal) i = 0 := by
  rw [val_main_v0_apply, val_main_cst_apply, Ideal.ofBits_def, ofBits_zero]

/-- The output before the norm. -/
theorem mix_at (i : S4x4x4096x128.Idx) :
    val_main_v76 (F := Ideal) x0 x1 i = mix x0 x1 (i 0).val (i 1).val (i 2).val (i 3).val := by
  rw [val_main_v76_apply, val_main_v52_apply, val_main_v75_apply, mix, Ideal.addf_def]
  rw [Finset.sum_eq_zero fun k _ => by rw [zero_at, mul_zero], zero_add]
  refine Finset.sum_congr rfl fun k _ => ?_
  rw [att_at, val_at]

/-- One element of the last state. -/
theorem state_at (i : S4x4x128x128.Idx) :
    val_main_v88 (F := Ideal) x0 x1 i = next x0 x1 (i 0).val (i 1).val (i 2).val (i 3).val := by
  rw [val_main_v88_apply, val_main_v82_apply, zero_at, val_main_v87_apply, next, Ideal.addf_def, Ideal.mulf_def, mul_zero, zero_add]
  refine Finset.sum_congr rfl fun k _ => ?_
  rw [val_main_v86_apply, val_main_v85_apply, val_main_v84_apply, val_main_v83_apply, val_main_v77_apply, cum_at, cum_at,
    key_at, val_at, Ideal.mulf_def, Ideal.subf_def, Ideal.hostUnary_exp_def]
  rfl

/-- One element of the reference's output. -/
theorem result_at (i : S16384x512.Idx) :
    val_main_v107 (F := Ideal) x0 x1 x2 i
      = out x0 x1 x2 ((i 0).val / 4096) ((i 1).val / 128) ((i 0).val % 4096) ((i 1).val % 128) := by
  have h0 : (i 0).val < 16384 := (i 0).isLt
  have h1 : (i 1).val < 512 := (i 1).isLt
  have e0 : ((i 0).val * 512 + (i 1).val) / 2097152 = (i 0).val / 4096 := by omega
  have e1 : ((i 0).val * 512 + (i 1).val) / 512 % 4096 = (i 0).val % 4096 := by omega
  have e2 : ((i 0).val * 512 + (i 1).val) / 128 % 4 = (i 1).val / 128 := by omega
  have e3 : ((i 0).val * 512 + (i 1).val) % 128 = (i 1).val % 128 := by omega
  have e4 : (i 0).val / 4096 * 4096 + (i 0).val % 4096 = (i 0).val := by omega
  have e5 : (i 1).val / 128 * 128 + (i 1).val % 128 = (i 1).val := by omega
  simp only [val_main_v107_apply, val_main_v106_apply, val_main_call4_v5_apply, val_main_call4_v4_apply, val_main_call4_cst_0_apply,
    val_main_call4_v3_apply, val_main_call4_v2_apply, val_main_call4_cst_apply, val_main_call4_v1_apply, val_main_call4_v0_apply,
    val_main_v103_apply, val_main_v102_apply, val_main_v101_apply, val_main_v100_apply, val_main_v99_apply, val_main_v98_apply,
    val_main_v97_apply, val_main_v96_apply, val_main_v95_apply, val_main_cst_7_apply, val_main_v94_apply, val_main_v93_apply,
    val_main_cst_6_apply, val_main_v92_apply, val_main_v91_apply, val_main_cst_5_apply, val_main_v90_apply, val_main_v89_apply,
    mix_at, g_at, Ideal.ofBits_def, ofBits_zero, zero_add]
  rw [e0, e1, e2, e3, out, e4, e5, Ideal.logistic, ← ofBits_one, atn_eq x2 _ ((i 1).val % 128) (by dsimp only; omega)]
  rfl

end Cert.HgrnRefIdeal.Hand

end
-- ==== Proof.HgrnIdealResult.lean ====
/- The results of the recurrence over the prompt: block by block the outputs and, at the end of each sequence, the states are
   those of the reference. -/
module

public import proofs.«01_k».proof.Proof.HgrnIdealValue
public import proofs.«01_k».proof.Proof.HgrnRef

@[expose] public section

set_option maxRecDepth 65536
set_option maxHeartbeats 4000000

noncomputable section

namespace Cert.HgrnIdeal.Hand

open Cert.HgrnIdeal Cert.HgrnIdeal.Gen Idealize.ShloMosaic Idealize.ShloMosaic.TcCoe Idealize.SL.Sem
open Idealize.ShloMosaic.Pipeline (Dat)
open Cert.HgrnMath

variable (m : (ℓ : Loc nD τ sig) → Buf (Elt Ideal) ℓ)

/-- The state carried into a block inside a sequence is the recurrence's. -/
theorem carried_at (c : Dev nD) (G : Given (m ((c : Thread nD τ).loc main_arg0)) (m ((c : Thread nD τ).loc main_arg1))) :
    ∀ k : ℕ, k < 128 → k % 32 ≠ 0 → ∀ y : S4x128x128.Idx, carried m c k y
      = stF (m ((c : Thread nD τ).loc main_arg0)) (m ((c : Thread nD τ).loc main_arg1)) (k / 32) (k % 32 * 128) y
  | 0, _, h, _ => absurd rfl h
  | k + 1, hk, h, y => by
    have hkN : k < cfg0.N := lt_of_lt_of_le (Nat.lt_of_succ_lt hk) (by decide)
    rw [show (k + 1) / 32 = k / 32 by omega, show (k + 1) % 32 * 128 = k % 32 * 128 + 128 by omega]
    have hl : ¬last (grid0.coords ⟨k, hkN⟩) := fun hl => by
      have : k % 32 = 31 := (last_at ⟨k, hkN⟩).mp hl
      omega
    rw [carried_succ m c ⟨k, hkN⟩]
    by_cases hf : first (grid0.coords ⟨k, hkN⟩)
    · have h0 : k % 32 = 0 := (first_at ⟨k, hkN⟩).mp hf
      rw [leavesA m c ⟨k, hkN⟩ hf hl]
      dsimp only
      exact stateA (x3 := iblk m c 1 ⟨k, hkN⟩) (x4 := iblk m c 2 ⟨k, hkN⟩) (x7 := iblk m c 5 ⟨k, hkN⟩) G (k / 32) (k % 32 * 128) (bounds_at m c ⟨k, hkN⟩) (flogits_at m c ⟨k, hkN⟩) (values_at m c ⟨k, hkN⟩)
        ⟨by rw [h0], states_at m c ⟨k, hkN⟩⟩ hf hl y
    · have h0 : k % 32 ≠ 0 := fun e => hf ((first_at ⟨k, hkN⟩).mpr e)
      rw [leavesB m c ⟨k, hkN⟩ hf hl]
      dsimp only
      exact stateB (x3 := iblk m c 1 ⟨k, hkN⟩) (x4 := iblk m c 2 ⟨k, hkN⟩) (x7 := iblk m c 5 ⟨k, hkN⟩) (x8 := iblk m c 6 ⟨k, hkN⟩) G (k / 32) (k % 32 * 128) (bounds_at m c ⟨k, hkN⟩) (flogits_at m c ⟨k, hkN⟩) (values_at m c ⟨k, hkN⟩)
        (carried_at c G k (Nat.lt_of_succ_lt hk) h0) hf hl y

/-- The outputs a block leaves. -/
theorem out_block (c : Dev nD) (G : Given (m ((c : Thread nD τ).loc main_arg0)) (m ((c : Thread nD τ).loc main_arg1)))
    (t : Fin cfg0.N) (y : S128x512.Idx) :
    (leaves m c t (carried m c t.val)).1 y = outF (m ((c : Thread nD τ).loc main_arg0)) (m ((c : Thread nD τ).loc main_arg1))
      (m ((c : Thread nD τ).loc main_arg2)) (t.val / 32) (t.val % 32 * 128) y := by
  have ht : t.val < 128 := lt_of_lt_of_le t.isLt (by decide)
  have hN : t.val % 32 * 128 + 128 ≤ 4096 := by omega
  by_cases hf : first (grid0.coords t)
  · have h0 : t.val % 32 = 0 := (first_at t).mp hf
    have hl : ¬last (grid0.coords t) := fun hl => by
      have := (last_at t).mp hl
      omega
    rw [leavesA m c t hf hl]
    dsimp only
    exact outA G (t.val / 32) (t.val % 32 * 128) hN (bounds_at m c t) (scale_at m c t) (qlogits_at m c t) (flogits_at m c t) (values_at m c t)
      (glogits_at m c t) ⟨by rw [h0], states_at m c t⟩ hf hl VO7 _ _ y
  · have h0 : t.val % 32 ≠ 0 := fun e => hf ((first_at t).mpr e)
    by_cases hl : last (grid0.coords t)
    · rw [leavesC m c t hf hl]
      dsimp only
      exact outC (x8 := iblk m c 6 t) G (t.val / 32) (t.val % 32 * 128) hN (bounds_at m c t) (scale_at m c t) (qlogits_at m c t) (flogits_at m c t) (values_at m c t)
        (glogits_at m c t) (carried_at m c G t.val ht h0) hf hl VO7 _ _ y
    · rw [leavesB m c t hf hl]
      dsimp only
      exact outB (x8 := iblk m c 6 t) G (t.val / 32) (t.val % 32 * 128) hN (bounds_at m c t) (scale_at m c t) (qlogits_at m c t) (flogits_at m c t) (values_at m c t)
        (glogits_at m c t) (carried_at m c G t.val ht h0) hf hl VO7 _ _ y

/-- The states the last block of a sequence leaves. -/
theorem states_block (c : Dev nD) (G : Given (m ((c : Thread nD τ).loc main_arg0)) (m ((c : Thread nD τ).loc main_arg1)))
    (t : Fin cfg0.N) (hl : last (grid0.coords t)) (y : S1x4x128x128.Idx) :
    (leaves m c t (carried m c t.val)).2.1 y = next (m ((c : Thread nD τ).loc main_arg0)) (m ((c : Thread nD τ).loc main_arg1))
      (t.val / 32) (y 1).val (y 3).val (y 2).val := by
  have ht : t.val < 128 := lt_of_lt_of_le t.isLt (by decide)
  have h31 : t.val % 32 = 31 := (last_at t).mp hl
  have h0 : t.val % 32 ≠ 0 := by omega
  have hf : ¬first (grid0.coords t) := fun hf => h0 ((first_at t).mp hf)
  rw [leavesC m c t hf hl, next_coe G]
  refine (statesC (x3 := iblk m c 1 t) (x7 := iblk m c 5 t) (x8 := iblk m c 6 t) G (t.val / 32) (t.val % 32 * 128) (bounds_at m c t) (flogits_at m c t) (values_at m c t)
    (carried_at m c G t.val ht h0) hf hl VO8 _ y).trans ?_
  rw [stF, show t.val % 32 * 128 + 128 = 4096 by omega]
  rfl

/-- The array of the outputs after the run is the reference's first result. -/
theorem out_array (c : Dev nD) (G : Given (m ((c : Thread nD τ).loc main_arg0)) (m ((c : Thread nD τ).loc main_arg1))) :
    (dats m 0 c).arrAt 7 (cfgs 0).N = Cert.HgrnRefIdeal.Read.val_main_v107 (F := Ideal) (m ((c : Thread nD τ).loc main_arg0))
      (m ((c : Thread nD τ).loc main_arg1)) (m ((c : Thread nD τ).loc main_arg2)) := by
  refine (dats m 0 c).arrAt_eq_of_covers 7 _ (by decide +kernel) fun t _ y => ?_
  have h0 : ((y : S128x512.Idx) 0).val < 128 := ((y : S128x512.Idx) 0).isLt
  blk_simp
  rw [after7]
  refine (out_block m c G t y).trans ?_
  refine Eq.trans ?_ (Cert.HgrnRefIdeal.Hand.result_at _ _).symm
  blk_simp [place t]
  rw [outF, show (t.val * 128 + ((y : S128x512.Idx) 0).val) / 4096 = t.val / 32 by omega,
    show (t.val * 128 + ((y : S128x512.Idx) 0).val) % 4096 = t.val % 32 * 128 + ((y : S128x512.Idx) 0).val by omega]

/-- The array of the states after the run, rows and columns exchanged. -/
theorem states_array (c : Dev nD) (G : Given (m ((c : Thread nD τ).loc main_arg0)) (m ((c : Thread nD τ).loc main_arg1))) :
    (dats m 0 c).arrAt 8 (cfgs 0).N = fun i : S4x4x128x128.Idx => next (m ((c : Thread nD τ).loc main_arg0))
      (m ((c : Thread nD τ).loc main_arg1)) (i 0).val (i 1).val (i 3).val (i 2).val := by
  refine (dats m 0 c).arrAt_eq_of_covers 8 _ (by decide +kernel) fun t hfl y => ?_
  have h0 : ((y : S1x4x128x128.Idx) 0).val < 1 := ((y : S1x4x128x128.Idx) 0).isLt
  have hl : last (grid0.coords t) := by
    by_contra hn
    rw [keep8 t hn] at hfl
    exact absurd hfl (by decide)
  blk_simp
  rw [after8]
  refine (states_block m c G t hl y).trans ?_
  blk_simp [place t]

/-- The last operation exchanges the states' rows and columns back: they are the reference's second result. -/
theorem states_after (c : Dev nD) (G : Given (m ((c : Thread nD τ).loc main_arg0)) (m ((c : Thread nD τ).loc main_arg1))) :
    Pipeline.afterTail₀ cfgs (dats m) 0 (V0 m) [hostOps1] c main_v4
      = Cert.HgrnRefIdeal.Read.val_main_v88 (F := Ideal) (m ((c : Thread nD τ).loc main_arg0)) (m ((c : Thread nD τ).loc main_arg1)) := by
  simp only [Pipeline.afterTail₀, hostOps1, List.flatten_cons, List.flatten_nil, List.append_nil]
  after_results
  have hs := (dats m 0 c).withArrays_arrAt launch₀0.sharedIn (V0 m c) (A_eq m c) 8
  have e : Pipeline.withArrays (cfgs 0).spec c (V0 m c) (fun w => (dats m 0 c).arrAt w (cfgs 0).N) (Proc.tc.devRef main_v3_1)
      = fun i : S4x4x128x128.Idx => next (m ((c : Thread nD τ).loc main_arg0))
      (m ((c : Thread nD τ).loc main_arg1)) (i 0).val (i 1).val (i 3).val (i 2).val :=
    hs.trans (states_array m c G)
  rw [e]
  funext i
  rw [Cert.HgrnRefIdeal.Hand.state_at i]
  pointwise

end Cert.HgrnIdeal.Hand

end
-- ==== Proof.FfnSampleValue.lean ====
/- The value of the feed-forward network over the sample batch: two column tiles are summed into one accumulator, the sum is
   the reference's whole contraction over the hidden axis, and its layer norm is what the kernel stores. -/
module

public import proofs.«01_k».proof.Proof.Gen.FfnSampleIdeal.Frame
public import proofs.«01_k».proof.Proof.Gen.FfnSampleRefIdeal.Read
public import Idealize.ShloMosaic.Lib.Pipeline.ValueKit

@[expose] public section

set_option maxRecDepth 16384

noncomputable section

namespace Cert.FfnSampleIdeal.Hand

open Cert.FfnSampleIdeal Cert.FfnSampleIdeal.Gen Idealize.ShloMosaic Idealize.ShloMosaic.TcCoe Idealize.SL.Sem
open Idealize.ShloMosaic.Pipeline (Dat)
open Cert.FfnSampleRefIdeal.Read

variable (m : (ℓ : Loc nD τ sig) → Buf (Elt Ideal) ℓ)

/-- Which block each window holds at grid point `t`: the row tile is `t / 2`, the tile of the hidden axis `t % 2`. -/
theorem place : ∀ t : Fin cfg0.N, win0_0.index t = ![t.val / 2, 0] ∧ win0_1.index t = ![0, 0, 0, t.val % 2]
    ∧ win0_2.index t = ![0, 0, 0, t.val % 2] ∧ win0_3.index t = ![0, 0, t.val % 2, 0]
    ∧ win0_4.index t = ![0, 0, 0, 0] ∧ win0_5.index t = ![0, 0, 0, 0] ∧ win0_6.index t = ![t.val / 2, 0] :=
  (by decide +kernel : ∀ t : Fin grid0.N, _)

/-- A sum over the hidden axis is the sum over its two tiles. -/
theorem sum_tiles (f : Fin 2816 → EReal) :
    ∑ k, f k = (∑ k : Fin 1408, f ⟨k.val, by omega⟩) + ∑ k : Fin 1408, f ⟨1408 + k.val, by omega⟩ :=
  Fin.sum_univ_add (a := 1408) (b := 1408) f

/-- The reference's contraction over the hidden axis, before the residual and the layer norm. -/
abbrev hidden (c : Dev nD) : FVec Ideal S256x1024 .f32 :=
  val_main_v12 (F := Ideal) (m ((c : Thread nD τ).loc main_arg0)) (m ((c : Thread nD τ).loc main_arg1))
    (m ((c : Thread nD τ).loc main_arg2)) (m ((c : Thread nD τ).loc main_arg3))

/-- The reference's result as one function of the arguments. -/
abbrev spec (c : Dev nD) : FVec Ideal S256x1024 .f32 :=
  val_main_v43 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

set_option maxHeartbeats 2000000 in
/-- After both tiles of a row block the accumulator holds the whole contraction. -/
theorem both_tiles (c : Dev nD) (t s : Fin cfg0.N) (ht : t.val % 2 = 1) (hs : s.val = t.val - 1) (y : S256x1024.Idx) :
    k0_pay3 (iblk m c 0 t) (iblk m c 1 t) (iblk m c 2 t) (iblk m c 3 t)
      (k0_pay2 (iblk m c 0 s) (iblk m c 1 s) (iblk m c 2 s) (iblk m c 3 s)) y
      = hidden m c (((cfg0.win 6).blk t).view.emb y) := by
  unfold hidden
  have hs0 : s.val % 2 = 0 := by omega
  have hs2 : s.val / 2 = t.val / 2 := by omega
  pointwise [k0_pay1, k0_pay2, k0_pay3, val_main_cst, val_main_v0, val_main_v1, val_main_v2, val_main_v3, val_main_v4, val_main_v5, val_main_v6, val_main_v7, val_main_v8, val_main_call0_v0, val_main_call0_v1, val_main_call0_cst, val_main_call0_v2, val_main_call0_v3, val_main_call0_cst_0, val_main_call0_v4, val_main_call0_v5, val_main_v9, val_main_v10, val_main_v11, val_main_v12]
  rw [sum_tiles]
  simp only [Ideal.logistic]
  blk_point [iblk, V, place t, place s, hs0, hs2, ht]

set_option maxHeartbeats 2000000 in
/-- What is stored at an index of a block is the reference's value where that index lies in the array. -/
theorem stored (c : Dev nD) (t s : Fin cfg0.N) (ht : t.val % 2 = 1) (hs : s.val = t.val - 1) (y : S256x1024.Idx) :
    k0_pay4 (iblk m c 0 t)
      (k0_pay3 (iblk m c 0 t) (iblk m c 1 t) (iblk m c 2 t) (iblk m c 3 t)
        (k0_pay2 (iblk m c 0 s) (iblk m c 1 s) (iblk m c 2 s) (iblk m c 3 s)))
      (iblk m c 4 t) (iblk m c 5 t) y
      = spec m c (((cfg0.win 6).blk t).view.emb y) := by
  have hA := both_tiles m c t s ht hs y
  have hR : ∀ k : Fin 1024, _ = hidden m c (ix2 (((cfg0.win 6).blk t).view.emb y 0) k) := fun k =>
    (both_tiles m c t s ht hs (ix2 (y 0) k)).trans (by blk_ext [place t])
  generalize k0_pay3 (iblk m c 0 t) (iblk m c 1 t) (iblk m c 2 t) (iblk m c 3 t)
    (k0_pay2 (iblk m c 0 s) (iblk m c 1 s) (iblk m c 2 s) (iblk m c 3 s)) = A at hA hR ⊢
  unfold spec
  unfold hidden at hA hR
  pointwise [k0_pay4, val_main_cst_0, val_main_v13, val_main_v14, val_main_v15, val_main_v16, val_main_v17, val_main_v18, val_main_v19, val_main_cst_1, val_main_v20, val_main_v21, val_main_cst_2, val_main_v22, val_main_v23, val_main_v24, val_main_v25, val_main_v26, val_main_cst_3, val_main_v27, val_main_v28, val_main_cst_4, val_main_v29, val_main_v30, val_main_v31, val_main_v32, val_main_cst_5, val_main_v33, val_main_v34, val_main_v35, val_main_v36, val_main_v37, val_main_v38, val_main_v39, val_main_v40, val_main_v41, val_main_v42, val_main_v43, val_main_cst_0, val_main_v1, val_main_cst, val_main_v0]
  generalize val_main_v12 (F := Ideal) (m ((c : Thread nD τ).loc main_arg0)) (m ((c : Thread nD τ).loc main_arg1))
    (m ((c : Thread nD τ).loc main_arg2)) (m ((c : Thread nD τ).loc main_arg3)) = H at hA hR ⊢
  blk_point [iblk, V, place t]
  · exact hA
  · exact hR _

/-- The first tile of a row block starts the accumulator afresh. -/
theorem first_tile (c : Dev nD) (s : Fin cfg0.N) (h : s.val % 2 = 0) : (outsAt0 m c s.val s.isLt).2
    = k0_pay2 (iblk m c 0 s) (iblk m c 1 s) (iblk m c 2 s) (iblk m c 3 s) := by
  rw [outsAt0_A m c s h (by omega) (by omega)]
  frame_out

/-- The second tile adds to the accumulator and stores the layer norm of the residual sum. -/
theorem second_tile (c : Dev nD) (t : Fin cfg0.N) (h : t.val % 2 = 1) : (outsAt0 m c t.val t.isLt).1
    = k0_pay4 (iblk m c 0 t) (k0_pay3 (iblk m c 0 t) (iblk m c 1 t) (iblk m c 2 t) (iblk m c 3 t)
        (outsAt0 m c (t.val - 1) (Nat.lt_of_le_of_lt (Nat.sub_le _ _) t.isLt)).2)
        (iblk m c 4 t) (iblk m c 5 t) := by
  rw [outsAt0_B m c t (by omega) h h]
  frame_out
  rw [show View.read (Elt Ideal) (View.whole cc0_scratch0) _ = _ from Memref.IsWhole.read_unread (Memref.isWhole_whole _) _]

set_option maxHeartbeats 2000000 in
/-- The array after the run is the reference's result. -/
theorem array (c : Dev nD) : (dats m 0 c).arrAt 6 (cfgs 0).N = spec m c := by
  refine (dats m 0 c).arrAt_eq_of_covers 6 _ (by decide +kernel) fun t hf y => ?_
  have ht : t.val % 2 = 1 := (flush0_6 t).mp hf
  have hs : t.val - 1 < cfg0.N := Nat.lt_of_le_of_lt (Nat.sub_le _ _) t.isLt
  blk_simp
  rw [after0_6, second_tile m c t ht, first_tile m c ⟨t.val - 1, hs⟩ (by dsimp only; omega)]
  exact stored m c t ⟨t.val - 1, hs⟩ ht rfl y

end Cert.FfnSampleIdeal.Hand

end
-- ==== Proof.MergeSampleValue.lean ====
/- The value of the merge of the sample batch: what the kernel stores at each index of a block is the reference's layer
   norm of the two gated branches mixed together, at the matching index of the array. -/
module

public import proofs.«01_k».proof.Proof.Gen.MergeSampleIdeal.Frame
public import proofs.«01_k».proof.Proof.Gen.MergeSampleRefIdeal.Read
public import Idealize.ShloMosaic.Lib.Pipeline.ValueKit

@[expose] public section

set_option maxRecDepth 16384

noncomputable section

namespace Cert.MergeSampleIdeal.Hand

open Cert.MergeSampleIdeal Cert.MergeSampleIdeal.Gen Idealize.ShloMosaic Idealize.ShloMosaic.TcCoe Idealize.SL.Sem
open Idealize.ShloMosaic.Pipeline (Dat)
open Cert.MergeSampleRefIdeal.Read

variable (m : (ℓ : Loc nD τ sig) → Buf (Elt Ideal) ℓ)

/-- Which block each window holds at grid point `t`. -/
theorem place : ∀ t : Fin cfg0.N, win0_0.index t = ![t.val, 0] ∧ win0_1.index t = ![t.val, 0]
    ∧ win0_2.index t = ![t.val, 0] ∧ win0_3.index t = ![7, t.val, 0] ∧ win0_4.index t = ![8, t.val, 0]
    ∧ win0_5.index t = ![9, t.val, 0] ∧ win0_6.index t = ![10, t.val, 0] ∧ win0_7.index t = ![0, 0, 0]
    ∧ win0_8.index t = ![0, 0, 0] ∧ win0_9.index t = ![0, 0, 0] ∧ win0_10.index t = ![0, 0, 0]
    ∧ win0_11.index t = ![0, 1, 0, 0] ∧ win0_12.index t = ![0, 1, 0, 0] ∧ win0_13.index t = ![t.val, 0] :=
  (by decide +kernel : ∀ t : Fin grid0.N, _)

/-- The reference's result as one function of the arguments. -/
abbrev spec (c : Dev nD) : FVec Ideal S256x1024 .f32 :=
  val_main_v74 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))

set_option maxHeartbeats 2000000 in
/-- What is stored at an index of a block is the reference's value where that index lies in the array. -/
theorem stored (c : Dev nD) (t : Fin cfg0.N) (y : S256x1024.Idx) :
    k0_pay1 (k0_pay3 (iblk m c 1 t) (iblk m c 8 t) (iblk m c 3 t) (iblk m c 4 t) (iblk m c 7 t))
      (k0_pay4 (iblk m c 2 t) (iblk m c 9 t) (iblk m c 5 t) (iblk m c 6 t) (iblk m c 7 t))
      (iblk m c 10 t) (iblk m c 0 t) (iblk m c 11 t) (iblk m c 12 t) y
      = spec m c (((cfg0.win 13).blk t).view.emb y) := by
  unfold spec
  pointwise [k0_pay1, k0_pay2, k0_pay3, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_v17, val_main_v18, val_main_cst_0, val_main_v19, val_main_v20, val_main_v21, val_main_v22, val_main_v23, val_main_v24, val_main_v25, val_main_v26, val_main_v27, val_main_v28, val_main_v29, val_main_v30, val_main_v31, val_main_cst_1, val_main_v32, val_main_v33, val_main_cst_2, val_main_v34, val_main_v35, val_main_v36, val_main_v37, val_main_v38, val_main_v39, val_main_v40, val_main_cst_3, val_main_v41, val_main_v42, val_main_v43, val_main_v44, val_main_v45, val_main_v46, val_main_v47, val_main_v48, val_main_v49, val_main_v50, val_main_cst_4, val_main_v51, val_main_v52, val_main_cst_5, val_main_v53, val_main_v54, val_main_v55, val_main_v56, val_main_v57, val_main_cst_6, val_main_v58, val_main_v59, val_main_cst_7, val_main_v60, val_main_v61, val_main_v62, val_main_v63, val_main_cst_8, val_main_v64, val_main_v65, val_main_v66, val_main_v67, val_main_v68, val_main_v69, val_main_v70, val_main_v71, val_main_v72, val_main_v73, val_main_v74]
  simp only [Ideal.logistic]
  blk_point [iblk, V, place t]

set_option maxHeartbeats 2000000 in
/-- The array after the run is the reference's result. -/
theorem array (c : Dev nD) : (dats m 0 c).arrAt 13 (cfgs 0).N = spec m c := by
  refine (dats m 0 c).arrAt_eq_of_covers 13 _ (by decide +kernel) fun t _ y => ?_
  blk_simp
  rw [after0_13]
  frame_out
  exact stored m c t y

end Cert.MergeSampleIdeal.Hand

end
-- ==== Proof.FfnSecondValue.lean ====
/- The value of the second half-step of the feed-forward network: two column tiles are summed into one accumulator, the sum is
   the reference's whole contraction over the hidden axis, and its layer norm is what the kernel stores. -/
module

public import proofs.«01_k».proof.Proof.Gen.FfnSecondIdeal.Frame
public import proofs.«01_k».proof.Proof.Gen.FfnSecondRefIdeal.Read
public import Idealize.ShloMosaic.Lib.Pipeline.ValueKit

@[expose] public section

set_option maxRecDepth 16384

noncomputable section

namespace Cert.FfnSecondIdeal.Hand

open Cert.FfnSecondIdeal Cert.FfnSecondIdeal.Gen Idealize.ShloMosaic Idealize.ShloMosaic.TcCoe Idealize.SL.Sem
open Idealize.ShloMosaic.Pipeline (Dat)
open Cert.FfnSecondRefIdeal.Read

variable (m : (ℓ : Loc nD τ sig) → Buf (Elt Ideal) ℓ)

/-- Which block each window holds at grid point `t`: the row tile is `t / 2`, the tile of the hidden axis `t % 2`. -/
theorem place : ∀ t : Fin cfg0.N, win0_0.index t = ![t.val / 2, 0] ∧ win0_1.index t = ![0, 1, 0, t.val % 2]
    ∧ win0_2.index t = ![0, 1, 0, t.val % 2] ∧ win0_3.index t = ![0, 1, t.val % 2, 0]
    ∧ win0_4.index t = ![0, 2, 0, 0] ∧ win0_5.index t = ![0, 2, 0, 0] ∧ win0_6.index t = ![t.val / 2, 0] :=
  (by decide +kernel : ∀ t : Fin grid0.N, _)

/-- A sum over the hidden axis is the sum over its two tiles. -/
theorem sum_tiles (f : Fin 2816 → EReal) :
    ∑ k, f k = (∑ k : Fin 1408, f ⟨k.val, by omega⟩) + ∑ k : Fin 1408, f ⟨1408 + k.val, by omega⟩ :=
  Fin.sum_univ_add (a := 1408) (b := 1408) f

/-- The reference's contraction over the hidden axis, before the residual and the layer norm. -/
abbrev hidden (c : Dev nD) : FVec Ideal S16384x1024 .f32 :=
  val_main_v12 (F := Ideal) (m ((c : Thread nD τ).loc main_arg0)) (m ((c : Thread nD τ).loc main_arg1))
    (m ((c : Thread nD τ).loc main_arg2)) (m ((c : Thread nD τ).loc main_arg3))

/-- The reference's result as one function of the arguments. -/
abbrev spec (c : Dev nD) : FVec Ideal S16384x1024 .f32 :=
  val_main_v43 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

set_option maxHeartbeats 2000000 in
/-- After both tiles of a row block the accumulator holds the whole contraction. -/
theorem both_tiles (c : Dev nD) (t s : Fin cfg0.N) (ht : t.val % 2 = 1) (hs : s.val = t.val - 1) (y : S512x1024.Idx) :
    k0_pay3 (iblk m c 0 t) (iblk m c 1 t) (iblk m c 2 t) (iblk m c 3 t)
      (k0_pay2 (iblk m c 0 s) (iblk m c 1 s) (iblk m c 2 s) (iblk m c 3 s)) y
      = hidden m c (((cfg0.win 6).blk t).view.emb y) := by
  unfold hidden
  have hs0 : s.val % 2 = 0 := by omega
  have hs2 : s.val / 2 = t.val / 2 := by omega
  pointwise [k0_pay1, k0_pay2, k0_pay3, val_main_cst, val_main_v0, val_main_v1, val_main_v2, val_main_v3, val_main_v4, val_main_v5, val_main_v6, val_main_v7, val_main_v8, val_main_call0_v0, val_main_call0_v1, val_main_call0_cst, val_main_call0_v2, val_main_call0_v3, val_main_call0_cst_0, val_main_call0_v4, val_main_call0_v5, val_main_v9, val_main_v10, val_main_v11, val_main_v12]
  rw [sum_tiles]
  simp only [Ideal.logistic]
  blk_point [iblk, V, place t, place s, hs0, hs2, ht]

set_option maxHeartbeats 2000000 in
/-- What is stored at an index of a block is the reference's value where that index lies in the array. -/
theorem stored (c : Dev nD) (t s : Fin cfg0.N) (ht : t.val % 2 = 1) (hs : s.val = t.val - 1) (y : S512x1024.Idx) :
    k0_pay4 (iblk m c 0 t)
      (k0_pay3 (iblk m c 0 t) (iblk m c 1 t) (iblk m c 2 t) (iblk m c 3 t)
        (k0_pay2 (iblk m c 0 s) (iblk m c 1 s) (iblk m c 2 s) (iblk m c 3 s)))
      (iblk m c 4 t) (iblk m c 5 t) y
      = spec m c (((cfg0.win 6).blk t).view.emb y) := by
  have hA := both_tiles m c t s ht hs y
  have hR : ∀ k : Fin 1024, _ = hidden m c (ix2 (((cfg0.win 6).blk t).view.emb y 0) k) := fun k =>
    (both_tiles m c t s ht hs (ix2 (y 0) k)).trans (by blk_ext [place t])
  generalize k0_pay3 (iblk m c 0 t) (iblk m c 1 t) (iblk m c 2 t) (iblk m c 3 t)
    (k0_pay2 (iblk m c 0 s) (iblk m c 1 s) (iblk m c 2 s) (iblk m c 3 s)) = A at hA hR ⊢
  unfold spec
  unfold hidden at hA hR
  pointwise [k0_pay4, val_main_cst_0, val_main_v13, val_main_v14, val_main_v15, val_main_v16, val_main_v17, val_main_v18, val_main_v19, val_main_cst_1, val_main_v20, val_main_v21, val_main_cst_2, val_main_v22, val_main_v23, val_main_v24, val_main_v25, val_main_v26, val_main_cst_3, val_main_v27, val_main_v28, val_main_cst_4, val_main_v29, val_main_v30, val_main_v31, val_main_v32, val_main_cst_5, val_main_v33, val_main_v34, val_main_v35, val_main_v36, val_main_v37, val_main_v38, val_main_v39, val_main_v40, val_main_v41, val_main_v42, val_main_v43, val_main_cst_0, val_main_v1, val_main_cst, val_main_v0]
  generalize val_main_v12 (F := Ideal) (m ((c : Thread nD τ).loc main_arg0)) (m ((c : Thread nD τ).loc main_arg1))
    (m ((c : Thread nD τ).loc main_arg2)) (m ((c : Thread nD τ).loc main_arg3)) = H at hA hR ⊢
  blk_point [iblk, V, place t]
  · exact hA
  · exact hR _

/-- The first tile of a row block starts the accumulator afresh. -/
theorem first_tile (c : Dev nD) (s : Fin cfg0.N) (h : s.val % 2 = 0) : (outsAt0 m c s.val s.isLt).2
    = k0_pay2 (iblk m c 0 s) (iblk m c 1 s) (iblk m c 2 s) (iblk m c 3 s) := by
  rw [outsAt0_A m c s h (by omega) (by omega)]
  frame_out

/-- The second tile adds to the accumulator and stores the layer norm of the residual sum. -/
theorem second_tile (c : Dev nD) (t : Fin cfg0.N) (h : t.val % 2 = 1) : (outsAt0 m c t.val t.isLt).1
    = k0_pay4 (iblk m c 0 t) (k0_pay3 (iblk m c 0 t) (iblk m c 1 t) (iblk m c 2 t) (iblk m c 3 t)
        (outsAt0 m c (t.val - 1) (Nat.lt_of_le_of_lt (Nat.sub_le _ _) t.isLt)).2)
        (iblk m c 4 t) (iblk m c 5 t) := by
  rw [outsAt0_B m c t (by omega) h h]
  frame_out
  rw [show View.read (Elt Ideal) (View.whole cc0_scratch0) _ = _ from Memref.IsWhole.read_unread (Memref.isWhole_whole _) _]

set_option maxHeartbeats 2000000 in
/-- The array after the run is the reference's result. -/
theorem array (c : Dev nD) : (dats m 0 c).arrAt 6 (cfgs 0).N = spec m c := by
  refine (dats m 0 c).arrAt_eq_of_covers 6 _ (by decide +kernel) fun t hf y => ?_
  have ht : t.val % 2 = 1 := (flush0_6 t).mp hf
  have hs : t.val - 1 < cfg0.N := Nat.lt_of_le_of_lt (Nat.sub_le _ _) t.isLt
  blk_simp
  rw [after0_6, second_tile m c t ht, first_tile m c ⟨t.val - 1, hs⟩ (by dsimp only; omega)]
  exact stored m c t ⟨t.val - 1, hs⟩ ht rfl y

end Cert.FfnSecondIdeal.Hand

end
-- ==== Proof.FfnSecondSampleValue.lean ====
/- The value of the second half-step of the feed-forward network over the sample batch: two column tiles are summed into one accumulator, the sum is
   the reference's whole contraction over the hidden axis, and its layer norm is what the kernel stores. -/
module

public import proofs.«01_k».proof.Proof.Gen.FfnSecondSampleIdeal.Frame
public import proofs.«01_k».proof.Proof.Gen.FfnSecondSampleRefIdeal.Read
public import Idealize.ShloMosaic.Lib.Pipeline.ValueKit

@[expose] public section

set_option maxRecDepth 16384

noncomputable section

namespace Cert.FfnSecondSampleIdeal.Hand

open Cert.FfnSecondSampleIdeal Cert.FfnSecondSampleIdeal.Gen Idealize.ShloMosaic Idealize.ShloMosaic.TcCoe Idealize.SL.Sem
open Idealize.ShloMosaic.Pipeline (Dat)
open Cert.FfnSecondSampleRefIdeal.Read

variable (m : (ℓ : Loc nD τ sig) → Buf (Elt Ideal) ℓ)

/-- Which block each window holds at grid point `t`: the row tile is `t / 2`, the tile of the hidden axis `t % 2`. -/
theorem place : ∀ t : Fin cfg0.N, win0_0.index t = ![t.val / 2, 0] ∧ win0_1.index t = ![0, 1, 0, t.val % 2]
    ∧ win0_2.index t = ![0, 1, 0, t.val % 2] ∧ win0_3.index t = ![0, 1, t.val % 2, 0]
    ∧ win0_4.index t = ![0, 2, 0, 0] ∧ win0_5.index t = ![0, 2, 0, 0] ∧ win0_6.index t = ![t.val / 2, 0] :=
  (by decide +kernel : ∀ t : Fin grid0.N, _)

/-- A sum over the hidden axis is the sum over its two tiles. -/
theorem sum_tiles (f : Fin 2816 → EReal) :
    ∑ k, f k = (∑ k : Fin 1408, f ⟨k.val, by omega⟩) + ∑ k : Fin 1408, f ⟨1408 + k.val, by omega⟩ :=
  Fin.sum_univ_add (a := 1408) (b := 1408) f

/-- The reference's contraction over the hidden axis, before the residual and the layer norm. -/
abbrev hidden (c : Dev nD) : FVec Ideal S256x1024 .f32 :=
  val_main_v12 (F := Ideal) (m ((c : Thread nD τ).loc main_arg0)) (m ((c : Thread nD τ).loc main_arg1))
    (m ((c : Thread nD τ).loc main_arg2)) (m ((c : Thread nD τ).loc main_arg3))

/-- The reference's result as one function of the arguments. -/
abbrev spec (c : Dev nD) : FVec Ideal S256x1024 .f32 :=
  val_main_v43 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

set_option maxHeartbeats 2000000 in
/-- After both tiles of a row block the accumulator holds the whole contraction. -/
theorem both_tiles (c : Dev nD) (t s : Fin cfg0.N) (ht : t.val % 2 = 1) (hs : s.val = t.val - 1) (y : S256x1024.Idx) :
    k0_pay3 (iblk m c 0 t) (iblk m c 1 t) (iblk m c 2 t) (iblk m c 3 t)
      (k0_pay2 (iblk m c 0 s) (iblk m c 1 s) (iblk m c 2 s) (iblk m c 3 s)) y
      = hidden m c (((cfg0.win 6).blk t).view.emb y) := by
  unfold hidden
  have hs0 : s.val % 2 = 0 := by omega
  have hs2 : s.val / 2 = t.val / 2 := by omega
  pointwise [k0_pay1, k0_pay2, k0_pay3, val_main_cst, val_main_v0, val_main_v1, val_main_v2, val_main_v3, val_main_v4, val_main_v5, val_main_v6, val_main_v7, val_main_v8, val_main_call0_v0, val_main_call0_v1, val_main_call0_cst, val_main_call0_v2, val_main_call0_v3, val_main_call0_cst_0, val_main_call0_v4, val_main_call0_v5, val_main_v9, val_main_v10, val_main_v11, val_main_v12]
  rw [sum_tiles]
  simp only [Ideal.logistic]
  blk_point [iblk, V, place t, place s, hs0, hs2, ht]

set_option maxHeartbeats 2000000 in
/-- What is stored at an index of a block is the reference's value where that index lies in the array. -/
theorem stored (c : Dev nD) (t s : Fin cfg0.N) (ht : t.val % 2 = 1) (hs : s.val = t.val - 1) (y : S256x1024.Idx) :
    k0_pay4 (iblk m c 0 t)
      (k0_pay3 (iblk m c 0 t) (iblk m c 1 t) (iblk m c 2 t) (iblk m c 3 t)
        (k0_pay2 (iblk m c 0 s) (iblk m c 1 s) (iblk m c 2 s) (iblk m c 3 s)))
      (iblk m c 4 t) (iblk m c 5 t) y
      = spec m c (((cfg0.win 6).blk t).view.emb y) := by
  have hA := both_tiles m c t s ht hs y
  have hR : ∀ k : Fin 1024, _ = hidden m c (ix2 (((cfg0.win 6).blk t).view.emb y 0) k) := fun k =>
    (both_tiles m c t s ht hs (ix2 (y 0) k)).trans (by blk_ext [place t])
  generalize k0_pay3 (iblk m c 0 t) (iblk m c 1 t) (iblk m c 2 t) (iblk m c 3 t)
    (k0_pay2 (iblk m c 0 s) (iblk m c 1 s) (iblk m c 2 s) (iblk m c 3 s)) = A at hA hR ⊢
  unfold spec
  unfold hidden at hA hR
  pointwise [k0_pay4, val_main_cst_0, val_main_v13, val_main_v14, val_main_v15, val_main_v16, val_main_v17, val_main_v18, val_main_v19, val_main_cst_1, val_main_v20, val_main_v21, val_main_cst_2, val_main_v22, val_main_v23, val_main_v24, val_main_v25, val_main_v26, val_main_cst_3, val_main_v27, val_main_v28, val_main_cst_4, val_main_v29, val_main_v30, val_main_v31, val_main_v32, val_main_cst_5, val_main_v33, val_main_v34, val_main_v35, val_main_v36, val_main_v37, val_main_v38, val_main_v39, val_main_v40, val_main_v41, val_main_v42, val_main_v43, val_main_cst_0, val_main_v1, val_main_cst, val_main_v0]
  generalize val_main_v12 (F := Ideal) (m ((c : Thread nD τ).loc main_arg0)) (m ((c : Thread nD τ).loc main_arg1))
    (m ((c : Thread nD τ).loc main_arg2)) (m ((c : Thread nD τ).loc main_arg3)) = H at hA hR ⊢
  blk_point [iblk, V, place t]
  · exact hA
  · exact hR _

/-- The first tile of a row block starts the accumulator afresh. -/
theorem first_tile (c : Dev nD) (s : Fin cfg0.N) (h : s.val % 2 = 0) : (outsAt0 m c s.val s.isLt).2
    = k0_pay2 (iblk m c 0 s) (iblk m c 1 s) (iblk m c 2 s) (iblk m c 3 s) := by
  rw [outsAt0_A m c s h (by omega) (by omega)]
  frame_out

/-- The second tile adds to the accumulator and stores the layer norm of the residual sum. -/
theorem second_tile (c : Dev nD) (t : Fin cfg0.N) (h : t.val % 2 = 1) : (outsAt0 m c t.val t.isLt).1
    = k0_pay4 (iblk m c 0 t) (k0_pay3 (iblk m c 0 t) (iblk m c 1 t) (iblk m c 2 t) (iblk m c 3 t)
        (outsAt0 m c (t.val - 1) (Nat.lt_of_le_of_lt (Nat.sub_le _ _) t.isLt)).2)
        (iblk m c 4 t) (iblk m c 5 t) := by
  rw [outsAt0_B m c t (by omega) h h]
  frame_out
  rw [show View.read (Elt Ideal) (View.whole cc0_scratch0) _ = _ from Memref.IsWhole.read_unread (Memref.isWhole_whole _) _]

set_option maxHeartbeats 2000000 in
/-- The array after the run is the reference's result. -/
theorem array (c : Dev nD) : (dats m 0 c).arrAt 6 (cfgs 0).N = spec m c := by
  refine (dats m 0 c).arrAt_eq_of_covers 6 _ (by decide +kernel) fun t hf y => ?_
  have ht : t.val % 2 = 1 := (flush0_6 t).mp hf
  have hs : t.val - 1 < cfg0.N := Nat.lt_of_le_of_lt (Nat.sub_le _ _) t.isLt
  blk_simp
  rw [after0_6, second_tile m c t ht, first_tile m c ⟨t.val - 1, hs⟩ (by dsimp only; omega)]
  exact stored m c t ⟨t.val - 1, hs⟩ ht rfl y

end Cert.FfnSecondSampleIdeal.Hand

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.Gen.Embed.Frame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.Gen.EmbedIdeal.Frame
public import proofs.«01_k».proof.Proof.Gen.EmbedRefIdeal
public import proofs.«01_k».proof.Proof.Gen.AttnRefIdeal.Run
public import proofs.«01_k».proof.Proof.Gen.AttnRefIdeal.Read
public import proofs.«01_k».proof.Proof.Gen.AttnIdeal.Value
public import proofs.«01_k».proof.Proof.Gen.FfnRefIdeal.Run
public import proofs.«01_k».proof.Proof.Gen.FfnRefIdeal.Read
public import proofs.«01_k».proof.Proof.Gen.FfnIdeal.Value
public import proofs.«01_k».proof.Proof.Gen.ProjRefIdeal.Run
public import proofs.«01_k».proof.Proof.Gen.ProjRefIdeal.Read
public import proofs.«01_k».proof.Proof.Gen.ProjIdeal.Value
public import proofs.«01_k».proof.Proof.Gen.MergeRefIdeal.Run
public import proofs.«01_k».proof.Proof.Gen.MergeRefIdeal.Read
public import proofs.«01_k».proof.Proof.Gen.MergeIdeal.Value
public import proofs.«01_k».proof.Proof.Gen.EmbedRefIdeal.Run
public import proofs.«01_k».proof.Proof.Gen.EmbedRefIdeal.Read
public import proofs.«01_k».proof.Proof.Gen.EmbedIdeal.Value
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleRefIdeal
public import proofs.«01_k».proof.Proof.Gen.EmbedSample
public import proofs.«01_k».proof.Proof.Gen.EmbedSample.Skeleton
public import proofs.«01_k».proof.Proof.Gen.EmbedSample.Launch
public import proofs.«01_k».proof.Proof.Gen.EmbedSample.Points
public import proofs.«01_k».proof.Proof.Gen.EmbedSample.Frame
public import proofs.«01_k».proof.Proof.Gen.EmbedSampleIdeal
public import proofs.«01_k».proof.Proof.Gen.EmbedSampleIdeal.Skeleton
public import proofs.«01_k».proof.Proof.Gen.EmbedSampleIdeal.Launch
public import proofs.«01_k».proof.Proof.Gen.EmbedSampleIdeal.Points
public import proofs.«01_k».proof.Proof.Gen.EmbedSampleIdeal.Frame
public import proofs.«01_k».proof.Proof.Gen.EmbedSampleRefIdeal
public import proofs.«01_k».proof.Proof.Gen.ProjSampleRefIdeal.Run
public import proofs.«01_k».proof.Proof.Gen.ProjSampleRefIdeal.Read
public import proofs.«01_k».proof.Proof.Gen.ProjSampleIdeal.Value
public import proofs.«01_k».proof.Proof.Gen.EmbedSampleRefIdeal.Run
public import proofs.«01_k».proof.Proof.Gen.EmbedSampleRefIdeal.Read
public import proofs.«01_k».proof.Proof.Gen.EmbedSampleIdeal.Value
public import proofs.«01_k».proof.Proof.Gen.Hgrn
public import proofs.«01_k».proof.Proof.Gen.Hgrn.Skeleton
public import proofs.«01_k».proof.Proof.Gen.Hgrn.Launch
public import proofs.«01_k».proof.Proof.Gen.Hgrn.Loops
public import proofs.«01_k».proof.Proof.Gen.Hgrn.Points
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Loops
public import proofs.«01_k».proof.Proof.Gen.HgrnIdeal.Points
public import proofs.«01_k».proof.Proof.Gen.HgrnIdeal.Frame
public import proofs.«01_k».proof.Proof.Gen.HgrnRefIdeal
public import proofs.«01_k».proof.Proof.Gen.HgrnRefIdeal.Run
public import proofs.«01_k».proof.Proof.Gen.HgrnRefIdeal.Read
public import proofs.«01_k».proof.Proof.Gen.HgrnSample
public import proofs.«01_k».proof.Proof.Gen.HgrnSample.Skeleton
public import proofs.«01_k».proof.Proof.Gen.HgrnSample.Launch
public import proofs.«01_k».proof.Proof.Gen.HgrnSample.Points
public import proofs.«01_k».proof.Proof.Gen.HgrnSample.Frame
public import proofs.«01_k».proof.Proof.Gen.HgrnSampleIdeal
public import proofs.«01_k».proof.Proof.Gen.HgrnSampleIdeal.Skeleton
public import proofs.«01_k».proof.Proof.Gen.HgrnSampleIdeal.Launch
public import proofs.«01_k».proof.Proof.Gen.HgrnSampleIdeal.Points
public import proofs.«01_k».proof.Proof.Gen.HgrnSampleIdeal.Frame
public import proofs.«01_k».proof.Proof.Gen.HgrnSampleRefIdeal
public import proofs.«01_k».proof.Proof.Gen.HgrnSampleRefIdeal.Run
public import proofs.«01_k».proof.Proof.Gen.HgrnSampleRefIdeal.Read
public import proofs.«01_k».proof.Proof.AttnFinite
public import proofs.«01_k».proof.Proof.AttnValue
public import proofs.«01_k».proof.Proof.ProjValue
public import proofs.«01_k».proof.Proof.FfnValue
public import proofs.«01_k».proof.Proof.MergeValue
public import proofs.«01_k».proof.Proof.EmbedValue
public import proofs.«01_k».proof.Proof.ProjSampleValue
public import proofs.«01_k».proof.Proof.EmbedSampleValue
public import proofs.«01_k».proof.Proof.HgrnFrame
public import proofs.«01_k».proof.Proof.HgrnIdealFrame
public import proofs.«01_k».proof.Proof.HgrnSampleValue
public import proofs.«01_k».proof.Proof.HgrnSampleBound
public import Idealize.ShloMosaic.Lib.Claim
public import Idealize.ShloMosaic.Adequacy
public import Idealize.ShloMosaic.Init
public import proofs.«01_k».proof.Proof.HgrnBound
public import proofs.«01_k».proof.Proof.HgrnIdealResult
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleRefIdeal
public import proofs.«01_k».proof.Proof.Gen.FfnSampleRefIdeal.Run
public import proofs.«01_k».proof.Proof.Gen.FfnSampleRefIdeal.Read
public import proofs.«01_k».proof.Proof.Gen.FfnSampleIdeal.Value
public import proofs.«01_k».proof.Proof.FfnSampleValue
public import proofs.«01_k».proof.Proof.Gen.MergeSample
public import proofs.«01_k».proof.Proof.Gen.MergeSample.Skeleton
public import proofs.«01_k».proof.Proof.Gen.MergeSample.Launch
public import proofs.«01_k».proof.Proof.Gen.MergeSample.Points
public import proofs.«01_k».proof.Proof.Gen.MergeSample.Frame
public import proofs.«01_k».proof.Proof.Gen.MergeSampleIdeal
public import proofs.«01_k».proof.Proof.Gen.MergeSampleIdeal.Skeleton
public import proofs.«01_k».proof.Proof.Gen.MergeSampleIdeal.Launch
public import proofs.«01_k».proof.Proof.Gen.MergeSampleIdeal.Points
public import proofs.«01_k».proof.Proof.Gen.MergeSampleIdeal.Frame
public import proofs.«01_k».proof.Proof.Gen.MergeSampleRefIdeal
public import proofs.«01_k».proof.Proof.Gen.MergeSampleRefIdeal.Run
public import proofs.«01_k».proof.Proof.Gen.MergeSampleRefIdeal.Read
public import proofs.«01_k».proof.Proof.Gen.MergeSampleIdeal.Value
public import proofs.«01_k».proof.Proof.MergeSampleValue
public import proofs.«01_k».proof.Proof.Gen.FfnSecond
public import proofs.«01_k».proof.Proof.Gen.FfnSecond.Skeleton
public import proofs.«01_k».proof.Proof.Gen.FfnSecond.Launch
public import proofs.«01_k».proof.Proof.Gen.FfnSecond.Points
public import proofs.«01_k».proof.Proof.Gen.FfnSecond.Frame
public import proofs.«01_k».proof.Proof.Gen.FfnSecondIdeal
public import proofs.«01_k».proof.Proof.Gen.FfnSecondIdeal.Skeleton
public import proofs.«01_k».proof.Proof.Gen.FfnSecondIdeal.Launch
public import proofs.«01_k».proof.Proof.Gen.FfnSecondIdeal.Points
public import proofs.«01_k».proof.Proof.Gen.FfnSecondIdeal.Frame
public import proofs.«01_k».proof.Proof.Gen.FfnSecondRefIdeal
public import proofs.«01_k».proof.Proof.Gen.FfnSecondRefIdeal.Run
public import proofs.«01_k».proof.Proof.Gen.FfnSecondRefIdeal.Read
public import proofs.«01_k».proof.Proof.Gen.FfnSecondIdeal.Value
public import proofs.«01_k».proof.Proof.FfnSecondValue
public import proofs.«01_k».proof.Proof.Gen.FfnSecondSample
public import proofs.«01_k».proof.Proof.Gen.FfnSecondSample.Skeleton
public import proofs.«01_k».proof.Proof.Gen.FfnSecondSample.Launch
public import proofs.«01_k».proof.Proof.Gen.FfnSecondSample.Points
public import proofs.«01_k».proof.Proof.Gen.FfnSecondSample.Frame
public import proofs.«01_k».proof.Proof.Gen.FfnSecondSampleIdeal
public import proofs.«01_k».proof.Proof.Gen.FfnSecondSampleIdeal.Skeleton
public import proofs.«01_k».proof.Proof.Gen.FfnSecondSampleIdeal.Launch
public import proofs.«01_k».proof.Proof.Gen.FfnSecondSampleIdeal.Points
public import proofs.«01_k».proof.Proof.Gen.FfnSecondSampleIdeal.Frame
public import proofs.«01_k».proof.Proof.Gen.FfnSecondSampleRefIdeal
public import proofs.«01_k».proof.Proof.Gen.FfnSecondSampleRefIdeal.Run
public import proofs.«01_k».proof.Proof.Gen.FfnSecondSampleRefIdeal.Read
public import proofs.«01_k».proof.Proof.Gen.FfnSecondSampleIdeal.Value
public import proofs.«01_k».proof.Proof.FfnSecondSampleValue

@[expose] public section

noncomputable section

namespace Cert.Proof

open Idealize.ShloMosaic Idealize.SL.Sem Cert.Attn

/-- The reference of `Attn` runs, leaves its arguments alone and its semaphore counters at zero. -/
theorem attn_ref_runs : Cert.quiescent_AttnRefIdeal (hAttnRefIdeal := Cert.AttnRefIdeal.Gen.facts) := by
  intro m g _
  refine (θ_run Cert.AttnRefIdeal.defs _ _).mono ?_ (Cert.AttnRefIdeal.Value.run m g)
  exact fun r h => ⟨fun c => (h c).2, sem_eq_zero_of_no_sems (by decide) r.2⟩

/-- The reference of `Ffn` runs, leaves its arguments alone and its semaphore counters at zero. -/
theorem ffn_ref_runs : Cert.quiescent_FfnRefIdeal (hFfnRefIdeal := Cert.FfnRefIdeal.Gen.facts) := by
  intro m g _
  refine (θ_run Cert.FfnRefIdeal.defs _ _).mono ?_ (Cert.FfnRefIdeal.Value.run m g)
  exact fun r h => ⟨fun c => (h c).2, sem_eq_zero_of_no_sems (by decide) r.2⟩

/-- The reference of `Proj` runs, leaves its arguments alone and its semaphore counters at zero. -/
theorem proj_ref_runs : Cert.quiescent_ProjRefIdeal (hProjRefIdeal := Cert.ProjRefIdeal.Gen.facts) := by
  intro m g _
  refine (θ_run Cert.ProjRefIdeal.defs _ _).mono ?_ (Cert.ProjRefIdeal.Value.run m g)
  exact fun r h => ⟨fun c => (h c).2, sem_eq_zero_of_no_sems (by decide) r.2⟩

/-- The reference of `Merge` runs, leaves its arguments alone and its semaphore counters at zero. -/
theorem merge_ref_runs : Cert.quiescent_MergeRefIdeal (hMergeRefIdeal := Cert.MergeRefIdeal.Gen.facts) := by
  intro m g _
  refine (θ_run Cert.MergeRefIdeal.defs _ _).mono ?_ (Cert.MergeRefIdeal.Value.run m g)
  exact fun r h => ⟨fun c => (h c).2, sem_eq_zero_of_no_sems (by decide) r.2⟩

/-- The reference of `Embed` runs, leaves its arguments alone and its semaphore counters at zero. -/
theorem embed_ref_runs : Cert.quiescent_EmbedRefIdeal (hEmbedRefIdeal := Cert.EmbedRefIdeal.Gen.facts) := by
  intro m g _
  refine (θ_run Cert.EmbedRefIdeal.defs _ _).mono ?_ (Cert.EmbedRefIdeal.Value.run m g)
  exact fun r h => ⟨fun c => (h c).2, sem_eq_zero_of_no_sems (by decide) r.2⟩

/-- The attention: kernel and reference agree where queries, keys and biases are finite. -/
theorem attn_value : Cert.algebraic_AttnIdeal_AttnRefIdeal_pre_finite (hAttnIdeal := Cert.AttnIdeal.Gen.facts)
    (hAttnRefIdeal := Cert.AttnRefIdeal.Gen.facts) (hPre_finite := Cert.AttnMath.finite_facts) := by
  pair_intro
  · run_from Cert.AttnIdeal.Gen.run_main m g
  · run_from Cert.AttnRefIdeal.Value.run m' g'
    rw [Cert.AttnRefIdeal.Read.val_main_v33_eq, (hagree c).1, (hagree c).2]
    exact (Cert.AttnIdeal.Hand.array m c (@Cert.AttnMath.fin3_of_finite _ _ Cert.AttnMath.finite_facts (hpre c).1 (hpre c).2.1 (hpre c).2.2)).symm

/-- The input projection: kernel and reference agree. -/
theorem proj_value : Cert.algebraic_ProjIdeal_ProjRefIdeal (hProjIdeal := Cert.ProjIdeal.Gen.facts)
    (hProjRefIdeal := Cert.ProjRefIdeal.Gen.facts) := by
  pair_intro
  · run_from Cert.ProjIdeal.Gen.run_main m g
  · run_from Cert.ProjRefIdeal.Value.run m' g'
    skip
    exact (Cert.ProjIdeal.Hand.array m c).symm

/-- The feed-forward network: kernel and reference agree. -/
theorem ffn_value : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    rw [Cert.FfnRefIdeal.Read.val_main_v43_eq, (hagree c).1, (hagree c).2.1, (hagree c).2.2.1, (hagree c).2.2.2.1, (hagree c).2.2.2.2.1, (hagree c).2.2.2.2.2]
    exact (Cert.FfnIdeal.Hand.array m c).symm

/-- The merge of the two branches: kernel and reference agree. -/
theorem merge_value : Cert.algebraic_MergeIdeal_MergeRefIdeal (hMergeIdeal := Cert.MergeIdeal.Gen.facts)
    (hMergeRefIdeal := Cert.MergeRefIdeal.Gen.facts) := by
  pair_intro
  · run_from Cert.MergeIdeal.Gen.run_main m g
  · run_from Cert.MergeRefIdeal.Value.run m' g'
    rw [Cert.MergeRefIdeal.Read.val_main_v74_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact (Cert.MergeIdeal.Hand.array m c).symm

/-- The embedding update: kernel and reference agree. -/
theorem embed_value : Cert.algebraic_EmbedIdeal_EmbedRefIdeal (hEmbedIdeal := Cert.EmbedIdeal.Gen.facts)
    (hEmbedRefIdeal := Cert.EmbedRefIdeal.Gen.facts) := by
  pair_intro
  · run_from Cert.EmbedIdeal.Gen.run_main m g
  · run_from Cert.EmbedRefIdeal.Value.run m' g'
    rw [Cert.EmbedRefIdeal.Read.val_main_v51_eq, (hagree c).1, (hagree c).2.1, (hagree c).2.2.1, (hagree c).2.2.2.1, (hagree c).2.2.2.2.1, (hagree c).2.2.2.2.2.1, (hagree c).2.2.2.2.2.2]
    exact (Cert.EmbedIdeal.Hand.array m c).symm

/-- The reference of `ProjSample` runs, leaves its arguments alone and its semaphore counters at zero. -/
theorem proj_sample_ref_runs : Cert.quiescent_ProjSampleRefIdeal (hProjSampleRefIdeal := Cert.ProjSampleRefIdeal.Gen.facts) := by
  intro m g _
  refine (θ_run Cert.ProjSampleRefIdeal.defs _ _).mono ?_ (Cert.ProjSampleRefIdeal.Value.run m g)
  exact fun r h => ⟨fun c => (h c).2, sem_eq_zero_of_no_sems (by decide) r.2⟩

/-- The input projection of the sample batch: kernel and reference agree. -/
theorem proj_sample_value : Cert.algebraic_ProjSampleIdeal_ProjSampleRefIdeal (hProjSampleIdeal := Cert.ProjSampleIdeal.Gen.facts)
    (hProjSampleRefIdeal := Cert.ProjSampleRefIdeal.Gen.facts) := by
  pair_intro
  · run_from Cert.ProjSampleIdeal.Gen.run_main m g
  · run_from Cert.ProjSampleRefIdeal.Value.run m' g'
    skip
    exact (Cert.ProjSampleIdeal.Hand.array m c).symm

/-- The reference of `EmbedSample` runs, leaves its arguments alone and its semaphore counters at zero. -/
theorem embed_sample_ref_runs : Cert.quiescent_EmbedSampleRefIdeal (hEmbedSampleRefIdeal := Cert.EmbedSampleRefIdeal.Gen.facts) := by
  intro m g _
  refine (θ_run Cert.EmbedSampleRefIdeal.defs _ _).mono ?_ (Cert.EmbedSampleRefIdeal.Value.run m g)
  exact fun r h => ⟨fun c => (h c).2, sem_eq_zero_of_no_sems (by decide) r.2⟩

/-- The embedding update of the sample batch: kernel and reference agree. -/
theorem embed_sample_value : Cert.algebraic_EmbedSampleIdeal_EmbedSampleRefIdeal (hEmbedSampleIdeal := Cert.EmbedSampleIdeal.Gen.facts)
    (hEmbedSampleRefIdeal := Cert.EmbedSampleRefIdeal.Gen.facts) := by
  pair_intro
  · run_from Cert.EmbedSampleIdeal.Gen.run_main m g
  · run_from Cert.EmbedSampleRefIdeal.Value.run m' g'
    rw [Cert.EmbedSampleRefIdeal.Read.val_main_v51_eq, (hagree c).1, (hagree c).2.1, (hagree c).2.2.1, (hagree c).2.2.2.1, (hagree c).2.2.2.2.1, (hagree c).2.2.2.2.2.1, (hagree c).2.2.2.2.2.2]
    exact (Cert.EmbedSampleIdeal.Hand.array m c).symm

/-- The reference of `Hgrn` runs, leaves its arguments alone and its semaphore counters at zero. -/
theorem hgrn_ref_runs : Cert.quiescent_HgrnRefIdeal (hHgrnRefIdeal := Cert.HgrnRefIdeal.Gen.facts) := by
  intro m g _
  refine (θ_run Cert.HgrnRefIdeal.defs _ _).mono ?_ (Cert.HgrnRefIdeal.Value.run m g)
  exact fun r h => ⟨fun c => (h c).2.2, sem_eq_zero_of_no_sems (by decide) r.2⟩

/-- The reference of `HgrnSample` runs, leaves its arguments alone and its semaphore counters at zero. -/
theorem hgrn_sample_ref_runs : Cert.quiescent_HgrnSampleRefIdeal (hHgrnSampleRefIdeal := Cert.HgrnSampleRefIdeal.Gen.facts) := by
  intro m g _
  refine (θ_run Cert.HgrnSampleRefIdeal.defs _ _).mono ?_ (Cert.HgrnSampleRefIdeal.Value.run m g)
  exact fun r h => ⟨fun c => (h c).2.2, sem_eq_zero_of_no_sems (by decide) r.2⟩

/-- The precondition of the recurrent mix of the sample batch gives lower bounds between zero and one. -/
theorem gated_of_memory [Cert.Pre_unit_bound.Facts]
    {m : (ℓ : Loc Cert.HgrnSampleIdeal.nD Cert.HgrnSampleIdeal.τ Cert.HgrnSampleIdeal.sig) → Buf (Elt Ideal) ℓ}
    (h : Cert.Pre_HgrnSampleIdeal_unit_bound m) (c : Dev Cert.HgrnSampleIdeal.nD) :
    Cert.HgrnSampleMath.Gated (m (c.tc.loc Cert.HgrnSampleIdeal.main_arg1)) :=
  Cert.HgrnSampleMath.gated_of_pre _ _ _ _ (h c).1 (h c).2

/-- The recurrent mix of the sample batch: kernel and reference agree in the output rows and in the states left behind. -/
theorem hgrn_sample_value : Cert.algebraic_HgrnSampleIdeal_HgrnSampleRefIdeal_pre_unit_bound
    (hHgrnSampleIdeal := Cert.HgrnSampleIdeal.Gen.facts) (hHgrnSampleRefIdeal := Cert.HgrnSampleRefIdeal.Gen.facts)
    (hPre_unit_bound := Cert.HgrnSampleMath.bound_facts) := by
  pair_intro
  · run_from Cert.HgrnSampleIdeal.Gen.run_main m g
    · exact Cert.HgrnSampleIdeal.Gen.W_main_arg1 m (Cert.HgrnSampleIdeal.Gen.dats m) c
    · exact Cert.HgrnSampleIdeal.Gen.W_main_arg2 m (Cert.HgrnSampleIdeal.Gen.dats m) c
    · exact Cert.HgrnSampleIdeal.Gen.W_main_arg3 m (Cert.HgrnSampleIdeal.Gen.dats m) c
  · run_from Cert.HgrnSampleRefIdeal.Value.run m' g'
    · rw [← (hagree c).2.2.1]
      refine (Cert.HgrnSampleRefIdeal.Read.val_main_v106_eq (StableHlo.launchContents m' c)).trans ?_
      show Cert.HgrnSampleRefIdeal.Read.val_main_v106 (m' (c.tc.loc Cert.HgrnSampleRefIdeal.main_arg0)) (m' (c.tc.loc Cert.HgrnSampleRefIdeal.main_arg1)) (m' (c.tc.loc Cert.HgrnSampleRefIdeal.main_arg2)) (m' (c.tc.loc Cert.HgrnSampleRefIdeal.main_arg3)) = _
      rw [(hagree c).1, (hagree c).2.1, (hagree c).2.2.1, (hagree c).2.2.2]
      exact (Cert.HgrnSampleIdeal.Hand.out_array m c (@gated_of_memory Cert.HgrnSampleMath.bound_facts m hpre c)).symm
    · rw [← (hagree c).2.2.2]
      refine (Cert.HgrnSampleRefIdeal.Read.val_main_v87_eq (StableHlo.launchContents m' c)).trans ?_
      show Cert.HgrnSampleRefIdeal.Read.val_main_v87 (m' (c.tc.loc Cert.HgrnSampleRefIdeal.main_arg0)) (m' (c.tc.loc Cert.HgrnSampleRefIdeal.main_arg1)) (m' (c.tc.loc Cert.HgrnSampleRefIdeal.main_arg3)) = _
      rw [(hagree c).1, (hagree c).2.1, (hagree c).2.2.2]
      exact (Cert.HgrnSampleIdeal.Hand.states_after m c (@gated_of_memory Cert.HgrnSampleMath.bound_facts m hpre c)).symm

/-- The precondition of the recurrence over the prompt gives what its value theorem needs. -/
theorem given_of_memory [Cert.Pre_gated.Facts]
    {m : (ℓ : Loc Cert.HgrnIdeal.nD Cert.HgrnIdeal.τ Cert.HgrnIdeal.sig) → Buf (Elt Ideal) ℓ}
    (h : Cert.Pre_HgrnIdeal_gated m) (c : Dev Cert.HgrnIdeal.nD) :
    Cert.HgrnMath.Given (m (c.tc.loc Cert.HgrnIdeal.main_arg0)) (m (c.tc.loc Cert.HgrnIdeal.main_arg1)) :=
  Cert.HgrnMath.given_of_pre _ _ _ (h c).1 (h c).2.1 (h c).2.2.1 (h c).2.2.2.1 (h c).2.2.2.2

set_option maxRecDepth 65536 in
/-- The recurrence over the prompt: kernel and reference agree in the output rows and in the states left behind. -/
theorem hgrn_value : Cert.algebraic_HgrnIdeal_HgrnRefIdeal_pre_gated
    (hHgrnIdeal := Cert.HgrnIdeal.Gen.facts) (hHgrnRefIdeal := Cert.HgrnRefIdeal.Gen.facts)
    (hPre_gated := Cert.HgrnMath.gated_facts) := by
  pair_intro
  · run_from Cert.HgrnIdeal.Hand.run_main m g
    · exact Cert.HgrnIdeal.Gen.W_main_arg1 m (Cert.HgrnIdeal.Hand.dats m) c
    · exact Cert.HgrnIdeal.Gen.W_main_arg2 m (Cert.HgrnIdeal.Hand.dats m) c
  · run_from Cert.HgrnRefIdeal.Value.run m' g'
    · rw [← (hagree c).2.2]
      refine (Cert.HgrnRefIdeal.Read.val_main_v107_eq (StableHlo.launchContents m' c)).trans ?_
      show Cert.HgrnRefIdeal.Read.val_main_v107 (m' (c.tc.loc Cert.HgrnRefIdeal.main_arg0)) (m' (c.tc.loc Cert.HgrnRefIdeal.main_arg1)) (m' (c.tc.loc Cert.HgrnRefIdeal.main_arg2)) = _
      rw [(hagree c).1, (hagree c).2.1, (hagree c).2.2]
      exact (Cert.HgrnIdeal.Hand.out_array m c (@given_of_memory Cert.HgrnMath.gated_facts m hpre c)).symm
    · refine (Cert.HgrnRefIdeal.Read.val_main_v88_eq (StableHlo.launchContents m' c)).trans ?_
      show Cert.HgrnRefIdeal.Read.val_main_v88 (m' (c.tc.loc Cert.HgrnRefIdeal.main_arg0)) (m' (c.tc.loc Cert.HgrnRefIdeal.main_arg1)) = _
      rw [(hagree c).1, (hagree c).2.1]
      exact (Cert.HgrnIdeal.Hand.states_after m c (@given_of_memory Cert.HgrnMath.gated_facts m hpre c)).symm

/-- The reference of `FfnSample` runs, leaves its arguments alone and its semaphore counters at zero. -/
theorem ffn_sample_ref_runs : Cert.quiescent_FfnSampleRefIdeal (hFfnSampleRefIdeal := Cert.FfnSampleRefIdeal.Gen.facts) := by
  intro m g _
  refine (θ_run Cert.FfnSampleRefIdeal.defs _ _).mono ?_ (Cert.FfnSampleRefIdeal.Value.run m g)
  exact fun r h => ⟨fun c => (h c).2, sem_eq_zero_of_no_sems (by decide) r.2⟩

/-- The feed-forward network over the sample batch: kernel and reference agree. -/
theorem ffn_sample_value : Cert.algebraic_FfnSampleIdeal_FfnSampleRefIdeal (hFfnSampleIdeal := Cert.FfnSampleIdeal.Gen.facts)
    (hFfnSampleRefIdeal := Cert.FfnSampleRefIdeal.Gen.facts) := by
  pair_intro
  · run_from Cert.FfnSampleIdeal.Gen.run_main m g
  · run_from Cert.FfnSampleRefIdeal.Value.run m' g'
    rw [Cert.FfnSampleRefIdeal.Read.val_main_v43_eq, (hagree c).1, (hagree c).2.1, (hagree c).2.2.1, (hagree c).2.2.2.1, (hagree c).2.2.2.2.1, (hagree c).2.2.2.2.2]
    exact (Cert.FfnSampleIdeal.Hand.array m c).symm

/-- The reference of `MergeSample` runs, leaves its arguments alone and its semaphore counters at zero. -/
theorem merge_sample_ref_runs : Cert.quiescent_MergeSampleRefIdeal (hMergeSampleRefIdeal := Cert.MergeSampleRefIdeal.Gen.facts) := by
  intro m g _
  refine (θ_run Cert.MergeSampleRefIdeal.defs _ _).mono ?_ (Cert.MergeSampleRefIdeal.Value.run m g)
  exact fun r h => ⟨fun c => (h c).2, sem_eq_zero_of_no_sems (by decide) r.2⟩

/-- The merge of the two branches of the sample batch: kernel and reference agree. -/
theorem merge_sample_value : Cert.algebraic_MergeSampleIdeal_MergeSampleRefIdeal (hMergeSampleIdeal := Cert.MergeSampleIdeal.Gen.facts)
    (hMergeSampleRefIdeal := Cert.MergeSampleRefIdeal.Gen.facts) := by
  pair_intro
  · run_from Cert.MergeSampleIdeal.Gen.run_main m g
  · run_from Cert.MergeSampleRefIdeal.Value.run m' g'
    rw [Cert.MergeSampleRefIdeal.Read.val_main_v74_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact (Cert.MergeSampleIdeal.Hand.array m c).symm

/-- The reference of `FfnSecond` runs, leaves its arguments alone and its semaphore counters at zero. -/
theorem ffn_second_ref_runs : Cert.quiescent_FfnSecondRefIdeal (hFfnSecondRefIdeal := Cert.FfnSecondRefIdeal.Gen.facts) := by
  intro m g _
  refine (θ_run Cert.FfnSecondRefIdeal.defs _ _).mono ?_ (Cert.FfnSecondRefIdeal.Value.run m g)
  exact fun r h => ⟨fun c => (h c).2, sem_eq_zero_of_no_sems (by decide) r.2⟩

/-- The second half-step of the feed-forward network: kernel and reference agree. -/
theorem ffn_second_value : Cert.algebraic_FfnSecondIdeal_FfnSecondRefIdeal (hFfnSecondIdeal := Cert.FfnSecondIdeal.Gen.facts)
    (hFfnSecondRefIdeal := Cert.FfnSecondRefIdeal.Gen.facts) := by
  pair_intro
  · run_from Cert.FfnSecondIdeal.Gen.run_main m g
  · run_from Cert.FfnSecondRefIdeal.Value.run m' g'
    rw [Cert.FfnSecondRefIdeal.Read.val_main_v43_eq, (hagree c).1, (hagree c).2.1, (hagree c).2.2.1, (hagree c).2.2.2.1, (hagree c).2.2.2.2.1, (hagree c).2.2.2.2.2]
    exact (Cert.FfnSecondIdeal.Hand.array m c).symm

/-- The reference of `FfnSecondSample` runs, leaves its arguments alone and its semaphore counters at zero. -/
theorem ffn_second_sample_ref_runs : Cert.quiescent_FfnSecondSampleRefIdeal (hFfnSecondSampleRefIdeal := Cert.FfnSecondSampleRefIdeal.Gen.facts) := by
  intro m g _
  refine (θ_run Cert.FfnSecondSampleRefIdeal.defs _ _).mono ?_ (Cert.FfnSecondSampleRefIdeal.Value.run m g)
  exact fun r h => ⟨fun c => (h c).2, sem_eq_zero_of_no_sems (by decide) r.2⟩

/-- The second half-step of the feed-forward network over the sample batch: kernel and reference agree. -/
theorem ffn_second_sample_value : Cert.algebraic_FfnSecondSampleIdeal_FfnSecondSampleRefIdeal (hFfnSecondSampleIdeal := Cert.FfnSecondSampleIdeal.Gen.facts)
    (hFfnSecondSampleRefIdeal := Cert.FfnSecondSampleRefIdeal.Gen.facts) := by
  pair_intro
  · run_from Cert.FfnSecondSampleIdeal.Gen.run_main m g
  · run_from Cert.FfnSecondSampleRefIdeal.Value.run m' g'
    rw [Cert.FfnSecondSampleRefIdeal.Read.val_main_v43_eq, (hagree c).1, (hagree c).2.1, (hagree c).2.2.1, (hagree c).2.2.2.1, (hagree c).2.2.2.2.1, (hagree c).2.2.2.2.2]
    exact (Cert.FfnSecondSampleIdeal.Hand.array m c).symm

theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Embed.Gen.facts, Cert.EmbedIdeal.Gen.facts, Cert.EmbedRefIdeal.Gen.facts, Cert.ProjSample.Gen.facts, Cert.ProjSampleIdeal.Gen.facts, Cert.ProjSampleRefIdeal.Gen.facts, Cert.EmbedSample.Gen.facts, Cert.EmbedSampleIdeal.Gen.facts, Cert.EmbedSampleRefIdeal.Gen.facts, Cert.Hgrn.Gen.facts, Cert.HgrnIdeal.Gen.facts, Cert.HgrnRefIdeal.Gen.facts, Cert.HgrnSample.Gen.facts, Cert.HgrnSampleIdeal.Gen.facts, Cert.HgrnSampleRefIdeal.Gen.facts, Cert.FfnSample.Gen.facts, Cert.FfnSampleIdeal.Gen.facts, Cert.FfnSampleRefIdeal.Gen.facts, Cert.MergeSample.Gen.facts, Cert.MergeSampleIdeal.Gen.facts, Cert.MergeSampleRefIdeal.Gen.facts, Cert.FfnSecond.Gen.facts, Cert.FfnSecondIdeal.Gen.facts, Cert.FfnSecondRefIdeal.Gen.facts, Cert.FfnSecondSample.Gen.facts, Cert.FfnSecondSampleIdeal.Gen.facts, Cert.FfnSecondSampleRefIdeal.Gen.facts, Cert.AttnMath.finite_facts, Cert.HgrnMath.gated_facts, Cert.HgrnSampleMath.bound_facts, fun m g _ => Cert.Attn.Gen.frame m g,
  fun m g _ => Cert.AttnIdeal.Gen.frame m g,
  fun m g _ => Cert.AttnIdeal.Gen.frame m g,
  attn_ref_runs,
  fun m g h => attn_ref_runs m g trivial,
  fun m g _ => Cert.Ffn.Gen.frame m g,
  fun m g _ => Cert.FfnIdeal.Gen.frame m g,
  ffn_ref_runs,
  fun m g _ => Cert.Proj.Gen.frame m g,
  fun m g _ => Cert.ProjIdeal.Gen.frame m g,
  proj_ref_runs,
  fun m g _ => Cert.Merge.Gen.frame m g,
  fun m g _ => Cert.MergeIdeal.Gen.frame m g,
  merge_ref_runs,
  fun m g _ => Cert.Embed.Gen.frame m g,
  fun m g _ => Cert.EmbedIdeal.Gen.frame m g,
  embed_ref_runs,
  fun m g _ => Cert.ProjSample.Gen.frame m g,
  fun m g _ => Cert.ProjSampleIdeal.Gen.frame m g,
  proj_sample_ref_runs,
  fun m g _ => Cert.EmbedSample.Gen.frame m g,
  fun m g _ => Cert.EmbedSampleIdeal.Gen.frame m g,
  embed_sample_ref_runs,
  fun m g _ => Cert.Hgrn.Hand.frame m g,
  fun m g _ => Cert.HgrnIdeal.Hand.frame m g,
  fun m g _ => Cert.HgrnIdeal.Hand.frame m g,
  hgrn_ref_runs,
  fun m g h => hgrn_ref_runs m g trivial,
  fun m g _ => Cert.HgrnSample.Gen.frame m g,
  fun m g _ => Cert.HgrnSampleIdeal.Gen.frame m g,
  fun m g _ => Cert.HgrnSampleIdeal.Gen.frame m g,
  hgrn_sample_ref_runs,
  fun m g h => hgrn_sample_ref_runs m g trivial,
  fun m g _ => Cert.FfnSample.Gen.frame m g,
  fun m g _ => Cert.FfnSampleIdeal.Gen.frame m g,
  ffn_sample_ref_runs,
  fun m g _ => Cert.MergeSample.Gen.frame m g,
  fun m g _ => Cert.MergeSampleIdeal.Gen.frame m g,
  merge_sample_ref_runs,
  fun m g _ => Cert.FfnSecond.Gen.frame m g,
  fun m g _ => Cert.FfnSecondIdeal.Gen.frame m g,
  ffn_second_ref_runs,
  fun m g _ => Cert.FfnSecondSample.Gen.frame m g,
  fun m g _ => Cert.FfnSecondSampleIdeal.Gen.frame m g,
  ffn_second_sample_ref_runs,
  trivial,
  attn_value,
  trivial,
  ffn_value,
  trivial,
  proj_value,
  trivial,
  merge_value,
  trivial,
  embed_value,
  trivial,
  proj_sample_value,
  trivial,
  embed_sample_value,
  trivial,
  hgrn_value,
  trivial,
  hgrn_sample_value,
  trivial,
  ffn_sample_value,
  trivial,
  merge_sample_value,
  trivial,
  ffn_second_value,
  trivial,
  ffn_second_sample_value⟩

end Cert.Proof

end
